-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_clamp_idle_pre_finite [hKernelIdeal : Cert.KernelIdeal.Facts] [hReferenceIdeal : Cert.ReferenceIdeal.Facts] [hPre_finite : Cert.Pre_finite.Facts] [hOn_clamp_idle : Cert.On_clamp_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 128]⟩ : Shape).Idx, (Cert.On_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v19_0) i = v0 c i)
          ∧ (∀ i : (⟨2, ![64, 1]⟩ : Shape).Idx, (Cert.On_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v19_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 128]⟩ : Shape).Idx, (Cert.On_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v5_9) i = v0 c i)
          ∧ (∀ i : (⟨2, ![64, 1]⟩ : Shape).Idx, (Cert.On_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v19) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts) (hOn_clamp_idle : Cert.On_clamp_idle.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_clamp_idle_pre_finite (hKernelIdeal := hKernelIdeal) (hReferenceIdeal := hReferenceIdeal) (hPre_finite := hPre_finite) (hOn_clamp_idle := hOn_clamp_idle)
-- ==== On_clamp_idle.lean ====
abbrev S128 : Shape := ⟨1, ![128]⟩
abbrev S8192x128 : Shape := ⟨2, ![8192, 128]⟩
abbrev S512x256 : Shape := ⟨2, ![512, 256]⟩
abbrev S512x128 : Shape := ⟨2, ![512, 128]⟩
abbrev S512 : Shape := ⟨1, ![512]⟩
abbrev S1x128 : Shape := ⟨2, ![1, 128]⟩
abbrev S_ : Shape := ⟨0, ![]⟩
abbrev S64x128 : Shape := ⟨2, ![64, 128]⟩
abbrev S256 : Shape := ⟨1, ![256]⟩
abbrev S8192 : Shape := ⟨1, ![8192]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩

class Facts : Prop where
  slices_S8192x128_S1x128_0_0 : S8192x128.Slices ![0, 0] S1x128
  shapeCasts_S1x128_S128 : S1x128.ShapeCasts S128
  bcast_S_S128 : S_.BroadcastsInDim S128 (![] : Fin 0 → Fin S128.rank)
  bcast_S_S64x128 : S_.BroadcastsInDim S64x128 (![] : Fin 0 → Fin S64x128.rank)
  concatenates_S128_S128_S256_d0 : Shape.Concatenates [S128, S128] S256 0
  slices_S512_S128_0 : S512.Slices ![0] S128
  slices_S512_S128_128 : S512.Slices ![128] S128
  slices_S512_S128_256 : S512.Slices ![256] S128
  slices_S512_S128_384 : S512.Slices ![384] S128
  bcast_S128_S1x128_1 : S128.BroadcastsInDim S1x128 (![1] : Fin 1 → Fin S1x128.rank)
  updateFits_S64x128_S1x128 : S64x128.Slices (fun _ => 0) S1x128
  h_S_ : 0 < S_.numel
  reducesTo_S8192x128_S8192_d1 : S8192x128.ReducesTo [1] S8192
  reducesTo_S64x128_S64_d1 : S64x128.ReducesTo [1] S64
  bcast_S64_S64x1_0 : S64.BroadcastsInDim S64x1 (![0] : Fin 1 → Fin S64x1.rank)
  bcast_S8192_S1x8192_1 : S8192.BroadcastsInDim S1x8192 (![1] : Fin 1 → Fin S1x8192.rank)
  bcast_S64x1_S64x8192_0_1 : S64x1.BroadcastsInDim S64x8192 (![0, 1] : Fin 2 → Fin S64x8192.rank)
  bcast_S1x8192_S64x8192_0_1 : S1x8192.BroadcastsInDim S64x8192 (![0, 1] : Fin 2 → Fin S64x8192.rank)
  bcast_S_S64x8192 : S_.BroadcastsInDim S64x8192 (![] : Fin 0 → Fin S64x8192.rank)
  reducesTo_S64x8192_S64_d1 : S64x8192.ReducesTo [1] S64
  dot_S512x256_S256_S512_1_0_0_n_n_n_wf : DotDims.WF S512x256 S256 S512 [1] [0] [0] [] [] []
  dot_S512x128_S128_S512_1_0_0_n_n_n_wf : DotDims.WF S512x128 S128 S512 [1] [0] [0] [] [] []

variable [Facts]

def dot_S512x256_S256_S512_1_0_0_n_n_n : DotDims S512x256 S256 S512 where
  lhsContracting := [1]
  rhsContracting := [0]
  lhsNonContracting := [0]
  rhsNonContracting := []
  lhsBatch := []
  rhsBatch := []
  wf := dot_S512x256_S256_S512_1_0_0_n_n_n_wf
def dot_S512x128_S128_S512_1_0_0_n_n_n : DotDims S512x128 S128 S512 where
  lhsContracting := [1]
  rhsContracting := [0]
  lhsNonContracting := [0]
  rhsNonContracting := []
  lhsBatch := []
  rhsBatch := []
  wf := dot_S512x128_S128_S512_1_0_0_n_n_n_wf
def fn_part118 {F : FTy → Type} [FloatOps F] (main_v2312 : FVec F S8192 .f32) (main_v2314 : FVec F S64 .f32) : IVec S64x128 1 × IVec S64x1 1 :=
  let main_v2315 : FVec F S64 .f32 := Host.sqrt main_v2314
  let main_v2316 : FVec F S64x1 .f32 := broadcastInDim S64x1 ![0] bcast_S64_S64x1_0 main_v2315
  let main_v2317 : FVec F S1x8192 .f32 := broadcastInDim S1x8192 ![1] bcast_S8192_S1x8192_1 main_v2312
  let main_v2318 : FVec F S64x8192 .f32 := broadcastInDim S64x8192 ![0, 1] bcast_S64x1_S64x8192_0_1 main_v2316
  let main_v2319 : FVec F S64x8192 .f32 := broadcastInDim S64x8192 ![0, 1] bcast_S1x8192_S64x8192_0_1 main_v2317
  let main_v2320 : FVec F S64x8192 .f32 := mulf main_v2318 main_v2319
  let main_cst_515 : FVec F S_ .f32 := constant S_ .f32 0x322BCC77#32
  let main_v2321 : FVec F S64x8192 .f32 := broadcastInDim S64x8192 ![] bcast_S_S64x8192 main_cst_515
  let main_v2322 : IVec S64x8192 1 := cmpf .oge main_v2320 main_v2321
  let main_cst_516 : FVec F S_ .f32 := constant S_ .f32 0x00000000#32
  let main_v2323 : FVec F S64x8192 .f32 := broadcastInDim S64x8192 ![] bcast_S_S64x8192 main_cst_516
  let main_v2324 : IVec S64x8192 1 := cmpf .oeq main_v2320 main_v2323
  let main_v2325 : IVec S64x8192 1 := ori main_v2322 main_v2324
  let main_c_517 : IVec S_ 1 := constantI S_ 1 1#1
  let main_v2326 : IVec S64 1 := (fun x v => Host.reduce IntOp.andi x v reducesTo_S64x8192_S64_d1 h_S_) main_v2325 main_c_517
  let main_v2327 : IVec S64x1 1 := broadcastInDim S64x1 ![0] bcast_S64_S64x1_0 main_v2326
  let main_c_518 : IVec S_ 1 := constantI S_ 1 1#1
  let main_v2328 : IVec S64x128 1 := broadcastInDim S64x128 ![] bcast_S_S64x128 main_c_518
  (main_v2328, main_v2327)

def fn_part117 {F : FTy → Type} [FloatOps F] (main_arg1 : FVec F S8192x128 .f32) (main_v2269 : FVec F S128 .f32) (main_v2273 : FVec F S64x128 .f32) (main_v2283 : FVec F S128 .f32) (main_v2289 : FVec F S128 .f32) (main_v2295 : FVec F S128 .f32) (main_v2296 : FVec F S128 .f32) : IVec S64x128 1 × IVec S64x1 1 :=
  let main_v2297 : FVec F S128 .f32 := Host.negf main_v2283
  let main_v2298 : FVec F S128 .f32 := Host.exp main_v2297
  let main_cst_509 : FVec F S_ .f32 := constant S_ .f32 0x3F800000#32
  let main_v2299 : FVec F S128 .f32 := broadcastInDim S128 ![] bcast_S_S128 main_cst_509
  let main_v2300 : FVec F S128 .f32 := addf main_v2299 main_v2298
  let main_cst_510 : FVec F S_ .f32 := constant S_ .f32 0x3F800000#32
  let main_v2301 : FVec F S128 .f32 := broadcastInDim S128 ![] bcast_S_S128 main_cst_510
  let main_v2302 : FVec F S128 .f32 := Host.divf main_v2301 main_v2300
  let main_v2303 : FVec F S128 .f32 := mulf main_v2295 main_v2269
  let main_v2304 : FVec F S128 .f32 := mulf main_v2289 main_v2296
  let main_v2305 : FVec F S128 .f32 := addf main_v2303 main_v2304
  let main_v2306 : FVec F S128 .f32 := Host.tanh main_v2305
  let main_v2307 : FVec F S128 .f32 := mulf main_v2302 main_v2306
  let main_v2308 : FVec F S1x128 .f32 := broadcastInDim S1x128 ![1] bcast_S128_S1x128_1 main_v2305
  let main_c_511 : IVec S_ 32 := constantI S_ 32 63#32
  let main_c_512 : IVec S_ 32 := constantI S_ 32 0#32
  let main_v2309 : FVec F S64x128 .f32 := (fun x u i => Host.dynamicUpdateSlice x u (fun k => (i k (Shape.Idx.first h_S_)).toInt) updateFits_S64x128_S1x128) main_v2273 main_v2308 (![main_c_511, main_c_512] : Fin 2 → IVec S_ 32)
  let main_v2310 : FVec F S8192x128 .f32 := mulf main_arg1 main_arg1
  let main_cst_513 : FVec F S_ .f32 := constant S_ .f32 0x00000000#32
  let main_v2311 : FVec F S8192 .f32 := (fun x v => Host.reduceAdd x v reducesTo_S8192x128_S8192_d1 h_S_) main_v2310 main_cst_513
  let main_v2312 : FVec F S8192 .f32 := Host.sqrt main_v2311
  let main_v2313 : FVec F S64x128 .f32 := mulf main_v2309 main_v2309
  let main_cst_514 : FVec F S_ .f32 := constant S_ .f32 0x00000000#32
  let main_v2314 : FVec F S64 .f32 := (fun x v => Host.reduceAdd x v reducesTo_S64x128_S64_d1 h_S_) main_v2313 main_cst_514
  fn_part118 (F := F) main_v2312 main_v2314

def fn_part116 {F : FTy → Type} [FloatOps F] (main_arg1 : FVec F S8192x128 .f32) (main_arg3 : FVec F S512x128 .f32) (main_arg5 : FVec F S512 .f32) (main_v2269 : FVec F S128 .f32) (main_v2271 : FVec F S128 .f32) (main_v2273 : FVec F S64x128 .f32) (main_v2276 : FVec F S512 .f32) : IVec S64x128 1 × IVec S64x1 1 :=
  let main_v2277 : FVec F S512 .f32 := (fun l r => Host.dotGeneral dot_S512x128_S128_S512_1_0_0_n_n_n none l r) main_arg3 main_v2271
  let main_v2278 : FVec F S512 .f32 := addf main_v2276 main_v2277
  let main_v2279 : FVec F S512 .f32 := addf main_v2278 main_arg5
  let main_v2280 : FVec F S128 .f32 := (extractStridedSlice S128 ![0] · slices_S512_S128_0) main_v2279
  let main_v2281 : FVec F S128 .f32 := (extractStridedSlice S128 ![128] · slices_S512_S128_128) main_v2279
  let main_v2282 : FVec F S128 .f32 := (extractStridedSlice S128 ![256] · slices_S512_S128_256) main_v2279
  let main_v2283 : FVec F S128 .f32 := (extractStridedSlice S128 ![384] · slices_S512_S128_384) main_v2279
  let main_v2284 : FVec F S128 .f32 := Host.negf main_v2280
  let main_v2285 : FVec F S128 .f32 := Host.exp main_v2284
  let main_cst_505 : FVec F S_ .f32 := constant S_ .f32 0x3F800000#32
  let main_v2286 : FVec F S128 .f32 := broadcastInDim S128 ![] bcast_S_S128 main_cst_505
  let main_v2287 : FVec F S128 .f32 := addf main_v2286 main_v2285
  let main_cst_506 : FVec F S_ .f32 := constant S_ .f32 0x3F800000#32
  let main_v2288 : FVec F S128 .f32 := broadcastInDim S128 ![] bcast_S_S128 main_cst_506
  let main_v2289 : FVec F S128 .f32 := Host.divf main_v2288 main_v2287
  let main_v2290 : FVec F S128 .f32 := Host.negf main_v2281
  let main_v2291 : FVec F S128 .f32 := Host.exp main_v2290
  let main_cst_507 : FVec F S_ .f32 := constant S_ .f32 0x3F800000#32
  let main_v2292 : FVec F S128 .f32 := broadcastInDim S128 ![] bcast_S_S128 main_cst_507
  let main_v2293 : FVec F S128 .f32 := addf main_v2292 main_v2291
  let main_cst_508 : FVec F S_ .f32 := constant S_ .f32 0x3F800000#32
  let main_v2294 : FVec F S128 .f32 := broadcastInDim S128 ![] bcast_S_S128 main_cst_508
  let main_v2295 : FVec F S128 .f32 := Host.divf main_v2294 main_v2293
  let main_v2296 : FVec F S128 .f32 := Host.tanh main_v2282
  fn_part117 (F := F) main_arg1 main_v2269 main_v2273 main_v2283 main_v2289 main_v2295 main_v2296

def fn_part115 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2233 : FVec F S128 .f32) (main_v2237 : FVec F S64x128 .f32) (main_v2246 : FVec F S128 .f32) (main_v2247 : FVec F S128 .f32) (main_v2253 : FVec F S128 .f32) (main_v2257 : FVec F S128 .f32) : IVec S64x128 1 × IVec S64x1 1 :=
  let main_cst_500 : FVec F S_ .f32 := constant S_ .f32 0x3F800000#32
  let main_v2258 : FVec F S128 .f32 := broadcastInDim S128 ![] bcast_S_S128 main_cst_500
  let main_v2259 : FVec F S128 .f32 := Host.divf main_v2258 main_v2257
  let main_v2260 : FVec F S128 .f32 := Host.tanh main_v2246
  let main_v2261 : FVec F S128 .f32 := Host.negf main_v2247
  let main_v2262 : FVec F S128 .f32 := Host.exp main_v2261
  let main_cst_501 : FVec F S_ .f32 := constant S_ .f32 0x3F800000#32
  let main_v2263 : FVec F S128 .f32 := broadcastInDim S128 ![] bcast_S_S128 main_cst_501
  let main_v2264 : FVec F S128 .f32 := addf main_v2263 main_v2262
  let main_cst_502 : FVec F S_ .f32 := constant S_ .f32 0x3F800000#32
  let main_v2265 : FVec F S128 .f32 := broadcastInDim S128 ![] bcast_S_S128 main_cst_502
  let main_v2266 : FVec F S128 .f32 := Host.divf main_v2265 main_v2264
  let main_v2267 : FVec F S128 .f32 := mulf main_v2259 main_v2233
  let main_v2268 : FVec F S128 .f32 := mulf main_v2253 main_v2260
  let main_v2269 : FVec F S128 .f32 := addf main_v2267 main_v2268
  let main_v2270 : FVec F S128 .f32 := Host.tanh main_v2269
  let main_v2271 : FVec F S128 .f32 := mulf main_v2266 main_v2270
  let main_v2272 : FVec F S1x128 .f32 := broadcastInDim S1x128 ![1] bcast_S128_S1x128_1 main_v2269
  let main_c_503 : IVec S_ 32 := constantI S_ 32 62#32
  let main_c_504 : IVec S_ 32 := constantI S_ 32 0#32
  let main_v2273 : FVec F S64x128 .f32 := (fun x u i => Host.dynamicUpdateSlice x u (fun k => (i k (Shape.Idx.first h_S_)).toInt) updateFits_S64x128_S1x128) main_v2237 main_v2272 (![main_c_503, main_c_504] : Fin 2 → IVec S_ 32)
  let main_v2274 : FVec F S256 .f32 := (fun a b => concatenate S256 0 [⟨S128, a⟩, ⟨S128, b⟩] concatenates_S128_S128_S256_d0) main_v2269 main_arg0
  let main_v2275 : FVec F S512 .f32 := (fun l r => Host.dotGeneral dot_S512x256_S256_S512_1_0_0_n_n_n none l r) main_arg2 main_v2274
  let main_v2276 : FVec F S512 .f32 := addf main_v2275 main_arg4
  fn_part116 (F := F) main_arg1 main_arg3 main_arg5 main_v2269 main_v2271 main_v2273 main_v2276

def fn_part114 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2201 : FVec F S64x128 .f32) (main_v2233 : FVec F S128 .f32) (main_v2235 : FVec F S128 .f32) (main_v2236 : FVec F S1x128 .f32) (main_c_495 : IVec S_ 32) (main_c_496 : IVec S_ 32) : IVec S64x128 1 × IVec S64x1 1 :=
  let main_v2237 : FVec F S64x128 .f32 := (fun x u i => Host.dynamicUpdateSlice x u (fun k => (i k (Shape.Idx.first h_S_)).toInt) updateFits_S64x128_S1x128) main_v2201 main_v2236 (![main_c_495, main_c_496] : Fin 2 → IVec S_ 32)
  let main_v2238 : FVec F S256 .f32 := (fun a b => concatenate S256 0 [⟨S128, a⟩, ⟨S128, b⟩] concatenates_S128_S128_S256_d0) main_v2233 main_arg0
  let main_v2239 : FVec F S512 .f32 := (fun l r => Host.dotGeneral dot_S512x256_S256_S512_1_0_0_n_n_n none l r) main_arg2 main_v2238
  let main_v2240 : FVec F S512 .f32 := addf main_v2239 main_arg4
  let main_v2241 : FVec F S512 .f32 := (fun l r => Host.dotGeneral dot_S512x128_S128_S512_1_0_0_n_n_n none l r) main_arg3 main_v2235
  let main_v2242 : FVec F S512 .f32 := addf main_v2240 main_v2241
  let main_v2243 : FVec F S512 .f32 := addf main_v2242 main_arg5
  let main_v2244 : FVec F S128 .f32 := (extractStridedSlice S128 ![0] · slices_S512_S128_0) main_v2243
  let main_v2245 : FVec F S128 .f32 := (extractStridedSlice S128 ![128] · slices_S512_S128_128) main_v2243
  let main_v2246 : FVec F S128 .f32 := (extractStridedSlice S128 ![256] · slices_S512_S128_256) main_v2243
  let main_v2247 : FVec F S128 .f32 := (extractStridedSlice S128 ![384] · slices_S512_S128_384) main_v2243
  let main_v2248 : FVec F S128 .f32 := Host.negf main_v2244
  let main_v2249 : FVec F S128 .f32 := Host.exp main_v2248
  let main_cst_497 : FVec F S_ .f32 := constant S_ .f32 0x3F800000#32
  let main_v2250 : FVec F S128 .f32 := broadcastInDim S128 ![] bcast_S_S128 main_cst_497
  let main_v2251 : FVec F S128 .f32 := addf main_v2250 main_v2249
  let main_cst_498 : FVec F S_ .f32 := constant S_ .f32 0x3F800000#32
  let main_v2252 : FVec F S128 .f32 := broadcastInDim S128 ![] bcast_S_S128 main_cst_498
  let main_v2253 : FVec F S128 .f32 := Host.divf main_v2252 main_v2251
  let main_v2254 : FVec F S128 .f32 := Host.negf main_v2245
  let main_v2255 : FVec F S128 .f32 := Host.exp main_v2254
  let main_cst_499 : FVec F S_ .f32 := constant S_ .f32 0x3F800000#32
  let main_v2256 : FVec F S128 .f32 := broadcastInDim S128 ![] bcast_S_S128 main_cst_499
  let main_v2257 : FVec F S128 .f32 := addf main_v2256 main_v2255
  fn_part115 (F := F) main_arg0 main_arg1 main_arg2 main_arg3 main_arg4 main_arg5 main_v2233 main_v2237 main_v2246 main_v2247 main_v2253 main_v2257

def fn_part113 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2197 : FVec F S128 .f32) (main_v2201 : FVec F S64x128 .f32) (main_v2210 : FVec F S128 .f32) (main_v2211 : FVec F S128 .f32) (main_v2217 : FVec F S128 .f32) (main_v2218 : FVec F S128 .f32) : IVec S64x128 1 × IVec S64x1 1 :=
  let main_v2219 : FVec F S128 .f32 := Host.exp main_v2218
  let main_cst_491 : FVec F S_ .f32 := constant S_ .f32 0x3F800000#32
  let main_v2220 : FVec F S128 .f32 := broadcastInDim S128 ![] bcast_S_S128 main_cst_491
  let main_v2221 : FVec F S128 .f32 := addf main_v2220 main_v2219
  let main_cst_492 : FVec F S_ .f32 := constant S_ .f32 0x3F800000#32
  let main_v2222 : FVec F S128 .f32 := broadcastInDim S128 ![] bcast_S_S128 main_cst_492
  let main_v2223 : FVec F S128 .f32 := Host.divf main_v2222 main_v2221
  let main_v2224 : FVec F S128 .f32 := Host.tanh main_v2210
  let main_v2225 : FVec F S128 .f32 := Host.negf main_v2211
  let main_v2226 : FVec F S128 .f32 := Host.exp main_v2225
  let main_cst_493 : FVec F S_ .f32 := constant S_ .f32 0x3F800000#32
  let main_v2227 : FVec F S128 .f32 := broadcastInDim S128 ![] bcast_S_S128 main_cst_493
  let main_v2228 : FVec F S128 .f32 := addf main_v2227 main_v2226
  let main_cst_494 : FVec F S_ .f32 := constant S_ .f32 0x3F800000#32
  let main_v2229 : FVec F S128 .f32 := broadcastInDim S128 ![] bcast_S_S128 main_cst_494
  let main_v2230 : FVec F S128 .f32 := Host.divf main_v2229 main_v2228
  let main_v2231 : FVec F S128 .f32 := mulf main_v2223 main_v2197
  let main_v2232 : FVec F S128 .f32 := mulf main_v2217 main_v2224
  let main_v2233 : FVec F S128 .f32 := addf main_v2231 main_v2232
  let main_v2234 : FVec F S128 .f32 := Host.tanh main_v2233
  let main_v2235 : FVec F S128 .f32 := mulf main_v2230 main_v2234
  let main_v2236 : FVec F S1x128 .f32 := broadcastInDim S1x128 ![1] bcast_S128_S1x128_1 main_v2233
  let main_c_495 : IVec S_ 32 := constantI S_ 32 61#32
  let main_c_496 : IVec S_ 32 := constantI S_ 32 0#32
  fn_part114 (F := F) main_arg0 main_arg1 main_arg2 main_arg3 main_arg4 main_arg5 main_v2201 main_v2233 main_v2235 main_v2236 main_c_495 main_c_496

def fn_part112 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2165 : FVec F S64x128 .f32) (main_v2194 : FVec F S128 .f32) (main_v2197 : FVec F S128 .f32) (main_v2198 : FVec F S128 .f32) : IVec S64x128 1 × IVec S64x1 1 :=
  let main_v2199 : FVec F S128 .f32 := mulf main_v2194 main_v2198
  let main_v2200 : FVec F S1x128 .f32 := broadcastInDim S1x128 ![1] bcast_S128_S1x128_1 main_v2197
  let main_c_487 : IVec S_ 32 := constantI S_ 32 60#32
  let main_c_488 : IVec S_ 32 := constantI S_ 32 0#32
  let main_v2201 : FVec F S64x128 .f32 := (fun x u i => Host.dynamicUpdateSlice x u (fun k => (i k (Shape.Idx.first h_S_)).toInt) updateFits_S64x128_S1x128) main_v2165 main_v2200 (![main_c_487, main_c_488] : Fin 2 → IVec S_ 32)
  let main_v2202 : FVec F S256 .f32 := (fun a b => concatenate S256 0 [⟨S128, a⟩, ⟨S128, b⟩] concatenates_S128_S128_S256_d0) main_v2197 main_arg0
  let main_v2203 : FVec F S512 .f32 := (fun l r => Host.dotGeneral dot_S512x256_S256_S512_1_0_0_n_n_n none l r) main_arg2 main_v2202
  let main_v2204 : FVec F S512 .f32 := addf main_v2203 main_arg4
  let main_v2205 : FVec F S512 .f32 := (fun l r => Host.dotGeneral dot_S512x128_S128_S512_1_0_0_n_n_n none l r) main_arg3 main_v2199
  let main_v2206 : FVec F S512 .f32 := addf main_v2204 main_v2205
  let main_v2207 : FVec F S512 .f32 := addf main_v2206 main_arg5
  let main_v2208 : FVec F S128 .f32 := (extractStridedSlice S128 ![0] · slices_S512_S128_0) main_v2207
  let main_v2209 : FVec F S128 .f32 := (extractStridedSlice S128 ![128] · slices_S512_S128_128) main_v2207
  let main_v2210 : FVec F S128 .f32 := (extractStridedSlice S128 ![256] · slices_S512_S128_256) main_v2207
  let main_v2211 : FVec F S128 .f32 := (extractStridedSlice S128 ![384] · slices_S512_S128_384) main_v2207
  let main_v2212 : FVec F S128 .f32 := Host.negf main_v2208
  let main_v2213 : FVec F S128 .f32 := Host.exp main_v2212
  let main_cst_489 : FVec F S_ .f32 := constant S_ .f32 0x3F800000#32
  let main_v2214 : FVec F S128 .f32 := broadcastInDim S128 ![] bcast_S_S128 main_cst_489
  let main_v2215 : FVec F S128 .f32 := addf main_v2214 main_v2213
  let main_cst_490 : FVec F S_ .f32 := constant S_ .f32 0x3F800000#32
  let main_v2216 : FVec F S128 .f32 := broadcastInDim S128 ![] bcast_S_S128 main_cst_490
  let main_v2217 : FVec F S128 .f32 := Host.divf main_v2216 main_v2215
  let main_v2218 : FVec F S128 .f32 := Host.negf main_v2209
  fn_part113 (F := F) main_arg0 main_arg1 main_arg2 main_arg3 main_arg4 main_arg5 main_v2197 main_v2201 main_v2210 main_v2211 main_v2217 main_v2218

def fn_part111 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2161 : FVec F S128 .f32) (main_v2165 : FVec F S64x128 .f32) (main_v2173 : FVec F S128 .f32) (main_v2174 : FVec F S128 .f32) (main_v2175 : FVec F S128 .f32) (main_v2179 : FVec F S128 .f32) : IVec S64x128 1 × IVec S64x1 1 :=
  let main_cst_482 : FVec F S_ .f32 := constant S_ .f32 0x3F800000#32
  let main_v2180 : FVec F S128 .f32 := broadcastInDim S128 ![] bcast_S_S128 main_cst_482
  let main_v2181 : FVec F S128 .f32 := Host.divf main_v2180 main_v2179
  let main_v2182 : FVec F S128 .f32 := Host.negf main_v2173
  let main_v2183 : FVec F S128 .f32 := Host.exp main_v2182
  let main_cst_483 : FVec F S_ .f32 := constant S_ .f32 0x3F800000#32
  let main_v2184 : FVec F S128 .f32 := broadcastInDim S128 ![] bcast_S_S128 main_cst_483
  let main_v2185 : FVec F S128 .f32 := addf main_v2184 main_v2183
  let main_cst_484 : FVec F S_ .f32 := constant S_ .f32 0x3F800000#32
  let main_v2186 : FVec F S128 .f32 := broadcastInDim S128 ![] bcast_S_S128 main_cst_484
  let main_v2187 : FVec F S128 .f32 := Host.divf main_v2186 main_v2185
  let main_v2188 : FVec F S128 .f32 := Host.tanh main_v2174
  let main_v2189 : FVec F S128 .f32 := Host.negf main_v2175
  let main_v2190 : FVec F S128 .f32 := Host.exp main_v2189
  let main_cst_485 : FVec F S_ .f32 := constant S_ .f32 0x3F800000#32
  let main_v2191 : FVec F S128 .f32 := broadcastInDim S128 ![] bcast_S_S128 main_cst_485
  let main_v2192 : FVec F S128 .f32 := addf main_v2191 main_v2190
  let main_cst_486 : FVec F S_ .f32 := constant S_ .f32 0x3F800000#32
  let main_v2193 : FVec F S128 .f32 := broadcastInDim S128 ![] bcast_S_S128 main_cst_486
  let main_v2194 : FVec F S128 .f32 := Host.divf main_v2193 main_v2192
  let main_v2195 : FVec F S128 .f32 := mulf main_v2187 main_v2161
  let main_v2196 : FVec F S128 .f32 := mulf main_v2181 main_v2188
  let main_v2197 : FVec F S128 .f32 := addf main_v2195 main_v2196
  let main_v2198 : FVec F S128 .f32 := Host.tanh main_v2197
  fn_part112 (F := F) main_arg0 main_arg1 main_arg2 main_arg3 main_arg4 main_arg5 main_v2165 main_v2194 main_v2197 main_v2198

def fn_part110 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2125 : FVec F S128 .f32) (main_v2129 : FVec F S64x128 .f32) (main_v2145 : FVec F S128 .f32) (main_v2151 : FVec F S128 .f32) (main_v2152 : FVec F S128 .f32) (main_v2158 : FVec F S128 .f32) : IVec S64x128 1 × IVec S64x1 1 :=
  let main_v2159 : FVec F S128 .f32 := mulf main_v2151 main_v2125
  let main_v2160 : FVec F S128 .f32 := mulf main_v2145 main_v2152
  let main_v2161 : FVec F S128 .f32 := addf main_v2159 main_v2160
  let main_v2162 : FVec F S128 .f32 := Host.tanh main_v2161
  let main_v2163 : FVec F S128 .f32 := mulf main_v2158 main_v2162
  let main_v2164 : FVec F S1x128 .f32 := broadcastInDim S1x128 ![1] bcast_S128_S1x128_1 main_v2161
  let main_c_479 : IVec S_ 32 := constantI S_ 32 59#32
  let main_c_480 : IVec S_ 32 := constantI S_ 32 0#32
  let main_v2165 : FVec F S64x128 .f32 := (fun x u i => Host.dynamicUpdateSlice x u (fun k => (i k (Shape.Idx.first h_S_)).toInt) updateFits_S64x128_S1x128) main_v2129 main_v2164 (![main_c_479, main_c_480] : Fin 2 → IVec S_ 32)
  let main_v2166 : FVec F S256 .f32 := (fun a b => concatenate S256 0 [⟨S128, a⟩, ⟨S128, b⟩] concatenates_S128_S128_S256_d0) main_v2161 main_arg0
  let main_v2167 : FVec F S512 .f32 := (fun l r => Host.dotGeneral dot_S512x256_S256_S512_1_0_0_n_n_n none l r) main_arg2 main_v2166
  let main_v2168 : FVec F S512 .f32 := addf main_v2167 main_arg4
  let main_v2169 : FVec F S512 .f32 := (fun l r => Host.dotGeneral dot_S512x128_S128_S512_1_0_0_n_n_n none l r) main_arg3 main_v2163
  let main_v2170 : FVec F S512 .f32 := addf main_v2168 main_v2169
  let main_v2171 : FVec F S512 .f32 := addf main_v2170 main_arg5
  let main_v2172 : FVec F S128 .f32 := (extractStridedSlice S128 ![0] · slices_S512_S128_0) main_v2171
  let main_v2173 : FVec F S128 .f32 := (extractStridedSlice S128 ![128] · slices_S512_S128_128) main_v2171
  let main_v2174 : FVec F S128 .f32 := (extractStridedSlice S128 ![256] · slices_S512_S128_256) main_v2171
  let main_v2175 : FVec F S128 .f32 := (extractStridedSlice S128 ![384] · slices_S512_S128_384) main_v2171
  let main_v2176 : FVec F S128 .f32 := Host.negf main_v2172
  let main_v2177 : FVec F S128 .f32 := Host.exp main_v2176
  let main_cst_481 : FVec F S_ .f32 := constant S_ .f32 0x3F800000#32
  let main_v2178 : FVec F S128 .f32 := broadcastInDim S128 ![] bcast_S_S128 main_cst_481
  let main_v2179 : FVec F S128 .f32 := addf main_v2178 main_v2177
  fn_part111 (F := F) main_arg0 main_arg1 main_arg2 main_arg3 main_arg4 main_arg5 main_v2161 main_v2165 main_v2173 main_v2174 main_v2175 main_v2179

def fn_part109 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2125 : FVec F S128 .f32) (main_v2129 : FVec F S64x128 .f32) (main_v2137 : FVec F S128 .f32) (main_v2138 : FVec F S128 .f32) (main_v2139 : FVec F S128 .f32) (main_v2140 : FVec F S128 .f32) : IVec S64x128 1 × IVec S64x1 1 :=
  let main_v2141 : FVec F S128 .f32 := Host.exp main_v2140
  let main_cst_473 : FVec F S_ .f32 := constant S_ .f32 0x3F800000#32
  let main_v2142 : FVec F S128 .f32 := broadcastInDim S128 ![] bcast_S_S128 main_cst_473
  let main_v2143 : FVec F S128 .f32 := addf main_v2142 main_v2141
  let main_cst_474 : FVec F S_ .f32 := constant S_ .f32 0x3F800000#32
  let main_v2144 : FVec F S128 .f32 := broadcastInDim S128 ![] bcast_S_S128 main_cst_474
  let main_v2145 : FVec F S128 .f32 := Host.divf main_v2144 main_v2143
  let main_v2146 : FVec F S128 .f32 := Host.negf main_v2137
  let main_v2147 : FVec F S128 .f32 := Host.exp main_v2146
  let main_cst_475 : FVec F S_ .f32 := constant S_ .f32 0x3F800000#32
  let main_v2148 : FVec F S128 .f32 := broadcastInDim S128 ![] bcast_S_S128 main_cst_475
  let main_v2149 : FVec F S128 .f32 := addf main_v2148 main_v2147
  let main_cst_476 : FVec F S_ .f32 := constant S_ .f32 0x3F800000#32
  let main_v2150 : FVec F S128 .f32 := broadcastInDim S128 ![] bcast_S_S128 main_cst_476
  let main_v2151 : FVec F S128 .f32 := Host.divf main_v2150 main_v2149
  let main_v2152 : FVec F S128 .f32 := Host.tanh main_v2138
  let main_v2153 : FVec F S128 .f32 := Host.negf main_v2139
  let main_v2154 : FVec F S128 .f32 := Host.exp main_v2153
  let main_cst_477 : FVec F S_ .f32 := constant S_ .f32 0x3F800000#32
  let main_v2155 : FVec F S128 .f32 := broadcastInDim S128 ![] bcast_S_S128 main_cst_477
  let main_v2156 : FVec F S128 .f32 := addf main_v2155 main_v2154
  let main_cst_478 : FVec F S_ .f32 := constant S_ .f32 0x3F800000#32
  let main_v2157 : FVec F S128 .f32 := broadcastInDim S128 ![] bcast_S_S128 main_cst_478
  let main_v2158 : FVec F S128 .f32 := Host.divf main_v2157 main_v2156
  fn_part110 (F := F) main_arg0 main_arg1 main_arg2 main_arg3 main_arg4 main_arg5 main_v2125 main_v2129 main_v2145 main_v2151 main_v2152 main_v2158

def fn_part108 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2089 : FVec F S128 .f32) (main_v2093 : FVec F S64x128 .f32) (main_v2109 : FVec F S128 .f32) (main_v2115 : FVec F S128 .f32) (main_v2116 : FVec F S128 .f32) (main_v2118 : FVec F S128 .f32) (main_v2119 : FVec F S128 .f32) : IVec S64x128 1 × IVec S64x1 1 :=
  let main_v2120 : FVec F S128 .f32 := addf main_v2119 main_v2118
  let main_cst_470 : FVec F S_ .f32 := constant S_ .f32 0x3F800000#32
  let main_v2121 : FVec F S128 .f32 := broadcastInDim S128 ![] bcast_S_S128 main_cst_470
  let main_v2122 : FVec F S128 .f32 := Host.divf main_v2121 main_v2120
  let main_v2123 : FVec F S128 .f32 := mulf main_v2115 main_v2089
  let main_v2124 : FVec F S128 .f32 := mulf main_v2109 main_v2116
  let main_v2125 : FVec F S128 .f32 := addf main_v2123 main_v2124
  let main_v2126 : FVec F S128 .f32 := Host.tanh main_v2125
  let main_v2127 : FVec F S128 .f32 := mulf main_v2122 main_v2126
  let main_v2128 : FVec F S1x128 .f32 := broadcastInDim S1x128 ![1] bcast_S128_S1x128_1 main_v2125
  let main_c_471 : IVec S_ 32 := constantI S_ 32 58#32
  let main_c_472 : IVec S_ 32 := constantI S_ 32 0#32
  let main_v2129 : FVec F S64x128 .f32 := (fun x u i => Host.dynamicUpdateSlice x u (fun k => (i k (Shape.Idx.first h_S_)).toInt) updateFits_S64x128_S1x128) main_v2093 main_v2128 (![main_c_471, main_c_472] : Fin 2 → IVec S_ 32)
  let main_v2130 : FVec F S256 .f32 := (fun a b => concatenate S256 0 [⟨S128, a⟩, ⟨S128, b⟩] concatenates_S128_S128_S256_d0) main_v2125 main_arg0
  let main_v2131 : FVec F S512 .f32 := (fun l r => Host.dotGeneral dot_S512x256_S256_S512_1_0_0_n_n_n none l r) main_arg2 main_v2130
  let main_v2132 : FVec F S512 .f32 := addf main_v2131 main_arg4
  let main_v2133 : FVec F S512 .f32 := (fun l r => Host.dotGeneral dot_S512x128_S128_S512_1_0_0_n_n_n none l r) main_arg3 main_v2127
  let main_v2134 : FVec F S512 .f32 := addf main_v2132 main_v2133
  let main_v2135 : FVec F S512 .f32 := addf main_v2134 main_arg5
  let main_v2136 : FVec F S128 .f32 := (extractStridedSlice S128 ![0] · slices_S512_S128_0) main_v2135
  let main_v2137 : FVec F S128 .f32 := (extractStridedSlice S128 ![128] · slices_S512_S128_128) main_v2135
  let main_v2138 : FVec F S128 .f32 := (extractStridedSlice S128 ![256] · slices_S512_S128_256) main_v2135
  let main_v2139 : FVec F S128 .f32 := (extractStridedSlice S128 ![384] · slices_S512_S128_384) main_v2135
  let main_v2140 : FVec F S128 .f32 := Host.negf main_v2136
  fn_part109 (F := F) main_arg0 main_arg1 main_arg2 main_arg3 main_arg4 main_arg5 main_v2125 main_v2129 main_v2137 main_v2138 main_v2139 main_v2140

def fn_part107 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2089 : FVec F S128 .f32) (main_v2093 : FVec F S64x128 .f32) (main_v2099 : FVec F S512 .f32) (main_v2100 : FVec F S128 .f32) : IVec S64x128 1 × IVec S64x1 1 :=
  let main_v2101 : FVec F S128 .f32 := (extractStridedSlice S128 ![128] · slices_S512_S128_128) main_v2099
  let main_v2102 : FVec F S128 .f32 := (extractStridedSlice S128 ![256] · slices_S512_S128_256) main_v2099
  let main_v2103 : FVec F S128 .f32 := (extractStridedSlice S128 ![384] · slices_S512_S128_384) main_v2099
  let main_v2104 : FVec F S128 .f32 := Host.negf main_v2100
  let main_v2105 : FVec F S128 .f32 := Host.exp main_v2104
  let main_cst_465 : FVec F S_ .f32 := constant S_ .f32 0x3F800000#32
  let main_v2106 : FVec F S128 .f32 := broadcastInDim S128 ![] bcast_S_S128 main_cst_465
  let main_v2107 : FVec F S128 .f32 := addf main_v2106 main_v2105
  let main_cst_466 : FVec F S_ .f32 := constant S_ .f32 0x3F800000#32
  let main_v2108 : FVec F S128 .f32 := broadcastInDim S128 ![] bcast_S_S128 main_cst_466
  let main_v2109 : FVec F S128 .f32 := Host.divf main_v2108 main_v2107
  let main_v2110 : FVec F S128 .f32 := Host.negf main_v2101
  let main_v2111 : FVec F S128 .f32 := Host.exp main_v2110
  let main_cst_467 : FVec F S_ .f32 := constant S_ .f32 0x3F800000#32
  let main_v2112 : FVec F S128 .f32 := broadcastInDim S128 ![] bcast_S_S128 main_cst_467
  let main_v2113 : FVec F S128 .f32 := addf main_v2112 main_v2111
  let main_cst_468 : FVec F S_ .f32 := constant S_ .f32 0x3F800000#32
  let main_v2114 : FVec F S128 .f32 := broadcastInDim S128 ![] bcast_S_S128 main_cst_468
  let main_v2115 : FVec F S128 .f32 := Host.divf main_v2114 main_v2113
  let main_v2116 : FVec F S128 .f32 := Host.tanh main_v2102
  let main_v2117 : FVec F S128 .f32 := Host.negf main_v2103
  let main_v2118 : FVec F S128 .f32 := Host.exp main_v2117
  let main_cst_469 : FVec F S_ .f32 := constant S_ .f32 0x3F800000#32
  let main_v2119 : FVec F S128 .f32 := broadcastInDim S128 ![] bcast_S_S128 main_cst_469
  fn_part108 (F := F) main_arg0 main_arg1 main_arg2 main_arg3 main_arg4 main_arg5 main_v2089 main_v2093 main_v2109 main_v2115 main_v2116 main_v2118 main_v2119

def fn_part106 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2053 : FVec F S128 .f32) (main_v2057 : FVec F S64x128 .f32) (main_v2067 : FVec F S128 .f32) (main_v2073 : FVec F S128 .f32) (main_v2079 : FVec F S128 .f32) (main_v2080 : FVec F S128 .f32) : IVec S64x128 1 × IVec S64x1 1 :=
  let main_v2081 : FVec F S128 .f32 := Host.negf main_v2067
  let main_v2082 : FVec F S128 .f32 := Host.exp main_v2081
  let main_cst_461 : FVec F S_ .f32 := constant S_ .f32 0x3F800000#32
  let main_v2083 : FVec F S128 .f32 := broadcastInDim S128 ![] bcast_S_S128 main_cst_461
  let main_v2084 : FVec F S128 .f32 := addf main_v2083 main_v2082
  let main_cst_462 : FVec F S_ .f32 := constant S_ .f32 0x3F800000#32
  let main_v2085 : FVec F S128 .f32 := broadcastInDim S128 ![] bcast_S_S128 main_cst_462
  let main_v2086 : FVec F S128 .f32 := Host.divf main_v2085 main_v2084
  let main_v2087 : FVec F S128 .f32 := mulf main_v2079 main_v2053
  let main_v2088 : FVec F S128 .f32 := mulf main_v2073 main_v2080
  let main_v2089 : FVec F S128 .f32 := addf main_v2087 main_v2088
  let main_v2090 : FVec F S128 .f32 := Host.tanh main_v2089
  let main_v2091 : FVec F S128 .f32 := mulf main_v2086 main_v2090
  let main_v2092 : FVec F S1x128 .f32 := broadcastInDim S1x128 ![1] bcast_S128_S1x128_1 main_v2089
  let main_c_463 : IVec S_ 32 := constantI S_ 32 57#32
  let main_c_464 : IVec S_ 32 := constantI S_ 32 0#32
  let main_v2093 : FVec F S64x128 .f32 := (fun x u i => Host.dynamicUpdateSlice x u (fun k => (i k (Shape.Idx.first h_S_)).toInt) updateFits_S64x128_S1x128) main_v2057 main_v2092 (![main_c_463, main_c_464] : Fin 2 → IVec S_ 32)
  let main_v2094 : FVec F S256 .f32 := (fun a b => concatenate S256 0 [⟨S128, a⟩, ⟨S128, b⟩] concatenates_S128_S128_S256_d0) main_v2089 main_arg0
  let main_v2095 : FVec F S512 .f32 := (fun l r => Host.dotGeneral dot_S512x256_S256_S512_1_0_0_n_n_n none l r) main_arg2 main_v2094
  let main_v2096 : FVec F S512 .f32 := addf main_v2095 main_arg4
  let main_v2097 : FVec F S512 .f32 := (fun l r => Host.dotGeneral dot_S512x128_S128_S512_1_0_0_n_n_n none l r) main_arg3 main_v2091
  let main_v2098 : FVec F S512 .f32 := addf main_v2096 main_v2097
  let main_v2099 : FVec F S512 .f32 := addf main_v2098 main_arg5
  let main_v2100 : FVec F S128 .f32 := (extractStridedSlice S128 ![0] · slices_S512_S128_0) main_v2099
  fn_part107 (F := F) main_arg0 main_arg1 main_arg2 main_arg3 main_arg4 main_arg5 main_v2089 main_v2093 main_v2099 main_v2100

def fn_part105 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2053 : FVec F S128 .f32) (main_v2055 : FVec F S128 .f32) (main_v2057 : FVec F S64x128 .f32) (main_v2060 : FVec F S512 .f32) : IVec S64x128 1 × IVec S64x1 1 :=
  let main_v2061 : FVec F S512 .f32 := (fun l r => Host.dotGeneral dot_S512x128_S128_S512_1_0_0_n_n_n none l r) main_arg3 main_v2055
  let main_v2062 : FVec F S512 .f32 := addf main_v2060 main_v2061
  let main_v2063 : FVec F S512 .f32 := addf main_v2062 main_arg5
  let main_v2064 : FVec F S128 .f32 := (extractStridedSlice S128 ![0] · slices_S512_S128_0) main_v2063
  let main_v2065 : FVec F S128 .f32 := (extractStridedSlice S128 ![128] · slices_S512_S128_128) main_v2063
  let main_v2066 : FVec F S128 .f32 := (extractStridedSlice S128 ![256] · slices_S512_S128_256) main_v2063
  let main_v2067 : FVec F S128 .f32 := (extractStridedSlice S128 ![384] · slices_S512_S128_384) main_v2063
  let main_v2068 : FVec F S128 .f32 := Host.negf main_v2064
  let main_v2069 : FVec F S128 .f32 := Host.exp main_v2068
  let main_cst_457 : FVec F S_ .f32 := constant S_ .f32 0x3F800000#32
  let main_v2070 : FVec F S128 .f32 := broadcastInDim S128 ![] bcast_S_S128 main_cst_457
  let main_v2071 : FVec F S128 .f32 := addf main_v2070 main_v2069
  let main_cst_458 : FVec F S_ .f32 := constant S_ .f32 0x3F800000#32
  let main_v2072 : FVec F S128 .f32 := broadcastInDim S128 ![] bcast_S_S128 main_cst_458
  let main_v2073 : FVec F S128 .f32 := Host.divf main_v2072 main_v2071
  let main_v2074 : FVec F S128 .f32 := Host.negf main_v2065
  let main_v2075 : FVec F S128 .f32 := Host.exp main_v2074
  let main_cst_459 : FVec F S_ .f32 := constant S_ .f32 0x3F800000#32
  let main_v2076 : FVec F S128 .f32 := broadcastInDim S128 ![] bcast_S_S128 main_cst_459
  let main_v2077 : FVec F S128 .f32 := addf main_v2076 main_v2075
  let main_cst_460 : FVec F S_ .f32 := constant S_ .f32 0x3F800000#32
  let main_v2078 : FVec F S128 .f32 := broadcastInDim S128 ![] bcast_S_S128 main_cst_460
  let main_v2079 : FVec F S128 .f32 := Host.divf main_v2078 main_v2077
  let main_v2080 : FVec F S128 .f32 := Host.tanh main_v2066
  fn_part106 (F := F) main_arg0 main_arg1 main_arg2 main_arg3 main_arg4 main_arg5 main_v2053 main_v2057 main_v2067 main_v2073 main_v2079 main_v2080

def fn_part104 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v2017 : FVec F S128 .f32) (main_v2021 : FVec F S64x128 .f32) (main_v2030 : FVec F S128 .f32) (main_v2031 : FVec F S128 .f32) (main_v2037 : FVec F S128 .f32) (main_v2041 : FVec F S128 .f32) : IVec S64x128 1 × IVec S64x1 1 :=
  let main_cst_452 : FVec F S_ .f32 := constant S_ .f32 0x3F800000#32
  let main_v2042 : FVec F S128 .f32 := broadcastInDim S128 ![] bcast_S_S128 main_cst_452
  let main_v2043 : FVec F S128 .f32 := Host.divf main_v2042 main_v2041
  let main_v2044 : FVec F S128 .f32 := Host.tanh main_v2030
  let main_v2045 : FVec F S128 .f32 := Host.negf main_v2031
  let main_v2046 : FVec F S128 .f32 := Host.exp main_v2045
  let main_cst_453 : FVec F S_ .f32 := constant S_ .f32 0x3F800000#32
  let main_v2047 : FVec F S128 .f32 := broadcastInDim S128 ![] bcast_S_S128 main_cst_453
  let main_v2048 : FVec F S128 .f32 := addf main_v2047 main_v2046
  let main_cst_454 : FVec F S_ .f32 := constant S_ .f32 0x3F800000#32
  let main_v2049 : FVec F S128 .f32 := broadcastInDim S128 ![] bcast_S_S128 main_cst_454
  let main_v2050 : FVec F S128 .f32 := Host.divf main_v2049 main_v2048
  let main_v2051 : FVec F S128 .f32 := mulf main_v2043 main_v2017
  let main_v2052 : FVec F S128 .f32 := mulf main_v2037 main_v2044
  let main_v2053 : FVec F S128 .f32 := addf main_v2051 main_v2052
  let main_v2054 : FVec F S128 .f32 := Host.tanh main_v2053
  let main_v2055 : FVec F S128 .f32 := mulf main_v2050 main_v2054
  let main_v2056 : FVec F S1x128 .f32 := broadcastInDim S1x128 ![1] bcast_S128_S1x128_1 main_v2053
  let main_c_455 : IVec S_ 32 := constantI S_ 32 56#32
  let main_c_456 : IVec S_ 32 := constantI S_ 32 0#32
  let main_v2057 : FVec F S64x128 .f32 := (fun x u i => Host.dynamicUpdateSlice x u (fun k => (i k (Shape.Idx.first h_S_)).toInt) updateFits_S64x128_S1x128) main_v2021 main_v2056 (![main_c_455, main_c_456] : Fin 2 → IVec S_ 32)
  let main_v2058 : FVec F S256 .f32 := (fun a b => concatenate S256 0 [⟨S128, a⟩, ⟨S128, b⟩] concatenates_S128_S128_S256_d0) main_v2053 main_arg0
  let main_v2059 : FVec F S512 .f32 := (fun l r => Host.dotGeneral dot_S512x256_S256_S512_1_0_0_n_n_n none l r) main_arg2 main_v2058
  let main_v2060 : FVec F S512 .f32 := addf main_v2059 main_arg4
  fn_part105 (F := F) main_arg0 main_arg1 main_arg2 main_arg3 main_arg4 main_arg5 main_v2053 main_v2055 main_v2057 main_v2060

def fn_part103 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1985 : FVec F S64x128 .f32) (main_v2017 : FVec F S128 .f32) (main_v2019 : FVec F S128 .f32) (main_v2020 : FVec F S1x128 .f32) (main_c_447 : IVec S_ 32) (main_c_448 : IVec S_ 32) : IVec S64x128 1 × IVec S64x1 1 :=
  let main_v2021 : FVec F S64x128 .f32 := (fun x u i => Host.dynamicUpdateSlice x u (fun k => (i k (Shape.Idx.first h_S_)).toInt) updateFits_S64x128_S1x128) main_v1985 main_v2020 (![main_c_447, main_c_448] : Fin 2 → IVec S_ 32)
  let main_v2022 : FVec F S256 .f32 := (fun a b => concatenate S256 0 [⟨S128, a⟩, ⟨S128, b⟩] concatenates_S128_S128_S256_d0) main_v2017 main_arg0
  let main_v2023 : FVec F S512 .f32 := (fun l r => Host.dotGeneral dot_S512x256_S256_S512_1_0_0_n_n_n none l r) main_arg2 main_v2022
  let main_v2024 : FVec F S512 .f32 := addf main_v2023 main_arg4
  let main_v2025 : FVec F S512 .f32 := (fun l r => Host.dotGeneral dot_S512x128_S128_S512_1_0_0_n_n_n none l r) main_arg3 main_v2019
  let main_v2026 : FVec F S512 .f32 := addf main_v2024 main_v2025
  let main_v2027 : FVec F S512 .f32 := addf main_v2026 main_arg5
  let main_v2028 : FVec F S128 .f32 := (extractStridedSlice S128 ![0] · slices_S512_S128_0) main_v2027
  let main_v2029 : FVec F S128 .f32 := (extractStridedSlice S128 ![128] · slices_S512_S128_128) main_v2027
  let main_v2030 : FVec F S128 .f32 := (extractStridedSlice S128 ![256] · slices_S512_S128_256) main_v2027
  let main_v2031 : FVec F S128 .f32 := (extractStridedSlice S128 ![384] · slices_S512_S128_384) main_v2027
  let main_v2032 : FVec F S128 .f32 := Host.negf main_v2028
  let main_v2033 : FVec F S128 .f32 := Host.exp main_v2032
  let main_cst_449 : FVec F S_ .f32 := constant S_ .f32 0x3F800000#32
  let main_v2034 : FVec F S128 .f32 := broadcastInDim S128 ![] bcast_S_S128 main_cst_449
  let main_v2035 : FVec F S128 .f32 := addf main_v2034 main_v2033
  let main_cst_450 : FVec F S_ .f32 := constant S_ .f32 0x3F800000#32
  let main_v2036 : FVec F S128 .f32 := broadcastInDim S128 ![] bcast_S_S128 main_cst_450
  let main_v2037 : FVec F S128 .f32 := Host.divf main_v2036 main_v2035
  let main_v2038 : FVec F S128 .f32 := Host.negf main_v2029
  let main_v2039 : FVec F S128 .f32 := Host.exp main_v2038
  let main_cst_451 : FVec F S_ .f32 := constant S_ .f32 0x3F800000#32
  let main_v2040 : FVec F S128 .f32 := broadcastInDim S128 ![] bcast_S_S128 main_cst_451
  let main_v2041 : FVec F S128 .f32 := addf main_v2040 main_v2039
  fn_part104 (F := F) main_arg0 main_arg1 main_arg2 main_arg3 main_arg4 main_arg5 main_v2017 main_v2021 main_v2030 main_v2031 main_v2037 main_v2041

def fn_part102 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1981 : FVec F S128 .f32) (main_v1985 : FVec F S64x128 .f32) (main_v1994 : FVec F S128 .f32) (main_v1995 : FVec F S128 .f32) (main_v2001 : FVec F S128 .f32) (main_v2002 : FVec F S128 .f32) : IVec S64x128 1 × IVec S64x1 1 :=
  let main_v2003 : FVec F S128 .f32 := Host.exp main_v2002
  let main_cst_443 : FVec F S_ .f32 := constant S_ .f32 0x3F800000#32
  let main_v2004 : FVec F S128 .f32 := broadcastInDim S128 ![] bcast_S_S128 main_cst_443
  let main_v2005 : FVec F S128 .f32 := addf main_v2004 main_v2003
  let main_cst_444 : FVec F S_ .f32 := constant S_ .f32 0x3F800000#32
  let main_v2006 : FVec F S128 .f32 := broadcastInDim S128 ![] bcast_S_S128 main_cst_444
  let main_v2007 : FVec F S128 .f32 := Host.divf main_v2006 main_v2005
  let main_v2008 : FVec F S128 .f32 := Host.tanh main_v1994
  let main_v2009 : FVec F S128 .f32 := Host.negf main_v1995
  let main_v2010 : FVec F S128 .f32 := Host.exp main_v2009
  let main_cst_445 : FVec F S_ .f32 := constant S_ .f32 0x3F800000#32
  let main_v2011 : FVec F S128 .f32 := broadcastInDim S128 ![] bcast_S_S128 main_cst_445
  let main_v2012 : FVec F S128 .f32 := addf main_v2011 main_v2010
  let main_cst_446 : FVec F S_ .f32 := constant S_ .f32 0x3F800000#32
  let main_v2013 : FVec F S128 .f32 := broadcastInDim S128 ![] bcast_S_S128 main_cst_446
  let main_v2014 : FVec F S128 .f32 := Host.divf main_v2013 main_v2012
  let main_v2015 : FVec F S128 .f32 := mulf main_v2007 main_v1981
  let main_v2016 : FVec F S128 .f32 := mulf main_v2001 main_v2008
  let main_v2017 : FVec F S128 .f32 := addf main_v2015 main_v2016
  let main_v2018 : FVec F S128 .f32 := Host.tanh main_v2017
  let main_v2019 : FVec F S128 .f32 := mulf main_v2014 main_v2018
  let main_v2020 : FVec F S1x128 .f32 := broadcastInDim S1x128 ![1] bcast_S128_S1x128_1 main_v2017
  let main_c_447 : IVec S_ 32 := constantI S_ 32 55#32
  let main_c_448 : IVec S_ 32 := constantI S_ 32 0#32
  fn_part103 (F := F) main_arg0 main_arg1 main_arg2 main_arg3 main_arg4 main_arg5 main_v1985 main_v2017 main_v2019 main_v2020 main_c_447 main_c_448

def fn_part101 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1949 : FVec F S64x128 .f32) (main_v1978 : FVec F S128 .f32) (main_v1981 : FVec F S128 .f32) (main_v1982 : FVec F S128 .f32) : IVec S64x128 1 × IVec S64x1 1 :=
  let main_v1983 : FVec F S128 .f32 := mulf main_v1978 main_v1982
  let main_v1984 : FVec F S1x128 .f32 := broadcastInDim S1x128 ![1] bcast_S128_S1x128_1 main_v1981
  let main_c_439 : IVec S_ 32 := constantI S_ 32 54#32
  let main_c_440 : IVec S_ 32 := constantI S_ 32 0#32
  let main_v1985 : FVec F S64x128 .f32 := (fun x u i => Host.dynamicUpdateSlice x u (fun k => (i k (Shape.Idx.first h_S_)).toInt) updateFits_S64x128_S1x128) main_v1949 main_v1984 (![main_c_439, main_c_440] : Fin 2 → IVec S_ 32)
  let main_v1986 : FVec F S256 .f32 := (fun a b => concatenate S256 0 [⟨S128, a⟩, ⟨S128, b⟩] concatenates_S128_S128_S256_d0) main_v1981 main_arg0
  let main_v1987 : FVec F S512 .f32 := (fun l r => Host.dotGeneral dot_S512x256_S256_S512_1_0_0_n_n_n none l r) main_arg2 main_v1986
  let main_v1988 : FVec F S512 .f32 := addf main_v1987 main_arg4
  let main_v1989 : FVec F S512 .f32 := (fun l r => Host.dotGeneral dot_S512x128_S128_S512_1_0_0_n_n_n none l r) main_arg3 main_v1983
  let main_v1990 : FVec F S512 .f32 := addf main_v1988 main_v1989
  let main_v1991 : FVec F S512 .f32 := addf main_v1990 main_arg5
  let main_v1992 : FVec F S128 .f32 := (extractStridedSlice S128 ![0] · slices_S512_S128_0) main_v1991
  let main_v1993 : FVec F S128 .f32 := (extractStridedSlice S128 ![128] · slices_S512_S128_128) main_v1991
  let main_v1994 : FVec F S128 .f32 := (extractStridedSlice S128 ![256] · slices_S512_S128_256) main_v1991
  let main_v1995 : FVec F S128 .f32 := (extractStridedSlice S128 ![384] · slices_S512_S128_384) main_v1991
  let main_v1996 : FVec F S128 .f32 := Host.negf main_v1992
  let main_v1997 : FVec F S128 .f32 := Host.exp main_v1996
  let main_cst_441 : FVec F S_ .f32 := constant S_ .f32 0x3F800000#32
  let main_v1998 : FVec F S128 .f32 := broadcastInDim S128 ![] bcast_S_S128 main_cst_441
  let main_v1999 : FVec F S128 .f32 := addf main_v1998 main_v1997
  let main_cst_442 : FVec F S_ .f32 := constant S_ .f32 0x3F800000#32
  let main_v2000 : FVec F S128 .f32 := broadcastInDim S128 ![] bcast_S_S128 main_cst_442
  let main_v2001 : FVec F S128 .f32 := Host.divf main_v2000 main_v1999
  let main_v2002 : FVec F S128 .f32 := Host.negf main_v1993
  fn_part102 (F := F) main_arg0 main_arg1 main_arg2 main_arg3 main_arg4 main_arg5 main_v1981 main_v1985 main_v1994 main_v1995 main_v2001 main_v2002

def fn_part100 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1945 : FVec F S128 .f32) (main_v1949 : FVec F S64x128 .f32) (main_v1957 : FVec F S128 .f32) (main_v1958 : FVec F S128 .f32) (main_v1959 : FVec F S128 .f32) (main_v1963 : FVec F S128 .f32) : IVec S64x128 1 × IVec S64x1 1 :=
  let main_cst_434 : FVec F S_ .f32 := constant S_ .f32 0x3F800000#32
  let main_v1964 : FVec F S128 .f32 := broadcastInDim S128 ![] bcast_S_S128 main_cst_434
  let main_v1965 : FVec F S128 .f32 := Host.divf main_v1964 main_v1963
  let main_v1966 : FVec F S128 .f32 := Host.negf main_v1957
  let main_v1967 : FVec F S128 .f32 := Host.exp main_v1966
  let main_cst_435 : FVec F S_ .f32 := constant S_ .f32 0x3F800000#32
  let main_v1968 : FVec F S128 .f32 := broadcastInDim S128 ![] bcast_S_S128 main_cst_435
  let main_v1969 : FVec F S128 .f32 := addf main_v1968 main_v1967
  let main_cst_436 : FVec F S_ .f32 := constant S_ .f32 0x3F800000#32
  let main_v1970 : FVec F S128 .f32 := broadcastInDim S128 ![] bcast_S_S128 main_cst_436
  let main_v1971 : FVec F S128 .f32 := Host.divf main_v1970 main_v1969
  let main_v1972 : FVec F S128 .f32 := Host.tanh main_v1958
  let main_v1973 : FVec F S128 .f32 := Host.negf main_v1959
  let main_v1974 : FVec F S128 .f32 := Host.exp main_v1973
  let main_cst_437 : FVec F S_ .f32 := constant S_ .f32 0x3F800000#32
  let main_v1975 : FVec F S128 .f32 := broadcastInDim S128 ![] bcast_S_S128 main_cst_437
  let main_v1976 : FVec F S128 .f32 := addf main_v1975 main_v1974
  let main_cst_438 : FVec F S_ .f32 := constant S_ .f32 0x3F800000#32
  let main_v1977 : FVec F S128 .f32 := broadcastInDim S128 ![] bcast_S_S128 main_cst_438
  let main_v1978 : FVec F S128 .f32 := Host.divf main_v1977 main_v1976
  let main_v1979 : FVec F S128 .f32 := mulf main_v1971 main_v1945
  let main_v1980 : FVec F S128 .f32 := mulf main_v1965 main_v1972
  let main_v1981 : FVec F S128 .f32 := addf main_v1979 main_v1980
  let main_v1982 : FVec F S128 .f32 := Host.tanh main_v1981
  fn_part101 (F := F) main_arg0 main_arg1 main_arg2 main_arg3 main_arg4 main_arg5 main_v1949 main_v1978 main_v1981 main_v1982

def fn_part99 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1909 : FVec F S128 .f32) (main_v1913 : FVec F S64x128 .f32) (main_v1929 : FVec F S128 .f32) (main_v1935 : FVec F S128 .f32) (main_v1936 : FVec F S128 .f32) (main_v1942 : FVec F S128 .f32) : IVec S64x128 1 × IVec S64x1 1 :=
  let main_v1943 : FVec F S128 .f32 := mulf main_v1935 main_v1909
  let main_v1944 : FVec F S128 .f32 := mulf main_v1929 main_v1936
  let main_v1945 : FVec F S128 .f32 := addf main_v1943 main_v1944
  let main_v1946 : FVec F S128 .f32 := Host.tanh main_v1945
  let main_v1947 : FVec F S128 .f32 := mulf main_v1942 main_v1946
  let main_v1948 : FVec F S1x128 .f32 := broadcastInDim S1x128 ![1] bcast_S128_S1x128_1 main_v1945
  let main_c_431 : IVec S_ 32 := constantI S_ 32 53#32
  let main_c_432 : IVec S_ 32 := constantI S_ 32 0#32
  let main_v1949 : FVec F S64x128 .f32 := (fun x u i => Host.dynamicUpdateSlice x u (fun k => (i k (Shape.Idx.first h_S_)).toInt) updateFits_S64x128_S1x128) main_v1913 main_v1948 (![main_c_431, main_c_432] : Fin 2 → IVec S_ 32)
  let main_v1950 : FVec F S256 .f32 := (fun a b => concatenate S256 0 [⟨S128, a⟩, ⟨S128, b⟩] concatenates_S128_S128_S256_d0) main_v1945 main_arg0
  let main_v1951 : FVec F S512 .f32 := (fun l r => Host.dotGeneral dot_S512x256_S256_S512_1_0_0_n_n_n none l r) main_arg2 main_v1950
  let main_v1952 : FVec F S512 .f32 := addf main_v1951 main_arg4
  let main_v1953 : FVec F S512 .f32 := (fun l r => Host.dotGeneral dot_S512x128_S128_S512_1_0_0_n_n_n none l r) main_arg3 main_v1947
  let main_v1954 : FVec F S512 .f32 := addf main_v1952 main_v1953
  let main_v1955 : FVec F S512 .f32 := addf main_v1954 main_arg5
  let main_v1956 : FVec F S128 .f32 := (extractStridedSlice S128 ![0] · slices_S512_S128_0) main_v1955
  let main_v1957 : FVec F S128 .f32 := (extractStridedSlice S128 ![128] · slices_S512_S128_128) main_v1955
  let main_v1958 : FVec F S128 .f32 := (extractStridedSlice S128 ![256] · slices_S512_S128_256) main_v1955
  let main_v1959 : FVec F S128 .f32 := (extractStridedSlice S128 ![384] · slices_S512_S128_384) main_v1955
  let main_v1960 : FVec F S128 .f32 := Host.negf main_v1956
  let main_v1961 : FVec F S128 .f32 := Host.exp main_v1960
  let main_cst_433 : FVec F S_ .f32 := constant S_ .f32 0x3F800000#32
  let main_v1962 : FVec F S128 .f32 := broadcastInDim S128 ![] bcast_S_S128 main_cst_433
  let main_v1963 : FVec F S128 .f32 := addf main_v1962 main_v1961
  fn_part100 (F := F) main_arg0 main_arg1 main_arg2 main_arg3 main_arg4 main_arg5 main_v1945 main_v1949 main_v1957 main_v1958 main_v1959 main_v1963

def fn_part98 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1909 : FVec F S128 .f32) (main_v1913 : FVec F S64x128 .f32) (main_v1921 : FVec F S128 .f32) (main_v1922 : FVec F S128 .f32) (main_v1923 : FVec F S128 .f32) (main_v1924 : FVec F S128 .f32) : IVec S64x128 1 × IVec S64x1 1 :=
  let main_v1925 : FVec F S128 .f32 := Host.exp main_v1924
  let main_cst_425 : FVec F S_ .f32 := constant S_ .f32 0x3F800000#32
  let main_v1926 : FVec F S128 .f32 := broadcastInDim S128 ![] bcast_S_S128 main_cst_425
  let main_v1927 : FVec F S128 .f32 := addf main_v1926 main_v1925
  let main_cst_426 : FVec F S_ .f32 := constant S_ .f32 0x3F800000#32
  let main_v1928 : FVec F S128 .f32 := broadcastInDim S128 ![] bcast_S_S128 main_cst_426
  let main_v1929 : FVec F S128 .f32 := Host.divf main_v1928 main_v1927
  let main_v1930 : FVec F S128 .f32 := Host.negf main_v1921
  let main_v1931 : FVec F S128 .f32 := Host.exp main_v1930
  let main_cst_427 : FVec F S_ .f32 := constant S_ .f32 0x3F800000#32
  let main_v1932 : FVec F S128 .f32 := broadcastInDim S128 ![] bcast_S_S128 main_cst_427
  let main_v1933 : FVec F S128 .f32 := addf main_v1932 main_v1931
  let main_cst_428 : FVec F S_ .f32 := constant S_ .f32 0x3F800000#32
  let main_v1934 : FVec F S128 .f32 := broadcastInDim S128 ![] bcast_S_S128 main_cst_428
  let main_v1935 : FVec F S128 .f32 := Host.divf main_v1934 main_v1933
  let main_v1936 : FVec F S128 .f32 := Host.tanh main_v1922
  let main_v1937 : FVec F S128 .f32 := Host.negf main_v1923
  let main_v1938 : FVec F S128 .f32 := Host.exp main_v1937
  let main_cst_429 : FVec F S_ .f32 := constant S_ .f32 0x3F800000#32
  let main_v1939 : FVec F S128 .f32 := broadcastInDim S128 ![] bcast_S_S128 main_cst_429
  let main_v1940 : FVec F S128 .f32 := addf main_v1939 main_v1938
  let main_cst_430 : FVec F S_ .f32 := constant S_ .f32 0x3F800000#32
  let main_v1941 : FVec F S128 .f32 := broadcastInDim S128 ![] bcast_S_S128 main_cst_430
  let main_v1942 : FVec F S128 .f32 := Host.divf main_v1941 main_v1940
  fn_part99 (F := F) main_arg0 main_arg1 main_arg2 main_arg3 main_arg4 main_arg5 main_v1909 main_v1913 main_v1929 main_v1935 main_v1936 main_v1942

def fn_part97 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1873 : FVec F S128 .f32) (main_v1877 : FVec F S64x128 .f32) (main_v1893 : FVec F S128 .f32) (main_v1899 : FVec F S128 .f32) (main_v1900 : FVec F S128 .f32) (main_v1902 : FVec F S128 .f32) (main_v1903 : FVec F S128 .f32) : IVec S64x128 1 × IVec S64x1 1 :=
  let main_v1904 : FVec F S128 .f32 := addf main_v1903 main_v1902
  let main_cst_422 : FVec F S_ .f32 := constant S_ .f32 0x3F800000#32
  let main_v1905 : FVec F S128 .f32 := broadcastInDim S128 ![] bcast_S_S128 main_cst_422
  let main_v1906 : FVec F S128 .f32 := Host.divf main_v1905 main_v1904
  let main_v1907 : FVec F S128 .f32 := mulf main_v1899 main_v1873
  let main_v1908 : FVec F S128 .f32 := mulf main_v1893 main_v1900
  let main_v1909 : FVec F S128 .f32 := addf main_v1907 main_v1908
  let main_v1910 : FVec F S128 .f32 := Host.tanh main_v1909
  let main_v1911 : FVec F S128 .f32 := mulf main_v1906 main_v1910
  let main_v1912 : FVec F S1x128 .f32 := broadcastInDim S1x128 ![1] bcast_S128_S1x128_1 main_v1909
  let main_c_423 : IVec S_ 32 := constantI S_ 32 52#32
  let main_c_424 : IVec S_ 32 := constantI S_ 32 0#32
  let main_v1913 : FVec F S64x128 .f32 := (fun x u i => Host.dynamicUpdateSlice x u (fun k => (i k (Shape.Idx.first h_S_)).toInt) updateFits_S64x128_S1x128) main_v1877 main_v1912 (![main_c_423, main_c_424] : Fin 2 → IVec S_ 32)
  let main_v1914 : FVec F S256 .f32 := (fun a b => concatenate S256 0 [⟨S128, a⟩, ⟨S128, b⟩] concatenates_S128_S128_S256_d0) main_v1909 main_arg0
  let main_v1915 : FVec F S512 .f32 := (fun l r => Host.dotGeneral dot_S512x256_S256_S512_1_0_0_n_n_n none l r) main_arg2 main_v1914
  let main_v1916 : FVec F S512 .f32 := addf main_v1915 main_arg4
  let main_v1917 : FVec F S512 .f32 := (fun l r => Host.dotGeneral dot_S512x128_S128_S512_1_0_0_n_n_n none l r) main_arg3 main_v1911
  let main_v1918 : FVec F S512 .f32 := addf main_v1916 main_v1917
  let main_v1919 : FVec F S512 .f32 := addf main_v1918 main_arg5
  let main_v1920 : FVec F S128 .f32 := (extractStridedSlice S128 ![0] · slices_S512_S128_0) main_v1919
  let main_v1921 : FVec F S128 .f32 := (extractStridedSlice S128 ![128] · slices_S512_S128_128) main_v1919
  let main_v1922 : FVec F S128 .f32 := (extractStridedSlice S128 ![256] · slices_S512_S128_256) main_v1919
  let main_v1923 : FVec F S128 .f32 := (extractStridedSlice S128 ![384] · slices_S512_S128_384) main_v1919
  let main_v1924 : FVec F S128 .f32 := Host.negf main_v1920
  fn_part98 (F := F) main_arg0 main_arg1 main_arg2 main_arg3 main_arg4 main_arg5 main_v1909 main_v1913 main_v1921 main_v1922 main_v1923 main_v1924

def fn_part96 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1873 : FVec F S128 .f32) (main_v1877 : FVec F S64x128 .f32) (main_v1883 : FVec F S512 .f32) (main_v1884 : FVec F S128 .f32) : IVec S64x128 1 × IVec S64x1 1 :=
  let main_v1885 : FVec F S128 .f32 := (extractStridedSlice S128 ![128] · slices_S512_S128_128) main_v1883
  let main_v1886 : FVec F S128 .f32 := (extractStridedSlice S128 ![256] · slices_S512_S128_256) main_v1883
  let main_v1887 : FVec F S128 .f32 := (extractStridedSlice S128 ![384] · slices_S512_S128_384) main_v1883
  let main_v1888 : FVec F S128 .f32 := Host.negf main_v1884
  let main_v1889 : FVec F S128 .f32 := Host.exp main_v1888
  let main_cst_417 : FVec F S_ .f32 := constant S_ .f32 0x3F800000#32
  let main_v1890 : FVec F S128 .f32 := broadcastInDim S128 ![] bcast_S_S128 main_cst_417
  let main_v1891 : FVec F S128 .f32 := addf main_v1890 main_v1889
  let main_cst_418 : FVec F S_ .f32 := constant S_ .f32 0x3F800000#32
  let main_v1892 : FVec F S128 .f32 := broadcastInDim S128 ![] bcast_S_S128 main_cst_418
  let main_v1893 : FVec F S128 .f32 := Host.divf main_v1892 main_v1891
  let main_v1894 : FVec F S128 .f32 := Host.negf main_v1885
  let main_v1895 : FVec F S128 .f32 := Host.exp main_v1894
  let main_cst_419 : FVec F S_ .f32 := constant S_ .f32 0x3F800000#32
  let main_v1896 : FVec F S128 .f32 := broadcastInDim S128 ![] bcast_S_S128 main_cst_419
  let main_v1897 : FVec F S128 .f32 := addf main_v1896 main_v1895
  let main_cst_420 : FVec F S_ .f32 := constant S_ .f32 0x3F800000#32
  let main_v1898 : FVec F S128 .f32 := broadcastInDim S128 ![] bcast_S_S128 main_cst_420
  let main_v1899 : FVec F S128 .f32 := Host.divf main_v1898 main_v1897
  let main_v1900 : FVec F S128 .f32 := Host.tanh main_v1886
  let main_v1901 : FVec F S128 .f32 := Host.negf main_v1887
  let main_v1902 : FVec F S128 .f32 := Host.exp main_v1901
  let main_cst_421 : FVec F S_ .f32 := constant S_ .f32 0x3F800000#32
  let main_v1903 : FVec F S128 .f32 := broadcastInDim S128 ![] bcast_S_S128 main_cst_421
  fn_part97 (F := F) main_arg0 main_arg1 main_arg2 main_arg3 main_arg4 main_arg5 main_v1873 main_v1877 main_v1893 main_v1899 main_v1900 main_v1902 main_v1903

def fn_part95 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1837 : FVec F S128 .f32) (main_v1841 : FVec F S64x128 .f32) (main_v1851 : FVec F S128 .f32) (main_v1857 : FVec F S128 .f32) (main_v1863 : FVec F S128 .f32) (main_v1864 : FVec F S128 .f32) : IVec S64x128 1 × IVec S64x1 1 :=
  let main_v1865 : FVec F S128 .f32 := Host.negf main_v1851
  let main_v1866 : FVec F S128 .f32 := Host.exp main_v1865
  let main_cst_413 : FVec F S_ .f32 := constant S_ .f32 0x3F800000#32
  let main_v1867 : FVec F S128 .f32 := broadcastInDim S128 ![] bcast_S_S128 main_cst_413
  let main_v1868 : FVec F S128 .f32 := addf main_v1867 main_v1866
  let main_cst_414 : FVec F S_ .f32 := constant S_ .f32 0x3F800000#32
  let main_v1869 : FVec F S128 .f32 := broadcastInDim S128 ![] bcast_S_S128 main_cst_414
  let main_v1870 : FVec F S128 .f32 := Host.divf main_v1869 main_v1868
  let main_v1871 : FVec F S128 .f32 := mulf main_v1863 main_v1837
  let main_v1872 : FVec F S128 .f32 := mulf main_v1857 main_v1864
  let main_v1873 : FVec F S128 .f32 := addf main_v1871 main_v1872
  let main_v1874 : FVec F S128 .f32 := Host.tanh main_v1873
  let main_v1875 : FVec F S128 .f32 := mulf main_v1870 main_v1874
  let main_v1876 : FVec F S1x128 .f32 := broadcastInDim S1x128 ![1] bcast_S128_S1x128_1 main_v1873
  let main_c_415 : IVec S_ 32 := constantI S_ 32 51#32
  let main_c_416 : IVec S_ 32 := constantI S_ 32 0#32
  let main_v1877 : FVec F S64x128 .f32 := (fun x u i => Host.dynamicUpdateSlice x u (fun k => (i k (Shape.Idx.first h_S_)).toInt) updateFits_S64x128_S1x128) main_v1841 main_v1876 (![main_c_415, main_c_416] : Fin 2 → IVec S_ 32)
  let main_v1878 : FVec F S256 .f32 := (fun a b => concatenate S256 0 [⟨S128, a⟩, ⟨S128, b⟩] concatenates_S128_S128_S256_d0) main_v1873 main_arg0
  let main_v1879 : FVec F S512 .f32 := (fun l r => Host.dotGeneral dot_S512x256_S256_S512_1_0_0_n_n_n none l r) main_arg2 main_v1878
  let main_v1880 : FVec F S512 .f32 := addf main_v1879 main_arg4
  let main_v1881 : FVec F S512 .f32 := (fun l r => Host.dotGeneral dot_S512x128_S128_S512_1_0_0_n_n_n none l r) main_arg3 main_v1875
  let main_v1882 : FVec F S512 .f32 := addf main_v1880 main_v1881
  let main_v1883 : FVec F S512 .f32 := addf main_v1882 main_arg5
  let main_v1884 : FVec F S128 .f32 := (extractStridedSlice S128 ![0] · slices_S512_S128_0) main_v1883
  fn_part96 (F := F) main_arg0 main_arg1 main_arg2 main_arg3 main_arg4 main_arg5 main_v1873 main_v1877 main_v1883 main_v1884

def fn_part94 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1837 : FVec F S128 .f32) (main_v1839 : FVec F S128 .f32) (main_v1841 : FVec F S64x128 .f32) (main_v1844 : FVec F S512 .f32) : IVec S64x128 1 × IVec S64x1 1 :=
  let main_v1845 : FVec F S512 .f32 := (fun l r => Host.dotGeneral dot_S512x128_S128_S512_1_0_0_n_n_n none l r) main_arg3 main_v1839
  let main_v1846 : FVec F S512 .f32 := addf main_v1844 main_v1845
  let main_v1847 : FVec F S512 .f32 := addf main_v1846 main_arg5
  let main_v1848 : FVec F S128 .f32 := (extractStridedSlice S128 ![0] · slices_S512_S128_0) main_v1847
  let main_v1849 : FVec F S128 .f32 := (extractStridedSlice S128 ![128] · slices_S512_S128_128) main_v1847
  let main_v1850 : FVec F S128 .f32 := (extractStridedSlice S128 ![256] · slices_S512_S128_256) main_v1847
  let main_v1851 : FVec F S128 .f32 := (extractStridedSlice S128 ![384] · slices_S512_S128_384) main_v1847
  let main_v1852 : FVec F S128 .f32 := Host.negf main_v1848
  let main_v1853 : FVec F S128 .f32 := Host.exp main_v1852
  let main_cst_409 : FVec F S_ .f32 := constant S_ .f32 0x3F800000#32
  let main_v1854 : FVec F S128 .f32 := broadcastInDim S128 ![] bcast_S_S128 main_cst_409
  let main_v1855 : FVec F S128 .f32 := addf main_v1854 main_v1853
  let main_cst_410 : FVec F S_ .f32 := constant S_ .f32 0x3F800000#32
  let main_v1856 : FVec F S128 .f32 := broadcastInDim S128 ![] bcast_S_S128 main_cst_410
  let main_v1857 : FVec F S128 .f32 := Host.divf main_v1856 main_v1855
  let main_v1858 : FVec F S128 .f32 := Host.negf main_v1849
  let main_v1859 : FVec F S128 .f32 := Host.exp main_v1858
  let main_cst_411 : FVec F S_ .f32 := constant S_ .f32 0x3F800000#32
  let main_v1860 : FVec F S128 .f32 := broadcastInDim S128 ![] bcast_S_S128 main_cst_411
  let main_v1861 : FVec F S128 .f32 := addf main_v1860 main_v1859
  let main_cst_412 : FVec F S_ .f32 := constant S_ .f32 0x3F800000#32
  let main_v1862 : FVec F S128 .f32 := broadcastInDim S128 ![] bcast_S_S128 main_cst_412
  let main_v1863 : FVec F S128 .f32 := Host.divf main_v1862 main_v1861
  let main_v1864 : FVec F S128 .f32 := Host.tanh main_v1850
  fn_part95 (F := F) main_arg0 main_arg1 main_arg2 main_arg3 main_arg4 main_arg5 main_v1837 main_v1841 main_v1851 main_v1857 main_v1863 main_v1864

def fn_part93 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1801 : FVec F S128 .f32) (main_v1805 : FVec F S64x128 .f32) (main_v1814 : FVec F S128 .f32) (main_v1815 : FVec F S128 .f32) (main_v1821 : FVec F S128 .f32) (main_v1825 : FVec F S128 .f32) : IVec S64x128 1 × IVec S64x1 1 :=
  let main_cst_404 : FVec F S_ .f32 := constant S_ .f32 0x3F800000#32
  let main_v1826 : FVec F S128 .f32 := broadcastInDim S128 ![] bcast_S_S128 main_cst_404
  let main_v1827 : FVec F S128 .f32 := Host.divf main_v1826 main_v1825
  let main_v1828 : FVec F S128 .f32 := Host.tanh main_v1814
  let main_v1829 : FVec F S128 .f32 := Host.negf main_v1815
  let main_v1830 : FVec F S128 .f32 := Host.exp main_v1829
  let main_cst_405 : FVec F S_ .f32 := constant S_ .f32 0x3F800000#32
  let main_v1831 : FVec F S128 .f32 := broadcastInDim S128 ![] bcast_S_S128 main_cst_405
  let main_v1832 : FVec F S128 .f32 := addf main_v1831 main_v1830
  let main_cst_406 : FVec F S_ .f32 := constant S_ .f32 0x3F800000#32
  let main_v1833 : FVec F S128 .f32 := broadcastInDim S128 ![] bcast_S_S128 main_cst_406
  let main_v1834 : FVec F S128 .f32 := Host.divf main_v1833 main_v1832
  let main_v1835 : FVec F S128 .f32 := mulf main_v1827 main_v1801
  let main_v1836 : FVec F S128 .f32 := mulf main_v1821 main_v1828
  let main_v1837 : FVec F S128 .f32 := addf main_v1835 main_v1836
  let main_v1838 : FVec F S128 .f32 := Host.tanh main_v1837
  let main_v1839 : FVec F S128 .f32 := mulf main_v1834 main_v1838
  let main_v1840 : FVec F S1x128 .f32 := broadcastInDim S1x128 ![1] bcast_S128_S1x128_1 main_v1837
  let main_c_407 : IVec S_ 32 := constantI S_ 32 50#32
  let main_c_408 : IVec S_ 32 := constantI S_ 32 0#32
  let main_v1841 : FVec F S64x128 .f32 := (fun x u i => Host.dynamicUpdateSlice x u (fun k => (i k (Shape.Idx.first h_S_)).toInt) updateFits_S64x128_S1x128) main_v1805 main_v1840 (![main_c_407, main_c_408] : Fin 2 → IVec S_ 32)
  let main_v1842 : FVec F S256 .f32 := (fun a b => concatenate S256 0 [⟨S128, a⟩, ⟨S128, b⟩] concatenates_S128_S128_S256_d0) main_v1837 main_arg0
  let main_v1843 : FVec F S512 .f32 := (fun l r => Host.dotGeneral dot_S512x256_S256_S512_1_0_0_n_n_n none l r) main_arg2 main_v1842
  let main_v1844 : FVec F S512 .f32 := addf main_v1843 main_arg4
  fn_part94 (F := F) main_arg0 main_arg1 main_arg2 main_arg3 main_arg4 main_arg5 main_v1837 main_v1839 main_v1841 main_v1844

def fn_part92 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1769 : FVec F S64x128 .f32) (main_v1801 : FVec F S128 .f32) (main_v1803 : FVec F S128 .f32) (main_v1804 : FVec F S1x128 .f32) (main_c_399 : IVec S_ 32) (main_c_400 : IVec S_ 32) : IVec S64x128 1 × IVec S64x1 1 :=
  let main_v1805 : FVec F S64x128 .f32 := (fun x u i => Host.dynamicUpdateSlice x u (fun k => (i k (Shape.Idx.first h_S_)).toInt) updateFits_S64x128_S1x128) main_v1769 main_v1804 (![main_c_399, main_c_400] : Fin 2 → IVec S_ 32)
  let main_v1806 : FVec F S256 .f32 := (fun a b => concatenate S256 0 [⟨S128, a⟩, ⟨S128, b⟩] concatenates_S128_S128_S256_d0) main_v1801 main_arg0
  let main_v1807 : FVec F S512 .f32 := (fun l r => Host.dotGeneral dot_S512x256_S256_S512_1_0_0_n_n_n none l r) main_arg2 main_v1806
  let main_v1808 : FVec F S512 .f32 := addf main_v1807 main_arg4
  let main_v1809 : FVec F S512 .f32 := (fun l r => Host.dotGeneral dot_S512x128_S128_S512_1_0_0_n_n_n none l r) main_arg3 main_v1803
  let main_v1810 : FVec F S512 .f32 := addf main_v1808 main_v1809
  let main_v1811 : FVec F S512 .f32 := addf main_v1810 main_arg5
  let main_v1812 : FVec F S128 .f32 := (extractStridedSlice S128 ![0] · slices_S512_S128_0) main_v1811
  let main_v1813 : FVec F S128 .f32 := (extractStridedSlice S128 ![128] · slices_S512_S128_128) main_v1811
  let main_v1814 : FVec F S128 .f32 := (extractStridedSlice S128 ![256] · slices_S512_S128_256) main_v1811
  let main_v1815 : FVec F S128 .f32 := (extractStridedSlice S128 ![384] · slices_S512_S128_384) main_v1811
  let main_v1816 : FVec F S128 .f32 := Host.negf main_v1812
  let main_v1817 : FVec F S128 .f32 := Host.exp main_v1816
  let main_cst_401 : FVec F S_ .f32 := constant S_ .f32 0x3F800000#32
  let main_v1818 : FVec F S128 .f32 := broadcastInDim S128 ![] bcast_S_S128 main_cst_401
  let main_v1819 : FVec F S128 .f32 := addf main_v1818 main_v1817
  let main_cst_402 : FVec F S_ .f32 := constant S_ .f32 0x3F800000#32
  let main_v1820 : FVec F S128 .f32 := broadcastInDim S128 ![] bcast_S_S128 main_cst_402
  let main_v1821 : FVec F S128 .f32 := Host.divf main_v1820 main_v1819
  let main_v1822 : FVec F S128 .f32 := Host.negf main_v1813
  let main_v1823 : FVec F S128 .f32 := Host.exp main_v1822
  let main_cst_403 : FVec F S_ .f32 := constant S_ .f32 0x3F800000#32
  let main_v1824 : FVec F S128 .f32 := broadcastInDim S128 ![] bcast_S_S128 main_cst_403
  let main_v1825 : FVec F S128 .f32 := addf main_v1824 main_v1823
  fn_part93 (F := F) main_arg0 main_arg1 main_arg2 main_arg3 main_arg4 main_arg5 main_v1801 main_v1805 main_v1814 main_v1815 main_v1821 main_v1825

def fn_part91 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1765 : FVec F S128 .f32) (main_v1769 : FVec F S64x128 .f32) (main_v1778 : FVec F S128 .f32) (main_v1779 : FVec F S128 .f32) (main_v1785 : FVec F S128 .f32) (main_v1786 : FVec F S128 .f32) : IVec S64x128 1 × IVec S64x1 1 :=
  let main_v1787 : FVec F S128 .f32 := Host.exp main_v1786
  let main_cst_395 : FVec F S_ .f32 := constant S_ .f32 0x3F800000#32
  let main_v1788 : FVec F S128 .f32 := broadcastInDim S128 ![] bcast_S_S128 main_cst_395
  let main_v1789 : FVec F S128 .f32 := addf main_v1788 main_v1787
  let main_cst_396 : FVec F S_ .f32 := constant S_ .f32 0x3F800000#32
  let main_v1790 : FVec F S128 .f32 := broadcastInDim S128 ![] bcast_S_S128 main_cst_396
  let main_v1791 : FVec F S128 .f32 := Host.divf main_v1790 main_v1789
  let main_v1792 : FVec F S128 .f32 := Host.tanh main_v1778
  let main_v1793 : FVec F S128 .f32 := Host.negf main_v1779
  let main_v1794 : FVec F S128 .f32 := Host.exp main_v1793
  let main_cst_397 : FVec F S_ .f32 := constant S_ .f32 0x3F800000#32
  let main_v1795 : FVec F S128 .f32 := broadcastInDim S128 ![] bcast_S_S128 main_cst_397
  let main_v1796 : FVec F S128 .f32 := addf main_v1795 main_v1794
  let main_cst_398 : FVec F S_ .f32 := constant S_ .f32 0x3F800000#32
  let main_v1797 : FVec F S128 .f32 := broadcastInDim S128 ![] bcast_S_S128 main_cst_398
  let main_v1798 : FVec F S128 .f32 := Host.divf main_v1797 main_v1796
  let main_v1799 : FVec F S128 .f32 := mulf main_v1791 main_v1765
  let main_v1800 : FVec F S128 .f32 := mulf main_v1785 main_v1792
  let main_v1801 : FVec F S128 .f32 := addf main_v1799 main_v1800
  let main_v1802 : FVec F S128 .f32 := Host.tanh main_v1801
  let main_v1803 : FVec F S128 .f32 := mulf main_v1798 main_v1802
  let main_v1804 : FVec F S1x128 .f32 := broadcastInDim S1x128 ![1] bcast_S128_S1x128_1 main_v1801
  let main_c_399 : IVec S_ 32 := constantI S_ 32 49#32
  let main_c_400 : IVec S_ 32 := constantI S_ 32 0#32
  fn_part92 (F := F) main_arg0 main_arg1 main_arg2 main_arg3 main_arg4 main_arg5 main_v1769 main_v1801 main_v1803 main_v1804 main_c_399 main_c_400

def fn_part90 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1733 : FVec F S64x128 .f32) (main_v1762 : FVec F S128 .f32) (main_v1765 : FVec F S128 .f32) (main_v1766 : FVec F S128 .f32) : IVec S64x128 1 × IVec S64x1 1 :=
  let main_v1767 : FVec F S128 .f32 := mulf main_v1762 main_v1766
  let main_v1768 : FVec F S1x128 .f32 := broadcastInDim S1x128 ![1] bcast_S128_S1x128_1 main_v1765
  let main_c_391 : IVec S_ 32 := constantI S_ 32 48#32
  let main_c_392 : IVec S_ 32 := constantI S_ 32 0#32
  let main_v1769 : FVec F S64x128 .f32 := (fun x u i => Host.dynamicUpdateSlice x u (fun k => (i k (Shape.Idx.first h_S_)).toInt) updateFits_S64x128_S1x128) main_v1733 main_v1768 (![main_c_391, main_c_392] : Fin 2 → IVec S_ 32)
  let main_v1770 : FVec F S256 .f32 := (fun a b => concatenate S256 0 [⟨S128, a⟩, ⟨S128, b⟩] concatenates_S128_S128_S256_d0) main_v1765 main_arg0
  let main_v1771 : FVec F S512 .f32 := (fun l r => Host.dotGeneral dot_S512x256_S256_S512_1_0_0_n_n_n none l r) main_arg2 main_v1770
  let main_v1772 : FVec F S512 .f32 := addf main_v1771 main_arg4
  let main_v1773 : FVec F S512 .f32 := (fun l r => Host.dotGeneral dot_S512x128_S128_S512_1_0_0_n_n_n none l r) main_arg3 main_v1767
  let main_v1774 : FVec F S512 .f32 := addf main_v1772 main_v1773
  let main_v1775 : FVec F S512 .f32 := addf main_v1774 main_arg5
  let main_v1776 : FVec F S128 .f32 := (extractStridedSlice S128 ![0] · slices_S512_S128_0) main_v1775
  let main_v1777 : FVec F S128 .f32 := (extractStridedSlice S128 ![128] · slices_S512_S128_128) main_v1775
  let main_v1778 : FVec F S128 .f32 := (extractStridedSlice S128 ![256] · slices_S512_S128_256) main_v1775
  let main_v1779 : FVec F S128 .f32 := (extractStridedSlice S128 ![384] · slices_S512_S128_384) main_v1775
  let main_v1780 : FVec F S128 .f32 := Host.negf main_v1776
  let main_v1781 : FVec F S128 .f32 := Host.exp main_v1780
  let main_cst_393 : FVec F S_ .f32 := constant S_ .f32 0x3F800000#32
  let main_v1782 : FVec F S128 .f32 := broadcastInDim S128 ![] bcast_S_S128 main_cst_393
  let main_v1783 : FVec F S128 .f32 := addf main_v1782 main_v1781
  let main_cst_394 : FVec F S_ .f32 := constant S_ .f32 0x3F800000#32
  let main_v1784 : FVec F S128 .f32 := broadcastInDim S128 ![] bcast_S_S128 main_cst_394
  let main_v1785 : FVec F S128 .f32 := Host.divf main_v1784 main_v1783
  let main_v1786 : FVec F S128 .f32 := Host.negf main_v1777
  fn_part91 (F := F) main_arg0 main_arg1 main_arg2 main_arg3 main_arg4 main_arg5 main_v1765 main_v1769 main_v1778 main_v1779 main_v1785 main_v1786

def fn_part89 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1729 : FVec F S128 .f32) (main_v1733 : FVec F S64x128 .f32) (main_v1741 : FVec F S128 .f32) (main_v1742 : FVec F S128 .f32) (main_v1743 : FVec F S128 .f32) (main_v1747 : FVec F S128 .f32) : IVec S64x128 1 × IVec S64x1 1 :=
  let main_cst_386 : FVec F S_ .f32 := constant S_ .f32 0x3F800000#32
  let main_v1748 : FVec F S128 .f32 := broadcastInDim S128 ![] bcast_S_S128 main_cst_386
  let main_v1749 : FVec F S128 .f32 := Host.divf main_v1748 main_v1747
  let main_v1750 : FVec F S128 .f32 := Host.negf main_v1741
  let main_v1751 : FVec F S128 .f32 := Host.exp main_v1750
  let main_cst_387 : FVec F S_ .f32 := constant S_ .f32 0x3F800000#32
  let main_v1752 : FVec F S128 .f32 := broadcastInDim S128 ![] bcast_S_S128 main_cst_387
  let main_v1753 : FVec F S128 .f32 := addf main_v1752 main_v1751
  let main_cst_388 : FVec F S_ .f32 := constant S_ .f32 0x3F800000#32
  let main_v1754 : FVec F S128 .f32 := broadcastInDim S128 ![] bcast_S_S128 main_cst_388
  let main_v1755 : FVec F S128 .f32 := Host.divf main_v1754 main_v1753
  let main_v1756 : FVec F S128 .f32 := Host.tanh main_v1742
  let main_v1757 : FVec F S128 .f32 := Host.negf main_v1743
  let main_v1758 : FVec F S128 .f32 := Host.exp main_v1757
  let main_cst_389 : FVec F S_ .f32 := constant S_ .f32 0x3F800000#32
  let main_v1759 : FVec F S128 .f32 := broadcastInDim S128 ![] bcast_S_S128 main_cst_389
  let main_v1760 : FVec F S128 .f32 := addf main_v1759 main_v1758
  let main_cst_390 : FVec F S_ .f32 := constant S_ .f32 0x3F800000#32
  let main_v1761 : FVec F S128 .f32 := broadcastInDim S128 ![] bcast_S_S128 main_cst_390
  let main_v1762 : FVec F S128 .f32 := Host.divf main_v1761 main_v1760
  let main_v1763 : FVec F S128 .f32 := mulf main_v1755 main_v1729
  let main_v1764 : FVec F S128 .f32 := mulf main_v1749 main_v1756
  let main_v1765 : FVec F S128 .f32 := addf main_v1763 main_v1764
  let main_v1766 : FVec F S128 .f32 := Host.tanh main_v1765
  fn_part90 (F := F) main_arg0 main_arg1 main_arg2 main_arg3 main_arg4 main_arg5 main_v1733 main_v1762 main_v1765 main_v1766

def fn_part88 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1693 : FVec F S128 .f32) (main_v1697 : FVec F S64x128 .f32) (main_v1713 : FVec F S128 .f32) (main_v1719 : FVec F S128 .f32) (main_v1720 : FVec F S128 .f32) (main_v1726 : FVec F S128 .f32) : IVec S64x128 1 × IVec S64x1 1 :=
  let main_v1727 : FVec F S128 .f32 := mulf main_v1719 main_v1693
  let main_v1728 : FVec F S128 .f32 := mulf main_v1713 main_v1720
  let main_v1729 : FVec F S128 .f32 := addf main_v1727 main_v1728
  let main_v1730 : FVec F S128 .f32 := Host.tanh main_v1729
  let main_v1731 : FVec F S128 .f32 := mulf main_v1726 main_v1730
  let main_v1732 : FVec F S1x128 .f32 := broadcastInDim S1x128 ![1] bcast_S128_S1x128_1 main_v1729
  let main_c_383 : IVec S_ 32 := constantI S_ 32 47#32
  let main_c_384 : IVec S_ 32 := constantI S_ 32 0#32
  let main_v1733 : FVec F S64x128 .f32 := (fun x u i => Host.dynamicUpdateSlice x u (fun k => (i k (Shape.Idx.first h_S_)).toInt) updateFits_S64x128_S1x128) main_v1697 main_v1732 (![main_c_383, main_c_384] : Fin 2 → IVec S_ 32)
  let main_v1734 : FVec F S256 .f32 := (fun a b => concatenate S256 0 [⟨S128, a⟩, ⟨S128, b⟩] concatenates_S128_S128_S256_d0) main_v1729 main_arg0
  let main_v1735 : FVec F S512 .f32 := (fun l r => Host.dotGeneral dot_S512x256_S256_S512_1_0_0_n_n_n none l r) main_arg2 main_v1734
  let main_v1736 : FVec F S512 .f32 := addf main_v1735 main_arg4
  let main_v1737 : FVec F S512 .f32 := (fun l r => Host.dotGeneral dot_S512x128_S128_S512_1_0_0_n_n_n none l r) main_arg3 main_v1731
  let main_v1738 : FVec F S512 .f32 := addf main_v1736 main_v1737
  let main_v1739 : FVec F S512 .f32 := addf main_v1738 main_arg5
  let main_v1740 : FVec F S128 .f32 := (extractStridedSlice S128 ![0] · slices_S512_S128_0) main_v1739
  let main_v1741 : FVec F S128 .f32 := (extractStridedSlice S128 ![128] · slices_S512_S128_128) main_v1739
  let main_v1742 : FVec F S128 .f32 := (extractStridedSlice S128 ![256] · slices_S512_S128_256) main_v1739
  let main_v1743 : FVec F S128 .f32 := (extractStridedSlice S128 ![384] · slices_S512_S128_384) main_v1739
  let main_v1744 : FVec F S128 .f32 := Host.negf main_v1740
  let main_v1745 : FVec F S128 .f32 := Host.exp main_v1744
  let main_cst_385 : FVec F S_ .f32 := constant S_ .f32 0x3F800000#32
  let main_v1746 : FVec F S128 .f32 := broadcastInDim S128 ![] bcast_S_S128 main_cst_385
  let main_v1747 : FVec F S128 .f32 := addf main_v1746 main_v1745
  fn_part89 (F := F) main_arg0 main_arg1 main_arg2 main_arg3 main_arg4 main_arg5 main_v1729 main_v1733 main_v1741 main_v1742 main_v1743 main_v1747

def fn_part87 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1693 : FVec F S128 .f32) (main_v1697 : FVec F S64x128 .f32) (main_v1705 : FVec F S128 .f32) (main_v1706 : FVec F S128 .f32) (main_v1707 : FVec F S128 .f32) (main_v1708 : FVec F S128 .f32) : IVec S64x128 1 × IVec S64x1 1 :=
  let main_v1709 : FVec F S128 .f32 := Host.exp main_v1708
  let main_cst_377 : FVec F S_ .f32 := constant S_ .f32 0x3F800000#32
  let main_v1710 : FVec F S128 .f32 := broadcastInDim S128 ![] bcast_S_S128 main_cst_377
  let main_v1711 : FVec F S128 .f32 := addf main_v1710 main_v1709
  let main_cst_378 : FVec F S_ .f32 := constant S_ .f32 0x3F800000#32
  let main_v1712 : FVec F S128 .f32 := broadcastInDim S128 ![] bcast_S_S128 main_cst_378
  let main_v1713 : FVec F S128 .f32 := Host.divf main_v1712 main_v1711
  let main_v1714 : FVec F S128 .f32 := Host.negf main_v1705
  let main_v1715 : FVec F S128 .f32 := Host.exp main_v1714
  let main_cst_379 : FVec F S_ .f32 := constant S_ .f32 0x3F800000#32
  let main_v1716 : FVec F S128 .f32 := broadcastInDim S128 ![] bcast_S_S128 main_cst_379
  let main_v1717 : FVec F S128 .f32 := addf main_v1716 main_v1715
  let main_cst_380 : FVec F S_ .f32 := constant S_ .f32 0x3F800000#32
  let main_v1718 : FVec F S128 .f32 := broadcastInDim S128 ![] bcast_S_S128 main_cst_380
  let main_v1719 : FVec F S128 .f32 := Host.divf main_v1718 main_v1717
  let main_v1720 : FVec F S128 .f32 := Host.tanh main_v1706
  let main_v1721 : FVec F S128 .f32 := Host.negf main_v1707
  let main_v1722 : FVec F S128 .f32 := Host.exp main_v1721
  let main_cst_381 : FVec F S_ .f32 := constant S_ .f32 0x3F800000#32
  let main_v1723 : FVec F S128 .f32 := broadcastInDim S128 ![] bcast_S_S128 main_cst_381
  let main_v1724 : FVec F S128 .f32 := addf main_v1723 main_v1722
  let main_cst_382 : FVec F S_ .f32 := constant S_ .f32 0x3F800000#32
  let main_v1725 : FVec F S128 .f32 := broadcastInDim S128 ![] bcast_S_S128 main_cst_382
  let main_v1726 : FVec F S128 .f32 := Host.divf main_v1725 main_v1724
  fn_part88 (F := F) main_arg0 main_arg1 main_arg2 main_arg3 main_arg4 main_arg5 main_v1693 main_v1697 main_v1713 main_v1719 main_v1720 main_v1726

def fn_part86 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1657 : FVec F S128 .f32) (main_v1661 : FVec F S64x128 .f32) (main_v1677 : FVec F S128 .f32) (main_v1683 : FVec F S128 .f32) (main_v1684 : FVec F S128 .f32) (main_v1686 : FVec F S128 .f32) (main_v1687 : FVec F S128 .f32) : IVec S64x128 1 × IVec S64x1 1 :=
  let main_v1688 : FVec F S128 .f32 := addf main_v1687 main_v1686
  let main_cst_374 : FVec F S_ .f32 := constant S_ .f32 0x3F800000#32
  let main_v1689 : FVec F S128 .f32 := broadcastInDim S128 ![] bcast_S_S128 main_cst_374
  let main_v1690 : FVec F S128 .f32 := Host.divf main_v1689 main_v1688
  let main_v1691 : FVec F S128 .f32 := mulf main_v1683 main_v1657
  let main_v1692 : FVec F S128 .f32 := mulf main_v1677 main_v1684
  let main_v1693 : FVec F S128 .f32 := addf main_v1691 main_v1692
  let main_v1694 : FVec F S128 .f32 := Host.tanh main_v1693
  let main_v1695 : FVec F S128 .f32 := mulf main_v1690 main_v1694
  let main_v1696 : FVec F S1x128 .f32 := broadcastInDim S1x128 ![1] bcast_S128_S1x128_1 main_v1693
  let main_c_375 : IVec S_ 32 := constantI S_ 32 46#32
  let main_c_376 : IVec S_ 32 := constantI S_ 32 0#32
  let main_v1697 : FVec F S64x128 .f32 := (fun x u i => Host.dynamicUpdateSlice x u (fun k => (i k (Shape.Idx.first h_S_)).toInt) updateFits_S64x128_S1x128) main_v1661 main_v1696 (![main_c_375, main_c_376] : Fin 2 → IVec S_ 32)
  let main_v1698 : FVec F S256 .f32 := (fun a b => concatenate S256 0 [⟨S128, a⟩, ⟨S128, b⟩] concatenates_S128_S128_S256_d0) main_v1693 main_arg0
  let main_v1699 : FVec F S512 .f32 := (fun l r => Host.dotGeneral dot_S512x256_S256_S512_1_0_0_n_n_n none l r) main_arg2 main_v1698
  let main_v1700 : FVec F S512 .f32 := addf main_v1699 main_arg4
  let main_v1701 : FVec F S512 .f32 := (fun l r => Host.dotGeneral dot_S512x128_S128_S512_1_0_0_n_n_n none l r) main_arg3 main_v1695
  let main_v1702 : FVec F S512 .f32 := addf main_v1700 main_v1701
  let main_v1703 : FVec F S512 .f32 := addf main_v1702 main_arg5
  let main_v1704 : FVec F S128 .f32 := (extractStridedSlice S128 ![0] · slices_S512_S128_0) main_v1703
  let main_v1705 : FVec F S128 .f32 := (extractStridedSlice S128 ![128] · slices_S512_S128_128) main_v1703
  let main_v1706 : FVec F S128 .f32 := (extractStridedSlice S128 ![256] · slices_S512_S128_256) main_v1703
  let main_v1707 : FVec F S128 .f32 := (extractStridedSlice S128 ![384] · slices_S512_S128_384) main_v1703
  let main_v1708 : FVec F S128 .f32 := Host.negf main_v1704
  fn_part87 (F := F) main_arg0 main_arg1 main_arg2 main_arg3 main_arg4 main_arg5 main_v1693 main_v1697 main_v1705 main_v1706 main_v1707 main_v1708

def fn_part85 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1657 : FVec F S128 .f32) (main_v1661 : FVec F S64x128 .f32) (main_v1667 : FVec F S512 .f32) (main_v1668 : FVec F S128 .f32) : IVec S64x128 1 × IVec S64x1 1 :=
  let main_v1669 : FVec F S128 .f32 := (extractStridedSlice S128 ![128] · slices_S512_S128_128) main_v1667
  let main_v1670 : FVec F S128 .f32 := (extractStridedSlice S128 ![256] · slices_S512_S128_256) main_v1667
  let main_v1671 : FVec F S128 .f32 := (extractStridedSlice S128 ![384] · slices_S512_S128_384) main_v1667
  let main_v1672 : FVec F S128 .f32 := Host.negf main_v1668
  let main_v1673 : FVec F S128 .f32 := Host.exp main_v1672
  let main_cst_369 : FVec F S_ .f32 := constant S_ .f32 0x3F800000#32
  let main_v1674 : FVec F S128 .f32 := broadcastInDim S128 ![] bcast_S_S128 main_cst_369
  let main_v1675 : FVec F S128 .f32 := addf main_v1674 main_v1673
  let main_cst_370 : FVec F S_ .f32 := constant S_ .f32 0x3F800000#32
  let main_v1676 : FVec F S128 .f32 := broadcastInDim S128 ![] bcast_S_S128 main_cst_370
  let main_v1677 : FVec F S128 .f32 := Host.divf main_v1676 main_v1675
  let main_v1678 : FVec F S128 .f32 := Host.negf main_v1669
  let main_v1679 : FVec F S128 .f32 := Host.exp main_v1678
  let main_cst_371 : FVec F S_ .f32 := constant S_ .f32 0x3F800000#32
  let main_v1680 : FVec F S128 .f32 := broadcastInDim S128 ![] bcast_S_S128 main_cst_371
  let main_v1681 : FVec F S128 .f32 := addf main_v1680 main_v1679
  let main_cst_372 : FVec F S_ .f32 := constant S_ .f32 0x3F800000#32
  let main_v1682 : FVec F S128 .f32 := broadcastInDim S128 ![] bcast_S_S128 main_cst_372
  let main_v1683 : FVec F S128 .f32 := Host.divf main_v1682 main_v1681
  let main_v1684 : FVec F S128 .f32 := Host.tanh main_v1670
  let main_v1685 : FVec F S128 .f32 := Host.negf main_v1671
  let main_v1686 : FVec F S128 .f32 := Host.exp main_v1685
  let main_cst_373 : FVec F S_ .f32 := constant S_ .f32 0x3F800000#32
  let main_v1687 : FVec F S128 .f32 := broadcastInDim S128 ![] bcast_S_S128 main_cst_373
  fn_part86 (F := F) main_arg0 main_arg1 main_arg2 main_arg3 main_arg4 main_arg5 main_v1657 main_v1661 main_v1677 main_v1683 main_v1684 main_v1686 main_v1687

def fn_part84 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1621 : FVec F S128 .f32) (main_v1625 : FVec F S64x128 .f32) (main_v1635 : FVec F S128 .f32) (main_v1641 : FVec F S128 .f32) (main_v1647 : FVec F S128 .f32) (main_v1648 : FVec F S128 .f32) : IVec S64x128 1 × IVec S64x1 1 :=
  let main_v1649 : FVec F S128 .f32 := Host.negf main_v1635
  let main_v1650 : FVec F S128 .f32 := Host.exp main_v1649
  let main_cst_365 : FVec F S_ .f32 := constant S_ .f32 0x3F800000#32
  let main_v1651 : FVec F S128 .f32 := broadcastInDim S128 ![] bcast_S_S128 main_cst_365
  let main_v1652 : FVec F S128 .f32 := addf main_v1651 main_v1650
  let main_cst_366 : FVec F S_ .f32 := constant S_ .f32 0x3F800000#32
  let main_v1653 : FVec F S128 .f32 := broadcastInDim S128 ![] bcast_S_S128 main_cst_366
  let main_v1654 : FVec F S128 .f32 := Host.divf main_v1653 main_v1652
  let main_v1655 : FVec F S128 .f32 := mulf main_v1647 main_v1621
  let main_v1656 : FVec F S128 .f32 := mulf main_v1641 main_v1648
  let main_v1657 : FVec F S128 .f32 := addf main_v1655 main_v1656
  let main_v1658 : FVec F S128 .f32 := Host.tanh main_v1657
  let main_v1659 : FVec F S128 .f32 := mulf main_v1654 main_v1658
  let main_v1660 : FVec F S1x128 .f32 := broadcastInDim S1x128 ![1] bcast_S128_S1x128_1 main_v1657
  let main_c_367 : IVec S_ 32 := constantI S_ 32 45#32
  let main_c_368 : IVec S_ 32 := constantI S_ 32 0#32
  let main_v1661 : FVec F S64x128 .f32 := (fun x u i => Host.dynamicUpdateSlice x u (fun k => (i k (Shape.Idx.first h_S_)).toInt) updateFits_S64x128_S1x128) main_v1625 main_v1660 (![main_c_367, main_c_368] : Fin 2 → IVec S_ 32)
  let main_v1662 : FVec F S256 .f32 := (fun a b => concatenate S256 0 [⟨S128, a⟩, ⟨S128, b⟩] concatenates_S128_S128_S256_d0) main_v1657 main_arg0
  let main_v1663 : FVec F S512 .f32 := (fun l r => Host.dotGeneral dot_S512x256_S256_S512_1_0_0_n_n_n none l r) main_arg2 main_v1662
  let main_v1664 : FVec F S512 .f32 := addf main_v1663 main_arg4
  let main_v1665 : FVec F S512 .f32 := (fun l r => Host.dotGeneral dot_S512x128_S128_S512_1_0_0_n_n_n none l r) main_arg3 main_v1659
  let main_v1666 : FVec F S512 .f32 := addf main_v1664 main_v1665
  let main_v1667 : FVec F S512 .f32 := addf main_v1666 main_arg5
  let main_v1668 : FVec F S128 .f32 := (extractStridedSlice S128 ![0] · slices_S512_S128_0) main_v1667
  fn_part85 (F := F) main_arg0 main_arg1 main_arg2 main_arg3 main_arg4 main_arg5 main_v1657 main_v1661 main_v1667 main_v1668

def fn_part83 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1621 : FVec F S128 .f32) (main_v1623 : FVec F S128 .f32) (main_v1625 : FVec F S64x128 .f32) (main_v1628 : FVec F S512 .f32) : IVec S64x128 1 × IVec S64x1 1 :=
  let main_v1629 : FVec F S512 .f32 := (fun l r => Host.dotGeneral dot_S512x128_S128_S512_1_0_0_n_n_n none l r) main_arg3 main_v1623
  let main_v1630 : FVec F S512 .f32 := addf main_v1628 main_v1629
  let main_v1631 : FVec F S512 .f32 := addf main_v1630 main_arg5
  let main_v1632 : FVec F S128 .f32 := (extractStridedSlice S128 ![0] · slices_S512_S128_0) main_v1631
  let main_v1633 : FVec F S128 .f32 := (extractStridedSlice S128 ![128] · slices_S512_S128_128) main_v1631
  let main_v1634 : FVec F S128 .f32 := (extractStridedSlice S128 ![256] · slices_S512_S128_256) main_v1631
  let main_v1635 : FVec F S128 .f32 := (extractStridedSlice S128 ![384] · slices_S512_S128_384) main_v1631
  let main_v1636 : FVec F S128 .f32 := Host.negf main_v1632
  let main_v1637 : FVec F S128 .f32 := Host.exp main_v1636
  let main_cst_361 : FVec F S_ .f32 := constant S_ .f32 0x3F800000#32
  let main_v1638 : FVec F S128 .f32 := broadcastInDim S128 ![] bcast_S_S128 main_cst_361
  let main_v1639 : FVec F S128 .f32 := addf main_v1638 main_v1637
  let main_cst_362 : FVec F S_ .f32 := constant S_ .f32 0x3F800000#32
  let main_v1640 : FVec F S128 .f32 := broadcastInDim S128 ![] bcast_S_S128 main_cst_362
  let main_v1641 : FVec F S128 .f32 := Host.divf main_v1640 main_v1639
  let main_v1642 : FVec F S128 .f32 := Host.negf main_v1633
  let main_v1643 : FVec F S128 .f32 := Host.exp main_v1642
  let main_cst_363 : FVec F S_ .f32 := constant S_ .f32 0x3F800000#32
  let main_v1644 : FVec F S128 .f32 := broadcastInDim S128 ![] bcast_S_S128 main_cst_363
  let main_v1645 : FVec F S128 .f32 := addf main_v1644 main_v1643
  let main_cst_364 : FVec F S_ .f32 := constant S_ .f32 0x3F800000#32
  let main_v1646 : FVec F S128 .f32 := broadcastInDim S128 ![] bcast_S_S128 main_cst_364
  let main_v1647 : FVec F S128 .f32 := Host.divf main_v1646 main_v1645
  let main_v1648 : FVec F S128 .f32 := Host.tanh main_v1634
  fn_part84 (F := F) main_arg0 main_arg1 main_arg2 main_arg3 main_arg4 main_arg5 main_v1621 main_v1625 main_v1635 main_v1641 main_v1647 main_v1648

def fn_part82 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1585 : FVec F S128 .f32) (main_v1589 : FVec F S64x128 .f32) (main_v1598 : FVec F S128 .f32) (main_v1599 : FVec F S128 .f32) (main_v1605 : FVec F S128 .f32) (main_v1609 : FVec F S128 .f32) : IVec S64x128 1 × IVec S64x1 1 :=
  let main_cst_356 : FVec F S_ .f32 := constant S_ .f32 0x3F800000#32
  let main_v1610 : FVec F S128 .f32 := broadcastInDim S128 ![] bcast_S_S128 main_cst_356
  let main_v1611 : FVec F S128 .f32 := Host.divf main_v1610 main_v1609
  let main_v1612 : FVec F S128 .f32 := Host.tanh main_v1598
  let main_v1613 : FVec F S128 .f32 := Host.negf main_v1599
  let main_v1614 : FVec F S128 .f32 := Host.exp main_v1613
  let main_cst_357 : FVec F S_ .f32 := constant S_ .f32 0x3F800000#32
  let main_v1615 : FVec F S128 .f32 := broadcastInDim S128 ![] bcast_S_S128 main_cst_357
  let main_v1616 : FVec F S128 .f32 := addf main_v1615 main_v1614
  let main_cst_358 : FVec F S_ .f32 := constant S_ .f32 0x3F800000#32
  let main_v1617 : FVec F S128 .f32 := broadcastInDim S128 ![] bcast_S_S128 main_cst_358
  let main_v1618 : FVec F S128 .f32 := Host.divf main_v1617 main_v1616
  let main_v1619 : FVec F S128 .f32 := mulf main_v1611 main_v1585
  let main_v1620 : FVec F S128 .f32 := mulf main_v1605 main_v1612
  let main_v1621 : FVec F S128 .f32 := addf main_v1619 main_v1620
  let main_v1622 : FVec F S128 .f32 := Host.tanh main_v1621
  let main_v1623 : FVec F S128 .f32 := mulf main_v1618 main_v1622
  let main_v1624 : FVec F S1x128 .f32 := broadcastInDim S1x128 ![1] bcast_S128_S1x128_1 main_v1621
  let main_c_359 : IVec S_ 32 := constantI S_ 32 44#32
  let main_c_360 : IVec S_ 32 := constantI S_ 32 0#32
  let main_v1625 : FVec F S64x128 .f32 := (fun x u i => Host.dynamicUpdateSlice x u (fun k => (i k (Shape.Idx.first h_S_)).toInt) updateFits_S64x128_S1x128) main_v1589 main_v1624 (![main_c_359, main_c_360] : Fin 2 → IVec S_ 32)
  let main_v1626 : FVec F S256 .f32 := (fun a b => concatenate S256 0 [⟨S128, a⟩, ⟨S128, b⟩] concatenates_S128_S128_S256_d0) main_v1621 main_arg0
  let main_v1627 : FVec F S512 .f32 := (fun l r => Host.dotGeneral dot_S512x256_S256_S512_1_0_0_n_n_n none l r) main_arg2 main_v1626
  let main_v1628 : FVec F S512 .f32 := addf main_v1627 main_arg4
  fn_part83 (F := F) main_arg0 main_arg1 main_arg2 main_arg3 main_arg4 main_arg5 main_v1621 main_v1623 main_v1625 main_v1628

def fn_part81 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1553 : FVec F S64x128 .f32) (main_v1585 : FVec F S128 .f32) (main_v1587 : FVec F S128 .f32) (main_v1588 : FVec F S1x128 .f32) (main_c_351 : IVec S_ 32) (main_c_352 : IVec S_ 32) : IVec S64x128 1 × IVec S64x1 1 :=
  let main_v1589 : FVec F S64x128 .f32 := (fun x u i => Host.dynamicUpdateSlice x u (fun k => (i k (Shape.Idx.first h_S_)).toInt) updateFits_S64x128_S1x128) main_v1553 main_v1588 (![main_c_351, main_c_352] : Fin 2 → IVec S_ 32)
  let main_v1590 : FVec F S256 .f32 := (fun a b => concatenate S256 0 [⟨S128, a⟩, ⟨S128, b⟩] concatenates_S128_S128_S256_d0) main_v1585 main_arg0
  let main_v1591 : FVec F S512 .f32 := (fun l r => Host.dotGeneral dot_S512x256_S256_S512_1_0_0_n_n_n none l r) main_arg2 main_v1590
  let main_v1592 : FVec F S512 .f32 := addf main_v1591 main_arg4
  let main_v1593 : FVec F S512 .f32 := (fun l r => Host.dotGeneral dot_S512x128_S128_S512_1_0_0_n_n_n none l r) main_arg3 main_v1587
  let main_v1594 : FVec F S512 .f32 := addf main_v1592 main_v1593
  let main_v1595 : FVec F S512 .f32 := addf main_v1594 main_arg5
  let main_v1596 : FVec F S128 .f32 := (extractStridedSlice S128 ![0] · slices_S512_S128_0) main_v1595
  let main_v1597 : FVec F S128 .f32 := (extractStridedSlice S128 ![128] · slices_S512_S128_128) main_v1595
  let main_v1598 : FVec F S128 .f32 := (extractStridedSlice S128 ![256] · slices_S512_S128_256) main_v1595
  let main_v1599 : FVec F S128 .f32 := (extractStridedSlice S128 ![384] · slices_S512_S128_384) main_v1595
  let main_v1600 : FVec F S128 .f32 := Host.negf main_v1596
  let main_v1601 : FVec F S128 .f32 := Host.exp main_v1600
  let main_cst_353 : FVec F S_ .f32 := constant S_ .f32 0x3F800000#32
  let main_v1602 : FVec F S128 .f32 := broadcastInDim S128 ![] bcast_S_S128 main_cst_353
  let main_v1603 : FVec F S128 .f32 := addf main_v1602 main_v1601
  let main_cst_354 : FVec F S_ .f32 := constant S_ .f32 0x3F800000#32
  let main_v1604 : FVec F S128 .f32 := broadcastInDim S128 ![] bcast_S_S128 main_cst_354
  let main_v1605 : FVec F S128 .f32 := Host.divf main_v1604 main_v1603
  let main_v1606 : FVec F S128 .f32 := Host.negf main_v1597
  let main_v1607 : FVec F S128 .f32 := Host.exp main_v1606
  let main_cst_355 : FVec F S_ .f32 := constant S_ .f32 0x3F800000#32
  let main_v1608 : FVec F S128 .f32 := broadcastInDim S128 ![] bcast_S_S128 main_cst_355
  let main_v1609 : FVec F S128 .f32 := addf main_v1608 main_v1607
  fn_part82 (F := F) main_arg0 main_arg1 main_arg2 main_arg3 main_arg4 main_arg5 main_v1585 main_v1589 main_v1598 main_v1599 main_v1605 main_v1609

def fn_part80 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1549 : FVec F S128 .f32) (main_v1553 : FVec F S64x128 .f32) (main_v1562 : FVec F S128 .f32) (main_v1563 : FVec F S128 .f32) (main_v1569 : FVec F S128 .f32) (main_v1570 : FVec F S128 .f32) : IVec S64x128 1 × IVec S64x1 1 :=
  let main_v1571 : FVec F S128 .f32 := Host.exp main_v1570
  let main_cst_347 : FVec F S_ .f32 := constant S_ .f32 0x3F800000#32
  let main_v1572 : FVec F S128 .f32 := broadcastInDim S128 ![] bcast_S_S128 main_cst_347
  let main_v1573 : FVec F S128 .f32 := addf main_v1572 main_v1571
  let main_cst_348 : FVec F S_ .f32 := constant S_ .f32 0x3F800000#32
  let main_v1574 : FVec F S128 .f32 := broadcastInDim S128 ![] bcast_S_S128 main_cst_348
  let main_v1575 : FVec F S128 .f32 := Host.divf main_v1574 main_v1573
  let main_v1576 : FVec F S128 .f32 := Host.tanh main_v1562
  let main_v1577 : FVec F S128 .f32 := Host.negf main_v1563
  let main_v1578 : FVec F S128 .f32 := Host.exp main_v1577
  let main_cst_349 : FVec F S_ .f32 := constant S_ .f32 0x3F800000#32
  let main_v1579 : FVec F S128 .f32 := broadcastInDim S128 ![] bcast_S_S128 main_cst_349
  let main_v1580 : FVec F S128 .f32 := addf main_v1579 main_v1578
  let main_cst_350 : FVec F S_ .f32 := constant S_ .f32 0x3F800000#32
  let main_v1581 : FVec F S128 .f32 := broadcastInDim S128 ![] bcast_S_S128 main_cst_350
  let main_v1582 : FVec F S128 .f32 := Host.divf main_v1581 main_v1580
  let main_v1583 : FVec F S128 .f32 := mulf main_v1575 main_v1549
  let main_v1584 : FVec F S128 .f32 := mulf main_v1569 main_v1576
  let main_v1585 : FVec F S128 .f32 := addf main_v1583 main_v1584
  let main_v1586 : FVec F S128 .f32 := Host.tanh main_v1585
  let main_v1587 : FVec F S128 .f32 := mulf main_v1582 main_v1586
  let main_v1588 : FVec F S1x128 .f32 := broadcastInDim S1x128 ![1] bcast_S128_S1x128_1 main_v1585
  let main_c_351 : IVec S_ 32 := constantI S_ 32 43#32
  let main_c_352 : IVec S_ 32 := constantI S_ 32 0#32
  fn_part81 (F := F) main_arg0 main_arg1 main_arg2 main_arg3 main_arg4 main_arg5 main_v1553 main_v1585 main_v1587 main_v1588 main_c_351 main_c_352

def fn_part79 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1517 : FVec F S64x128 .f32) (main_v1546 : FVec F S128 .f32) (main_v1549 : FVec F S128 .f32) (main_v1550 : FVec F S128 .f32) : IVec S64x128 1 × IVec S64x1 1 :=
  let main_v1551 : FVec F S128 .f32 := mulf main_v1546 main_v1550
  let main_v1552 : FVec F S1x128 .f32 := broadcastInDim S1x128 ![1] bcast_S128_S1x128_1 main_v1549
  let main_c_343 : IVec S_ 32 := constantI S_ 32 42#32
  let main_c_344 : IVec S_ 32 := constantI S_ 32 0#32
  let main_v1553 : FVec F S64x128 .f32 := (fun x u i => Host.dynamicUpdateSlice x u (fun k => (i k (Shape.Idx.first h_S_)).toInt) updateFits_S64x128_S1x128) main_v1517 main_v1552 (![main_c_343, main_c_344] : Fin 2 → IVec S_ 32)
  let main_v1554 : FVec F S256 .f32 := (fun a b => concatenate S256 0 [⟨S128, a⟩, ⟨S128, b⟩] concatenates_S128_S128_S256_d0) main_v1549 main_arg0
  let main_v1555 : FVec F S512 .f32 := (fun l r => Host.dotGeneral dot_S512x256_S256_S512_1_0_0_n_n_n none l r) main_arg2 main_v1554
  let main_v1556 : FVec F S512 .f32 := addf main_v1555 main_arg4
  let main_v1557 : FVec F S512 .f32 := (fun l r => Host.dotGeneral dot_S512x128_S128_S512_1_0_0_n_n_n none l r) main_arg3 main_v1551
  let main_v1558 : FVec F S512 .f32 := addf main_v1556 main_v1557
  let main_v1559 : FVec F S512 .f32 := addf main_v1558 main_arg5
  let main_v1560 : FVec F S128 .f32 := (extractStridedSlice S128 ![0] · slices_S512_S128_0) main_v1559
  let main_v1561 : FVec F S128 .f32 := (extractStridedSlice S128 ![128] · slices_S512_S128_128) main_v1559
  let main_v1562 : FVec F S128 .f32 := (extractStridedSlice S128 ![256] · slices_S512_S128_256) main_v1559
  let main_v1563 : FVec F S128 .f32 := (extractStridedSlice S128 ![384] · slices_S512_S128_384) main_v1559
  let main_v1564 : FVec F S128 .f32 := Host.negf main_v1560
  let main_v1565 : FVec F S128 .f32 := Host.exp main_v1564
  let main_cst_345 : FVec F S_ .f32 := constant S_ .f32 0x3F800000#32
  let main_v1566 : FVec F S128 .f32 := broadcastInDim S128 ![] bcast_S_S128 main_cst_345
  let main_v1567 : FVec F S128 .f32 := addf main_v1566 main_v1565
  let main_cst_346 : FVec F S_ .f32 := constant S_ .f32 0x3F800000#32
  let main_v1568 : FVec F S128 .f32 := broadcastInDim S128 ![] bcast_S_S128 main_cst_346
  let main_v1569 : FVec F S128 .f32 := Host.divf main_v1568 main_v1567
  let main_v1570 : FVec F S128 .f32 := Host.negf main_v1561
  fn_part80 (F := F) main_arg0 main_arg1 main_arg2 main_arg3 main_arg4 main_arg5 main_v1549 main_v1553 main_v1562 main_v1563 main_v1569 main_v1570

def fn_part78 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1513 : FVec F S128 .f32) (main_v1517 : FVec F S64x128 .f32) (main_v1525 : FVec F S128 .f32) (main_v1526 : FVec F S128 .f32) (main_v1527 : FVec F S128 .f32) (main_v1531 : FVec F S128 .f32) : IVec S64x128 1 × IVec S64x1 1 :=
  let main_cst_338 : FVec F S_ .f32 := constant S_ .f32 0x3F800000#32
  let main_v1532 : FVec F S128 .f32 := broadcastInDim S128 ![] bcast_S_S128 main_cst_338
  let main_v1533 : FVec F S128 .f32 := Host.divf main_v1532 main_v1531
  let main_v1534 : FVec F S128 .f32 := Host.negf main_v1525
  let main_v1535 : FVec F S128 .f32 := Host.exp main_v1534
  let main_cst_339 : FVec F S_ .f32 := constant S_ .f32 0x3F800000#32
  let main_v1536 : FVec F S128 .f32 := broadcastInDim S128 ![] bcast_S_S128 main_cst_339
  let main_v1537 : FVec F S128 .f32 := addf main_v1536 main_v1535
  let main_cst_340 : FVec F S_ .f32 := constant S_ .f32 0x3F800000#32
  let main_v1538 : FVec F S128 .f32 := broadcastInDim S128 ![] bcast_S_S128 main_cst_340
  let main_v1539 : FVec F S128 .f32 := Host.divf main_v1538 main_v1537
  let main_v1540 : FVec F S128 .f32 := Host.tanh main_v1526
  let main_v1541 : FVec F S128 .f32 := Host.negf main_v1527
  let main_v1542 : FVec F S128 .f32 := Host.exp main_v1541
  let main_cst_341 : FVec F S_ .f32 := constant S_ .f32 0x3F800000#32
  let main_v1543 : FVec F S128 .f32 := broadcastInDim S128 ![] bcast_S_S128 main_cst_341
  let main_v1544 : FVec F S128 .f32 := addf main_v1543 main_v1542
  let main_cst_342 : FVec F S_ .f32 := constant S_ .f32 0x3F800000#32
  let main_v1545 : FVec F S128 .f32 := broadcastInDim S128 ![] bcast_S_S128 main_cst_342
  let main_v1546 : FVec F S128 .f32 := Host.divf main_v1545 main_v1544
  let main_v1547 : FVec F S128 .f32 := mulf main_v1539 main_v1513
  let main_v1548 : FVec F S128 .f32 := mulf main_v1533 main_v1540
  let main_v1549 : FVec F S128 .f32 := addf main_v1547 main_v1548
  let main_v1550 : FVec F S128 .f32 := Host.tanh main_v1549
  fn_part79 (F := F) main_arg0 main_arg1 main_arg2 main_arg3 main_arg4 main_arg5 main_v1517 main_v1546 main_v1549 main_v1550

def fn_part77 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1477 : FVec F S128 .f32) (main_v1481 : FVec F S64x128 .f32) (main_v1497 : FVec F S128 .f32) (main_v1503 : FVec F S128 .f32) (main_v1504 : FVec F S128 .f32) (main_v1510 : FVec F S128 .f32) : IVec S64x128 1 × IVec S64x1 1 :=
  let main_v1511 : FVec F S128 .f32 := mulf main_v1503 main_v1477
  let main_v1512 : FVec F S128 .f32 := mulf main_v1497 main_v1504
  let main_v1513 : FVec F S128 .f32 := addf main_v1511 main_v1512
  let main_v1514 : FVec F S128 .f32 := Host.tanh main_v1513
  let main_v1515 : FVec F S128 .f32 := mulf main_v1510 main_v1514
  let main_v1516 : FVec F S1x128 .f32 := broadcastInDim S1x128 ![1] bcast_S128_S1x128_1 main_v1513
  let main_c_335 : IVec S_ 32 := constantI S_ 32 41#32
  let main_c_336 : IVec S_ 32 := constantI S_ 32 0#32
  let main_v1517 : FVec F S64x128 .f32 := (fun x u i => Host.dynamicUpdateSlice x u (fun k => (i k (Shape.Idx.first h_S_)).toInt) updateFits_S64x128_S1x128) main_v1481 main_v1516 (![main_c_335, main_c_336] : Fin 2 → IVec S_ 32)
  let main_v1518 : FVec F S256 .f32 := (fun a b => concatenate S256 0 [⟨S128, a⟩, ⟨S128, b⟩] concatenates_S128_S128_S256_d0) main_v1513 main_arg0
  let main_v1519 : FVec F S512 .f32 := (fun l r => Host.dotGeneral dot_S512x256_S256_S512_1_0_0_n_n_n none l r) main_arg2 main_v1518
  let main_v1520 : FVec F S512 .f32 := addf main_v1519 main_arg4
  let main_v1521 : FVec F S512 .f32 := (fun l r => Host.dotGeneral dot_S512x128_S128_S512_1_0_0_n_n_n none l r) main_arg3 main_v1515
  let main_v1522 : FVec F S512 .f32 := addf main_v1520 main_v1521
  let main_v1523 : FVec F S512 .f32 := addf main_v1522 main_arg5
  let main_v1524 : FVec F S128 .f32 := (extractStridedSlice S128 ![0] · slices_S512_S128_0) main_v1523
  let main_v1525 : FVec F S128 .f32 := (extractStridedSlice S128 ![128] · slices_S512_S128_128) main_v1523
  let main_v1526 : FVec F S128 .f32 := (extractStridedSlice S128 ![256] · slices_S512_S128_256) main_v1523
  let main_v1527 : FVec F S128 .f32 := (extractStridedSlice S128 ![384] · slices_S512_S128_384) main_v1523
  let main_v1528 : FVec F S128 .f32 := Host.negf main_v1524
  let main_v1529 : FVec F S128 .f32 := Host.exp main_v1528
  let main_cst_337 : FVec F S_ .f32 := constant S_ .f32 0x3F800000#32
  let main_v1530 : FVec F S128 .f32 := broadcastInDim S128 ![] bcast_S_S128 main_cst_337
  let main_v1531 : FVec F S128 .f32 := addf main_v1530 main_v1529
  fn_part78 (F := F) main_arg0 main_arg1 main_arg2 main_arg3 main_arg4 main_arg5 main_v1513 main_v1517 main_v1525 main_v1526 main_v1527 main_v1531

def fn_part76 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1477 : FVec F S128 .f32) (main_v1481 : FVec F S64x128 .f32) (main_v1489 : FVec F S128 .f32) (main_v1490 : FVec F S128 .f32) (main_v1491 : FVec F S128 .f32) (main_v1492 : FVec F S128 .f32) : IVec S64x128 1 × IVec S64x1 1 :=
  let main_v1493 : FVec F S128 .f32 := Host.exp main_v1492
  let main_cst_329 : FVec F S_ .f32 := constant S_ .f32 0x3F800000#32
  let main_v1494 : FVec F S128 .f32 := broadcastInDim S128 ![] bcast_S_S128 main_cst_329
  let main_v1495 : FVec F S128 .f32 := addf main_v1494 main_v1493
  let main_cst_330 : FVec F S_ .f32 := constant S_ .f32 0x3F800000#32
  let main_v1496 : FVec F S128 .f32 := broadcastInDim S128 ![] bcast_S_S128 main_cst_330
  let main_v1497 : FVec F S128 .f32 := Host.divf main_v1496 main_v1495
  let main_v1498 : FVec F S128 .f32 := Host.negf main_v1489
  let main_v1499 : FVec F S128 .f32 := Host.exp main_v1498
  let main_cst_331 : FVec F S_ .f32 := constant S_ .f32 0x3F800000#32
  let main_v1500 : FVec F S128 .f32 := broadcastInDim S128 ![] bcast_S_S128 main_cst_331
  let main_v1501 : FVec F S128 .f32 := addf main_v1500 main_v1499
  let main_cst_332 : FVec F S_ .f32 := constant S_ .f32 0x3F800000#32
  let main_v1502 : FVec F S128 .f32 := broadcastInDim S128 ![] bcast_S_S128 main_cst_332
  let main_v1503 : FVec F S128 .f32 := Host.divf main_v1502 main_v1501
  let main_v1504 : FVec F S128 .f32 := Host.tanh main_v1490
  let main_v1505 : FVec F S128 .f32 := Host.negf main_v1491
  let main_v1506 : FVec F S128 .f32 := Host.exp main_v1505
  let main_cst_333 : FVec F S_ .f32 := constant S_ .f32 0x3F800000#32
  let main_v1507 : FVec F S128 .f32 := broadcastInDim S128 ![] bcast_S_S128 main_cst_333
  let main_v1508 : FVec F S128 .f32 := addf main_v1507 main_v1506
  let main_cst_334 : FVec F S_ .f32 := constant S_ .f32 0x3F800000#32
  let main_v1509 : FVec F S128 .f32 := broadcastInDim S128 ![] bcast_S_S128 main_cst_334
  let main_v1510 : FVec F S128 .f32 := Host.divf main_v1509 main_v1508
  fn_part77 (F := F) main_arg0 main_arg1 main_arg2 main_arg3 main_arg4 main_arg5 main_v1477 main_v1481 main_v1497 main_v1503 main_v1504 main_v1510

def fn_part75 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1441 : FVec F S128 .f32) (main_v1445 : FVec F S64x128 .f32) (main_v1461 : FVec F S128 .f32) (main_v1467 : FVec F S128 .f32) (main_v1468 : FVec F S128 .f32) (main_v1470 : FVec F S128 .f32) (main_v1471 : FVec F S128 .f32) : IVec S64x128 1 × IVec S64x1 1 :=
  let main_v1472 : FVec F S128 .f32 := addf main_v1471 main_v1470
  let main_cst_326 : FVec F S_ .f32 := constant S_ .f32 0x3F800000#32
  let main_v1473 : FVec F S128 .f32 := broadcastInDim S128 ![] bcast_S_S128 main_cst_326
  let main_v1474 : FVec F S128 .f32 := Host.divf main_v1473 main_v1472
  let main_v1475 : FVec F S128 .f32 := mulf main_v1467 main_v1441
  let main_v1476 : FVec F S128 .f32 := mulf main_v1461 main_v1468
  let main_v1477 : FVec F S128 .f32 := addf main_v1475 main_v1476
  let main_v1478 : FVec F S128 .f32 := Host.tanh main_v1477
  let main_v1479 : FVec F S128 .f32 := mulf main_v1474 main_v1478
  let main_v1480 : FVec F S1x128 .f32 := broadcastInDim S1x128 ![1] bcast_S128_S1x128_1 main_v1477
  let main_c_327 : IVec S_ 32 := constantI S_ 32 40#32
  let main_c_328 : IVec S_ 32 := constantI S_ 32 0#32
  let main_v1481 : FVec F S64x128 .f32 := (fun x u i => Host.dynamicUpdateSlice x u (fun k => (i k (Shape.Idx.first h_S_)).toInt) updateFits_S64x128_S1x128) main_v1445 main_v1480 (![main_c_327, main_c_328] : Fin 2 → IVec S_ 32)
  let main_v1482 : FVec F S256 .f32 := (fun a b => concatenate S256 0 [⟨S128, a⟩, ⟨S128, b⟩] concatenates_S128_S128_S256_d0) main_v1477 main_arg0
  let main_v1483 : FVec F S512 .f32 := (fun l r => Host.dotGeneral dot_S512x256_S256_S512_1_0_0_n_n_n none l r) main_arg2 main_v1482
  let main_v1484 : FVec F S512 .f32 := addf main_v1483 main_arg4
  let main_v1485 : FVec F S512 .f32 := (fun l r => Host.dotGeneral dot_S512x128_S128_S512_1_0_0_n_n_n none l r) main_arg3 main_v1479
  let main_v1486 : FVec F S512 .f32 := addf main_v1484 main_v1485
  let main_v1487 : FVec F S512 .f32 := addf main_v1486 main_arg5
  let main_v1488 : FVec F S128 .f32 := (extractStridedSlice S128 ![0] · slices_S512_S128_0) main_v1487
  let main_v1489 : FVec F S128 .f32 := (extractStridedSlice S128 ![128] · slices_S512_S128_128) main_v1487
  let main_v1490 : FVec F S128 .f32 := (extractStridedSlice S128 ![256] · slices_S512_S128_256) main_v1487
  let main_v1491 : FVec F S128 .f32 := (extractStridedSlice S128 ![384] · slices_S512_S128_384) main_v1487
  let main_v1492 : FVec F S128 .f32 := Host.negf main_v1488
  fn_part76 (F := F) main_arg0 main_arg1 main_arg2 main_arg3 main_arg4 main_arg5 main_v1477 main_v1481 main_v1489 main_v1490 main_v1491 main_v1492

def fn_part74 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1441 : FVec F S128 .f32) (main_v1445 : FVec F S64x128 .f32) (main_v1451 : FVec F S512 .f32) (main_v1452 : FVec F S128 .f32) : IVec S64x128 1 × IVec S64x1 1 :=
  let main_v1453 : FVec F S128 .f32 := (extractStridedSlice S128 ![128] · slices_S512_S128_128) main_v1451
  let main_v1454 : FVec F S128 .f32 := (extractStridedSlice S128 ![256] · slices_S512_S128_256) main_v1451
  let main_v1455 : FVec F S128 .f32 := (extractStridedSlice S128 ![384] · slices_S512_S128_384) main_v1451
  let main_v1456 : FVec F S128 .f32 := Host.negf main_v1452
  let main_v1457 : FVec F S128 .f32 := Host.exp main_v1456
  let main_cst_321 : FVec F S_ .f32 := constant S_ .f32 0x3F800000#32
  let main_v1458 : FVec F S128 .f32 := broadcastInDim S128 ![] bcast_S_S128 main_cst_321
  let main_v1459 : FVec F S128 .f32 := addf main_v1458 main_v1457
  let main_cst_322 : FVec F S_ .f32 := constant S_ .f32 0x3F800000#32
  let main_v1460 : FVec F S128 .f32 := broadcastInDim S128 ![] bcast_S_S128 main_cst_322
  let main_v1461 : FVec F S128 .f32 := Host.divf main_v1460 main_v1459
  let main_v1462 : FVec F S128 .f32 := Host.negf main_v1453
  let main_v1463 : FVec F S128 .f32 := Host.exp main_v1462
  let main_cst_323 : FVec F S_ .f32 := constant S_ .f32 0x3F800000#32
  let main_v1464 : FVec F S128 .f32 := broadcastInDim S128 ![] bcast_S_S128 main_cst_323
  let main_v1465 : FVec F S128 .f32 := addf main_v1464 main_v1463
  let main_cst_324 : FVec F S_ .f32 := constant S_ .f32 0x3F800000#32
  let main_v1466 : FVec F S128 .f32 := broadcastInDim S128 ![] bcast_S_S128 main_cst_324
  let main_v1467 : FVec F S128 .f32 := Host.divf main_v1466 main_v1465
  let main_v1468 : FVec F S128 .f32 := Host.tanh main_v1454
  let main_v1469 : FVec F S128 .f32 := Host.negf main_v1455
  let main_v1470 : FVec F S128 .f32 := Host.exp main_v1469
  let main_cst_325 : FVec F S_ .f32 := constant S_ .f32 0x3F800000#32
  let main_v1471 : FVec F S128 .f32 := broadcastInDim S128 ![] bcast_S_S128 main_cst_325
  fn_part75 (F := F) main_arg0 main_arg1 main_arg2 main_arg3 main_arg4 main_arg5 main_v1441 main_v1445 main_v1461 main_v1467 main_v1468 main_v1470 main_v1471

def fn_part73 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1405 : FVec F S128 .f32) (main_v1409 : FVec F S64x128 .f32) (main_v1419 : FVec F S128 .f32) (main_v1425 : FVec F S128 .f32) (main_v1431 : FVec F S128 .f32) (main_v1432 : FVec F S128 .f32) : IVec S64x128 1 × IVec S64x1 1 :=
  let main_v1433 : FVec F S128 .f32 := Host.negf main_v1419
  let main_v1434 : FVec F S128 .f32 := Host.exp main_v1433
  let main_cst_317 : FVec F S_ .f32 := constant S_ .f32 0x3F800000#32
  let main_v1435 : FVec F S128 .f32 := broadcastInDim S128 ![] bcast_S_S128 main_cst_317
  let main_v1436 : FVec F S128 .f32 := addf main_v1435 main_v1434
  let main_cst_318 : FVec F S_ .f32 := constant S_ .f32 0x3F800000#32
  let main_v1437 : FVec F S128 .f32 := broadcastInDim S128 ![] bcast_S_S128 main_cst_318
  let main_v1438 : FVec F S128 .f32 := Host.divf main_v1437 main_v1436
  let main_v1439 : FVec F S128 .f32 := mulf main_v1431 main_v1405
  let main_v1440 : FVec F S128 .f32 := mulf main_v1425 main_v1432
  let main_v1441 : FVec F S128 .f32 := addf main_v1439 main_v1440
  let main_v1442 : FVec F S128 .f32 := Host.tanh main_v1441
  let main_v1443 : FVec F S128 .f32 := mulf main_v1438 main_v1442
  let main_v1444 : FVec F S1x128 .f32 := broadcastInDim S1x128 ![1] bcast_S128_S1x128_1 main_v1441
  let main_c_319 : IVec S_ 32 := constantI S_ 32 39#32
  let main_c_320 : IVec S_ 32 := constantI S_ 32 0#32
  let main_v1445 : FVec F S64x128 .f32 := (fun x u i => Host.dynamicUpdateSlice x u (fun k => (i k (Shape.Idx.first h_S_)).toInt) updateFits_S64x128_S1x128) main_v1409 main_v1444 (![main_c_319, main_c_320] : Fin 2 → IVec S_ 32)
  let main_v1446 : FVec F S256 .f32 := (fun a b => concatenate S256 0 [⟨S128, a⟩, ⟨S128, b⟩] concatenates_S128_S128_S256_d0) main_v1441 main_arg0
  let main_v1447 : FVec F S512 .f32 := (fun l r => Host.dotGeneral dot_S512x256_S256_S512_1_0_0_n_n_n none l r) main_arg2 main_v1446
  let main_v1448 : FVec F S512 .f32 := addf main_v1447 main_arg4
  let main_v1449 : FVec F S512 .f32 := (fun l r => Host.dotGeneral dot_S512x128_S128_S512_1_0_0_n_n_n none l r) main_arg3 main_v1443
  let main_v1450 : FVec F S512 .f32 := addf main_v1448 main_v1449
  let main_v1451 : FVec F S512 .f32 := addf main_v1450 main_arg5
  let main_v1452 : FVec F S128 .f32 := (extractStridedSlice S128 ![0] · slices_S512_S128_0) main_v1451
  fn_part74 (F := F) main_arg0 main_arg1 main_arg2 main_arg3 main_arg4 main_arg5 main_v1441 main_v1445 main_v1451 main_v1452

def fn_part72 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1405 : FVec F S128 .f32) (main_v1407 : FVec F S128 .f32) (main_v1409 : FVec F S64x128 .f32) (main_v1412 : FVec F S512 .f32) : IVec S64x128 1 × IVec S64x1 1 :=
  let main_v1413 : FVec F S512 .f32 := (fun l r => Host.dotGeneral dot_S512x128_S128_S512_1_0_0_n_n_n none l r) main_arg3 main_v1407
  let main_v1414 : FVec F S512 .f32 := addf main_v1412 main_v1413
  let main_v1415 : FVec F S512 .f32 := addf main_v1414 main_arg5
  let main_v1416 : FVec F S128 .f32 := (extractStridedSlice S128 ![0] · slices_S512_S128_0) main_v1415
  let main_v1417 : FVec F S128 .f32 := (extractStridedSlice S128 ![128] · slices_S512_S128_128) main_v1415
  let main_v1418 : FVec F S128 .f32 := (extractStridedSlice S128 ![256] · slices_S512_S128_256) main_v1415
  let main_v1419 : FVec F S128 .f32 := (extractStridedSlice S128 ![384] · slices_S512_S128_384) main_v1415
  let main_v1420 : FVec F S128 .f32 := Host.negf main_v1416
  let main_v1421 : FVec F S128 .f32 := Host.exp main_v1420
  let main_cst_313 : FVec F S_ .f32 := constant S_ .f32 0x3F800000#32
  let main_v1422 : FVec F S128 .f32 := broadcastInDim S128 ![] bcast_S_S128 main_cst_313
  let main_v1423 : FVec F S128 .f32 := addf main_v1422 main_v1421
  let main_cst_314 : FVec F S_ .f32 := constant S_ .f32 0x3F800000#32
  let main_v1424 : FVec F S128 .f32 := broadcastInDim S128 ![] bcast_S_S128 main_cst_314
  let main_v1425 : FVec F S128 .f32 := Host.divf main_v1424 main_v1423
  let main_v1426 : FVec F S128 .f32 := Host.negf main_v1417
  let main_v1427 : FVec F S128 .f32 := Host.exp main_v1426
  let main_cst_315 : FVec F S_ .f32 := constant S_ .f32 0x3F800000#32
  let main_v1428 : FVec F S128 .f32 := broadcastInDim S128 ![] bcast_S_S128 main_cst_315
  let main_v1429 : FVec F S128 .f32 := addf main_v1428 main_v1427
  let main_cst_316 : FVec F S_ .f32 := constant S_ .f32 0x3F800000#32
  let main_v1430 : FVec F S128 .f32 := broadcastInDim S128 ![] bcast_S_S128 main_cst_316
  let main_v1431 : FVec F S128 .f32 := Host.divf main_v1430 main_v1429
  let main_v1432 : FVec F S128 .f32 := Host.tanh main_v1418
  fn_part73 (F := F) main_arg0 main_arg1 main_arg2 main_arg3 main_arg4 main_arg5 main_v1405 main_v1409 main_v1419 main_v1425 main_v1431 main_v1432

def fn_part71 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1369 : FVec F S128 .f32) (main_v1373 : FVec F S64x128 .f32) (main_v1382 : FVec F S128 .f32) (main_v1383 : FVec F S128 .f32) (main_v1389 : FVec F S128 .f32) (main_v1393 : FVec F S128 .f32) : IVec S64x128 1 × IVec S64x1 1 :=
  let main_cst_308 : FVec F S_ .f32 := constant S_ .f32 0x3F800000#32
  let main_v1394 : FVec F S128 .f32 := broadcastInDim S128 ![] bcast_S_S128 main_cst_308
  let main_v1395 : FVec F S128 .f32 := Host.divf main_v1394 main_v1393
  let main_v1396 : FVec F S128 .f32 := Host.tanh main_v1382
  let main_v1397 : FVec F S128 .f32 := Host.negf main_v1383
  let main_v1398 : FVec F S128 .f32 := Host.exp main_v1397
  let main_cst_309 : FVec F S_ .f32 := constant S_ .f32 0x3F800000#32
  let main_v1399 : FVec F S128 .f32 := broadcastInDim S128 ![] bcast_S_S128 main_cst_309
  let main_v1400 : FVec F S128 .f32 := addf main_v1399 main_v1398
  let main_cst_310 : FVec F S_ .f32 := constant S_ .f32 0x3F800000#32
  let main_v1401 : FVec F S128 .f32 := broadcastInDim S128 ![] bcast_S_S128 main_cst_310
  let main_v1402 : FVec F S128 .f32 := Host.divf main_v1401 main_v1400
  let main_v1403 : FVec F S128 .f32 := mulf main_v1395 main_v1369
  let main_v1404 : FVec F S128 .f32 := mulf main_v1389 main_v1396
  let main_v1405 : FVec F S128 .f32 := addf main_v1403 main_v1404
  let main_v1406 : FVec F S128 .f32 := Host.tanh main_v1405
  let main_v1407 : FVec F S128 .f32 := mulf main_v1402 main_v1406
  let main_v1408 : FVec F S1x128 .f32 := broadcastInDim S1x128 ![1] bcast_S128_S1x128_1 main_v1405
  let main_c_311 : IVec S_ 32 := constantI S_ 32 38#32
  let main_c_312 : IVec S_ 32 := constantI S_ 32 0#32
  let main_v1409 : FVec F S64x128 .f32 := (fun x u i => Host.dynamicUpdateSlice x u (fun k => (i k (Shape.Idx.first h_S_)).toInt) updateFits_S64x128_S1x128) main_v1373 main_v1408 (![main_c_311, main_c_312] : Fin 2 → IVec S_ 32)
  let main_v1410 : FVec F S256 .f32 := (fun a b => concatenate S256 0 [⟨S128, a⟩, ⟨S128, b⟩] concatenates_S128_S128_S256_d0) main_v1405 main_arg0
  let main_v1411 : FVec F S512 .f32 := (fun l r => Host.dotGeneral dot_S512x256_S256_S512_1_0_0_n_n_n none l r) main_arg2 main_v1410
  let main_v1412 : FVec F S512 .f32 := addf main_v1411 main_arg4
  fn_part72 (F := F) main_arg0 main_arg1 main_arg2 main_arg3 main_arg4 main_arg5 main_v1405 main_v1407 main_v1409 main_v1412

def fn_part70 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1337 : FVec F S64x128 .f32) (main_v1369 : FVec F S128 .f32) (main_v1371 : FVec F S128 .f32) (main_v1372 : FVec F S1x128 .f32) (main_c_303 : IVec S_ 32) (main_c_304 : IVec S_ 32) : IVec S64x128 1 × IVec S64x1 1 :=
  let main_v1373 : FVec F S64x128 .f32 := (fun x u i => Host.dynamicUpdateSlice x u (fun k => (i k (Shape.Idx.first h_S_)).toInt) updateFits_S64x128_S1x128) main_v1337 main_v1372 (![main_c_303, main_c_304] : Fin 2 → IVec S_ 32)
  let main_v1374 : FVec F S256 .f32 := (fun a b => concatenate S256 0 [⟨S128, a⟩, ⟨S128, b⟩] concatenates_S128_S128_S256_d0) main_v1369 main_arg0
  let main_v1375 : FVec F S512 .f32 := (fun l r => Host.dotGeneral dot_S512x256_S256_S512_1_0_0_n_n_n none l r) main_arg2 main_v1374
  let main_v1376 : FVec F S512 .f32 := addf main_v1375 main_arg4
  let main_v1377 : FVec F S512 .f32 := (fun l r => Host.dotGeneral dot_S512x128_S128_S512_1_0_0_n_n_n none l r) main_arg3 main_v1371
  let main_v1378 : FVec F S512 .f32 := addf main_v1376 main_v1377
  let main_v1379 : FVec F S512 .f32 := addf main_v1378 main_arg5
  let main_v1380 : FVec F S128 .f32 := (extractStridedSlice S128 ![0] · slices_S512_S128_0) main_v1379
  let main_v1381 : FVec F S128 .f32 := (extractStridedSlice S128 ![128] · slices_S512_S128_128) main_v1379
  let main_v1382 : FVec F S128 .f32 := (extractStridedSlice S128 ![256] · slices_S512_S128_256) main_v1379
  let main_v1383 : FVec F S128 .f32 := (extractStridedSlice S128 ![384] · slices_S512_S128_384) main_v1379
  let main_v1384 : FVec F S128 .f32 := Host.negf main_v1380
  let main_v1385 : FVec F S128 .f32 := Host.exp main_v1384
  let main_cst_305 : FVec F S_ .f32 := constant S_ .f32 0x3F800000#32
  let main_v1386 : FVec F S128 .f32 := broadcastInDim S128 ![] bcast_S_S128 main_cst_305
  let main_v1387 : FVec F S128 .f32 := addf main_v1386 main_v1385
  let main_cst_306 : FVec F S_ .f32 := constant S_ .f32 0x3F800000#32
  let main_v1388 : FVec F S128 .f32 := broadcastInDim S128 ![] bcast_S_S128 main_cst_306
  let main_v1389 : FVec F S128 .f32 := Host.divf main_v1388 main_v1387
  let main_v1390 : FVec F S128 .f32 := Host.negf main_v1381
  let main_v1391 : FVec F S128 .f32 := Host.exp main_v1390
  let main_cst_307 : FVec F S_ .f32 := constant S_ .f32 0x3F800000#32
  let main_v1392 : FVec F S128 .f32 := broadcastInDim S128 ![] bcast_S_S128 main_cst_307
  let main_v1393 : FVec F S128 .f32 := addf main_v1392 main_v1391
  fn_part71 (F := F) main_arg0 main_arg1 main_arg2 main_arg3 main_arg4 main_arg5 main_v1369 main_v1373 main_v1382 main_v1383 main_v1389 main_v1393

def fn_part69 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1333 : FVec F S128 .f32) (main_v1337 : FVec F S64x128 .f32) (main_v1346 : FVec F S128 .f32) (main_v1347 : FVec F S128 .f32) (main_v1353 : FVec F S128 .f32) (main_v1354 : FVec F S128 .f32) : IVec S64x128 1 × IVec S64x1 1 :=
  let main_v1355 : FVec F S128 .f32 := Host.exp main_v1354
  let main_cst_299 : FVec F S_ .f32 := constant S_ .f32 0x3F800000#32
  let main_v1356 : FVec F S128 .f32 := broadcastInDim S128 ![] bcast_S_S128 main_cst_299
  let main_v1357 : FVec F S128 .f32 := addf main_v1356 main_v1355
  let main_cst_300 : FVec F S_ .f32 := constant S_ .f32 0x3F800000#32
  let main_v1358 : FVec F S128 .f32 := broadcastInDim S128 ![] bcast_S_S128 main_cst_300
  let main_v1359 : FVec F S128 .f32 := Host.divf main_v1358 main_v1357
  let main_v1360 : FVec F S128 .f32 := Host.tanh main_v1346
  let main_v1361 : FVec F S128 .f32 := Host.negf main_v1347
  let main_v1362 : FVec F S128 .f32 := Host.exp main_v1361
  let main_cst_301 : FVec F S_ .f32 := constant S_ .f32 0x3F800000#32
  let main_v1363 : FVec F S128 .f32 := broadcastInDim S128 ![] bcast_S_S128 main_cst_301
  let main_v1364 : FVec F S128 .f32 := addf main_v1363 main_v1362
  let main_cst_302 : FVec F S_ .f32 := constant S_ .f32 0x3F800000#32
  let main_v1365 : FVec F S128 .f32 := broadcastInDim S128 ![] bcast_S_S128 main_cst_302
  let main_v1366 : FVec F S128 .f32 := Host.divf main_v1365 main_v1364
  let main_v1367 : FVec F S128 .f32 := mulf main_v1359 main_v1333
  let main_v1368 : FVec F S128 .f32 := mulf main_v1353 main_v1360
  let main_v1369 : FVec F S128 .f32 := addf main_v1367 main_v1368
  let main_v1370 : FVec F S128 .f32 := Host.tanh main_v1369
  let main_v1371 : FVec F S128 .f32 := mulf main_v1366 main_v1370
  let main_v1372 : FVec F S1x128 .f32 := broadcastInDim S1x128 ![1] bcast_S128_S1x128_1 main_v1369
  let main_c_303 : IVec S_ 32 := constantI S_ 32 37#32
  let main_c_304 : IVec S_ 32 := constantI S_ 32 0#32
  fn_part70 (F := F) main_arg0 main_arg1 main_arg2 main_arg3 main_arg4 main_arg5 main_v1337 main_v1369 main_v1371 main_v1372 main_c_303 main_c_304

def fn_part68 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1301 : FVec F S64x128 .f32) (main_v1330 : FVec F S128 .f32) (main_v1333 : FVec F S128 .f32) (main_v1334 : FVec F S128 .f32) : IVec S64x128 1 × IVec S64x1 1 :=
  let main_v1335 : FVec F S128 .f32 := mulf main_v1330 main_v1334
  let main_v1336 : FVec F S1x128 .f32 := broadcastInDim S1x128 ![1] bcast_S128_S1x128_1 main_v1333
  let main_c_295 : IVec S_ 32 := constantI S_ 32 36#32
  let main_c_296 : IVec S_ 32 := constantI S_ 32 0#32
  let main_v1337 : FVec F S64x128 .f32 := (fun x u i => Host.dynamicUpdateSlice x u (fun k => (i k (Shape.Idx.first h_S_)).toInt) updateFits_S64x128_S1x128) main_v1301 main_v1336 (![main_c_295, main_c_296] : Fin 2 → IVec S_ 32)
  let main_v1338 : FVec F S256 .f32 := (fun a b => concatenate S256 0 [⟨S128, a⟩, ⟨S128, b⟩] concatenates_S128_S128_S256_d0) main_v1333 main_arg0
  let main_v1339 : FVec F S512 .f32 := (fun l r => Host.dotGeneral dot_S512x256_S256_S512_1_0_0_n_n_n none l r) main_arg2 main_v1338
  let main_v1340 : FVec F S512 .f32 := addf main_v1339 main_arg4
  let main_v1341 : FVec F S512 .f32 := (fun l r => Host.dotGeneral dot_S512x128_S128_S512_1_0_0_n_n_n none l r) main_arg3 main_v1335
  let main_v1342 : FVec F S512 .f32 := addf main_v1340 main_v1341
  let main_v1343 : FVec F S512 .f32 := addf main_v1342 main_arg5
  let main_v1344 : FVec F S128 .f32 := (extractStridedSlice S128 ![0] · slices_S512_S128_0) main_v1343
  let main_v1345 : FVec F S128 .f32 := (extractStridedSlice S128 ![128] · slices_S512_S128_128) main_v1343
  let main_v1346 : FVec F S128 .f32 := (extractStridedSlice S128 ![256] · slices_S512_S128_256) main_v1343
  let main_v1347 : FVec F S128 .f32 := (extractStridedSlice S128 ![384] · slices_S512_S128_384) main_v1343
  let main_v1348 : FVec F S128 .f32 := Host.negf main_v1344
  let main_v1349 : FVec F S128 .f32 := Host.exp main_v1348
  let main_cst_297 : FVec F S_ .f32 := constant S_ .f32 0x3F800000#32
  let main_v1350 : FVec F S128 .f32 := broadcastInDim S128 ![] bcast_S_S128 main_cst_297
  let main_v1351 : FVec F S128 .f32 := addf main_v1350 main_v1349
  let main_cst_298 : FVec F S_ .f32 := constant S_ .f32 0x3F800000#32
  let main_v1352 : FVec F S128 .f32 := broadcastInDim S128 ![] bcast_S_S128 main_cst_298
  let main_v1353 : FVec F S128 .f32 := Host.divf main_v1352 main_v1351
  let main_v1354 : FVec F S128 .f32 := Host.negf main_v1345
  fn_part69 (F := F) main_arg0 main_arg1 main_arg2 main_arg3 main_arg4 main_arg5 main_v1333 main_v1337 main_v1346 main_v1347 main_v1353 main_v1354

def fn_part67 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1297 : FVec F S128 .f32) (main_v1301 : FVec F S64x128 .f32) (main_v1309 : FVec F S128 .f32) (main_v1310 : FVec F S128 .f32) (main_v1311 : FVec F S128 .f32) (main_v1315 : FVec F S128 .f32) : IVec S64x128 1 × IVec S64x1 1 :=
  let main_cst_290 : FVec F S_ .f32 := constant S_ .f32 0x3F800000#32
  let main_v1316 : FVec F S128 .f32 := broadcastInDim S128 ![] bcast_S_S128 main_cst_290
  let main_v1317 : FVec F S128 .f32 := Host.divf main_v1316 main_v1315
  let main_v1318 : FVec F S128 .f32 := Host.negf main_v1309
  let main_v1319 : FVec F S128 .f32 := Host.exp main_v1318
  let main_cst_291 : FVec F S_ .f32 := constant S_ .f32 0x3F800000#32
  let main_v1320 : FVec F S128 .f32 := broadcastInDim S128 ![] bcast_S_S128 main_cst_291
  let main_v1321 : FVec F S128 .f32 := addf main_v1320 main_v1319
  let main_cst_292 : FVec F S_ .f32 := constant S_ .f32 0x3F800000#32
  let main_v1322 : FVec F S128 .f32 := broadcastInDim S128 ![] bcast_S_S128 main_cst_292
  let main_v1323 : FVec F S128 .f32 := Host.divf main_v1322 main_v1321
  let main_v1324 : FVec F S128 .f32 := Host.tanh main_v1310
  let main_v1325 : FVec F S128 .f32 := Host.negf main_v1311
  let main_v1326 : FVec F S128 .f32 := Host.exp main_v1325
  let main_cst_293 : FVec F S_ .f32 := constant S_ .f32 0x3F800000#32
  let main_v1327 : FVec F S128 .f32 := broadcastInDim S128 ![] bcast_S_S128 main_cst_293
  let main_v1328 : FVec F S128 .f32 := addf main_v1327 main_v1326
  let main_cst_294 : FVec F S_ .f32 := constant S_ .f32 0x3F800000#32
  let main_v1329 : FVec F S128 .f32 := broadcastInDim S128 ![] bcast_S_S128 main_cst_294
  let main_v1330 : FVec F S128 .f32 := Host.divf main_v1329 main_v1328
  let main_v1331 : FVec F S128 .f32 := mulf main_v1323 main_v1297
  let main_v1332 : FVec F S128 .f32 := mulf main_v1317 main_v1324
  let main_v1333 : FVec F S128 .f32 := addf main_v1331 main_v1332
  let main_v1334 : FVec F S128 .f32 := Host.tanh main_v1333
  fn_part68 (F := F) main_arg0 main_arg1 main_arg2 main_arg3 main_arg4 main_arg5 main_v1301 main_v1330 main_v1333 main_v1334

def fn_part66 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1261 : FVec F S128 .f32) (main_v1265 : FVec F S64x128 .f32) (main_v1281 : FVec F S128 .f32) (main_v1287 : FVec F S128 .f32) (main_v1288 : FVec F S128 .f32) (main_v1294 : FVec F S128 .f32) : IVec S64x128 1 × IVec S64x1 1 :=
  let main_v1295 : FVec F S128 .f32 := mulf main_v1287 main_v1261
  let main_v1296 : FVec F S128 .f32 := mulf main_v1281 main_v1288
  let main_v1297 : FVec F S128 .f32 := addf main_v1295 main_v1296
  let main_v1298 : FVec F S128 .f32 := Host.tanh main_v1297
  let main_v1299 : FVec F S128 .f32 := mulf main_v1294 main_v1298
  let main_v1300 : FVec F S1x128 .f32 := broadcastInDim S1x128 ![1] bcast_S128_S1x128_1 main_v1297
  let main_c_287 : IVec S_ 32 := constantI S_ 32 35#32
  let main_c_288 : IVec S_ 32 := constantI S_ 32 0#32
  let main_v1301 : FVec F S64x128 .f32 := (fun x u i => Host.dynamicUpdateSlice x u (fun k => (i k (Shape.Idx.first h_S_)).toInt) updateFits_S64x128_S1x128) main_v1265 main_v1300 (![main_c_287, main_c_288] : Fin 2 → IVec S_ 32)
  let main_v1302 : FVec F S256 .f32 := (fun a b => concatenate S256 0 [⟨S128, a⟩, ⟨S128, b⟩] concatenates_S128_S128_S256_d0) main_v1297 main_arg0
  let main_v1303 : FVec F S512 .f32 := (fun l r => Host.dotGeneral dot_S512x256_S256_S512_1_0_0_n_n_n none l r) main_arg2 main_v1302
  let main_v1304 : FVec F S512 .f32 := addf main_v1303 main_arg4
  let main_v1305 : FVec F S512 .f32 := (fun l r => Host.dotGeneral dot_S512x128_S128_S512_1_0_0_n_n_n none l r) main_arg3 main_v1299
  let main_v1306 : FVec F S512 .f32 := addf main_v1304 main_v1305
  let main_v1307 : FVec F S512 .f32 := addf main_v1306 main_arg5
  let main_v1308 : FVec F S128 .f32 := (extractStridedSlice S128 ![0] · slices_S512_S128_0) main_v1307
  let main_v1309 : FVec F S128 .f32 := (extractStridedSlice S128 ![128] · slices_S512_S128_128) main_v1307
  let main_v1310 : FVec F S128 .f32 := (extractStridedSlice S128 ![256] · slices_S512_S128_256) main_v1307
  let main_v1311 : FVec F S128 .f32 := (extractStridedSlice S128 ![384] · slices_S512_S128_384) main_v1307
  let main_v1312 : FVec F S128 .f32 := Host.negf main_v1308
  let main_v1313 : FVec F S128 .f32 := Host.exp main_v1312
  let main_cst_289 : FVec F S_ .f32 := constant S_ .f32 0x3F800000#32
  let main_v1314 : FVec F S128 .f32 := broadcastInDim S128 ![] bcast_S_S128 main_cst_289
  let main_v1315 : FVec F S128 .f32 := addf main_v1314 main_v1313
  fn_part67 (F := F) main_arg0 main_arg1 main_arg2 main_arg3 main_arg4 main_arg5 main_v1297 main_v1301 main_v1309 main_v1310 main_v1311 main_v1315

def fn_part65 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1261 : FVec F S128 .f32) (main_v1265 : FVec F S64x128 .f32) (main_v1273 : FVec F S128 .f32) (main_v1274 : FVec F S128 .f32) (main_v1275 : FVec F S128 .f32) (main_v1276 : FVec F S128 .f32) : IVec S64x128 1 × IVec S64x1 1 :=
  let main_v1277 : FVec F S128 .f32 := Host.exp main_v1276
  let main_cst_281 : FVec F S_ .f32 := constant S_ .f32 0x3F800000#32
  let main_v1278 : FVec F S128 .f32 := broadcastInDim S128 ![] bcast_S_S128 main_cst_281
  let main_v1279 : FVec F S128 .f32 := addf main_v1278 main_v1277
  let main_cst_282 : FVec F S_ .f32 := constant S_ .f32 0x3F800000#32
  let main_v1280 : FVec F S128 .f32 := broadcastInDim S128 ![] bcast_S_S128 main_cst_282
  let main_v1281 : FVec F S128 .f32 := Host.divf main_v1280 main_v1279
  let main_v1282 : FVec F S128 .f32 := Host.negf main_v1273
  let main_v1283 : FVec F S128 .f32 := Host.exp main_v1282
  let main_cst_283 : FVec F S_ .f32 := constant S_ .f32 0x3F800000#32
  let main_v1284 : FVec F S128 .f32 := broadcastInDim S128 ![] bcast_S_S128 main_cst_283
  let main_v1285 : FVec F S128 .f32 := addf main_v1284 main_v1283
  let main_cst_284 : FVec F S_ .f32 := constant S_ .f32 0x3F800000#32
  let main_v1286 : FVec F S128 .f32 := broadcastInDim S128 ![] bcast_S_S128 main_cst_284
  let main_v1287 : FVec F S128 .f32 := Host.divf main_v1286 main_v1285
  let main_v1288 : FVec F S128 .f32 := Host.tanh main_v1274
  let main_v1289 : FVec F S128 .f32 := Host.negf main_v1275
  let main_v1290 : FVec F S128 .f32 := Host.exp main_v1289
  let main_cst_285 : FVec F S_ .f32 := constant S_ .f32 0x3F800000#32
  let main_v1291 : FVec F S128 .f32 := broadcastInDim S128 ![] bcast_S_S128 main_cst_285
  let main_v1292 : FVec F S128 .f32 := addf main_v1291 main_v1290
  let main_cst_286 : FVec F S_ .f32 := constant S_ .f32 0x3F800000#32
  let main_v1293 : FVec F S128 .f32 := broadcastInDim S128 ![] bcast_S_S128 main_cst_286
  let main_v1294 : FVec F S128 .f32 := Host.divf main_v1293 main_v1292
  fn_part66 (F := F) main_arg0 main_arg1 main_arg2 main_arg3 main_arg4 main_arg5 main_v1261 main_v1265 main_v1281 main_v1287 main_v1288 main_v1294

def fn_part64 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1225 : FVec F S128 .f32) (main_v1229 : FVec F S64x128 .f32) (main_v1245 : FVec F S128 .f32) (main_v1251 : FVec F S128 .f32) (main_v1252 : FVec F S128 .f32) (main_v1254 : FVec F S128 .f32) (main_v1255 : FVec F S128 .f32) : IVec S64x128 1 × IVec S64x1 1 :=
  let main_v1256 : FVec F S128 .f32 := addf main_v1255 main_v1254
  let main_cst_278 : FVec F S_ .f32 := constant S_ .f32 0x3F800000#32
  let main_v1257 : FVec F S128 .f32 := broadcastInDim S128 ![] bcast_S_S128 main_cst_278
  let main_v1258 : FVec F S128 .f32 := Host.divf main_v1257 main_v1256
  let main_v1259 : FVec F S128 .f32 := mulf main_v1251 main_v1225
  let main_v1260 : FVec F S128 .f32 := mulf main_v1245 main_v1252
  let main_v1261 : FVec F S128 .f32 := addf main_v1259 main_v1260
  let main_v1262 : FVec F S128 .f32 := Host.tanh main_v1261
  let main_v1263 : FVec F S128 .f32 := mulf main_v1258 main_v1262
  let main_v1264 : FVec F S1x128 .f32 := broadcastInDim S1x128 ![1] bcast_S128_S1x128_1 main_v1261
  let main_c_279 : IVec S_ 32 := constantI S_ 32 34#32
  let main_c_280 : IVec S_ 32 := constantI S_ 32 0#32
  let main_v1265 : FVec F S64x128 .f32 := (fun x u i => Host.dynamicUpdateSlice x u (fun k => (i k (Shape.Idx.first h_S_)).toInt) updateFits_S64x128_S1x128) main_v1229 main_v1264 (![main_c_279, main_c_280] : Fin 2 → IVec S_ 32)
  let main_v1266 : FVec F S256 .f32 := (fun a b => concatenate S256 0 [⟨S128, a⟩, ⟨S128, b⟩] concatenates_S128_S128_S256_d0) main_v1261 main_arg0
  let main_v1267 : FVec F S512 .f32 := (fun l r => Host.dotGeneral dot_S512x256_S256_S512_1_0_0_n_n_n none l r) main_arg2 main_v1266
  let main_v1268 : FVec F S512 .f32 := addf main_v1267 main_arg4
  let main_v1269 : FVec F S512 .f32 := (fun l r => Host.dotGeneral dot_S512x128_S128_S512_1_0_0_n_n_n none l r) main_arg3 main_v1263
  let main_v1270 : FVec F S512 .f32 := addf main_v1268 main_v1269
  let main_v1271 : FVec F S512 .f32 := addf main_v1270 main_arg5
  let main_v1272 : FVec F S128 .f32 := (extractStridedSlice S128 ![0] · slices_S512_S128_0) main_v1271
  let main_v1273 : FVec F S128 .f32 := (extractStridedSlice S128 ![128] · slices_S512_S128_128) main_v1271
  let main_v1274 : FVec F S128 .f32 := (extractStridedSlice S128 ![256] · slices_S512_S128_256) main_v1271
  let main_v1275 : FVec F S128 .f32 := (extractStridedSlice S128 ![384] · slices_S512_S128_384) main_v1271
  let main_v1276 : FVec F S128 .f32 := Host.negf main_v1272
  fn_part65 (F := F) main_arg0 main_arg1 main_arg2 main_arg3 main_arg4 main_arg5 main_v1261 main_v1265 main_v1273 main_v1274 main_v1275 main_v1276

def fn_part63 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1225 : FVec F S128 .f32) (main_v1229 : FVec F S64x128 .f32) (main_v1235 : FVec F S512 .f32) (main_v1236 : FVec F S128 .f32) : IVec S64x128 1 × IVec S64x1 1 :=
  let main_v1237 : FVec F S128 .f32 := (extractStridedSlice S128 ![128] · slices_S512_S128_128) main_v1235
  let main_v1238 : FVec F S128 .f32 := (extractStridedSlice S128 ![256] · slices_S512_S128_256) main_v1235
  let main_v1239 : FVec F S128 .f32 := (extractStridedSlice S128 ![384] · slices_S512_S128_384) main_v1235
  let main_v1240 : FVec F S128 .f32 := Host.negf main_v1236
  let main_v1241 : FVec F S128 .f32 := Host.exp main_v1240
  let main_cst_273 : FVec F S_ .f32 := constant S_ .f32 0x3F800000#32
  let main_v1242 : FVec F S128 .f32 := broadcastInDim S128 ![] bcast_S_S128 main_cst_273
  let main_v1243 : FVec F S128 .f32 := addf main_v1242 main_v1241
  let main_cst_274 : FVec F S_ .f32 := constant S_ .f32 0x3F800000#32
  let main_v1244 : FVec F S128 .f32 := broadcastInDim S128 ![] bcast_S_S128 main_cst_274
  let main_v1245 : FVec F S128 .f32 := Host.divf main_v1244 main_v1243
  let main_v1246 : FVec F S128 .f32 := Host.negf main_v1237
  let main_v1247 : FVec F S128 .f32 := Host.exp main_v1246
  let main_cst_275 : FVec F S_ .f32 := constant S_ .f32 0x3F800000#32
  let main_v1248 : FVec F S128 .f32 := broadcastInDim S128 ![] bcast_S_S128 main_cst_275
  let main_v1249 : FVec F S128 .f32 := addf main_v1248 main_v1247
  let main_cst_276 : FVec F S_ .f32 := constant S_ .f32 0x3F800000#32
  let main_v1250 : FVec F S128 .f32 := broadcastInDim S128 ![] bcast_S_S128 main_cst_276
  let main_v1251 : FVec F S128 .f32 := Host.divf main_v1250 main_v1249
  let main_v1252 : FVec F S128 .f32 := Host.tanh main_v1238
  let main_v1253 : FVec F S128 .f32 := Host.negf main_v1239
  let main_v1254 : FVec F S128 .f32 := Host.exp main_v1253
  let main_cst_277 : FVec F S_ .f32 := constant S_ .f32 0x3F800000#32
  let main_v1255 : FVec F S128 .f32 := broadcastInDim S128 ![] bcast_S_S128 main_cst_277
  fn_part64 (F := F) main_arg0 main_arg1 main_arg2 main_arg3 main_arg4 main_arg5 main_v1225 main_v1229 main_v1245 main_v1251 main_v1252 main_v1254 main_v1255

def fn_part62 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1189 : FVec F S128 .f32) (main_v1193 : FVec F S64x128 .f32) (main_v1203 : FVec F S128 .f32) (main_v1209 : FVec F S128 .f32) (main_v1215 : FVec F S128 .f32) (main_v1216 : FVec F S128 .f32) : IVec S64x128 1 × IVec S64x1 1 :=
  let main_v1217 : FVec F S128 .f32 := Host.negf main_v1203
  let main_v1218 : FVec F S128 .f32 := Host.exp main_v1217
  let main_cst_269 : FVec F S_ .f32 := constant S_ .f32 0x3F800000#32
  let main_v1219 : FVec F S128 .f32 := broadcastInDim S128 ![] bcast_S_S128 main_cst_269
  let main_v1220 : FVec F S128 .f32 := addf main_v1219 main_v1218
  let main_cst_270 : FVec F S_ .f32 := constant S_ .f32 0x3F800000#32
  let main_v1221 : FVec F S128 .f32 := broadcastInDim S128 ![] bcast_S_S128 main_cst_270
  let main_v1222 : FVec F S128 .f32 := Host.divf main_v1221 main_v1220
  let main_v1223 : FVec F S128 .f32 := mulf main_v1215 main_v1189
  let main_v1224 : FVec F S128 .f32 := mulf main_v1209 main_v1216
  let main_v1225 : FVec F S128 .f32 := addf main_v1223 main_v1224
  let main_v1226 : FVec F S128 .f32 := Host.tanh main_v1225
  let main_v1227 : FVec F S128 .f32 := mulf main_v1222 main_v1226
  let main_v1228 : FVec F S1x128 .f32 := broadcastInDim S1x128 ![1] bcast_S128_S1x128_1 main_v1225
  let main_c_271 : IVec S_ 32 := constantI S_ 32 33#32
  let main_c_272 : IVec S_ 32 := constantI S_ 32 0#32
  let main_v1229 : FVec F S64x128 .f32 := (fun x u i => Host.dynamicUpdateSlice x u (fun k => (i k (Shape.Idx.first h_S_)).toInt) updateFits_S64x128_S1x128) main_v1193 main_v1228 (![main_c_271, main_c_272] : Fin 2 → IVec S_ 32)
  let main_v1230 : FVec F S256 .f32 := (fun a b => concatenate S256 0 [⟨S128, a⟩, ⟨S128, b⟩] concatenates_S128_S128_S256_d0) main_v1225 main_arg0
  let main_v1231 : FVec F S512 .f32 := (fun l r => Host.dotGeneral dot_S512x256_S256_S512_1_0_0_n_n_n none l r) main_arg2 main_v1230
  let main_v1232 : FVec F S512 .f32 := addf main_v1231 main_arg4
  let main_v1233 : FVec F S512 .f32 := (fun l r => Host.dotGeneral dot_S512x128_S128_S512_1_0_0_n_n_n none l r) main_arg3 main_v1227
  let main_v1234 : FVec F S512 .f32 := addf main_v1232 main_v1233
  let main_v1235 : FVec F S512 .f32 := addf main_v1234 main_arg5
  let main_v1236 : FVec F S128 .f32 := (extractStridedSlice S128 ![0] · slices_S512_S128_0) main_v1235
  fn_part63 (F := F) main_arg0 main_arg1 main_arg2 main_arg3 main_arg4 main_arg5 main_v1225 main_v1229 main_v1235 main_v1236

def fn_part61 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1189 : FVec F S128 .f32) (main_v1191 : FVec F S128 .f32) (main_v1193 : FVec F S64x128 .f32) (main_v1196 : FVec F S512 .f32) : IVec S64x128 1 × IVec S64x1 1 :=
  let main_v1197 : FVec F S512 .f32 := (fun l r => Host.dotGeneral dot_S512x128_S128_S512_1_0_0_n_n_n none l r) main_arg3 main_v1191
  let main_v1198 : FVec F S512 .f32 := addf main_v1196 main_v1197
  let main_v1199 : FVec F S512 .f32 := addf main_v1198 main_arg5
  let main_v1200 : FVec F S128 .f32 := (extractStridedSlice S128 ![0] · slices_S512_S128_0) main_v1199
  let main_v1201 : FVec F S128 .f32 := (extractStridedSlice S128 ![128] · slices_S512_S128_128) main_v1199
  let main_v1202 : FVec F S128 .f32 := (extractStridedSlice S128 ![256] · slices_S512_S128_256) main_v1199
  let main_v1203 : FVec F S128 .f32 := (extractStridedSlice S128 ![384] · slices_S512_S128_384) main_v1199
  let main_v1204 : FVec F S128 .f32 := Host.negf main_v1200
  let main_v1205 : FVec F S128 .f32 := Host.exp main_v1204
  let main_cst_265 : FVec F S_ .f32 := constant S_ .f32 0x3F800000#32
  let main_v1206 : FVec F S128 .f32 := broadcastInDim S128 ![] bcast_S_S128 main_cst_265
  let main_v1207 : FVec F S128 .f32 := addf main_v1206 main_v1205
  let main_cst_266 : FVec F S_ .f32 := constant S_ .f32 0x3F800000#32
  let main_v1208 : FVec F S128 .f32 := broadcastInDim S128 ![] bcast_S_S128 main_cst_266
  let main_v1209 : FVec F S128 .f32 := Host.divf main_v1208 main_v1207
  let main_v1210 : FVec F S128 .f32 := Host.negf main_v1201
  let main_v1211 : FVec F S128 .f32 := Host.exp main_v1210
  let main_cst_267 : FVec F S_ .f32 := constant S_ .f32 0x3F800000#32
  let main_v1212 : FVec F S128 .f32 := broadcastInDim S128 ![] bcast_S_S128 main_cst_267
  let main_v1213 : FVec F S128 .f32 := addf main_v1212 main_v1211
  let main_cst_268 : FVec F S_ .f32 := constant S_ .f32 0x3F800000#32
  let main_v1214 : FVec F S128 .f32 := broadcastInDim S128 ![] bcast_S_S128 main_cst_268
  let main_v1215 : FVec F S128 .f32 := Host.divf main_v1214 main_v1213
  let main_v1216 : FVec F S128 .f32 := Host.tanh main_v1202
  fn_part62 (F := F) main_arg0 main_arg1 main_arg2 main_arg3 main_arg4 main_arg5 main_v1189 main_v1193 main_v1203 main_v1209 main_v1215 main_v1216

def fn_part60 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1153 : FVec F S128 .f32) (main_v1157 : FVec F S64x128 .f32) (main_v1166 : FVec F S128 .f32) (main_v1167 : FVec F S128 .f32) (main_v1173 : FVec F S128 .f32) (main_v1177 : FVec F S128 .f32) : IVec S64x128 1 × IVec S64x1 1 :=
  let main_cst_260 : FVec F S_ .f32 := constant S_ .f32 0x3F800000#32
  let main_v1178 : FVec F S128 .f32 := broadcastInDim S128 ![] bcast_S_S128 main_cst_260
  let main_v1179 : FVec F S128 .f32 := Host.divf main_v1178 main_v1177
  let main_v1180 : FVec F S128 .f32 := Host.tanh main_v1166
  let main_v1181 : FVec F S128 .f32 := Host.negf main_v1167
  let main_v1182 : FVec F S128 .f32 := Host.exp main_v1181
  let main_cst_261 : FVec F S_ .f32 := constant S_ .f32 0x3F800000#32
  let main_v1183 : FVec F S128 .f32 := broadcastInDim S128 ![] bcast_S_S128 main_cst_261
  let main_v1184 : FVec F S128 .f32 := addf main_v1183 main_v1182
  let main_cst_262 : FVec F S_ .f32 := constant S_ .f32 0x3F800000#32
  let main_v1185 : FVec F S128 .f32 := broadcastInDim S128 ![] bcast_S_S128 main_cst_262
  let main_v1186 : FVec F S128 .f32 := Host.divf main_v1185 main_v1184
  let main_v1187 : FVec F S128 .f32 := mulf main_v1179 main_v1153
  let main_v1188 : FVec F S128 .f32 := mulf main_v1173 main_v1180
  let main_v1189 : FVec F S128 .f32 := addf main_v1187 main_v1188
  let main_v1190 : FVec F S128 .f32 := Host.tanh main_v1189
  let main_v1191 : FVec F S128 .f32 := mulf main_v1186 main_v1190
  let main_v1192 : FVec F S1x128 .f32 := broadcastInDim S1x128 ![1] bcast_S128_S1x128_1 main_v1189
  let main_c_263 : IVec S_ 32 := constantI S_ 32 32#32
  let main_c_264 : IVec S_ 32 := constantI S_ 32 0#32
  let main_v1193 : FVec F S64x128 .f32 := (fun x u i => Host.dynamicUpdateSlice x u (fun k => (i k (Shape.Idx.first h_S_)).toInt) updateFits_S64x128_S1x128) main_v1157 main_v1192 (![main_c_263, main_c_264] : Fin 2 → IVec S_ 32)
  let main_v1194 : FVec F S256 .f32 := (fun a b => concatenate S256 0 [⟨S128, a⟩, ⟨S128, b⟩] concatenates_S128_S128_S256_d0) main_v1189 main_arg0
  let main_v1195 : FVec F S512 .f32 := (fun l r => Host.dotGeneral dot_S512x256_S256_S512_1_0_0_n_n_n none l r) main_arg2 main_v1194
  let main_v1196 : FVec F S512 .f32 := addf main_v1195 main_arg4
  fn_part61 (F := F) main_arg0 main_arg1 main_arg2 main_arg3 main_arg4 main_arg5 main_v1189 main_v1191 main_v1193 main_v1196

def fn_part59 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1121 : FVec F S64x128 .f32) (main_v1153 : FVec F S128 .f32) (main_v1155 : FVec F S128 .f32) (main_v1156 : FVec F S1x128 .f32) (main_c_255 : IVec S_ 32) (main_c_256 : IVec S_ 32) : IVec S64x128 1 × IVec S64x1 1 :=
  let main_v1157 : FVec F S64x128 .f32 := (fun x u i => Host.dynamicUpdateSlice x u (fun k => (i k (Shape.Idx.first h_S_)).toInt) updateFits_S64x128_S1x128) main_v1121 main_v1156 (![main_c_255, main_c_256] : Fin 2 → IVec S_ 32)
  let main_v1158 : FVec F S256 .f32 := (fun a b => concatenate S256 0 [⟨S128, a⟩, ⟨S128, b⟩] concatenates_S128_S128_S256_d0) main_v1153 main_arg0
  let main_v1159 : FVec F S512 .f32 := (fun l r => Host.dotGeneral dot_S512x256_S256_S512_1_0_0_n_n_n none l r) main_arg2 main_v1158
  let main_v1160 : FVec F S512 .f32 := addf main_v1159 main_arg4
  let main_v1161 : FVec F S512 .f32 := (fun l r => Host.dotGeneral dot_S512x128_S128_S512_1_0_0_n_n_n none l r) main_arg3 main_v1155
  let main_v1162 : FVec F S512 .f32 := addf main_v1160 main_v1161
  let main_v1163 : FVec F S512 .f32 := addf main_v1162 main_arg5
  let main_v1164 : FVec F S128 .f32 := (extractStridedSlice S128 ![0] · slices_S512_S128_0) main_v1163
  let main_v1165 : FVec F S128 .f32 := (extractStridedSlice S128 ![128] · slices_S512_S128_128) main_v1163
  let main_v1166 : FVec F S128 .f32 := (extractStridedSlice S128 ![256] · slices_S512_S128_256) main_v1163
  let main_v1167 : FVec F S128 .f32 := (extractStridedSlice S128 ![384] · slices_S512_S128_384) main_v1163
  let main_v1168 : FVec F S128 .f32 := Host.negf main_v1164
  let main_v1169 : FVec F S128 .f32 := Host.exp main_v1168
  let main_cst_257 : FVec F S_ .f32 := constant S_ .f32 0x3F800000#32
  let main_v1170 : FVec F S128 .f32 := broadcastInDim S128 ![] bcast_S_S128 main_cst_257
  let main_v1171 : FVec F S128 .f32 := addf main_v1170 main_v1169
  let main_cst_258 : FVec F S_ .f32 := constant S_ .f32 0x3F800000#32
  let main_v1172 : FVec F S128 .f32 := broadcastInDim S128 ![] bcast_S_S128 main_cst_258
  let main_v1173 : FVec F S128 .f32 := Host.divf main_v1172 main_v1171
  let main_v1174 : FVec F S128 .f32 := Host.negf main_v1165
  let main_v1175 : FVec F S128 .f32 := Host.exp main_v1174
  let main_cst_259 : FVec F S_ .f32 := constant S_ .f32 0x3F800000#32
  let main_v1176 : FVec F S128 .f32 := broadcastInDim S128 ![] bcast_S_S128 main_cst_259
  let main_v1177 : FVec F S128 .f32 := addf main_v1176 main_v1175
  fn_part60 (F := F) main_arg0 main_arg1 main_arg2 main_arg3 main_arg4 main_arg5 main_v1153 main_v1157 main_v1166 main_v1167 main_v1173 main_v1177

def fn_part58 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1117 : FVec F S128 .f32) (main_v1121 : FVec F S64x128 .f32) (main_v1130 : FVec F S128 .f32) (main_v1131 : FVec F S128 .f32) (main_v1137 : FVec F S128 .f32) (main_v1138 : FVec F S128 .f32) : IVec S64x128 1 × IVec S64x1 1 :=
  let main_v1139 : FVec F S128 .f32 := Host.exp main_v1138
  let main_cst_251 : FVec F S_ .f32 := constant S_ .f32 0x3F800000#32
  let main_v1140 : FVec F S128 .f32 := broadcastInDim S128 ![] bcast_S_S128 main_cst_251
  let main_v1141 : FVec F S128 .f32 := addf main_v1140 main_v1139
  let main_cst_252 : FVec F S_ .f32 := constant S_ .f32 0x3F800000#32
  let main_v1142 : FVec F S128 .f32 := broadcastInDim S128 ![] bcast_S_S128 main_cst_252
  let main_v1143 : FVec F S128 .f32 := Host.divf main_v1142 main_v1141
  let main_v1144 : FVec F S128 .f32 := Host.tanh main_v1130
  let main_v1145 : FVec F S128 .f32 := Host.negf main_v1131
  let main_v1146 : FVec F S128 .f32 := Host.exp main_v1145
  let main_cst_253 : FVec F S_ .f32 := constant S_ .f32 0x3F800000#32
  let main_v1147 : FVec F S128 .f32 := broadcastInDim S128 ![] bcast_S_S128 main_cst_253
  let main_v1148 : FVec F S128 .f32 := addf main_v1147 main_v1146
  let main_cst_254 : FVec F S_ .f32 := constant S_ .f32 0x3F800000#32
  let main_v1149 : FVec F S128 .f32 := broadcastInDim S128 ![] bcast_S_S128 main_cst_254
  let main_v1150 : FVec F S128 .f32 := Host.divf main_v1149 main_v1148
  let main_v1151 : FVec F S128 .f32 := mulf main_v1143 main_v1117
  let main_v1152 : FVec F S128 .f32 := mulf main_v1137 main_v1144
  let main_v1153 : FVec F S128 .f32 := addf main_v1151 main_v1152
  let main_v1154 : FVec F S128 .f32 := Host.tanh main_v1153
  let main_v1155 : FVec F S128 .f32 := mulf main_v1150 main_v1154
  let main_v1156 : FVec F S1x128 .f32 := broadcastInDim S1x128 ![1] bcast_S128_S1x128_1 main_v1153
  let main_c_255 : IVec S_ 32 := constantI S_ 32 31#32
  let main_c_256 : IVec S_ 32 := constantI S_ 32 0#32
  fn_part59 (F := F) main_arg0 main_arg1 main_arg2 main_arg3 main_arg4 main_arg5 main_v1121 main_v1153 main_v1155 main_v1156 main_c_255 main_c_256

def fn_part57 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1085 : FVec F S64x128 .f32) (main_v1114 : FVec F S128 .f32) (main_v1117 : FVec F S128 .f32) (main_v1118 : FVec F S128 .f32) : IVec S64x128 1 × IVec S64x1 1 :=
  let main_v1119 : FVec F S128 .f32 := mulf main_v1114 main_v1118
  let main_v1120 : FVec F S1x128 .f32 := broadcastInDim S1x128 ![1] bcast_S128_S1x128_1 main_v1117
  let main_c_247 : IVec S_ 32 := constantI S_ 32 30#32
  let main_c_248 : IVec S_ 32 := constantI S_ 32 0#32
  let main_v1121 : FVec F S64x128 .f32 := (fun x u i => Host.dynamicUpdateSlice x u (fun k => (i k (Shape.Idx.first h_S_)).toInt) updateFits_S64x128_S1x128) main_v1085 main_v1120 (![main_c_247, main_c_248] : Fin 2 → IVec S_ 32)
  let main_v1122 : FVec F S256 .f32 := (fun a b => concatenate S256 0 [⟨S128, a⟩, ⟨S128, b⟩] concatenates_S128_S128_S256_d0) main_v1117 main_arg0
  let main_v1123 : FVec F S512 .f32 := (fun l r => Host.dotGeneral dot_S512x256_S256_S512_1_0_0_n_n_n none l r) main_arg2 main_v1122
  let main_v1124 : FVec F S512 .f32 := addf main_v1123 main_arg4
  let main_v1125 : FVec F S512 .f32 := (fun l r => Host.dotGeneral dot_S512x128_S128_S512_1_0_0_n_n_n none l r) main_arg3 main_v1119
  let main_v1126 : FVec F S512 .f32 := addf main_v1124 main_v1125
  let main_v1127 : FVec F S512 .f32 := addf main_v1126 main_arg5
  let main_v1128 : FVec F S128 .f32 := (extractStridedSlice S128 ![0] · slices_S512_S128_0) main_v1127
  let main_v1129 : FVec F S128 .f32 := (extractStridedSlice S128 ![128] · slices_S512_S128_128) main_v1127
  let main_v1130 : FVec F S128 .f32 := (extractStridedSlice S128 ![256] · slices_S512_S128_256) main_v1127
  let main_v1131 : FVec F S128 .f32 := (extractStridedSlice S128 ![384] · slices_S512_S128_384) main_v1127
  let main_v1132 : FVec F S128 .f32 := Host.negf main_v1128
  let main_v1133 : FVec F S128 .f32 := Host.exp main_v1132
  let main_cst_249 : FVec F S_ .f32 := constant S_ .f32 0x3F800000#32
  let main_v1134 : FVec F S128 .f32 := broadcastInDim S128 ![] bcast_S_S128 main_cst_249
  let main_v1135 : FVec F S128 .f32 := addf main_v1134 main_v1133
  let main_cst_250 : FVec F S_ .f32 := constant S_ .f32 0x3F800000#32
  let main_v1136 : FVec F S128 .f32 := broadcastInDim S128 ![] bcast_S_S128 main_cst_250
  let main_v1137 : FVec F S128 .f32 := Host.divf main_v1136 main_v1135
  let main_v1138 : FVec F S128 .f32 := Host.negf main_v1129
  fn_part58 (F := F) main_arg0 main_arg1 main_arg2 main_arg3 main_arg4 main_arg5 main_v1117 main_v1121 main_v1130 main_v1131 main_v1137 main_v1138

def fn_part56 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1081 : FVec F S128 .f32) (main_v1085 : FVec F S64x128 .f32) (main_v1093 : FVec F S128 .f32) (main_v1094 : FVec F S128 .f32) (main_v1095 : FVec F S128 .f32) (main_v1099 : FVec F S128 .f32) : IVec S64x128 1 × IVec S64x1 1 :=
  let main_cst_242 : FVec F S_ .f32 := constant S_ .f32 0x3F800000#32
  let main_v1100 : FVec F S128 .f32 := broadcastInDim S128 ![] bcast_S_S128 main_cst_242
  let main_v1101 : FVec F S128 .f32 := Host.divf main_v1100 main_v1099
  let main_v1102 : FVec F S128 .f32 := Host.negf main_v1093
  let main_v1103 : FVec F S128 .f32 := Host.exp main_v1102
  let main_cst_243 : FVec F S_ .f32 := constant S_ .f32 0x3F800000#32
  let main_v1104 : FVec F S128 .f32 := broadcastInDim S128 ![] bcast_S_S128 main_cst_243
  let main_v1105 : FVec F S128 .f32 := addf main_v1104 main_v1103
  let main_cst_244 : FVec F S_ .f32 := constant S_ .f32 0x3F800000#32
  let main_v1106 : FVec F S128 .f32 := broadcastInDim S128 ![] bcast_S_S128 main_cst_244
  let main_v1107 : FVec F S128 .f32 := Host.divf main_v1106 main_v1105
  let main_v1108 : FVec F S128 .f32 := Host.tanh main_v1094
  let main_v1109 : FVec F S128 .f32 := Host.negf main_v1095
  let main_v1110 : FVec F S128 .f32 := Host.exp main_v1109
  let main_cst_245 : FVec F S_ .f32 := constant S_ .f32 0x3F800000#32
  let main_v1111 : FVec F S128 .f32 := broadcastInDim S128 ![] bcast_S_S128 main_cst_245
  let main_v1112 : FVec F S128 .f32 := addf main_v1111 main_v1110
  let main_cst_246 : FVec F S_ .f32 := constant S_ .f32 0x3F800000#32
  let main_v1113 : FVec F S128 .f32 := broadcastInDim S128 ![] bcast_S_S128 main_cst_246
  let main_v1114 : FVec F S128 .f32 := Host.divf main_v1113 main_v1112
  let main_v1115 : FVec F S128 .f32 := mulf main_v1107 main_v1081
  let main_v1116 : FVec F S128 .f32 := mulf main_v1101 main_v1108
  let main_v1117 : FVec F S128 .f32 := addf main_v1115 main_v1116
  let main_v1118 : FVec F S128 .f32 := Host.tanh main_v1117
  fn_part57 (F := F) main_arg0 main_arg1 main_arg2 main_arg3 main_arg4 main_arg5 main_v1085 main_v1114 main_v1117 main_v1118

def fn_part55 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1045 : FVec F S128 .f32) (main_v1049 : FVec F S64x128 .f32) (main_v1065 : FVec F S128 .f32) (main_v1071 : FVec F S128 .f32) (main_v1072 : FVec F S128 .f32) (main_v1078 : FVec F S128 .f32) : IVec S64x128 1 × IVec S64x1 1 :=
  let main_v1079 : FVec F S128 .f32 := mulf main_v1071 main_v1045
  let main_v1080 : FVec F S128 .f32 := mulf main_v1065 main_v1072
  let main_v1081 : FVec F S128 .f32 := addf main_v1079 main_v1080
  let main_v1082 : FVec F S128 .f32 := Host.tanh main_v1081
  let main_v1083 : FVec F S128 .f32 := mulf main_v1078 main_v1082
  let main_v1084 : FVec F S1x128 .f32 := broadcastInDim S1x128 ![1] bcast_S128_S1x128_1 main_v1081
  let main_c_239 : IVec S_ 32 := constantI S_ 32 29#32
  let main_c_240 : IVec S_ 32 := constantI S_ 32 0#32
  let main_v1085 : FVec F S64x128 .f32 := (fun x u i => Host.dynamicUpdateSlice x u (fun k => (i k (Shape.Idx.first h_S_)).toInt) updateFits_S64x128_S1x128) main_v1049 main_v1084 (![main_c_239, main_c_240] : Fin 2 → IVec S_ 32)
  let main_v1086 : FVec F S256 .f32 := (fun a b => concatenate S256 0 [⟨S128, a⟩, ⟨S128, b⟩] concatenates_S128_S128_S256_d0) main_v1081 main_arg0
  let main_v1087 : FVec F S512 .f32 := (fun l r => Host.dotGeneral dot_S512x256_S256_S512_1_0_0_n_n_n none l r) main_arg2 main_v1086
  let main_v1088 : FVec F S512 .f32 := addf main_v1087 main_arg4
  let main_v1089 : FVec F S512 .f32 := (fun l r => Host.dotGeneral dot_S512x128_S128_S512_1_0_0_n_n_n none l r) main_arg3 main_v1083
  let main_v1090 : FVec F S512 .f32 := addf main_v1088 main_v1089
  let main_v1091 : FVec F S512 .f32 := addf main_v1090 main_arg5
  let main_v1092 : FVec F S128 .f32 := (extractStridedSlice S128 ![0] · slices_S512_S128_0) main_v1091
  let main_v1093 : FVec F S128 .f32 := (extractStridedSlice S128 ![128] · slices_S512_S128_128) main_v1091
  let main_v1094 : FVec F S128 .f32 := (extractStridedSlice S128 ![256] · slices_S512_S128_256) main_v1091
  let main_v1095 : FVec F S128 .f32 := (extractStridedSlice S128 ![384] · slices_S512_S128_384) main_v1091
  let main_v1096 : FVec F S128 .f32 := Host.negf main_v1092
  let main_v1097 : FVec F S128 .f32 := Host.exp main_v1096
  let main_cst_241 : FVec F S_ .f32 := constant S_ .f32 0x3F800000#32
  let main_v1098 : FVec F S128 .f32 := broadcastInDim S128 ![] bcast_S_S128 main_cst_241
  let main_v1099 : FVec F S128 .f32 := addf main_v1098 main_v1097
  fn_part56 (F := F) main_arg0 main_arg1 main_arg2 main_arg3 main_arg4 main_arg5 main_v1081 main_v1085 main_v1093 main_v1094 main_v1095 main_v1099

def fn_part54 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1045 : FVec F S128 .f32) (main_v1049 : FVec F S64x128 .f32) (main_v1057 : FVec F S128 .f32) (main_v1058 : FVec F S128 .f32) (main_v1059 : FVec F S128 .f32) (main_v1060 : FVec F S128 .f32) : IVec S64x128 1 × IVec S64x1 1 :=
  let main_v1061 : FVec F S128 .f32 := Host.exp main_v1060
  let main_cst_233 : FVec F S_ .f32 := constant S_ .f32 0x3F800000#32
  let main_v1062 : FVec F S128 .f32 := broadcastInDim S128 ![] bcast_S_S128 main_cst_233
  let main_v1063 : FVec F S128 .f32 := addf main_v1062 main_v1061
  let main_cst_234 : FVec F S_ .f32 := constant S_ .f32 0x3F800000#32
  let main_v1064 : FVec F S128 .f32 := broadcastInDim S128 ![] bcast_S_S128 main_cst_234
  let main_v1065 : FVec F S128 .f32 := Host.divf main_v1064 main_v1063
  let main_v1066 : FVec F S128 .f32 := Host.negf main_v1057
  let main_v1067 : FVec F S128 .f32 := Host.exp main_v1066
  let main_cst_235 : FVec F S_ .f32 := constant S_ .f32 0x3F800000#32
  let main_v1068 : FVec F S128 .f32 := broadcastInDim S128 ![] bcast_S_S128 main_cst_235
  let main_v1069 : FVec F S128 .f32 := addf main_v1068 main_v1067
  let main_cst_236 : FVec F S_ .f32 := constant S_ .f32 0x3F800000#32
  let main_v1070 : FVec F S128 .f32 := broadcastInDim S128 ![] bcast_S_S128 main_cst_236
  let main_v1071 : FVec F S128 .f32 := Host.divf main_v1070 main_v1069
  let main_v1072 : FVec F S128 .f32 := Host.tanh main_v1058
  let main_v1073 : FVec F S128 .f32 := Host.negf main_v1059
  let main_v1074 : FVec F S128 .f32 := Host.exp main_v1073
  let main_cst_237 : FVec F S_ .f32 := constant S_ .f32 0x3F800000#32
  let main_v1075 : FVec F S128 .f32 := broadcastInDim S128 ![] bcast_S_S128 main_cst_237
  let main_v1076 : FVec F S128 .f32 := addf main_v1075 main_v1074
  let main_cst_238 : FVec F S_ .f32 := constant S_ .f32 0x3F800000#32
  let main_v1077 : FVec F S128 .f32 := broadcastInDim S128 ![] bcast_S_S128 main_cst_238
  let main_v1078 : FVec F S128 .f32 := Host.divf main_v1077 main_v1076
  fn_part55 (F := F) main_arg0 main_arg1 main_arg2 main_arg3 main_arg4 main_arg5 main_v1045 main_v1049 main_v1065 main_v1071 main_v1072 main_v1078

def fn_part53 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1009 : FVec F S128 .f32) (main_v1013 : FVec F S64x128 .f32) (main_v1029 : FVec F S128 .f32) (main_v1035 : FVec F S128 .f32) (main_v1036 : FVec F S128 .f32) (main_v1038 : FVec F S128 .f32) (main_v1039 : FVec F S128 .f32) : IVec S64x128 1 × IVec S64x1 1 :=
  let main_v1040 : FVec F S128 .f32 := addf main_v1039 main_v1038
  let main_cst_230 : FVec F S_ .f32 := constant S_ .f32 0x3F800000#32
  let main_v1041 : FVec F S128 .f32 := broadcastInDim S128 ![] bcast_S_S128 main_cst_230
  let main_v1042 : FVec F S128 .f32 := Host.divf main_v1041 main_v1040
  let main_v1043 : FVec F S128 .f32 := mulf main_v1035 main_v1009
  let main_v1044 : FVec F S128 .f32 := mulf main_v1029 main_v1036
  let main_v1045 : FVec F S128 .f32 := addf main_v1043 main_v1044
  let main_v1046 : FVec F S128 .f32 := Host.tanh main_v1045
  let main_v1047 : FVec F S128 .f32 := mulf main_v1042 main_v1046
  let main_v1048 : FVec F S1x128 .f32 := broadcastInDim S1x128 ![1] bcast_S128_S1x128_1 main_v1045
  let main_c_231 : IVec S_ 32 := constantI S_ 32 28#32
  let main_c_232 : IVec S_ 32 := constantI S_ 32 0#32
  let main_v1049 : FVec F S64x128 .f32 := (fun x u i => Host.dynamicUpdateSlice x u (fun k => (i k (Shape.Idx.first h_S_)).toInt) updateFits_S64x128_S1x128) main_v1013 main_v1048 (![main_c_231, main_c_232] : Fin 2 → IVec S_ 32)
  let main_v1050 : FVec F S256 .f32 := (fun a b => concatenate S256 0 [⟨S128, a⟩, ⟨S128, b⟩] concatenates_S128_S128_S256_d0) main_v1045 main_arg0
  let main_v1051 : FVec F S512 .f32 := (fun l r => Host.dotGeneral dot_S512x256_S256_S512_1_0_0_n_n_n none l r) main_arg2 main_v1050
  let main_v1052 : FVec F S512 .f32 := addf main_v1051 main_arg4
  let main_v1053 : FVec F S512 .f32 := (fun l r => Host.dotGeneral dot_S512x128_S128_S512_1_0_0_n_n_n none l r) main_arg3 main_v1047
  let main_v1054 : FVec F S512 .f32 := addf main_v1052 main_v1053
  let main_v1055 : FVec F S512 .f32 := addf main_v1054 main_arg5
  let main_v1056 : FVec F S128 .f32 := (extractStridedSlice S128 ![0] · slices_S512_S128_0) main_v1055
  let main_v1057 : FVec F S128 .f32 := (extractStridedSlice S128 ![128] · slices_S512_S128_128) main_v1055
  let main_v1058 : FVec F S128 .f32 := (extractStridedSlice S128 ![256] · slices_S512_S128_256) main_v1055
  let main_v1059 : FVec F S128 .f32 := (extractStridedSlice S128 ![384] · slices_S512_S128_384) main_v1055
  let main_v1060 : FVec F S128 .f32 := Host.negf main_v1056
  fn_part54 (F := F) main_arg0 main_arg1 main_arg2 main_arg3 main_arg4 main_arg5 main_v1045 main_v1049 main_v1057 main_v1058 main_v1059 main_v1060

def fn_part52 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v1009 : FVec F S128 .f32) (main_v1013 : FVec F S64x128 .f32) (main_v1019 : FVec F S512 .f32) (main_v1020 : FVec F S128 .f32) : IVec S64x128 1 × IVec S64x1 1 :=
  let main_v1021 : FVec F S128 .f32 := (extractStridedSlice S128 ![128] · slices_S512_S128_128) main_v1019
  let main_v1022 : FVec F S128 .f32 := (extractStridedSlice S128 ![256] · slices_S512_S128_256) main_v1019
  let main_v1023 : FVec F S128 .f32 := (extractStridedSlice S128 ![384] · slices_S512_S128_384) main_v1019
  let main_v1024 : FVec F S128 .f32 := Host.negf main_v1020
  let main_v1025 : FVec F S128 .f32 := Host.exp main_v1024
  let main_cst_225 : FVec F S_ .f32 := constant S_ .f32 0x3F800000#32
  let main_v1026 : FVec F S128 .f32 := broadcastInDim S128 ![] bcast_S_S128 main_cst_225
  let main_v1027 : FVec F S128 .f32 := addf main_v1026 main_v1025
  let main_cst_226 : FVec F S_ .f32 := constant S_ .f32 0x3F800000#32
  let main_v1028 : FVec F S128 .f32 := broadcastInDim S128 ![] bcast_S_S128 main_cst_226
  let main_v1029 : FVec F S128 .f32 := Host.divf main_v1028 main_v1027
  let main_v1030 : FVec F S128 .f32 := Host.negf main_v1021
  let main_v1031 : FVec F S128 .f32 := Host.exp main_v1030
  let main_cst_227 : FVec F S_ .f32 := constant S_ .f32 0x3F800000#32
  let main_v1032 : FVec F S128 .f32 := broadcastInDim S128 ![] bcast_S_S128 main_cst_227
  let main_v1033 : FVec F S128 .f32 := addf main_v1032 main_v1031
  let main_cst_228 : FVec F S_ .f32 := constant S_ .f32 0x3F800000#32
  let main_v1034 : FVec F S128 .f32 := broadcastInDim S128 ![] bcast_S_S128 main_cst_228
  let main_v1035 : FVec F S128 .f32 := Host.divf main_v1034 main_v1033
  let main_v1036 : FVec F S128 .f32 := Host.tanh main_v1022
  let main_v1037 : FVec F S128 .f32 := Host.negf main_v1023
  let main_v1038 : FVec F S128 .f32 := Host.exp main_v1037
  let main_cst_229 : FVec F S_ .f32 := constant S_ .f32 0x3F800000#32
  let main_v1039 : FVec F S128 .f32 := broadcastInDim S128 ![] bcast_S_S128 main_cst_229
  fn_part53 (F := F) main_arg0 main_arg1 main_arg2 main_arg3 main_arg4 main_arg5 main_v1009 main_v1013 main_v1029 main_v1035 main_v1036 main_v1038 main_v1039

def fn_part51 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v973 : FVec F S128 .f32) (main_v977 : FVec F S64x128 .f32) (main_v987 : FVec F S128 .f32) (main_v993 : FVec F S128 .f32) (main_v999 : FVec F S128 .f32) (main_v1000 : FVec F S128 .f32) : IVec S64x128 1 × IVec S64x1 1 :=
  let main_v1001 : FVec F S128 .f32 := Host.negf main_v987
  let main_v1002 : FVec F S128 .f32 := Host.exp main_v1001
  let main_cst_221 : FVec F S_ .f32 := constant S_ .f32 0x3F800000#32
  let main_v1003 : FVec F S128 .f32 := broadcastInDim S128 ![] bcast_S_S128 main_cst_221
  let main_v1004 : FVec F S128 .f32 := addf main_v1003 main_v1002
  let main_cst_222 : FVec F S_ .f32 := constant S_ .f32 0x3F800000#32
  let main_v1005 : FVec F S128 .f32 := broadcastInDim S128 ![] bcast_S_S128 main_cst_222
  let main_v1006 : FVec F S128 .f32 := Host.divf main_v1005 main_v1004
  let main_v1007 : FVec F S128 .f32 := mulf main_v999 main_v973
  let main_v1008 : FVec F S128 .f32 := mulf main_v993 main_v1000
  let main_v1009 : FVec F S128 .f32 := addf main_v1007 main_v1008
  let main_v1010 : FVec F S128 .f32 := Host.tanh main_v1009
  let main_v1011 : FVec F S128 .f32 := mulf main_v1006 main_v1010
  let main_v1012 : FVec F S1x128 .f32 := broadcastInDim S1x128 ![1] bcast_S128_S1x128_1 main_v1009
  let main_c_223 : IVec S_ 32 := constantI S_ 32 27#32
  let main_c_224 : IVec S_ 32 := constantI S_ 32 0#32
  let main_v1013 : FVec F S64x128 .f32 := (fun x u i => Host.dynamicUpdateSlice x u (fun k => (i k (Shape.Idx.first h_S_)).toInt) updateFits_S64x128_S1x128) main_v977 main_v1012 (![main_c_223, main_c_224] : Fin 2 → IVec S_ 32)
  let main_v1014 : FVec F S256 .f32 := (fun a b => concatenate S256 0 [⟨S128, a⟩, ⟨S128, b⟩] concatenates_S128_S128_S256_d0) main_v1009 main_arg0
  let main_v1015 : FVec F S512 .f32 := (fun l r => Host.dotGeneral dot_S512x256_S256_S512_1_0_0_n_n_n none l r) main_arg2 main_v1014
  let main_v1016 : FVec F S512 .f32 := addf main_v1015 main_arg4
  let main_v1017 : FVec F S512 .f32 := (fun l r => Host.dotGeneral dot_S512x128_S128_S512_1_0_0_n_n_n none l r) main_arg3 main_v1011
  let main_v1018 : FVec F S512 .f32 := addf main_v1016 main_v1017
  let main_v1019 : FVec F S512 .f32 := addf main_v1018 main_arg5
  let main_v1020 : FVec F S128 .f32 := (extractStridedSlice S128 ![0] · slices_S512_S128_0) main_v1019
  fn_part52 (F := F) main_arg0 main_arg1 main_arg2 main_arg3 main_arg4 main_arg5 main_v1009 main_v1013 main_v1019 main_v1020

def fn_part50 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v973 : FVec F S128 .f32) (main_v975 : FVec F S128 .f32) (main_v977 : FVec F S64x128 .f32) (main_v980 : FVec F S512 .f32) : IVec S64x128 1 × IVec S64x1 1 :=
  let main_v981 : FVec F S512 .f32 := (fun l r => Host.dotGeneral dot_S512x128_S128_S512_1_0_0_n_n_n none l r) main_arg3 main_v975
  let main_v982 : FVec F S512 .f32 := addf main_v980 main_v981
  let main_v983 : FVec F S512 .f32 := addf main_v982 main_arg5
  let main_v984 : FVec F S128 .f32 := (extractStridedSlice S128 ![0] · slices_S512_S128_0) main_v983
  let main_v985 : FVec F S128 .f32 := (extractStridedSlice S128 ![128] · slices_S512_S128_128) main_v983
  let main_v986 : FVec F S128 .f32 := (extractStridedSlice S128 ![256] · slices_S512_S128_256) main_v983
  let main_v987 : FVec F S128 .f32 := (extractStridedSlice S128 ![384] · slices_S512_S128_384) main_v983
  let main_v988 : FVec F S128 .f32 := Host.negf main_v984
  let main_v989 : FVec F S128 .f32 := Host.exp main_v988
  let main_cst_217 : FVec F S_ .f32 := constant S_ .f32 0x3F800000#32
  let main_v990 : FVec F S128 .f32 := broadcastInDim S128 ![] bcast_S_S128 main_cst_217
  let main_v991 : FVec F S128 .f32 := addf main_v990 main_v989
  let main_cst_218 : FVec F S_ .f32 := constant S_ .f32 0x3F800000#32
  let main_v992 : FVec F S128 .f32 := broadcastInDim S128 ![] bcast_S_S128 main_cst_218
  let main_v993 : FVec F S128 .f32 := Host.divf main_v992 main_v991
  let main_v994 : FVec F S128 .f32 := Host.negf main_v985
  let main_v995 : FVec F S128 .f32 := Host.exp main_v994
  let main_cst_219 : FVec F S_ .f32 := constant S_ .f32 0x3F800000#32
  let main_v996 : FVec F S128 .f32 := broadcastInDim S128 ![] bcast_S_S128 main_cst_219
  let main_v997 : FVec F S128 .f32 := addf main_v996 main_v995
  let main_cst_220 : FVec F S_ .f32 := constant S_ .f32 0x3F800000#32
  let main_v998 : FVec F S128 .f32 := broadcastInDim S128 ![] bcast_S_S128 main_cst_220
  let main_v999 : FVec F S128 .f32 := Host.divf main_v998 main_v997
  let main_v1000 : FVec F S128 .f32 := Host.tanh main_v986
  fn_part51 (F := F) main_arg0 main_arg1 main_arg2 main_arg3 main_arg4 main_arg5 main_v973 main_v977 main_v987 main_v993 main_v999 main_v1000

def fn_part49 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v937 : FVec F S128 .f32) (main_v941 : FVec F S64x128 .f32) (main_v950 : FVec F S128 .f32) (main_v951 : FVec F S128 .f32) (main_v957 : FVec F S128 .f32) (main_v961 : FVec F S128 .f32) : IVec S64x128 1 × IVec S64x1 1 :=
  let main_cst_212 : FVec F S_ .f32 := constant S_ .f32 0x3F800000#32
  let main_v962 : FVec F S128 .f32 := broadcastInDim S128 ![] bcast_S_S128 main_cst_212
  let main_v963 : FVec F S128 .f32 := Host.divf main_v962 main_v961
  let main_v964 : FVec F S128 .f32 := Host.tanh main_v950
  let main_v965 : FVec F S128 .f32 := Host.negf main_v951
  let main_v966 : FVec F S128 .f32 := Host.exp main_v965
  let main_cst_213 : FVec F S_ .f32 := constant S_ .f32 0x3F800000#32
  let main_v967 : FVec F S128 .f32 := broadcastInDim S128 ![] bcast_S_S128 main_cst_213
  let main_v968 : FVec F S128 .f32 := addf main_v967 main_v966
  let main_cst_214 : FVec F S_ .f32 := constant S_ .f32 0x3F800000#32
  let main_v969 : FVec F S128 .f32 := broadcastInDim S128 ![] bcast_S_S128 main_cst_214
  let main_v970 : FVec F S128 .f32 := Host.divf main_v969 main_v968
  let main_v971 : FVec F S128 .f32 := mulf main_v963 main_v937
  let main_v972 : FVec F S128 .f32 := mulf main_v957 main_v964
  let main_v973 : FVec F S128 .f32 := addf main_v971 main_v972
  let main_v974 : FVec F S128 .f32 := Host.tanh main_v973
  let main_v975 : FVec F S128 .f32 := mulf main_v970 main_v974
  let main_v976 : FVec F S1x128 .f32 := broadcastInDim S1x128 ![1] bcast_S128_S1x128_1 main_v973
  let main_c_215 : IVec S_ 32 := constantI S_ 32 26#32
  let main_c_216 : IVec S_ 32 := constantI S_ 32 0#32
  let main_v977 : FVec F S64x128 .f32 := (fun x u i => Host.dynamicUpdateSlice x u (fun k => (i k (Shape.Idx.first h_S_)).toInt) updateFits_S64x128_S1x128) main_v941 main_v976 (![main_c_215, main_c_216] : Fin 2 → IVec S_ 32)
  let main_v978 : FVec F S256 .f32 := (fun a b => concatenate S256 0 [⟨S128, a⟩, ⟨S128, b⟩] concatenates_S128_S128_S256_d0) main_v973 main_arg0
  let main_v979 : FVec F S512 .f32 := (fun l r => Host.dotGeneral dot_S512x256_S256_S512_1_0_0_n_n_n none l r) main_arg2 main_v978
  let main_v980 : FVec F S512 .f32 := addf main_v979 main_arg4
  fn_part50 (F := F) main_arg0 main_arg1 main_arg2 main_arg3 main_arg4 main_arg5 main_v973 main_v975 main_v977 main_v980

def fn_part48 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v905 : FVec F S64x128 .f32) (main_v937 : FVec F S128 .f32) (main_v939 : FVec F S128 .f32) (main_v940 : FVec F S1x128 .f32) (main_c_207 : IVec S_ 32) (main_c_208 : IVec S_ 32) : IVec S64x128 1 × IVec S64x1 1 :=
  let main_v941 : FVec F S64x128 .f32 := (fun x u i => Host.dynamicUpdateSlice x u (fun k => (i k (Shape.Idx.first h_S_)).toInt) updateFits_S64x128_S1x128) main_v905 main_v940 (![main_c_207, main_c_208] : Fin 2 → IVec S_ 32)
  let main_v942 : FVec F S256 .f32 := (fun a b => concatenate S256 0 [⟨S128, a⟩, ⟨S128, b⟩] concatenates_S128_S128_S256_d0) main_v937 main_arg0
  let main_v943 : FVec F S512 .f32 := (fun l r => Host.dotGeneral dot_S512x256_S256_S512_1_0_0_n_n_n none l r) main_arg2 main_v942
  let main_v944 : FVec F S512 .f32 := addf main_v943 main_arg4
  let main_v945 : FVec F S512 .f32 := (fun l r => Host.dotGeneral dot_S512x128_S128_S512_1_0_0_n_n_n none l r) main_arg3 main_v939
  let main_v946 : FVec F S512 .f32 := addf main_v944 main_v945
  let main_v947 : FVec F S512 .f32 := addf main_v946 main_arg5
  let main_v948 : FVec F S128 .f32 := (extractStridedSlice S128 ![0] · slices_S512_S128_0) main_v947
  let main_v949 : FVec F S128 .f32 := (extractStridedSlice S128 ![128] · slices_S512_S128_128) main_v947
  let main_v950 : FVec F S128 .f32 := (extractStridedSlice S128 ![256] · slices_S512_S128_256) main_v947
  let main_v951 : FVec F S128 .f32 := (extractStridedSlice S128 ![384] · slices_S512_S128_384) main_v947
  let main_v952 : FVec F S128 .f32 := Host.negf main_v948
  let main_v953 : FVec F S128 .f32 := Host.exp main_v952
  let main_cst_209 : FVec F S_ .f32 := constant S_ .f32 0x3F800000#32
  let main_v954 : FVec F S128 .f32 := broadcastInDim S128 ![] bcast_S_S128 main_cst_209
  let main_v955 : FVec F S128 .f32 := addf main_v954 main_v953
  let main_cst_210 : FVec F S_ .f32 := constant S_ .f32 0x3F800000#32
  let main_v956 : FVec F S128 .f32 := broadcastInDim S128 ![] bcast_S_S128 main_cst_210
  let main_v957 : FVec F S128 .f32 := Host.divf main_v956 main_v955
  let main_v958 : FVec F S128 .f32 := Host.negf main_v949
  let main_v959 : FVec F S128 .f32 := Host.exp main_v958
  let main_cst_211 : FVec F S_ .f32 := constant S_ .f32 0x3F800000#32
  let main_v960 : FVec F S128 .f32 := broadcastInDim S128 ![] bcast_S_S128 main_cst_211
  let main_v961 : FVec F S128 .f32 := addf main_v960 main_v959
  fn_part49 (F := F) main_arg0 main_arg1 main_arg2 main_arg3 main_arg4 main_arg5 main_v937 main_v941 main_v950 main_v951 main_v957 main_v961

def fn_part47 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v901 : FVec F S128 .f32) (main_v905 : FVec F S64x128 .f32) (main_v914 : FVec F S128 .f32) (main_v915 : FVec F S128 .f32) (main_v921 : FVec F S128 .f32) (main_v922 : FVec F S128 .f32) : IVec S64x128 1 × IVec S64x1 1 :=
  let main_v923 : FVec F S128 .f32 := Host.exp main_v922
  let main_cst_203 : FVec F S_ .f32 := constant S_ .f32 0x3F800000#32
  let main_v924 : FVec F S128 .f32 := broadcastInDim S128 ![] bcast_S_S128 main_cst_203
  let main_v925 : FVec F S128 .f32 := addf main_v924 main_v923
  let main_cst_204 : FVec F S_ .f32 := constant S_ .f32 0x3F800000#32
  let main_v926 : FVec F S128 .f32 := broadcastInDim S128 ![] bcast_S_S128 main_cst_204
  let main_v927 : FVec F S128 .f32 := Host.divf main_v926 main_v925
  let main_v928 : FVec F S128 .f32 := Host.tanh main_v914
  let main_v929 : FVec F S128 .f32 := Host.negf main_v915
  let main_v930 : FVec F S128 .f32 := Host.exp main_v929
  let main_cst_205 : FVec F S_ .f32 := constant S_ .f32 0x3F800000#32
  let main_v931 : FVec F S128 .f32 := broadcastInDim S128 ![] bcast_S_S128 main_cst_205
  let main_v932 : FVec F S128 .f32 := addf main_v931 main_v930
  let main_cst_206 : FVec F S_ .f32 := constant S_ .f32 0x3F800000#32
  let main_v933 : FVec F S128 .f32 := broadcastInDim S128 ![] bcast_S_S128 main_cst_206
  let main_v934 : FVec F S128 .f32 := Host.divf main_v933 main_v932
  let main_v935 : FVec F S128 .f32 := mulf main_v927 main_v901
  let main_v936 : FVec F S128 .f32 := mulf main_v921 main_v928
  let main_v937 : FVec F S128 .f32 := addf main_v935 main_v936
  let main_v938 : FVec F S128 .f32 := Host.tanh main_v937
  let main_v939 : FVec F S128 .f32 := mulf main_v934 main_v938
  let main_v940 : FVec F S1x128 .f32 := broadcastInDim S1x128 ![1] bcast_S128_S1x128_1 main_v937
  let main_c_207 : IVec S_ 32 := constantI S_ 32 25#32
  let main_c_208 : IVec S_ 32 := constantI S_ 32 0#32
  fn_part48 (F := F) main_arg0 main_arg1 main_arg2 main_arg3 main_arg4 main_arg5 main_v905 main_v937 main_v939 main_v940 main_c_207 main_c_208

def fn_part46 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v869 : FVec F S64x128 .f32) (main_v898 : FVec F S128 .f32) (main_v901 : FVec F S128 .f32) (main_v902 : FVec F S128 .f32) : IVec S64x128 1 × IVec S64x1 1 :=
  let main_v903 : FVec F S128 .f32 := mulf main_v898 main_v902
  let main_v904 : FVec F S1x128 .f32 := broadcastInDim S1x128 ![1] bcast_S128_S1x128_1 main_v901
  let main_c_199 : IVec S_ 32 := constantI S_ 32 24#32
  let main_c_200 : IVec S_ 32 := constantI S_ 32 0#32
  let main_v905 : FVec F S64x128 .f32 := (fun x u i => Host.dynamicUpdateSlice x u (fun k => (i k (Shape.Idx.first h_S_)).toInt) updateFits_S64x128_S1x128) main_v869 main_v904 (![main_c_199, main_c_200] : Fin 2 → IVec S_ 32)
  let main_v906 : FVec F S256 .f32 := (fun a b => concatenate S256 0 [⟨S128, a⟩, ⟨S128, b⟩] concatenates_S128_S128_S256_d0) main_v901 main_arg0
  let main_v907 : FVec F S512 .f32 := (fun l r => Host.dotGeneral dot_S512x256_S256_S512_1_0_0_n_n_n none l r) main_arg2 main_v906
  let main_v908 : FVec F S512 .f32 := addf main_v907 main_arg4
  let main_v909 : FVec F S512 .f32 := (fun l r => Host.dotGeneral dot_S512x128_S128_S512_1_0_0_n_n_n none l r) main_arg3 main_v903
  let main_v910 : FVec F S512 .f32 := addf main_v908 main_v909
  let main_v911 : FVec F S512 .f32 := addf main_v910 main_arg5
  let main_v912 : FVec F S128 .f32 := (extractStridedSlice S128 ![0] · slices_S512_S128_0) main_v911
  let main_v913 : FVec F S128 .f32 := (extractStridedSlice S128 ![128] · slices_S512_S128_128) main_v911
  let main_v914 : FVec F S128 .f32 := (extractStridedSlice S128 ![256] · slices_S512_S128_256) main_v911
  let main_v915 : FVec F S128 .f32 := (extractStridedSlice S128 ![384] · slices_S512_S128_384) main_v911
  let main_v916 : FVec F S128 .f32 := Host.negf main_v912
  let main_v917 : FVec F S128 .f32 := Host.exp main_v916
  let main_cst_201 : FVec F S_ .f32 := constant S_ .f32 0x3F800000#32
  let main_v918 : FVec F S128 .f32 := broadcastInDim S128 ![] bcast_S_S128 main_cst_201
  let main_v919 : FVec F S128 .f32 := addf main_v918 main_v917
  let main_cst_202 : FVec F S_ .f32 := constant S_ .f32 0x3F800000#32
  let main_v920 : FVec F S128 .f32 := broadcastInDim S128 ![] bcast_S_S128 main_cst_202
  let main_v921 : FVec F S128 .f32 := Host.divf main_v920 main_v919
  let main_v922 : FVec F S128 .f32 := Host.negf main_v913
  fn_part47 (F := F) main_arg0 main_arg1 main_arg2 main_arg3 main_arg4 main_arg5 main_v901 main_v905 main_v914 main_v915 main_v921 main_v922

def fn_part45 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v865 : FVec F S128 .f32) (main_v869 : FVec F S64x128 .f32) (main_v877 : FVec F S128 .f32) (main_v878 : FVec F S128 .f32) (main_v879 : FVec F S128 .f32) (main_v883 : FVec F S128 .f32) : IVec S64x128 1 × IVec S64x1 1 :=
  let main_cst_194 : FVec F S_ .f32 := constant S_ .f32 0x3F800000#32
  let main_v884 : FVec F S128 .f32 := broadcastInDim S128 ![] bcast_S_S128 main_cst_194
  let main_v885 : FVec F S128 .f32 := Host.divf main_v884 main_v883
  let main_v886 : FVec F S128 .f32 := Host.negf main_v877
  let main_v887 : FVec F S128 .f32 := Host.exp main_v886
  let main_cst_195 : FVec F S_ .f32 := constant S_ .f32 0x3F800000#32
  let main_v888 : FVec F S128 .f32 := broadcastInDim S128 ![] bcast_S_S128 main_cst_195
  let main_v889 : FVec F S128 .f32 := addf main_v888 main_v887
  let main_cst_196 : FVec F S_ .f32 := constant S_ .f32 0x3F800000#32
  let main_v890 : FVec F S128 .f32 := broadcastInDim S128 ![] bcast_S_S128 main_cst_196
  let main_v891 : FVec F S128 .f32 := Host.divf main_v890 main_v889
  let main_v892 : FVec F S128 .f32 := Host.tanh main_v878
  let main_v893 : FVec F S128 .f32 := Host.negf main_v879
  let main_v894 : FVec F S128 .f32 := Host.exp main_v893
  let main_cst_197 : FVec F S_ .f32 := constant S_ .f32 0x3F800000#32
  let main_v895 : FVec F S128 .f32 := broadcastInDim S128 ![] bcast_S_S128 main_cst_197
  let main_v896 : FVec F S128 .f32 := addf main_v895 main_v894
  let main_cst_198 : FVec F S_ .f32 := constant S_ .f32 0x3F800000#32
  let main_v897 : FVec F S128 .f32 := broadcastInDim S128 ![] bcast_S_S128 main_cst_198
  let main_v898 : FVec F S128 .f32 := Host.divf main_v897 main_v896
  let main_v899 : FVec F S128 .f32 := mulf main_v891 main_v865
  let main_v900 : FVec F S128 .f32 := mulf main_v885 main_v892
  let main_v901 : FVec F S128 .f32 := addf main_v899 main_v900
  let main_v902 : FVec F S128 .f32 := Host.tanh main_v901
  fn_part46 (F := F) main_arg0 main_arg1 main_arg2 main_arg3 main_arg4 main_arg5 main_v869 main_v898 main_v901 main_v902

def fn_part44 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v829 : FVec F S128 .f32) (main_v833 : FVec F S64x128 .f32) (main_v849 : FVec F S128 .f32) (main_v855 : FVec F S128 .f32) (main_v856 : FVec F S128 .f32) (main_v862 : FVec F S128 .f32) : IVec S64x128 1 × IVec S64x1 1 :=
  let main_v863 : FVec F S128 .f32 := mulf main_v855 main_v829
  let main_v864 : FVec F S128 .f32 := mulf main_v849 main_v856
  let main_v865 : FVec F S128 .f32 := addf main_v863 main_v864
  let main_v866 : FVec F S128 .f32 := Host.tanh main_v865
  let main_v867 : FVec F S128 .f32 := mulf main_v862 main_v866
  let main_v868 : FVec F S1x128 .f32 := broadcastInDim S1x128 ![1] bcast_S128_S1x128_1 main_v865
  let main_c_191 : IVec S_ 32 := constantI S_ 32 23#32
  let main_c_192 : IVec S_ 32 := constantI S_ 32 0#32
  let main_v869 : FVec F S64x128 .f32 := (fun x u i => Host.dynamicUpdateSlice x u (fun k => (i k (Shape.Idx.first h_S_)).toInt) updateFits_S64x128_S1x128) main_v833 main_v868 (![main_c_191, main_c_192] : Fin 2 → IVec S_ 32)
  let main_v870 : FVec F S256 .f32 := (fun a b => concatenate S256 0 [⟨S128, a⟩, ⟨S128, b⟩] concatenates_S128_S128_S256_d0) main_v865 main_arg0
  let main_v871 : FVec F S512 .f32 := (fun l r => Host.dotGeneral dot_S512x256_S256_S512_1_0_0_n_n_n none l r) main_arg2 main_v870
  let main_v872 : FVec F S512 .f32 := addf main_v871 main_arg4
  let main_v873 : FVec F S512 .f32 := (fun l r => Host.dotGeneral dot_S512x128_S128_S512_1_0_0_n_n_n none l r) main_arg3 main_v867
  let main_v874 : FVec F S512 .f32 := addf main_v872 main_v873
  let main_v875 : FVec F S512 .f32 := addf main_v874 main_arg5
  let main_v876 : FVec F S128 .f32 := (extractStridedSlice S128 ![0] · slices_S512_S128_0) main_v875
  let main_v877 : FVec F S128 .f32 := (extractStridedSlice S128 ![128] · slices_S512_S128_128) main_v875
  let main_v878 : FVec F S128 .f32 := (extractStridedSlice S128 ![256] · slices_S512_S128_256) main_v875
  let main_v879 : FVec F S128 .f32 := (extractStridedSlice S128 ![384] · slices_S512_S128_384) main_v875
  let main_v880 : FVec F S128 .f32 := Host.negf main_v876
  let main_v881 : FVec F S128 .f32 := Host.exp main_v880
  let main_cst_193 : FVec F S_ .f32 := constant S_ .f32 0x3F800000#32
  let main_v882 : FVec F S128 .f32 := broadcastInDim S128 ![] bcast_S_S128 main_cst_193
  let main_v883 : FVec F S128 .f32 := addf main_v882 main_v881
  fn_part45 (F := F) main_arg0 main_arg1 main_arg2 main_arg3 main_arg4 main_arg5 main_v865 main_v869 main_v877 main_v878 main_v879 main_v883

def fn_part43 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v829 : FVec F S128 .f32) (main_v833 : FVec F S64x128 .f32) (main_v841 : FVec F S128 .f32) (main_v842 : FVec F S128 .f32) (main_v843 : FVec F S128 .f32) (main_v844 : FVec F S128 .f32) : IVec S64x128 1 × IVec S64x1 1 :=
  let main_v845 : FVec F S128 .f32 := Host.exp main_v844
  let main_cst_185 : FVec F S_ .f32 := constant S_ .f32 0x3F800000#32
  let main_v846 : FVec F S128 .f32 := broadcastInDim S128 ![] bcast_S_S128 main_cst_185
  let main_v847 : FVec F S128 .f32 := addf main_v846 main_v845
  let main_cst_186 : FVec F S_ .f32 := constant S_ .f32 0x3F800000#32
  let main_v848 : FVec F S128 .f32 := broadcastInDim S128 ![] bcast_S_S128 main_cst_186
  let main_v849 : FVec F S128 .f32 := Host.divf main_v848 main_v847
  let main_v850 : FVec F S128 .f32 := Host.negf main_v841
  let main_v851 : FVec F S128 .f32 := Host.exp main_v850
  let main_cst_187 : FVec F S_ .f32 := constant S_ .f32 0x3F800000#32
  let main_v852 : FVec F S128 .f32 := broadcastInDim S128 ![] bcast_S_S128 main_cst_187
  let main_v853 : FVec F S128 .f32 := addf main_v852 main_v851
  let main_cst_188 : FVec F S_ .f32 := constant S_ .f32 0x3F800000#32
  let main_v854 : FVec F S128 .f32 := broadcastInDim S128 ![] bcast_S_S128 main_cst_188
  let main_v855 : FVec F S128 .f32 := Host.divf main_v854 main_v853
  let main_v856 : FVec F S128 .f32 := Host.tanh main_v842
  let main_v857 : FVec F S128 .f32 := Host.negf main_v843
  let main_v858 : FVec F S128 .f32 := Host.exp main_v857
  let main_cst_189 : FVec F S_ .f32 := constant S_ .f32 0x3F800000#32
  let main_v859 : FVec F S128 .f32 := broadcastInDim S128 ![] bcast_S_S128 main_cst_189
  let main_v860 : FVec F S128 .f32 := addf main_v859 main_v858
  let main_cst_190 : FVec F S_ .f32 := constant S_ .f32 0x3F800000#32
  let main_v861 : FVec F S128 .f32 := broadcastInDim S128 ![] bcast_S_S128 main_cst_190
  let main_v862 : FVec F S128 .f32 := Host.divf main_v861 main_v860
  fn_part44 (F := F) main_arg0 main_arg1 main_arg2 main_arg3 main_arg4 main_arg5 main_v829 main_v833 main_v849 main_v855 main_v856 main_v862

def fn_part42 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v793 : FVec F S128 .f32) (main_v797 : FVec F S64x128 .f32) (main_v813 : FVec F S128 .f32) (main_v819 : FVec F S128 .f32) (main_v820 : FVec F S128 .f32) (main_v822 : FVec F S128 .f32) (main_v823 : FVec F S128 .f32) : IVec S64x128 1 × IVec S64x1 1 :=
  let main_v824 : FVec F S128 .f32 := addf main_v823 main_v822
  let main_cst_182 : FVec F S_ .f32 := constant S_ .f32 0x3F800000#32
  let main_v825 : FVec F S128 .f32 := broadcastInDim S128 ![] bcast_S_S128 main_cst_182
  let main_v826 : FVec F S128 .f32 := Host.divf main_v825 main_v824
  let main_v827 : FVec F S128 .f32 := mulf main_v819 main_v793
  let main_v828 : FVec F S128 .f32 := mulf main_v813 main_v820
  let main_v829 : FVec F S128 .f32 := addf main_v827 main_v828
  let main_v830 : FVec F S128 .f32 := Host.tanh main_v829
  let main_v831 : FVec F S128 .f32 := mulf main_v826 main_v830
  let main_v832 : FVec F S1x128 .f32 := broadcastInDim S1x128 ![1] bcast_S128_S1x128_1 main_v829
  let main_c_183 : IVec S_ 32 := constantI S_ 32 22#32
  let main_c_184 : IVec S_ 32 := constantI S_ 32 0#32
  let main_v833 : FVec F S64x128 .f32 := (fun x u i => Host.dynamicUpdateSlice x u (fun k => (i k (Shape.Idx.first h_S_)).toInt) updateFits_S64x128_S1x128) main_v797 main_v832 (![main_c_183, main_c_184] : Fin 2 → IVec S_ 32)
  let main_v834 : FVec F S256 .f32 := (fun a b => concatenate S256 0 [⟨S128, a⟩, ⟨S128, b⟩] concatenates_S128_S128_S256_d0) main_v829 main_arg0
  let main_v835 : FVec F S512 .f32 := (fun l r => Host.dotGeneral dot_S512x256_S256_S512_1_0_0_n_n_n none l r) main_arg2 main_v834
  let main_v836 : FVec F S512 .f32 := addf main_v835 main_arg4
  let main_v837 : FVec F S512 .f32 := (fun l r => Host.dotGeneral dot_S512x128_S128_S512_1_0_0_n_n_n none l r) main_arg3 main_v831
  let main_v838 : FVec F S512 .f32 := addf main_v836 main_v837
  let main_v839 : FVec F S512 .f32 := addf main_v838 main_arg5
  let main_v840 : FVec F S128 .f32 := (extractStridedSlice S128 ![0] · slices_S512_S128_0) main_v839
  let main_v841 : FVec F S128 .f32 := (extractStridedSlice S128 ![128] · slices_S512_S128_128) main_v839
  let main_v842 : FVec F S128 .f32 := (extractStridedSlice S128 ![256] · slices_S512_S128_256) main_v839
  let main_v843 : FVec F S128 .f32 := (extractStridedSlice S128 ![384] · slices_S512_S128_384) main_v839
  let main_v844 : FVec F S128 .f32 := Host.negf main_v840
  fn_part43 (F := F) main_arg0 main_arg1 main_arg2 main_arg3 main_arg4 main_arg5 main_v829 main_v833 main_v841 main_v842 main_v843 main_v844

def fn_part41 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v793 : FVec F S128 .f32) (main_v797 : FVec F S64x128 .f32) (main_v803 : FVec F S512 .f32) (main_v804 : FVec F S128 .f32) : IVec S64x128 1 × IVec S64x1 1 :=
  let main_v805 : FVec F S128 .f32 := (extractStridedSlice S128 ![128] · slices_S512_S128_128) main_v803
  let main_v806 : FVec F S128 .f32 := (extractStridedSlice S128 ![256] · slices_S512_S128_256) main_v803
  let main_v807 : FVec F S128 .f32 := (extractStridedSlice S128 ![384] · slices_S512_S128_384) main_v803
  let main_v808 : FVec F S128 .f32 := Host.negf main_v804
  let main_v809 : FVec F S128 .f32 := Host.exp main_v808
  let main_cst_177 : FVec F S_ .f32 := constant S_ .f32 0x3F800000#32
  let main_v810 : FVec F S128 .f32 := broadcastInDim S128 ![] bcast_S_S128 main_cst_177
  let main_v811 : FVec F S128 .f32 := addf main_v810 main_v809
  let main_cst_178 : FVec F S_ .f32 := constant S_ .f32 0x3F800000#32
  let main_v812 : FVec F S128 .f32 := broadcastInDim S128 ![] bcast_S_S128 main_cst_178
  let main_v813 : FVec F S128 .f32 := Host.divf main_v812 main_v811
  let main_v814 : FVec F S128 .f32 := Host.negf main_v805
  let main_v815 : FVec F S128 .f32 := Host.exp main_v814
  let main_cst_179 : FVec F S_ .f32 := constant S_ .f32 0x3F800000#32
  let main_v816 : FVec F S128 .f32 := broadcastInDim S128 ![] bcast_S_S128 main_cst_179
  let main_v817 : FVec F S128 .f32 := addf main_v816 main_v815
  let main_cst_180 : FVec F S_ .f32 := constant S_ .f32 0x3F800000#32
  let main_v818 : FVec F S128 .f32 := broadcastInDim S128 ![] bcast_S_S128 main_cst_180
  let main_v819 : FVec F S128 .f32 := Host.divf main_v818 main_v817
  let main_v820 : FVec F S128 .f32 := Host.tanh main_v806
  let main_v821 : FVec F S128 .f32 := Host.negf main_v807
  let main_v822 : FVec F S128 .f32 := Host.exp main_v821
  let main_cst_181 : FVec F S_ .f32 := constant S_ .f32 0x3F800000#32
  let main_v823 : FVec F S128 .f32 := broadcastInDim S128 ![] bcast_S_S128 main_cst_181
  fn_part42 (F := F) main_arg0 main_arg1 main_arg2 main_arg3 main_arg4 main_arg5 main_v793 main_v797 main_v813 main_v819 main_v820 main_v822 main_v823

def fn_part40 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v757 : FVec F S128 .f32) (main_v761 : FVec F S64x128 .f32) (main_v771 : FVec F S128 .f32) (main_v777 : FVec F S128 .f32) (main_v783 : FVec F S128 .f32) (main_v784 : FVec F S128 .f32) : IVec S64x128 1 × IVec S64x1 1 :=
  let main_v785 : FVec F S128 .f32 := Host.negf main_v771
  let main_v786 : FVec F S128 .f32 := Host.exp main_v785
  let main_cst_173 : FVec F S_ .f32 := constant S_ .f32 0x3F800000#32
  let main_v787 : FVec F S128 .f32 := broadcastInDim S128 ![] bcast_S_S128 main_cst_173
  let main_v788 : FVec F S128 .f32 := addf main_v787 main_v786
  let main_cst_174 : FVec F S_ .f32 := constant S_ .f32 0x3F800000#32
  let main_v789 : FVec F S128 .f32 := broadcastInDim S128 ![] bcast_S_S128 main_cst_174
  let main_v790 : FVec F S128 .f32 := Host.divf main_v789 main_v788
  let main_v791 : FVec F S128 .f32 := mulf main_v783 main_v757
  let main_v792 : FVec F S128 .f32 := mulf main_v777 main_v784
  let main_v793 : FVec F S128 .f32 := addf main_v791 main_v792
  let main_v794 : FVec F S128 .f32 := Host.tanh main_v793
  let main_v795 : FVec F S128 .f32 := mulf main_v790 main_v794
  let main_v796 : FVec F S1x128 .f32 := broadcastInDim S1x128 ![1] bcast_S128_S1x128_1 main_v793
  let main_c_175 : IVec S_ 32 := constantI S_ 32 21#32
  let main_c_176 : IVec S_ 32 := constantI S_ 32 0#32
  let main_v797 : FVec F S64x128 .f32 := (fun x u i => Host.dynamicUpdateSlice x u (fun k => (i k (Shape.Idx.first h_S_)).toInt) updateFits_S64x128_S1x128) main_v761 main_v796 (![main_c_175, main_c_176] : Fin 2 → IVec S_ 32)
  let main_v798 : FVec F S256 .f32 := (fun a b => concatenate S256 0 [⟨S128, a⟩, ⟨S128, b⟩] concatenates_S128_S128_S256_d0) main_v793 main_arg0
  let main_v799 : FVec F S512 .f32 := (fun l r => Host.dotGeneral dot_S512x256_S256_S512_1_0_0_n_n_n none l r) main_arg2 main_v798
  let main_v800 : FVec F S512 .f32 := addf main_v799 main_arg4
  let main_v801 : FVec F S512 .f32 := (fun l r => Host.dotGeneral dot_S512x128_S128_S512_1_0_0_n_n_n none l r) main_arg3 main_v795
  let main_v802 : FVec F S512 .f32 := addf main_v800 main_v801
  let main_v803 : FVec F S512 .f32 := addf main_v802 main_arg5
  let main_v804 : FVec F S128 .f32 := (extractStridedSlice S128 ![0] · slices_S512_S128_0) main_v803
  fn_part41 (F := F) main_arg0 main_arg1 main_arg2 main_arg3 main_arg4 main_arg5 main_v793 main_v797 main_v803 main_v804

def fn_part39 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v757 : FVec F S128 .f32) (main_v759 : FVec F S128 .f32) (main_v761 : FVec F S64x128 .f32) (main_v764 : FVec F S512 .f32) : IVec S64x128 1 × IVec S64x1 1 :=
  let main_v765 : FVec F S512 .f32 := (fun l r => Host.dotGeneral dot_S512x128_S128_S512_1_0_0_n_n_n none l r) main_arg3 main_v759
  let main_v766 : FVec F S512 .f32 := addf main_v764 main_v765
  let main_v767 : FVec F S512 .f32 := addf main_v766 main_arg5
  let main_v768 : FVec F S128 .f32 := (extractStridedSlice S128 ![0] · slices_S512_S128_0) main_v767
  let main_v769 : FVec F S128 .f32 := (extractStridedSlice S128 ![128] · slices_S512_S128_128) main_v767
  let main_v770 : FVec F S128 .f32 := (extractStridedSlice S128 ![256] · slices_S512_S128_256) main_v767
  let main_v771 : FVec F S128 .f32 := (extractStridedSlice S128 ![384] · slices_S512_S128_384) main_v767
  let main_v772 : FVec F S128 .f32 := Host.negf main_v768
  let main_v773 : FVec F S128 .f32 := Host.exp main_v772
  let main_cst_169 : FVec F S_ .f32 := constant S_ .f32 0x3F800000#32
  let main_v774 : FVec F S128 .f32 := broadcastInDim S128 ![] bcast_S_S128 main_cst_169
  let main_v775 : FVec F S128 .f32 := addf main_v774 main_v773
  let main_cst_170 : FVec F S_ .f32 := constant S_ .f32 0x3F800000#32
  let main_v776 : FVec F S128 .f32 := broadcastInDim S128 ![] bcast_S_S128 main_cst_170
  let main_v777 : FVec F S128 .f32 := Host.divf main_v776 main_v775
  let main_v778 : FVec F S128 .f32 := Host.negf main_v769
  let main_v779 : FVec F S128 .f32 := Host.exp main_v778
  let main_cst_171 : FVec F S_ .f32 := constant S_ .f32 0x3F800000#32
  let main_v780 : FVec F S128 .f32 := broadcastInDim S128 ![] bcast_S_S128 main_cst_171
  let main_v781 : FVec F S128 .f32 := addf main_v780 main_v779
  let main_cst_172 : FVec F S_ .f32 := constant S_ .f32 0x3F800000#32
  let main_v782 : FVec F S128 .f32 := broadcastInDim S128 ![] bcast_S_S128 main_cst_172
  let main_v783 : FVec F S128 .f32 := Host.divf main_v782 main_v781
  let main_v784 : FVec F S128 .f32 := Host.tanh main_v770
  fn_part40 (F := F) main_arg0 main_arg1 main_arg2 main_arg3 main_arg4 main_arg5 main_v757 main_v761 main_v771 main_v777 main_v783 main_v784

def fn_part38 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v721 : FVec F S128 .f32) (main_v725 : FVec F S64x128 .f32) (main_v734 : FVec F S128 .f32) (main_v735 : FVec F S128 .f32) (main_v741 : FVec F S128 .f32) (main_v745 : FVec F S128 .f32) : IVec S64x128 1 × IVec S64x1 1 :=
  let main_cst_164 : FVec F S_ .f32 := constant S_ .f32 0x3F800000#32
  let main_v746 : FVec F S128 .f32 := broadcastInDim S128 ![] bcast_S_S128 main_cst_164
  let main_v747 : FVec F S128 .f32 := Host.divf main_v746 main_v745
  let main_v748 : FVec F S128 .f32 := Host.tanh main_v734
  let main_v749 : FVec F S128 .f32 := Host.negf main_v735
  let main_v750 : FVec F S128 .f32 := Host.exp main_v749
  let main_cst_165 : FVec F S_ .f32 := constant S_ .f32 0x3F800000#32
  let main_v751 : FVec F S128 .f32 := broadcastInDim S128 ![] bcast_S_S128 main_cst_165
  let main_v752 : FVec F S128 .f32 := addf main_v751 main_v750
  let main_cst_166 : FVec F S_ .f32 := constant S_ .f32 0x3F800000#32
  let main_v753 : FVec F S128 .f32 := broadcastInDim S128 ![] bcast_S_S128 main_cst_166
  let main_v754 : FVec F S128 .f32 := Host.divf main_v753 main_v752
  let main_v755 : FVec F S128 .f32 := mulf main_v747 main_v721
  let main_v756 : FVec F S128 .f32 := mulf main_v741 main_v748
  let main_v757 : FVec F S128 .f32 := addf main_v755 main_v756
  let main_v758 : FVec F S128 .f32 := Host.tanh main_v757
  let main_v759 : FVec F S128 .f32 := mulf main_v754 main_v758
  let main_v760 : FVec F S1x128 .f32 := broadcastInDim S1x128 ![1] bcast_S128_S1x128_1 main_v757
  let main_c_167 : IVec S_ 32 := constantI S_ 32 20#32
  let main_c_168 : IVec S_ 32 := constantI S_ 32 0#32
  let main_v761 : FVec F S64x128 .f32 := (fun x u i => Host.dynamicUpdateSlice x u (fun k => (i k (Shape.Idx.first h_S_)).toInt) updateFits_S64x128_S1x128) main_v725 main_v760 (![main_c_167, main_c_168] : Fin 2 → IVec S_ 32)
  let main_v762 : FVec F S256 .f32 := (fun a b => concatenate S256 0 [⟨S128, a⟩, ⟨S128, b⟩] concatenates_S128_S128_S256_d0) main_v757 main_arg0
  let main_v763 : FVec F S512 .f32 := (fun l r => Host.dotGeneral dot_S512x256_S256_S512_1_0_0_n_n_n none l r) main_arg2 main_v762
  let main_v764 : FVec F S512 .f32 := addf main_v763 main_arg4
  fn_part39 (F := F) main_arg0 main_arg1 main_arg2 main_arg3 main_arg4 main_arg5 main_v757 main_v759 main_v761 main_v764

def fn_part37 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v689 : FVec F S64x128 .f32) (main_v721 : FVec F S128 .f32) (main_v723 : FVec F S128 .f32) (main_v724 : FVec F S1x128 .f32) (main_c_159 : IVec S_ 32) (main_c_160 : IVec S_ 32) : IVec S64x128 1 × IVec S64x1 1 :=
  let main_v725 : FVec F S64x128 .f32 := (fun x u i => Host.dynamicUpdateSlice x u (fun k => (i k (Shape.Idx.first h_S_)).toInt) updateFits_S64x128_S1x128) main_v689 main_v724 (![main_c_159, main_c_160] : Fin 2 → IVec S_ 32)
  let main_v726 : FVec F S256 .f32 := (fun a b => concatenate S256 0 [⟨S128, a⟩, ⟨S128, b⟩] concatenates_S128_S128_S256_d0) main_v721 main_arg0
  let main_v727 : FVec F S512 .f32 := (fun l r => Host.dotGeneral dot_S512x256_S256_S512_1_0_0_n_n_n none l r) main_arg2 main_v726
  let main_v728 : FVec F S512 .f32 := addf main_v727 main_arg4
  let main_v729 : FVec F S512 .f32 := (fun l r => Host.dotGeneral dot_S512x128_S128_S512_1_0_0_n_n_n none l r) main_arg3 main_v723
  let main_v730 : FVec F S512 .f32 := addf main_v728 main_v729
  let main_v731 : FVec F S512 .f32 := addf main_v730 main_arg5
  let main_v732 : FVec F S128 .f32 := (extractStridedSlice S128 ![0] · slices_S512_S128_0) main_v731
  let main_v733 : FVec F S128 .f32 := (extractStridedSlice S128 ![128] · slices_S512_S128_128) main_v731
  let main_v734 : FVec F S128 .f32 := (extractStridedSlice S128 ![256] · slices_S512_S128_256) main_v731
  let main_v735 : FVec F S128 .f32 := (extractStridedSlice S128 ![384] · slices_S512_S128_384) main_v731
  let main_v736 : FVec F S128 .f32 := Host.negf main_v732
  let main_v737 : FVec F S128 .f32 := Host.exp main_v736
  let main_cst_161 : FVec F S_ .f32 := constant S_ .f32 0x3F800000#32
  let main_v738 : FVec F S128 .f32 := broadcastInDim S128 ![] bcast_S_S128 main_cst_161
  let main_v739 : FVec F S128 .f32 := addf main_v738 main_v737
  let main_cst_162 : FVec F S_ .f32 := constant S_ .f32 0x3F800000#32
  let main_v740 : FVec F S128 .f32 := broadcastInDim S128 ![] bcast_S_S128 main_cst_162
  let main_v741 : FVec F S128 .f32 := Host.divf main_v740 main_v739
  let main_v742 : FVec F S128 .f32 := Host.negf main_v733
  let main_v743 : FVec F S128 .f32 := Host.exp main_v742
  let main_cst_163 : FVec F S_ .f32 := constant S_ .f32 0x3F800000#32
  let main_v744 : FVec F S128 .f32 := broadcastInDim S128 ![] bcast_S_S128 main_cst_163
  let main_v745 : FVec F S128 .f32 := addf main_v744 main_v743
  fn_part38 (F := F) main_arg0 main_arg1 main_arg2 main_arg3 main_arg4 main_arg5 main_v721 main_v725 main_v734 main_v735 main_v741 main_v745

def fn_part36 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v685 : FVec F S128 .f32) (main_v689 : FVec F S64x128 .f32) (main_v698 : FVec F S128 .f32) (main_v699 : FVec F S128 .f32) (main_v705 : FVec F S128 .f32) (main_v706 : FVec F S128 .f32) : IVec S64x128 1 × IVec S64x1 1 :=
  let main_v707 : FVec F S128 .f32 := Host.exp main_v706
  let main_cst_155 : FVec F S_ .f32 := constant S_ .f32 0x3F800000#32
  let main_v708 : FVec F S128 .f32 := broadcastInDim S128 ![] bcast_S_S128 main_cst_155
  let main_v709 : FVec F S128 .f32 := addf main_v708 main_v707
  let main_cst_156 : FVec F S_ .f32 := constant S_ .f32 0x3F800000#32
  let main_v710 : FVec F S128 .f32 := broadcastInDim S128 ![] bcast_S_S128 main_cst_156
  let main_v711 : FVec F S128 .f32 := Host.divf main_v710 main_v709
  let main_v712 : FVec F S128 .f32 := Host.tanh main_v698
  let main_v713 : FVec F S128 .f32 := Host.negf main_v699
  let main_v714 : FVec F S128 .f32 := Host.exp main_v713
  let main_cst_157 : FVec F S_ .f32 := constant S_ .f32 0x3F800000#32
  let main_v715 : FVec F S128 .f32 := broadcastInDim S128 ![] bcast_S_S128 main_cst_157
  let main_v716 : FVec F S128 .f32 := addf main_v715 main_v714
  let main_cst_158 : FVec F S_ .f32 := constant S_ .f32 0x3F800000#32
  let main_v717 : FVec F S128 .f32 := broadcastInDim S128 ![] bcast_S_S128 main_cst_158
  let main_v718 : FVec F S128 .f32 := Host.divf main_v717 main_v716
  let main_v719 : FVec F S128 .f32 := mulf main_v711 main_v685
  let main_v720 : FVec F S128 .f32 := mulf main_v705 main_v712
  let main_v721 : FVec F S128 .f32 := addf main_v719 main_v720
  let main_v722 : FVec F S128 .f32 := Host.tanh main_v721
  let main_v723 : FVec F S128 .f32 := mulf main_v718 main_v722
  let main_v724 : FVec F S1x128 .f32 := broadcastInDim S1x128 ![1] bcast_S128_S1x128_1 main_v721
  let main_c_159 : IVec S_ 32 := constantI S_ 32 19#32
  let main_c_160 : IVec S_ 32 := constantI S_ 32 0#32
  fn_part37 (F := F) main_arg0 main_arg1 main_arg2 main_arg3 main_arg4 main_arg5 main_v689 main_v721 main_v723 main_v724 main_c_159 main_c_160

def fn_part35 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v653 : FVec F S64x128 .f32) (main_v682 : FVec F S128 .f32) (main_v685 : FVec F S128 .f32) (main_v686 : FVec F S128 .f32) : IVec S64x128 1 × IVec S64x1 1 :=
  let main_v687 : FVec F S128 .f32 := mulf main_v682 main_v686
  let main_v688 : FVec F S1x128 .f32 := broadcastInDim S1x128 ![1] bcast_S128_S1x128_1 main_v685
  let main_c_151 : IVec S_ 32 := constantI S_ 32 18#32
  let main_c_152 : IVec S_ 32 := constantI S_ 32 0#32
  let main_v689 : FVec F S64x128 .f32 := (fun x u i => Host.dynamicUpdateSlice x u (fun k => (i k (Shape.Idx.first h_S_)).toInt) updateFits_S64x128_S1x128) main_v653 main_v688 (![main_c_151, main_c_152] : Fin 2 → IVec S_ 32)
  let main_v690 : FVec F S256 .f32 := (fun a b => concatenate S256 0 [⟨S128, a⟩, ⟨S128, b⟩] concatenates_S128_S128_S256_d0) main_v685 main_arg0
  let main_v691 : FVec F S512 .f32 := (fun l r => Host.dotGeneral dot_S512x256_S256_S512_1_0_0_n_n_n none l r) main_arg2 main_v690
  let main_v692 : FVec F S512 .f32 := addf main_v691 main_arg4
  let main_v693 : FVec F S512 .f32 := (fun l r => Host.dotGeneral dot_S512x128_S128_S512_1_0_0_n_n_n none l r) main_arg3 main_v687
  let main_v694 : FVec F S512 .f32 := addf main_v692 main_v693
  let main_v695 : FVec F S512 .f32 := addf main_v694 main_arg5
  let main_v696 : FVec F S128 .f32 := (extractStridedSlice S128 ![0] · slices_S512_S128_0) main_v695
  let main_v697 : FVec F S128 .f32 := (extractStridedSlice S128 ![128] · slices_S512_S128_128) main_v695
  let main_v698 : FVec F S128 .f32 := (extractStridedSlice S128 ![256] · slices_S512_S128_256) main_v695
  let main_v699 : FVec F S128 .f32 := (extractStridedSlice S128 ![384] · slices_S512_S128_384) main_v695
  let main_v700 : FVec F S128 .f32 := Host.negf main_v696
  let main_v701 : FVec F S128 .f32 := Host.exp main_v700
  let main_cst_153 : FVec F S_ .f32 := constant S_ .f32 0x3F800000#32
  let main_v702 : FVec F S128 .f32 := broadcastInDim S128 ![] bcast_S_S128 main_cst_153
  let main_v703 : FVec F S128 .f32 := addf main_v702 main_v701
  let main_cst_154 : FVec F S_ .f32 := constant S_ .f32 0x3F800000#32
  let main_v704 : FVec F S128 .f32 := broadcastInDim S128 ![] bcast_S_S128 main_cst_154
  let main_v705 : FVec F S128 .f32 := Host.divf main_v704 main_v703
  let main_v706 : FVec F S128 .f32 := Host.negf main_v697
  fn_part36 (F := F) main_arg0 main_arg1 main_arg2 main_arg3 main_arg4 main_arg5 main_v685 main_v689 main_v698 main_v699 main_v705 main_v706

def fn_part34 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v649 : FVec F S128 .f32) (main_v653 : FVec F S64x128 .f32) (main_v661 : FVec F S128 .f32) (main_v662 : FVec F S128 .f32) (main_v663 : FVec F S128 .f32) (main_v667 : FVec F S128 .f32) : IVec S64x128 1 × IVec S64x1 1 :=
  let main_cst_146 : FVec F S_ .f32 := constant S_ .f32 0x3F800000#32
  let main_v668 : FVec F S128 .f32 := broadcastInDim S128 ![] bcast_S_S128 main_cst_146
  let main_v669 : FVec F S128 .f32 := Host.divf main_v668 main_v667
  let main_v670 : FVec F S128 .f32 := Host.negf main_v661
  let main_v671 : FVec F S128 .f32 := Host.exp main_v670
  let main_cst_147 : FVec F S_ .f32 := constant S_ .f32 0x3F800000#32
  let main_v672 : FVec F S128 .f32 := broadcastInDim S128 ![] bcast_S_S128 main_cst_147
  let main_v673 : FVec F S128 .f32 := addf main_v672 main_v671
  let main_cst_148 : FVec F S_ .f32 := constant S_ .f32 0x3F800000#32
  let main_v674 : FVec F S128 .f32 := broadcastInDim S128 ![] bcast_S_S128 main_cst_148
  let main_v675 : FVec F S128 .f32 := Host.divf main_v674 main_v673
  let main_v676 : FVec F S128 .f32 := Host.tanh main_v662
  let main_v677 : FVec F S128 .f32 := Host.negf main_v663
  let main_v678 : FVec F S128 .f32 := Host.exp main_v677
  let main_cst_149 : FVec F S_ .f32 := constant S_ .f32 0x3F800000#32
  let main_v679 : FVec F S128 .f32 := broadcastInDim S128 ![] bcast_S_S128 main_cst_149
  let main_v680 : FVec F S128 .f32 := addf main_v679 main_v678
  let main_cst_150 : FVec F S_ .f32 := constant S_ .f32 0x3F800000#32
  let main_v681 : FVec F S128 .f32 := broadcastInDim S128 ![] bcast_S_S128 main_cst_150
  let main_v682 : FVec F S128 .f32 := Host.divf main_v681 main_v680
  let main_v683 : FVec F S128 .f32 := mulf main_v675 main_v649
  let main_v684 : FVec F S128 .f32 := mulf main_v669 main_v676
  let main_v685 : FVec F S128 .f32 := addf main_v683 main_v684
  let main_v686 : FVec F S128 .f32 := Host.tanh main_v685
  fn_part35 (F := F) main_arg0 main_arg1 main_arg2 main_arg3 main_arg4 main_arg5 main_v653 main_v682 main_v685 main_v686

def fn_part33 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v613 : FVec F S128 .f32) (main_v617 : FVec F S64x128 .f32) (main_v633 : FVec F S128 .f32) (main_v639 : FVec F S128 .f32) (main_v640 : FVec F S128 .f32) (main_v646 : FVec F S128 .f32) : IVec S64x128 1 × IVec S64x1 1 :=
  let main_v647 : FVec F S128 .f32 := mulf main_v639 main_v613
  let main_v648 : FVec F S128 .f32 := mulf main_v633 main_v640
  let main_v649 : FVec F S128 .f32 := addf main_v647 main_v648
  let main_v650 : FVec F S128 .f32 := Host.tanh main_v649
  let main_v651 : FVec F S128 .f32 := mulf main_v646 main_v650
  let main_v652 : FVec F S1x128 .f32 := broadcastInDim S1x128 ![1] bcast_S128_S1x128_1 main_v649
  let main_c_143 : IVec S_ 32 := constantI S_ 32 17#32
  let main_c_144 : IVec S_ 32 := constantI S_ 32 0#32
  let main_v653 : FVec F S64x128 .f32 := (fun x u i => Host.dynamicUpdateSlice x u (fun k => (i k (Shape.Idx.first h_S_)).toInt) updateFits_S64x128_S1x128) main_v617 main_v652 (![main_c_143, main_c_144] : Fin 2 → IVec S_ 32)
  let main_v654 : FVec F S256 .f32 := (fun a b => concatenate S256 0 [⟨S128, a⟩, ⟨S128, b⟩] concatenates_S128_S128_S256_d0) main_v649 main_arg0
  let main_v655 : FVec F S512 .f32 := (fun l r => Host.dotGeneral dot_S512x256_S256_S512_1_0_0_n_n_n none l r) main_arg2 main_v654
  let main_v656 : FVec F S512 .f32 := addf main_v655 main_arg4
  let main_v657 : FVec F S512 .f32 := (fun l r => Host.dotGeneral dot_S512x128_S128_S512_1_0_0_n_n_n none l r) main_arg3 main_v651
  let main_v658 : FVec F S512 .f32 := addf main_v656 main_v657
  let main_v659 : FVec F S512 .f32 := addf main_v658 main_arg5
  let main_v660 : FVec F S128 .f32 := (extractStridedSlice S128 ![0] · slices_S512_S128_0) main_v659
  let main_v661 : FVec F S128 .f32 := (extractStridedSlice S128 ![128] · slices_S512_S128_128) main_v659
  let main_v662 : FVec F S128 .f32 := (extractStridedSlice S128 ![256] · slices_S512_S128_256) main_v659
  let main_v663 : FVec F S128 .f32 := (extractStridedSlice S128 ![384] · slices_S512_S128_384) main_v659
  let main_v664 : FVec F S128 .f32 := Host.negf main_v660
  let main_v665 : FVec F S128 .f32 := Host.exp main_v664
  let main_cst_145 : FVec F S_ .f32 := constant S_ .f32 0x3F800000#32
  let main_v666 : FVec F S128 .f32 := broadcastInDim S128 ![] bcast_S_S128 main_cst_145
  let main_v667 : FVec F S128 .f32 := addf main_v666 main_v665
  fn_part34 (F := F) main_arg0 main_arg1 main_arg2 main_arg3 main_arg4 main_arg5 main_v649 main_v653 main_v661 main_v662 main_v663 main_v667

def fn_part32 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v613 : FVec F S128 .f32) (main_v617 : FVec F S64x128 .f32) (main_v625 : FVec F S128 .f32) (main_v626 : FVec F S128 .f32) (main_v627 : FVec F S128 .f32) (main_v628 : FVec F S128 .f32) : IVec S64x128 1 × IVec S64x1 1 :=
  let main_v629 : FVec F S128 .f32 := Host.exp main_v628
  let main_cst_137 : FVec F S_ .f32 := constant S_ .f32 0x3F800000#32
  let main_v630 : FVec F S128 .f32 := broadcastInDim S128 ![] bcast_S_S128 main_cst_137
  let main_v631 : FVec F S128 .f32 := addf main_v630 main_v629
  let main_cst_138 : FVec F S_ .f32 := constant S_ .f32 0x3F800000#32
  let main_v632 : FVec F S128 .f32 := broadcastInDim S128 ![] bcast_S_S128 main_cst_138
  let main_v633 : FVec F S128 .f32 := Host.divf main_v632 main_v631
  let main_v634 : FVec F S128 .f32 := Host.negf main_v625
  let main_v635 : FVec F S128 .f32 := Host.exp main_v634
  let main_cst_139 : FVec F S_ .f32 := constant S_ .f32 0x3F800000#32
  let main_v636 : FVec F S128 .f32 := broadcastInDim S128 ![] bcast_S_S128 main_cst_139
  let main_v637 : FVec F S128 .f32 := addf main_v636 main_v635
  let main_cst_140 : FVec F S_ .f32 := constant S_ .f32 0x3F800000#32
  let main_v638 : FVec F S128 .f32 := broadcastInDim S128 ![] bcast_S_S128 main_cst_140
  let main_v639 : FVec F S128 .f32 := Host.divf main_v638 main_v637
  let main_v640 : FVec F S128 .f32 := Host.tanh main_v626
  let main_v641 : FVec F S128 .f32 := Host.negf main_v627
  let main_v642 : FVec F S128 .f32 := Host.exp main_v641
  let main_cst_141 : FVec F S_ .f32 := constant S_ .f32 0x3F800000#32
  let main_v643 : FVec F S128 .f32 := broadcastInDim S128 ![] bcast_S_S128 main_cst_141
  let main_v644 : FVec F S128 .f32 := addf main_v643 main_v642
  let main_cst_142 : FVec F S_ .f32 := constant S_ .f32 0x3F800000#32
  let main_v645 : FVec F S128 .f32 := broadcastInDim S128 ![] bcast_S_S128 main_cst_142
  let main_v646 : FVec F S128 .f32 := Host.divf main_v645 main_v644
  fn_part33 (F := F) main_arg0 main_arg1 main_arg2 main_arg3 main_arg4 main_arg5 main_v613 main_v617 main_v633 main_v639 main_v640 main_v646

def fn_part31 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v577 : FVec F S128 .f32) (main_v581 : FVec F S64x128 .f32) (main_v597 : FVec F S128 .f32) (main_v603 : FVec F S128 .f32) (main_v604 : FVec F S128 .f32) (main_v606 : FVec F S128 .f32) (main_v607 : FVec F S128 .f32) : IVec S64x128 1 × IVec S64x1 1 :=
  let main_v608 : FVec F S128 .f32 := addf main_v607 main_v606
  let main_cst_134 : FVec F S_ .f32 := constant S_ .f32 0x3F800000#32
  let main_v609 : FVec F S128 .f32 := broadcastInDim S128 ![] bcast_S_S128 main_cst_134
  let main_v610 : FVec F S128 .f32 := Host.divf main_v609 main_v608
  let main_v611 : FVec F S128 .f32 := mulf main_v603 main_v577
  let main_v612 : FVec F S128 .f32 := mulf main_v597 main_v604
  let main_v613 : FVec F S128 .f32 := addf main_v611 main_v612
  let main_v614 : FVec F S128 .f32 := Host.tanh main_v613
  let main_v615 : FVec F S128 .f32 := mulf main_v610 main_v614
  let main_v616 : FVec F S1x128 .f32 := broadcastInDim S1x128 ![1] bcast_S128_S1x128_1 main_v613
  let main_c_135 : IVec S_ 32 := constantI S_ 32 16#32
  let main_c_136 : IVec S_ 32 := constantI S_ 32 0#32
  let main_v617 : FVec F S64x128 .f32 := (fun x u i => Host.dynamicUpdateSlice x u (fun k => (i k (Shape.Idx.first h_S_)).toInt) updateFits_S64x128_S1x128) main_v581 main_v616 (![main_c_135, main_c_136] : Fin 2 → IVec S_ 32)
  let main_v618 : FVec F S256 .f32 := (fun a b => concatenate S256 0 [⟨S128, a⟩, ⟨S128, b⟩] concatenates_S128_S128_S256_d0) main_v613 main_arg0
  let main_v619 : FVec F S512 .f32 := (fun l r => Host.dotGeneral dot_S512x256_S256_S512_1_0_0_n_n_n none l r) main_arg2 main_v618
  let main_v620 : FVec F S512 .f32 := addf main_v619 main_arg4
  let main_v621 : FVec F S512 .f32 := (fun l r => Host.dotGeneral dot_S512x128_S128_S512_1_0_0_n_n_n none l r) main_arg3 main_v615
  let main_v622 : FVec F S512 .f32 := addf main_v620 main_v621
  let main_v623 : FVec F S512 .f32 := addf main_v622 main_arg5
  let main_v624 : FVec F S128 .f32 := (extractStridedSlice S128 ![0] · slices_S512_S128_0) main_v623
  let main_v625 : FVec F S128 .f32 := (extractStridedSlice S128 ![128] · slices_S512_S128_128) main_v623
  let main_v626 : FVec F S128 .f32 := (extractStridedSlice S128 ![256] · slices_S512_S128_256) main_v623
  let main_v627 : FVec F S128 .f32 := (extractStridedSlice S128 ![384] · slices_S512_S128_384) main_v623
  let main_v628 : FVec F S128 .f32 := Host.negf main_v624
  fn_part32 (F := F) main_arg0 main_arg1 main_arg2 main_arg3 main_arg4 main_arg5 main_v613 main_v617 main_v625 main_v626 main_v627 main_v628

def fn_part30 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v577 : FVec F S128 .f32) (main_v581 : FVec F S64x128 .f32) (main_v587 : FVec F S512 .f32) (main_v588 : FVec F S128 .f32) : IVec S64x128 1 × IVec S64x1 1 :=
  let main_v589 : FVec F S128 .f32 := (extractStridedSlice S128 ![128] · slices_S512_S128_128) main_v587
  let main_v590 : FVec F S128 .f32 := (extractStridedSlice S128 ![256] · slices_S512_S128_256) main_v587
  let main_v591 : FVec F S128 .f32 := (extractStridedSlice S128 ![384] · slices_S512_S128_384) main_v587
  let main_v592 : FVec F S128 .f32 := Host.negf main_v588
  let main_v593 : FVec F S128 .f32 := Host.exp main_v592
  let main_cst_129 : FVec F S_ .f32 := constant S_ .f32 0x3F800000#32
  let main_v594 : FVec F S128 .f32 := broadcastInDim S128 ![] bcast_S_S128 main_cst_129
  let main_v595 : FVec F S128 .f32 := addf main_v594 main_v593
  let main_cst_130 : FVec F S_ .f32 := constant S_ .f32 0x3F800000#32
  let main_v596 : FVec F S128 .f32 := broadcastInDim S128 ![] bcast_S_S128 main_cst_130
  let main_v597 : FVec F S128 .f32 := Host.divf main_v596 main_v595
  let main_v598 : FVec F S128 .f32 := Host.negf main_v589
  let main_v599 : FVec F S128 .f32 := Host.exp main_v598
  let main_cst_131 : FVec F S_ .f32 := constant S_ .f32 0x3F800000#32
  let main_v600 : FVec F S128 .f32 := broadcastInDim S128 ![] bcast_S_S128 main_cst_131
  let main_v601 : FVec F S128 .f32 := addf main_v600 main_v599
  let main_cst_132 : FVec F S_ .f32 := constant S_ .f32 0x3F800000#32
  let main_v602 : FVec F S128 .f32 := broadcastInDim S128 ![] bcast_S_S128 main_cst_132
  let main_v603 : FVec F S128 .f32 := Host.divf main_v602 main_v601
  let main_v604 : FVec F S128 .f32 := Host.tanh main_v590
  let main_v605 : FVec F S128 .f32 := Host.negf main_v591
  let main_v606 : FVec F S128 .f32 := Host.exp main_v605
  let main_cst_133 : FVec F S_ .f32 := constant S_ .f32 0x3F800000#32
  let main_v607 : FVec F S128 .f32 := broadcastInDim S128 ![] bcast_S_S128 main_cst_133
  fn_part31 (F := F) main_arg0 main_arg1 main_arg2 main_arg3 main_arg4 main_arg5 main_v577 main_v581 main_v597 main_v603 main_v604 main_v606 main_v607

def fn_part29 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v541 : FVec F S128 .f32) (main_v545 : FVec F S64x128 .f32) (main_v555 : FVec F S128 .f32) (main_v561 : FVec F S128 .f32) (main_v567 : FVec F S128 .f32) (main_v568 : FVec F S128 .f32) : IVec S64x128 1 × IVec S64x1 1 :=
  let main_v569 : FVec F S128 .f32 := Host.negf main_v555
  let main_v570 : FVec F S128 .f32 := Host.exp main_v569
  let main_cst_125 : FVec F S_ .f32 := constant S_ .f32 0x3F800000#32
  let main_v571 : FVec F S128 .f32 := broadcastInDim S128 ![] bcast_S_S128 main_cst_125
  let main_v572 : FVec F S128 .f32 := addf main_v571 main_v570
  let main_cst_126 : FVec F S_ .f32 := constant S_ .f32 0x3F800000#32
  let main_v573 : FVec F S128 .f32 := broadcastInDim S128 ![] bcast_S_S128 main_cst_126
  let main_v574 : FVec F S128 .f32 := Host.divf main_v573 main_v572
  let main_v575 : FVec F S128 .f32 := mulf main_v567 main_v541
  let main_v576 : FVec F S128 .f32 := mulf main_v561 main_v568
  let main_v577 : FVec F S128 .f32 := addf main_v575 main_v576
  let main_v578 : FVec F S128 .f32 := Host.tanh main_v577
  let main_v579 : FVec F S128 .f32 := mulf main_v574 main_v578
  let main_v580 : FVec F S1x128 .f32 := broadcastInDim S1x128 ![1] bcast_S128_S1x128_1 main_v577
  let main_c_127 : IVec S_ 32 := constantI S_ 32 15#32
  let main_c_128 : IVec S_ 32 := constantI S_ 32 0#32
  let main_v581 : FVec F S64x128 .f32 := (fun x u i => Host.dynamicUpdateSlice x u (fun k => (i k (Shape.Idx.first h_S_)).toInt) updateFits_S64x128_S1x128) main_v545 main_v580 (![main_c_127, main_c_128] : Fin 2 → IVec S_ 32)
  let main_v582 : FVec F S256 .f32 := (fun a b => concatenate S256 0 [⟨S128, a⟩, ⟨S128, b⟩] concatenates_S128_S128_S256_d0) main_v577 main_arg0
  let main_v583 : FVec F S512 .f32 := (fun l r => Host.dotGeneral dot_S512x256_S256_S512_1_0_0_n_n_n none l r) main_arg2 main_v582
  let main_v584 : FVec F S512 .f32 := addf main_v583 main_arg4
  let main_v585 : FVec F S512 .f32 := (fun l r => Host.dotGeneral dot_S512x128_S128_S512_1_0_0_n_n_n none l r) main_arg3 main_v579
  let main_v586 : FVec F S512 .f32 := addf main_v584 main_v585
  let main_v587 : FVec F S512 .f32 := addf main_v586 main_arg5
  let main_v588 : FVec F S128 .f32 := (extractStridedSlice S128 ![0] · slices_S512_S128_0) main_v587
  fn_part30 (F := F) main_arg0 main_arg1 main_arg2 main_arg3 main_arg4 main_arg5 main_v577 main_v581 main_v587 main_v588

def fn_part28 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v541 : FVec F S128 .f32) (main_v543 : FVec F S128 .f32) (main_v545 : FVec F S64x128 .f32) (main_v548 : FVec F S512 .f32) : IVec S64x128 1 × IVec S64x1 1 :=
  let main_v549 : FVec F S512 .f32 := (fun l r => Host.dotGeneral dot_S512x128_S128_S512_1_0_0_n_n_n none l r) main_arg3 main_v543
  let main_v550 : FVec F S512 .f32 := addf main_v548 main_v549
  let main_v551 : FVec F S512 .f32 := addf main_v550 main_arg5
  let main_v552 : FVec F S128 .f32 := (extractStridedSlice S128 ![0] · slices_S512_S128_0) main_v551
  let main_v553 : FVec F S128 .f32 := (extractStridedSlice S128 ![128] · slices_S512_S128_128) main_v551
  let main_v554 : FVec F S128 .f32 := (extractStridedSlice S128 ![256] · slices_S512_S128_256) main_v551
  let main_v555 : FVec F S128 .f32 := (extractStridedSlice S128 ![384] · slices_S512_S128_384) main_v551
  let main_v556 : FVec F S128 .f32 := Host.negf main_v552
  let main_v557 : FVec F S128 .f32 := Host.exp main_v556
  let main_cst_121 : FVec F S_ .f32 := constant S_ .f32 0x3F800000#32
  let main_v558 : FVec F S128 .f32 := broadcastInDim S128 ![] bcast_S_S128 main_cst_121
  let main_v559 : FVec F S128 .f32 := addf main_v558 main_v557
  let main_cst_122 : FVec F S_ .f32 := constant S_ .f32 0x3F800000#32
  let main_v560 : FVec F S128 .f32 := broadcastInDim S128 ![] bcast_S_S128 main_cst_122
  let main_v561 : FVec F S128 .f32 := Host.divf main_v560 main_v559
  let main_v562 : FVec F S128 .f32 := Host.negf main_v553
  let main_v563 : FVec F S128 .f32 := Host.exp main_v562
  let main_cst_123 : FVec F S_ .f32 := constant S_ .f32 0x3F800000#32
  let main_v564 : FVec F S128 .f32 := broadcastInDim S128 ![] bcast_S_S128 main_cst_123
  let main_v565 : FVec F S128 .f32 := addf main_v564 main_v563
  let main_cst_124 : FVec F S_ .f32 := constant S_ .f32 0x3F800000#32
  let main_v566 : FVec F S128 .f32 := broadcastInDim S128 ![] bcast_S_S128 main_cst_124
  let main_v567 : FVec F S128 .f32 := Host.divf main_v566 main_v565
  let main_v568 : FVec F S128 .f32 := Host.tanh main_v554
  fn_part29 (F := F) main_arg0 main_arg1 main_arg2 main_arg3 main_arg4 main_arg5 main_v541 main_v545 main_v555 main_v561 main_v567 main_v568

def fn_part27 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v505 : FVec F S128 .f32) (main_v509 : FVec F S64x128 .f32) (main_v518 : FVec F S128 .f32) (main_v519 : FVec F S128 .f32) (main_v525 : FVec F S128 .f32) (main_v529 : FVec F S128 .f32) : IVec S64x128 1 × IVec S64x1 1 :=
  let main_cst_116 : FVec F S_ .f32 := constant S_ .f32 0x3F800000#32
  let main_v530 : FVec F S128 .f32 := broadcastInDim S128 ![] bcast_S_S128 main_cst_116
  let main_v531 : FVec F S128 .f32 := Host.divf main_v530 main_v529
  let main_v532 : FVec F S128 .f32 := Host.tanh main_v518
  let main_v533 : FVec F S128 .f32 := Host.negf main_v519
  let main_v534 : FVec F S128 .f32 := Host.exp main_v533
  let main_cst_117 : FVec F S_ .f32 := constant S_ .f32 0x3F800000#32
  let main_v535 : FVec F S128 .f32 := broadcastInDim S128 ![] bcast_S_S128 main_cst_117
  let main_v536 : FVec F S128 .f32 := addf main_v535 main_v534
  let main_cst_118 : FVec F S_ .f32 := constant S_ .f32 0x3F800000#32
  let main_v537 : FVec F S128 .f32 := broadcastInDim S128 ![] bcast_S_S128 main_cst_118
  let main_v538 : FVec F S128 .f32 := Host.divf main_v537 main_v536
  let main_v539 : FVec F S128 .f32 := mulf main_v531 main_v505
  let main_v540 : FVec F S128 .f32 := mulf main_v525 main_v532
  let main_v541 : FVec F S128 .f32 := addf main_v539 main_v540
  let main_v542 : FVec F S128 .f32 := Host.tanh main_v541
  let main_v543 : FVec F S128 .f32 := mulf main_v538 main_v542
  let main_v544 : FVec F S1x128 .f32 := broadcastInDim S1x128 ![1] bcast_S128_S1x128_1 main_v541
  let main_c_119 : IVec S_ 32 := constantI S_ 32 14#32
  let main_c_120 : IVec S_ 32 := constantI S_ 32 0#32
  let main_v545 : FVec F S64x128 .f32 := (fun x u i => Host.dynamicUpdateSlice x u (fun k => (i k (Shape.Idx.first h_S_)).toInt) updateFits_S64x128_S1x128) main_v509 main_v544 (![main_c_119, main_c_120] : Fin 2 → IVec S_ 32)
  let main_v546 : FVec F S256 .f32 := (fun a b => concatenate S256 0 [⟨S128, a⟩, ⟨S128, b⟩] concatenates_S128_S128_S256_d0) main_v541 main_arg0
  let main_v547 : FVec F S512 .f32 := (fun l r => Host.dotGeneral dot_S512x256_S256_S512_1_0_0_n_n_n none l r) main_arg2 main_v546
  let main_v548 : FVec F S512 .f32 := addf main_v547 main_arg4
  fn_part28 (F := F) main_arg0 main_arg1 main_arg2 main_arg3 main_arg4 main_arg5 main_v541 main_v543 main_v545 main_v548

def fn_part26 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v473 : FVec F S64x128 .f32) (main_v505 : FVec F S128 .f32) (main_v507 : FVec F S128 .f32) (main_v508 : FVec F S1x128 .f32) (main_c_111 : IVec S_ 32) (main_c_112 : IVec S_ 32) : IVec S64x128 1 × IVec S64x1 1 :=
  let main_v509 : FVec F S64x128 .f32 := (fun x u i => Host.dynamicUpdateSlice x u (fun k => (i k (Shape.Idx.first h_S_)).toInt) updateFits_S64x128_S1x128) main_v473 main_v508 (![main_c_111, main_c_112] : Fin 2 → IVec S_ 32)
  let main_v510 : FVec F S256 .f32 := (fun a b => concatenate S256 0 [⟨S128, a⟩, ⟨S128, b⟩] concatenates_S128_S128_S256_d0) main_v505 main_arg0
  let main_v511 : FVec F S512 .f32 := (fun l r => Host.dotGeneral dot_S512x256_S256_S512_1_0_0_n_n_n none l r) main_arg2 main_v510
  let main_v512 : FVec F S512 .f32 := addf main_v511 main_arg4
  let main_v513 : FVec F S512 .f32 := (fun l r => Host.dotGeneral dot_S512x128_S128_S512_1_0_0_n_n_n none l r) main_arg3 main_v507
  let main_v514 : FVec F S512 .f32 := addf main_v512 main_v513
  let main_v515 : FVec F S512 .f32 := addf main_v514 main_arg5
  let main_v516 : FVec F S128 .f32 := (extractStridedSlice S128 ![0] · slices_S512_S128_0) main_v515
  let main_v517 : FVec F S128 .f32 := (extractStridedSlice S128 ![128] · slices_S512_S128_128) main_v515
  let main_v518 : FVec F S128 .f32 := (extractStridedSlice S128 ![256] · slices_S512_S128_256) main_v515
  let main_v519 : FVec F S128 .f32 := (extractStridedSlice S128 ![384] · slices_S512_S128_384) main_v515
  let main_v520 : FVec F S128 .f32 := Host.negf main_v516
  let main_v521 : FVec F S128 .f32 := Host.exp main_v520
  let main_cst_113 : FVec F S_ .f32 := constant S_ .f32 0x3F800000#32
  let main_v522 : FVec F S128 .f32 := broadcastInDim S128 ![] bcast_S_S128 main_cst_113
  let main_v523 : FVec F S128 .f32 := addf main_v522 main_v521
  let main_cst_114 : FVec F S_ .f32 := constant S_ .f32 0x3F800000#32
  let main_v524 : FVec F S128 .f32 := broadcastInDim S128 ![] bcast_S_S128 main_cst_114
  let main_v525 : FVec F S128 .f32 := Host.divf main_v524 main_v523
  let main_v526 : FVec F S128 .f32 := Host.negf main_v517
  let main_v527 : FVec F S128 .f32 := Host.exp main_v526
  let main_cst_115 : FVec F S_ .f32 := constant S_ .f32 0x3F800000#32
  let main_v528 : FVec F S128 .f32 := broadcastInDim S128 ![] bcast_S_S128 main_cst_115
  let main_v529 : FVec F S128 .f32 := addf main_v528 main_v527
  fn_part27 (F := F) main_arg0 main_arg1 main_arg2 main_arg3 main_arg4 main_arg5 main_v505 main_v509 main_v518 main_v519 main_v525 main_v529

def fn_part25 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v469 : FVec F S128 .f32) (main_v473 : FVec F S64x128 .f32) (main_v482 : FVec F S128 .f32) (main_v483 : FVec F S128 .f32) (main_v489 : FVec F S128 .f32) (main_v490 : FVec F S128 .f32) : IVec S64x128 1 × IVec S64x1 1 :=
  let main_v491 : FVec F S128 .f32 := Host.exp main_v490
  let main_cst_107 : FVec F S_ .f32 := constant S_ .f32 0x3F800000#32
  let main_v492 : FVec F S128 .f32 := broadcastInDim S128 ![] bcast_S_S128 main_cst_107
  let main_v493 : FVec F S128 .f32 := addf main_v492 main_v491
  let main_cst_108 : FVec F S_ .f32 := constant S_ .f32 0x3F800000#32
  let main_v494 : FVec F S128 .f32 := broadcastInDim S128 ![] bcast_S_S128 main_cst_108
  let main_v495 : FVec F S128 .f32 := Host.divf main_v494 main_v493
  let main_v496 : FVec F S128 .f32 := Host.tanh main_v482
  let main_v497 : FVec F S128 .f32 := Host.negf main_v483
  let main_v498 : FVec F S128 .f32 := Host.exp main_v497
  let main_cst_109 : FVec F S_ .f32 := constant S_ .f32 0x3F800000#32
  let main_v499 : FVec F S128 .f32 := broadcastInDim S128 ![] bcast_S_S128 main_cst_109
  let main_v500 : FVec F S128 .f32 := addf main_v499 main_v498
  let main_cst_110 : FVec F S_ .f32 := constant S_ .f32 0x3F800000#32
  let main_v501 : FVec F S128 .f32 := broadcastInDim S128 ![] bcast_S_S128 main_cst_110
  let main_v502 : FVec F S128 .f32 := Host.divf main_v501 main_v500
  let main_v503 : FVec F S128 .f32 := mulf main_v495 main_v469
  let main_v504 : FVec F S128 .f32 := mulf main_v489 main_v496
  let main_v505 : FVec F S128 .f32 := addf main_v503 main_v504
  let main_v506 : FVec F S128 .f32 := Host.tanh main_v505
  let main_v507 : FVec F S128 .f32 := mulf main_v502 main_v506
  let main_v508 : FVec F S1x128 .f32 := broadcastInDim S1x128 ![1] bcast_S128_S1x128_1 main_v505
  let main_c_111 : IVec S_ 32 := constantI S_ 32 13#32
  let main_c_112 : IVec S_ 32 := constantI S_ 32 0#32
  fn_part26 (F := F) main_arg0 main_arg1 main_arg2 main_arg3 main_arg4 main_arg5 main_v473 main_v505 main_v507 main_v508 main_c_111 main_c_112

def fn_part24 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v437 : FVec F S64x128 .f32) (main_v466 : FVec F S128 .f32) (main_v469 : FVec F S128 .f32) (main_v470 : FVec F S128 .f32) : IVec S64x128 1 × IVec S64x1 1 :=
  let main_v471 : FVec F S128 .f32 := mulf main_v466 main_v470
  let main_v472 : FVec F S1x128 .f32 := broadcastInDim S1x128 ![1] bcast_S128_S1x128_1 main_v469
  let main_c_103 : IVec S_ 32 := constantI S_ 32 12#32
  let main_c_104 : IVec S_ 32 := constantI S_ 32 0#32
  let main_v473 : FVec F S64x128 .f32 := (fun x u i => Host.dynamicUpdateSlice x u (fun k => (i k (Shape.Idx.first h_S_)).toInt) updateFits_S64x128_S1x128) main_v437 main_v472 (![main_c_103, main_c_104] : Fin 2 → IVec S_ 32)
  let main_v474 : FVec F S256 .f32 := (fun a b => concatenate S256 0 [⟨S128, a⟩, ⟨S128, b⟩] concatenates_S128_S128_S256_d0) main_v469 main_arg0
  let main_v475 : FVec F S512 .f32 := (fun l r => Host.dotGeneral dot_S512x256_S256_S512_1_0_0_n_n_n none l r) main_arg2 main_v474
  let main_v476 : FVec F S512 .f32 := addf main_v475 main_arg4
  let main_v477 : FVec F S512 .f32 := (fun l r => Host.dotGeneral dot_S512x128_S128_S512_1_0_0_n_n_n none l r) main_arg3 main_v471
  let main_v478 : FVec F S512 .f32 := addf main_v476 main_v477
  let main_v479 : FVec F S512 .f32 := addf main_v478 main_arg5
  let main_v480 : FVec F S128 .f32 := (extractStridedSlice S128 ![0] · slices_S512_S128_0) main_v479
  let main_v481 : FVec F S128 .f32 := (extractStridedSlice S128 ![128] · slices_S512_S128_128) main_v479
  let main_v482 : FVec F S128 .f32 := (extractStridedSlice S128 ![256] · slices_S512_S128_256) main_v479
  let main_v483 : FVec F S128 .f32 := (extractStridedSlice S128 ![384] · slices_S512_S128_384) main_v479
  let main_v484 : FVec F S128 .f32 := Host.negf main_v480
  let main_v485 : FVec F S128 .f32 := Host.exp main_v484
  let main_cst_105 : FVec F S_ .f32 := constant S_ .f32 0x3F800000#32
  let main_v486 : FVec F S128 .f32 := broadcastInDim S128 ![] bcast_S_S128 main_cst_105
  let main_v487 : FVec F S128 .f32 := addf main_v486 main_v485
  let main_cst_106 : FVec F S_ .f32 := constant S_ .f32 0x3F800000#32
  let main_v488 : FVec F S128 .f32 := broadcastInDim S128 ![] bcast_S_S128 main_cst_106
  let main_v489 : FVec F S128 .f32 := Host.divf main_v488 main_v487
  let main_v490 : FVec F S128 .f32 := Host.negf main_v481
  fn_part25 (F := F) main_arg0 main_arg1 main_arg2 main_arg3 main_arg4 main_arg5 main_v469 main_v473 main_v482 main_v483 main_v489 main_v490

def fn_part23 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v433 : FVec F S128 .f32) (main_v437 : FVec F S64x128 .f32) (main_v445 : FVec F S128 .f32) (main_v446 : FVec F S128 .f32) (main_v447 : FVec F S128 .f32) (main_v451 : FVec F S128 .f32) : IVec S64x128 1 × IVec S64x1 1 :=
  let main_cst_98 : FVec F S_ .f32 := constant S_ .f32 0x3F800000#32
  let main_v452 : FVec F S128 .f32 := broadcastInDim S128 ![] bcast_S_S128 main_cst_98
  let main_v453 : FVec F S128 .f32 := Host.divf main_v452 main_v451
  let main_v454 : FVec F S128 .f32 := Host.negf main_v445
  let main_v455 : FVec F S128 .f32 := Host.exp main_v454
  let main_cst_99 : FVec F S_ .f32 := constant S_ .f32 0x3F800000#32
  let main_v456 : FVec F S128 .f32 := broadcastInDim S128 ![] bcast_S_S128 main_cst_99
  let main_v457 : FVec F S128 .f32 := addf main_v456 main_v455
  let main_cst_100 : FVec F S_ .f32 := constant S_ .f32 0x3F800000#32
  let main_v458 : FVec F S128 .f32 := broadcastInDim S128 ![] bcast_S_S128 main_cst_100
  let main_v459 : FVec F S128 .f32 := Host.divf main_v458 main_v457
  let main_v460 : FVec F S128 .f32 := Host.tanh main_v446
  let main_v461 : FVec F S128 .f32 := Host.negf main_v447
  let main_v462 : FVec F S128 .f32 := Host.exp main_v461
  let main_cst_101 : FVec F S_ .f32 := constant S_ .f32 0x3F800000#32
  let main_v463 : FVec F S128 .f32 := broadcastInDim S128 ![] bcast_S_S128 main_cst_101
  let main_v464 : FVec F S128 .f32 := addf main_v463 main_v462
  let main_cst_102 : FVec F S_ .f32 := constant S_ .f32 0x3F800000#32
  let main_v465 : FVec F S128 .f32 := broadcastInDim S128 ![] bcast_S_S128 main_cst_102
  let main_v466 : FVec F S128 .f32 := Host.divf main_v465 main_v464
  let main_v467 : FVec F S128 .f32 := mulf main_v459 main_v433
  let main_v468 : FVec F S128 .f32 := mulf main_v453 main_v460
  let main_v469 : FVec F S128 .f32 := addf main_v467 main_v468
  let main_v470 : FVec F S128 .f32 := Host.tanh main_v469
  fn_part24 (F := F) main_arg0 main_arg1 main_arg2 main_arg3 main_arg4 main_arg5 main_v437 main_v466 main_v469 main_v470

def fn_part22 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v397 : FVec F S128 .f32) (main_v401 : FVec F S64x128 .f32) (main_v417 : FVec F S128 .f32) (main_v423 : FVec F S128 .f32) (main_v424 : FVec F S128 .f32) (main_v430 : FVec F S128 .f32) : IVec S64x128 1 × IVec S64x1 1 :=
  let main_v431 : FVec F S128 .f32 := mulf main_v423 main_v397
  let main_v432 : FVec F S128 .f32 := mulf main_v417 main_v424
  let main_v433 : FVec F S128 .f32 := addf main_v431 main_v432
  let main_v434 : FVec F S128 .f32 := Host.tanh main_v433
  let main_v435 : FVec F S128 .f32 := mulf main_v430 main_v434
  let main_v436 : FVec F S1x128 .f32 := broadcastInDim S1x128 ![1] bcast_S128_S1x128_1 main_v433
  let main_c_95 : IVec S_ 32 := constantI S_ 32 11#32
  let main_c_96 : IVec S_ 32 := constantI S_ 32 0#32
  let main_v437 : FVec F S64x128 .f32 := (fun x u i => Host.dynamicUpdateSlice x u (fun k => (i k (Shape.Idx.first h_S_)).toInt) updateFits_S64x128_S1x128) main_v401 main_v436 (![main_c_95, main_c_96] : Fin 2 → IVec S_ 32)
  let main_v438 : FVec F S256 .f32 := (fun a b => concatenate S256 0 [⟨S128, a⟩, ⟨S128, b⟩] concatenates_S128_S128_S256_d0) main_v433 main_arg0
  let main_v439 : FVec F S512 .f32 := (fun l r => Host.dotGeneral dot_S512x256_S256_S512_1_0_0_n_n_n none l r) main_arg2 main_v438
  let main_v440 : FVec F S512 .f32 := addf main_v439 main_arg4
  let main_v441 : FVec F S512 .f32 := (fun l r => Host.dotGeneral dot_S512x128_S128_S512_1_0_0_n_n_n none l r) main_arg3 main_v435
  let main_v442 : FVec F S512 .f32 := addf main_v440 main_v441
  let main_v443 : FVec F S512 .f32 := addf main_v442 main_arg5
  let main_v444 : FVec F S128 .f32 := (extractStridedSlice S128 ![0] · slices_S512_S128_0) main_v443
  let main_v445 : FVec F S128 .f32 := (extractStridedSlice S128 ![128] · slices_S512_S128_128) main_v443
  let main_v446 : FVec F S128 .f32 := (extractStridedSlice S128 ![256] · slices_S512_S128_256) main_v443
  let main_v447 : FVec F S128 .f32 := (extractStridedSlice S128 ![384] · slices_S512_S128_384) main_v443
  let main_v448 : FVec F S128 .f32 := Host.negf main_v444
  let main_v449 : FVec F S128 .f32 := Host.exp main_v448
  let main_cst_97 : FVec F S_ .f32 := constant S_ .f32 0x3F800000#32
  let main_v450 : FVec F S128 .f32 := broadcastInDim S128 ![] bcast_S_S128 main_cst_97
  let main_v451 : FVec F S128 .f32 := addf main_v450 main_v449
  fn_part23 (F := F) main_arg0 main_arg1 main_arg2 main_arg3 main_arg4 main_arg5 main_v433 main_v437 main_v445 main_v446 main_v447 main_v451

def fn_part21 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v397 : FVec F S128 .f32) (main_v401 : FVec F S64x128 .f32) (main_v409 : FVec F S128 .f32) (main_v410 : FVec F S128 .f32) (main_v411 : FVec F S128 .f32) (main_v412 : FVec F S128 .f32) : IVec S64x128 1 × IVec S64x1 1 :=
  let main_v413 : FVec F S128 .f32 := Host.exp main_v412
  let main_cst_89 : FVec F S_ .f32 := constant S_ .f32 0x3F800000#32
  let main_v414 : FVec F S128 .f32 := broadcastInDim S128 ![] bcast_S_S128 main_cst_89
  let main_v415 : FVec F S128 .f32 := addf main_v414 main_v413
  let main_cst_90 : FVec F S_ .f32 := constant S_ .f32 0x3F800000#32
  let main_v416 : FVec F S128 .f32 := broadcastInDim S128 ![] bcast_S_S128 main_cst_90
  let main_v417 : FVec F S128 .f32 := Host.divf main_v416 main_v415
  let main_v418 : FVec F S128 .f32 := Host.negf main_v409
  let main_v419 : FVec F S128 .f32 := Host.exp main_v418
  let main_cst_91 : FVec F S_ .f32 := constant S_ .f32 0x3F800000#32
  let main_v420 : FVec F S128 .f32 := broadcastInDim S128 ![] bcast_S_S128 main_cst_91
  let main_v421 : FVec F S128 .f32 := addf main_v420 main_v419
  let main_cst_92 : FVec F S_ .f32 := constant S_ .f32 0x3F800000#32
  let main_v422 : FVec F S128 .f32 := broadcastInDim S128 ![] bcast_S_S128 main_cst_92
  let main_v423 : FVec F S128 .f32 := Host.divf main_v422 main_v421
  let main_v424 : FVec F S128 .f32 := Host.tanh main_v410
  let main_v425 : FVec F S128 .f32 := Host.negf main_v411
  let main_v426 : FVec F S128 .f32 := Host.exp main_v425
  let main_cst_93 : FVec F S_ .f32 := constant S_ .f32 0x3F800000#32
  let main_v427 : FVec F S128 .f32 := broadcastInDim S128 ![] bcast_S_S128 main_cst_93
  let main_v428 : FVec F S128 .f32 := addf main_v427 main_v426
  let main_cst_94 : FVec F S_ .f32 := constant S_ .f32 0x3F800000#32
  let main_v429 : FVec F S128 .f32 := broadcastInDim S128 ![] bcast_S_S128 main_cst_94
  let main_v430 : FVec F S128 .f32 := Host.divf main_v429 main_v428
  fn_part22 (F := F) main_arg0 main_arg1 main_arg2 main_arg3 main_arg4 main_arg5 main_v397 main_v401 main_v417 main_v423 main_v424 main_v430

def fn_part20 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v361 : FVec F S128 .f32) (main_v365 : FVec F S64x128 .f32) (main_v381 : FVec F S128 .f32) (main_v387 : FVec F S128 .f32) (main_v388 : FVec F S128 .f32) (main_v390 : FVec F S128 .f32) (main_v391 : FVec F S128 .f32) : IVec S64x128 1 × IVec S64x1 1 :=
  let main_v392 : FVec F S128 .f32 := addf main_v391 main_v390
  let main_cst_86 : FVec F S_ .f32 := constant S_ .f32 0x3F800000#32
  let main_v393 : FVec F S128 .f32 := broadcastInDim S128 ![] bcast_S_S128 main_cst_86
  let main_v394 : FVec F S128 .f32 := Host.divf main_v393 main_v392
  let main_v395 : FVec F S128 .f32 := mulf main_v387 main_v361
  let main_v396 : FVec F S128 .f32 := mulf main_v381 main_v388
  let main_v397 : FVec F S128 .f32 := addf main_v395 main_v396
  let main_v398 : FVec F S128 .f32 := Host.tanh main_v397
  let main_v399 : FVec F S128 .f32 := mulf main_v394 main_v398
  let main_v400 : FVec F S1x128 .f32 := broadcastInDim S1x128 ![1] bcast_S128_S1x128_1 main_v397
  let main_c_87 : IVec S_ 32 := constantI S_ 32 10#32
  let main_c_88 : IVec S_ 32 := constantI S_ 32 0#32
  let main_v401 : FVec F S64x128 .f32 := (fun x u i => Host.dynamicUpdateSlice x u (fun k => (i k (Shape.Idx.first h_S_)).toInt) updateFits_S64x128_S1x128) main_v365 main_v400 (![main_c_87, main_c_88] : Fin 2 → IVec S_ 32)
  let main_v402 : FVec F S256 .f32 := (fun a b => concatenate S256 0 [⟨S128, a⟩, ⟨S128, b⟩] concatenates_S128_S128_S256_d0) main_v397 main_arg0
  let main_v403 : FVec F S512 .f32 := (fun l r => Host.dotGeneral dot_S512x256_S256_S512_1_0_0_n_n_n none l r) main_arg2 main_v402
  let main_v404 : FVec F S512 .f32 := addf main_v403 main_arg4
  let main_v405 : FVec F S512 .f32 := (fun l r => Host.dotGeneral dot_S512x128_S128_S512_1_0_0_n_n_n none l r) main_arg3 main_v399
  let main_v406 : FVec F S512 .f32 := addf main_v404 main_v405
  let main_v407 : FVec F S512 .f32 := addf main_v406 main_arg5
  let main_v408 : FVec F S128 .f32 := (extractStridedSlice S128 ![0] · slices_S512_S128_0) main_v407
  let main_v409 : FVec F S128 .f32 := (extractStridedSlice S128 ![128] · slices_S512_S128_128) main_v407
  let main_v410 : FVec F S128 .f32 := (extractStridedSlice S128 ![256] · slices_S512_S128_256) main_v407
  let main_v411 : FVec F S128 .f32 := (extractStridedSlice S128 ![384] · slices_S512_S128_384) main_v407
  let main_v412 : FVec F S128 .f32 := Host.negf main_v408
  fn_part21 (F := F) main_arg0 main_arg1 main_arg2 main_arg3 main_arg4 main_arg5 main_v397 main_v401 main_v409 main_v410 main_v411 main_v412

def fn_part19 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v361 : FVec F S128 .f32) (main_v365 : FVec F S64x128 .f32) (main_v371 : FVec F S512 .f32) (main_v372 : FVec F S128 .f32) : IVec S64x128 1 × IVec S64x1 1 :=
  let main_v373 : FVec F S128 .f32 := (extractStridedSlice S128 ![128] · slices_S512_S128_128) main_v371
  let main_v374 : FVec F S128 .f32 := (extractStridedSlice S128 ![256] · slices_S512_S128_256) main_v371
  let main_v375 : FVec F S128 .f32 := (extractStridedSlice S128 ![384] · slices_S512_S128_384) main_v371
  let main_v376 : FVec F S128 .f32 := Host.negf main_v372
  let main_v377 : FVec F S128 .f32 := Host.exp main_v376
  let main_cst_81 : FVec F S_ .f32 := constant S_ .f32 0x3F800000#32
  let main_v378 : FVec F S128 .f32 := broadcastInDim S128 ![] bcast_S_S128 main_cst_81
  let main_v379 : FVec F S128 .f32 := addf main_v378 main_v377
  let main_cst_82 : FVec F S_ .f32 := constant S_ .f32 0x3F800000#32
  let main_v380 : FVec F S128 .f32 := broadcastInDim S128 ![] bcast_S_S128 main_cst_82
  let main_v381 : FVec F S128 .f32 := Host.divf main_v380 main_v379
  let main_v382 : FVec F S128 .f32 := Host.negf main_v373
  let main_v383 : FVec F S128 .f32 := Host.exp main_v382
  let main_cst_83 : FVec F S_ .f32 := constant S_ .f32 0x3F800000#32
  let main_v384 : FVec F S128 .f32 := broadcastInDim S128 ![] bcast_S_S128 main_cst_83
  let main_v385 : FVec F S128 .f32 := addf main_v384 main_v383
  let main_cst_84 : FVec F S_ .f32 := constant S_ .f32 0x3F800000#32
  let main_v386 : FVec F S128 .f32 := broadcastInDim S128 ![] bcast_S_S128 main_cst_84
  let main_v387 : FVec F S128 .f32 := Host.divf main_v386 main_v385
  let main_v388 : FVec F S128 .f32 := Host.tanh main_v374
  let main_v389 : FVec F S128 .f32 := Host.negf main_v375
  let main_v390 : FVec F S128 .f32 := Host.exp main_v389
  let main_cst_85 : FVec F S_ .f32 := constant S_ .f32 0x3F800000#32
  let main_v391 : FVec F S128 .f32 := broadcastInDim S128 ![] bcast_S_S128 main_cst_85
  fn_part20 (F := F) main_arg0 main_arg1 main_arg2 main_arg3 main_arg4 main_arg5 main_v361 main_v365 main_v381 main_v387 main_v388 main_v390 main_v391

def fn_part18 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v325 : FVec F S128 .f32) (main_v329 : FVec F S64x128 .f32) (main_v339 : FVec F S128 .f32) (main_v345 : FVec F S128 .f32) (main_v351 : FVec F S128 .f32) (main_v352 : FVec F S128 .f32) : IVec S64x128 1 × IVec S64x1 1 :=
  let main_v353 : FVec F S128 .f32 := Host.negf main_v339
  let main_v354 : FVec F S128 .f32 := Host.exp main_v353
  let main_cst_77 : FVec F S_ .f32 := constant S_ .f32 0x3F800000#32
  let main_v355 : FVec F S128 .f32 := broadcastInDim S128 ![] bcast_S_S128 main_cst_77
  let main_v356 : FVec F S128 .f32 := addf main_v355 main_v354
  let main_cst_78 : FVec F S_ .f32 := constant S_ .f32 0x3F800000#32
  let main_v357 : FVec F S128 .f32 := broadcastInDim S128 ![] bcast_S_S128 main_cst_78
  let main_v358 : FVec F S128 .f32 := Host.divf main_v357 main_v356
  let main_v359 : FVec F S128 .f32 := mulf main_v351 main_v325
  let main_v360 : FVec F S128 .f32 := mulf main_v345 main_v352
  let main_v361 : FVec F S128 .f32 := addf main_v359 main_v360
  let main_v362 : FVec F S128 .f32 := Host.tanh main_v361
  let main_v363 : FVec F S128 .f32 := mulf main_v358 main_v362
  let main_v364 : FVec F S1x128 .f32 := broadcastInDim S1x128 ![1] bcast_S128_S1x128_1 main_v361
  let main_c_79 : IVec S_ 32 := constantI S_ 32 9#32
  let main_c_80 : IVec S_ 32 := constantI S_ 32 0#32
  let main_v365 : FVec F S64x128 .f32 := (fun x u i => Host.dynamicUpdateSlice x u (fun k => (i k (Shape.Idx.first h_S_)).toInt) updateFits_S64x128_S1x128) main_v329 main_v364 (![main_c_79, main_c_80] : Fin 2 → IVec S_ 32)
  let main_v366 : FVec F S256 .f32 := (fun a b => concatenate S256 0 [⟨S128, a⟩, ⟨S128, b⟩] concatenates_S128_S128_S256_d0) main_v361 main_arg0
  let main_v367 : FVec F S512 .f32 := (fun l r => Host.dotGeneral dot_S512x256_S256_S512_1_0_0_n_n_n none l r) main_arg2 main_v366
  let main_v368 : FVec F S512 .f32 := addf main_v367 main_arg4
  let main_v369 : FVec F S512 .f32 := (fun l r => Host.dotGeneral dot_S512x128_S128_S512_1_0_0_n_n_n none l r) main_arg3 main_v363
  let main_v370 : FVec F S512 .f32 := addf main_v368 main_v369
  let main_v371 : FVec F S512 .f32 := addf main_v370 main_arg5
  let main_v372 : FVec F S128 .f32 := (extractStridedSlice S128 ![0] · slices_S512_S128_0) main_v371
  fn_part19 (F := F) main_arg0 main_arg1 main_arg2 main_arg3 main_arg4 main_arg5 main_v361 main_v365 main_v371 main_v372

def fn_part17 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v325 : FVec F S128 .f32) (main_v327 : FVec F S128 .f32) (main_v329 : FVec F S64x128 .f32) (main_v332 : FVec F S512 .f32) : IVec S64x128 1 × IVec S64x1 1 :=
  let main_v333 : FVec F S512 .f32 := (fun l r => Host.dotGeneral dot_S512x128_S128_S512_1_0_0_n_n_n none l r) main_arg3 main_v327
  let main_v334 : FVec F S512 .f32 := addf main_v332 main_v333
  let main_v335 : FVec F S512 .f32 := addf main_v334 main_arg5
  let main_v336 : FVec F S128 .f32 := (extractStridedSlice S128 ![0] · slices_S512_S128_0) main_v335
  let main_v337 : FVec F S128 .f32 := (extractStridedSlice S128 ![128] · slices_S512_S128_128) main_v335
  let main_v338 : FVec F S128 .f32 := (extractStridedSlice S128 ![256] · slices_S512_S128_256) main_v335
  let main_v339 : FVec F S128 .f32 := (extractStridedSlice S128 ![384] · slices_S512_S128_384) main_v335
  let main_v340 : FVec F S128 .f32 := Host.negf main_v336
  let main_v341 : FVec F S128 .f32 := Host.exp main_v340
  let main_cst_73 : FVec F S_ .f32 := constant S_ .f32 0x3F800000#32
  let main_v342 : FVec F S128 .f32 := broadcastInDim S128 ![] bcast_S_S128 main_cst_73
  let main_v343 : FVec F S128 .f32 := addf main_v342 main_v341
  let main_cst_74 : FVec F S_ .f32 := constant S_ .f32 0x3F800000#32
  let main_v344 : FVec F S128 .f32 := broadcastInDim S128 ![] bcast_S_S128 main_cst_74
  let main_v345 : FVec F S128 .f32 := Host.divf main_v344 main_v343
  let main_v346 : FVec F S128 .f32 := Host.negf main_v337
  let main_v347 : FVec F S128 .f32 := Host.exp main_v346
  let main_cst_75 : FVec F S_ .f32 := constant S_ .f32 0x3F800000#32
  let main_v348 : FVec F S128 .f32 := broadcastInDim S128 ![] bcast_S_S128 main_cst_75
  let main_v349 : FVec F S128 .f32 := addf main_v348 main_v347
  let main_cst_76 : FVec F S_ .f32 := constant S_ .f32 0x3F800000#32
  let main_v350 : FVec F S128 .f32 := broadcastInDim S128 ![] bcast_S_S128 main_cst_76
  let main_v351 : FVec F S128 .f32 := Host.divf main_v350 main_v349
  let main_v352 : FVec F S128 .f32 := Host.tanh main_v338
  fn_part18 (F := F) main_arg0 main_arg1 main_arg2 main_arg3 main_arg4 main_arg5 main_v325 main_v329 main_v339 main_v345 main_v351 main_v352

def fn_part16 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v289 : FVec F S128 .f32) (main_v293 : FVec F S64x128 .f32) (main_v302 : FVec F S128 .f32) (main_v303 : FVec F S128 .f32) (main_v309 : FVec F S128 .f32) (main_v313 : FVec F S128 .f32) : IVec S64x128 1 × IVec S64x1 1 :=
  let main_cst_68 : FVec F S_ .f32 := constant S_ .f32 0x3F800000#32
  let main_v314 : FVec F S128 .f32 := broadcastInDim S128 ![] bcast_S_S128 main_cst_68
  let main_v315 : FVec F S128 .f32 := Host.divf main_v314 main_v313
  let main_v316 : FVec F S128 .f32 := Host.tanh main_v302
  let main_v317 : FVec F S128 .f32 := Host.negf main_v303
  let main_v318 : FVec F S128 .f32 := Host.exp main_v317
  let main_cst_69 : FVec F S_ .f32 := constant S_ .f32 0x3F800000#32
  let main_v319 : FVec F S128 .f32 := broadcastInDim S128 ![] bcast_S_S128 main_cst_69
  let main_v320 : FVec F S128 .f32 := addf main_v319 main_v318
  let main_cst_70 : FVec F S_ .f32 := constant S_ .f32 0x3F800000#32
  let main_v321 : FVec F S128 .f32 := broadcastInDim S128 ![] bcast_S_S128 main_cst_70
  let main_v322 : FVec F S128 .f32 := Host.divf main_v321 main_v320
  let main_v323 : FVec F S128 .f32 := mulf main_v315 main_v289
  let main_v324 : FVec F S128 .f32 := mulf main_v309 main_v316
  let main_v325 : FVec F S128 .f32 := addf main_v323 main_v324
  let main_v326 : FVec F S128 .f32 := Host.tanh main_v325
  let main_v327 : FVec F S128 .f32 := mulf main_v322 main_v326
  let main_v328 : FVec F S1x128 .f32 := broadcastInDim S1x128 ![1] bcast_S128_S1x128_1 main_v325
  let main_c_71 : IVec S_ 32 := constantI S_ 32 8#32
  let main_c_72 : IVec S_ 32 := constantI S_ 32 0#32
  let main_v329 : FVec F S64x128 .f32 := (fun x u i => Host.dynamicUpdateSlice x u (fun k => (i k (Shape.Idx.first h_S_)).toInt) updateFits_S64x128_S1x128) main_v293 main_v328 (![main_c_71, main_c_72] : Fin 2 → IVec S_ 32)
  let main_v330 : FVec F S256 .f32 := (fun a b => concatenate S256 0 [⟨S128, a⟩, ⟨S128, b⟩] concatenates_S128_S128_S256_d0) main_v325 main_arg0
  let main_v331 : FVec F S512 .f32 := (fun l r => Host.dotGeneral dot_S512x256_S256_S512_1_0_0_n_n_n none l r) main_arg2 main_v330
  let main_v332 : FVec F S512 .f32 := addf main_v331 main_arg4
  fn_part17 (F := F) main_arg0 main_arg1 main_arg2 main_arg3 main_arg4 main_arg5 main_v325 main_v327 main_v329 main_v332

def fn_part15 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v257 : FVec F S64x128 .f32) (main_v289 : FVec F S128 .f32) (main_v291 : FVec F S128 .f32) (main_v292 : FVec F S1x128 .f32) (main_c_63 : IVec S_ 32) (main_c_64 : IVec S_ 32) : IVec S64x128 1 × IVec S64x1 1 :=
  let main_v293 : FVec F S64x128 .f32 := (fun x u i => Host.dynamicUpdateSlice x u (fun k => (i k (Shape.Idx.first h_S_)).toInt) updateFits_S64x128_S1x128) main_v257 main_v292 (![main_c_63, main_c_64] : Fin 2 → IVec S_ 32)
  let main_v294 : FVec F S256 .f32 := (fun a b => concatenate S256 0 [⟨S128, a⟩, ⟨S128, b⟩] concatenates_S128_S128_S256_d0) main_v289 main_arg0
  let main_v295 : FVec F S512 .f32 := (fun l r => Host.dotGeneral dot_S512x256_S256_S512_1_0_0_n_n_n none l r) main_arg2 main_v294
  let main_v296 : FVec F S512 .f32 := addf main_v295 main_arg4
  let main_v297 : FVec F S512 .f32 := (fun l r => Host.dotGeneral dot_S512x128_S128_S512_1_0_0_n_n_n none l r) main_arg3 main_v291
  let main_v298 : FVec F S512 .f32 := addf main_v296 main_v297
  let main_v299 : FVec F S512 .f32 := addf main_v298 main_arg5
  let main_v300 : FVec F S128 .f32 := (extractStridedSlice S128 ![0] · slices_S512_S128_0) main_v299
  let main_v301 : FVec F S128 .f32 := (extractStridedSlice S128 ![128] · slices_S512_S128_128) main_v299
  let main_v302 : FVec F S128 .f32 := (extractStridedSlice S128 ![256] · slices_S512_S128_256) main_v299
  let main_v303 : FVec F S128 .f32 := (extractStridedSlice S128 ![384] · slices_S512_S128_384) main_v299
  let main_v304 : FVec F S128 .f32 := Host.negf main_v300
  let main_v305 : FVec F S128 .f32 := Host.exp main_v304
  let main_cst_65 : FVec F S_ .f32 := constant S_ .f32 0x3F800000#32
  let main_v306 : FVec F S128 .f32 := broadcastInDim S128 ![] bcast_S_S128 main_cst_65
  let main_v307 : FVec F S128 .f32 := addf main_v306 main_v305
  let main_cst_66 : FVec F S_ .f32 := constant S_ .f32 0x3F800000#32
  let main_v308 : FVec F S128 .f32 := broadcastInDim S128 ![] bcast_S_S128 main_cst_66
  let main_v309 : FVec F S128 .f32 := Host.divf main_v308 main_v307
  let main_v310 : FVec F S128 .f32 := Host.negf main_v301
  let main_v311 : FVec F S128 .f32 := Host.exp main_v310
  let main_cst_67 : FVec F S_ .f32 := constant S_ .f32 0x3F800000#32
  let main_v312 : FVec F S128 .f32 := broadcastInDim S128 ![] bcast_S_S128 main_cst_67
  let main_v313 : FVec F S128 .f32 := addf main_v312 main_v311
  fn_part16 (F := F) main_arg0 main_arg1 main_arg2 main_arg3 main_arg4 main_arg5 main_v289 main_v293 main_v302 main_v303 main_v309 main_v313

def fn_part14 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v253 : FVec F S128 .f32) (main_v257 : FVec F S64x128 .f32) (main_v266 : FVec F S128 .f32) (main_v267 : FVec F S128 .f32) (main_v273 : FVec F S128 .f32) (main_v274 : FVec F S128 .f32) : IVec S64x128 1 × IVec S64x1 1 :=
  let main_v275 : FVec F S128 .f32 := Host.exp main_v274
  let main_cst_59 : FVec F S_ .f32 := constant S_ .f32 0x3F800000#32
  let main_v276 : FVec F S128 .f32 := broadcastInDim S128 ![] bcast_S_S128 main_cst_59
  let main_v277 : FVec F S128 .f32 := addf main_v276 main_v275
  let main_cst_60 : FVec F S_ .f32 := constant S_ .f32 0x3F800000#32
  let main_v278 : FVec F S128 .f32 := broadcastInDim S128 ![] bcast_S_S128 main_cst_60
  let main_v279 : FVec F S128 .f32 := Host.divf main_v278 main_v277
  let main_v280 : FVec F S128 .f32 := Host.tanh main_v266
  let main_v281 : FVec F S128 .f32 := Host.negf main_v267
  let main_v282 : FVec F S128 .f32 := Host.exp main_v281
  let main_cst_61 : FVec F S_ .f32 := constant S_ .f32 0x3F800000#32
  let main_v283 : FVec F S128 .f32 := broadcastInDim S128 ![] bcast_S_S128 main_cst_61
  let main_v284 : FVec F S128 .f32 := addf main_v283 main_v282
  let main_cst_62 : FVec F S_ .f32 := constant S_ .f32 0x3F800000#32
  let main_v285 : FVec F S128 .f32 := broadcastInDim S128 ![] bcast_S_S128 main_cst_62
  let main_v286 : FVec F S128 .f32 := Host.divf main_v285 main_v284
  let main_v287 : FVec F S128 .f32 := mulf main_v279 main_v253
  let main_v288 : FVec F S128 .f32 := mulf main_v273 main_v280
  let main_v289 : FVec F S128 .f32 := addf main_v287 main_v288
  let main_v290 : FVec F S128 .f32 := Host.tanh main_v289
  let main_v291 : FVec F S128 .f32 := mulf main_v286 main_v290
  let main_v292 : FVec F S1x128 .f32 := broadcastInDim S1x128 ![1] bcast_S128_S1x128_1 main_v289
  let main_c_63 : IVec S_ 32 := constantI S_ 32 7#32
  let main_c_64 : IVec S_ 32 := constantI S_ 32 0#32
  fn_part15 (F := F) main_arg0 main_arg1 main_arg2 main_arg3 main_arg4 main_arg5 main_v257 main_v289 main_v291 main_v292 main_c_63 main_c_64

def fn_part13 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v221 : FVec F S64x128 .f32) (main_v250 : FVec F S128 .f32) (main_v253 : FVec F S128 .f32) (main_v254 : FVec F S128 .f32) : IVec S64x128 1 × IVec S64x1 1 :=
  let main_v255 : FVec F S128 .f32 := mulf main_v250 main_v254
  let main_v256 : FVec F S1x128 .f32 := broadcastInDim S1x128 ![1] bcast_S128_S1x128_1 main_v253
  let main_c_55 : IVec S_ 32 := constantI S_ 32 6#32
  let main_c_56 : IVec S_ 32 := constantI S_ 32 0#32
  let main_v257 : FVec F S64x128 .f32 := (fun x u i => Host.dynamicUpdateSlice x u (fun k => (i k (Shape.Idx.first h_S_)).toInt) updateFits_S64x128_S1x128) main_v221 main_v256 (![main_c_55, main_c_56] : Fin 2 → IVec S_ 32)
  let main_v258 : FVec F S256 .f32 := (fun a b => concatenate S256 0 [⟨S128, a⟩, ⟨S128, b⟩] concatenates_S128_S128_S256_d0) main_v253 main_arg0
  let main_v259 : FVec F S512 .f32 := (fun l r => Host.dotGeneral dot_S512x256_S256_S512_1_0_0_n_n_n none l r) main_arg2 main_v258
  let main_v260 : FVec F S512 .f32 := addf main_v259 main_arg4
  let main_v261 : FVec F S512 .f32 := (fun l r => Host.dotGeneral dot_S512x128_S128_S512_1_0_0_n_n_n none l r) main_arg3 main_v255
  let main_v262 : FVec F S512 .f32 := addf main_v260 main_v261
  let main_v263 : FVec F S512 .f32 := addf main_v262 main_arg5
  let main_v264 : FVec F S128 .f32 := (extractStridedSlice S128 ![0] · slices_S512_S128_0) main_v263
  let main_v265 : FVec F S128 .f32 := (extractStridedSlice S128 ![128] · slices_S512_S128_128) main_v263
  let main_v266 : FVec F S128 .f32 := (extractStridedSlice S128 ![256] · slices_S512_S128_256) main_v263
  let main_v267 : FVec F S128 .f32 := (extractStridedSlice S128 ![384] · slices_S512_S128_384) main_v263
  let main_v268 : FVec F S128 .f32 := Host.negf main_v264
  let main_v269 : FVec F S128 .f32 := Host.exp main_v268
  let main_cst_57 : FVec F S_ .f32 := constant S_ .f32 0x3F800000#32
  let main_v270 : FVec F S128 .f32 := broadcastInDim S128 ![] bcast_S_S128 main_cst_57
  let main_v271 : FVec F S128 .f32 := addf main_v270 main_v269
  let main_cst_58 : FVec F S_ .f32 := constant S_ .f32 0x3F800000#32
  let main_v272 : FVec F S128 .f32 := broadcastInDim S128 ![] bcast_S_S128 main_cst_58
  let main_v273 : FVec F S128 .f32 := Host.divf main_v272 main_v271
  let main_v274 : FVec F S128 .f32 := Host.negf main_v265
  fn_part14 (F := F) main_arg0 main_arg1 main_arg2 main_arg3 main_arg4 main_arg5 main_v253 main_v257 main_v266 main_v267 main_v273 main_v274

def fn_part12 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v217 : FVec F S128 .f32) (main_v221 : FVec F S64x128 .f32) (main_v229 : FVec F S128 .f32) (main_v230 : FVec F S128 .f32) (main_v231 : FVec F S128 .f32) (main_v235 : FVec F S128 .f32) : IVec S64x128 1 × IVec S64x1 1 :=
  let main_cst_50 : FVec F S_ .f32 := constant S_ .f32 0x3F800000#32
  let main_v236 : FVec F S128 .f32 := broadcastInDim S128 ![] bcast_S_S128 main_cst_50
  let main_v237 : FVec F S128 .f32 := Host.divf main_v236 main_v235
  let main_v238 : FVec F S128 .f32 := Host.negf main_v229
  let main_v239 : FVec F S128 .f32 := Host.exp main_v238
  let main_cst_51 : FVec F S_ .f32 := constant S_ .f32 0x3F800000#32
  let main_v240 : FVec F S128 .f32 := broadcastInDim S128 ![] bcast_S_S128 main_cst_51
  let main_v241 : FVec F S128 .f32 := addf main_v240 main_v239
  let main_cst_52 : FVec F S_ .f32 := constant S_ .f32 0x3F800000#32
  let main_v242 : FVec F S128 .f32 := broadcastInDim S128 ![] bcast_S_S128 main_cst_52
  let main_v243 : FVec F S128 .f32 := Host.divf main_v242 main_v241
  let main_v244 : FVec F S128 .f32 := Host.tanh main_v230
  let main_v245 : FVec F S128 .f32 := Host.negf main_v231
  let main_v246 : FVec F S128 .f32 := Host.exp main_v245
  let main_cst_53 : FVec F S_ .f32 := constant S_ .f32 0x3F800000#32
  let main_v247 : FVec F S128 .f32 := broadcastInDim S128 ![] bcast_S_S128 main_cst_53
  let main_v248 : FVec F S128 .f32 := addf main_v247 main_v246
  let main_cst_54 : FVec F S_ .f32 := constant S_ .f32 0x3F800000#32
  let main_v249 : FVec F S128 .f32 := broadcastInDim S128 ![] bcast_S_S128 main_cst_54
  let main_v250 : FVec F S128 .f32 := Host.divf main_v249 main_v248
  let main_v251 : FVec F S128 .f32 := mulf main_v243 main_v217
  let main_v252 : FVec F S128 .f32 := mulf main_v237 main_v244
  let main_v253 : FVec F S128 .f32 := addf main_v251 main_v252
  let main_v254 : FVec F S128 .f32 := Host.tanh main_v253
  fn_part13 (F := F) main_arg0 main_arg1 main_arg2 main_arg3 main_arg4 main_arg5 main_v221 main_v250 main_v253 main_v254

def fn_part11 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v181 : FVec F S128 .f32) (main_v185 : FVec F S64x128 .f32) (main_v201 : FVec F S128 .f32) (main_v207 : FVec F S128 .f32) (main_v208 : FVec F S128 .f32) (main_v214 : FVec F S128 .f32) : IVec S64x128 1 × IVec S64x1 1 :=
  let main_v215 : FVec F S128 .f32 := mulf main_v207 main_v181
  let main_v216 : FVec F S128 .f32 := mulf main_v201 main_v208
  let main_v217 : FVec F S128 .f32 := addf main_v215 main_v216
  let main_v218 : FVec F S128 .f32 := Host.tanh main_v217
  let main_v219 : FVec F S128 .f32 := mulf main_v214 main_v218
  let main_v220 : FVec F S1x128 .f32 := broadcastInDim S1x128 ![1] bcast_S128_S1x128_1 main_v217
  let main_c_47 : IVec S_ 32 := constantI S_ 32 5#32
  let main_c_48 : IVec S_ 32 := constantI S_ 32 0#32
  let main_v221 : FVec F S64x128 .f32 := (fun x u i => Host.dynamicUpdateSlice x u (fun k => (i k (Shape.Idx.first h_S_)).toInt) updateFits_S64x128_S1x128) main_v185 main_v220 (![main_c_47, main_c_48] : Fin 2 → IVec S_ 32)
  let main_v222 : FVec F S256 .f32 := (fun a b => concatenate S256 0 [⟨S128, a⟩, ⟨S128, b⟩] concatenates_S128_S128_S256_d0) main_v217 main_arg0
  let main_v223 : FVec F S512 .f32 := (fun l r => Host.dotGeneral dot_S512x256_S256_S512_1_0_0_n_n_n none l r) main_arg2 main_v222
  let main_v224 : FVec F S512 .f32 := addf main_v223 main_arg4
  let main_v225 : FVec F S512 .f32 := (fun l r => Host.dotGeneral dot_S512x128_S128_S512_1_0_0_n_n_n none l r) main_arg3 main_v219
  let main_v226 : FVec F S512 .f32 := addf main_v224 main_v225
  let main_v227 : FVec F S512 .f32 := addf main_v226 main_arg5
  let main_v228 : FVec F S128 .f32 := (extractStridedSlice S128 ![0] · slices_S512_S128_0) main_v227
  let main_v229 : FVec F S128 .f32 := (extractStridedSlice S128 ![128] · slices_S512_S128_128) main_v227
  let main_v230 : FVec F S128 .f32 := (extractStridedSlice S128 ![256] · slices_S512_S128_256) main_v227
  let main_v231 : FVec F S128 .f32 := (extractStridedSlice S128 ![384] · slices_S512_S128_384) main_v227
  let main_v232 : FVec F S128 .f32 := Host.negf main_v228
  let main_v233 : FVec F S128 .f32 := Host.exp main_v232
  let main_cst_49 : FVec F S_ .f32 := constant S_ .f32 0x3F800000#32
  let main_v234 : FVec F S128 .f32 := broadcastInDim S128 ![] bcast_S_S128 main_cst_49
  let main_v235 : FVec F S128 .f32 := addf main_v234 main_v233
  fn_part12 (F := F) main_arg0 main_arg1 main_arg2 main_arg3 main_arg4 main_arg5 main_v217 main_v221 main_v229 main_v230 main_v231 main_v235

def fn_part10 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v181 : FVec F S128 .f32) (main_v185 : FVec F S64x128 .f32) (main_v193 : FVec F S128 .f32) (main_v194 : FVec F S128 .f32) (main_v195 : FVec F S128 .f32) (main_v196 : FVec F S128 .f32) : IVec S64x128 1 × IVec S64x1 1 :=
  let main_v197 : FVec F S128 .f32 := Host.exp main_v196
  let main_cst_41 : FVec F S_ .f32 := constant S_ .f32 0x3F800000#32
  let main_v198 : FVec F S128 .f32 := broadcastInDim S128 ![] bcast_S_S128 main_cst_41
  let main_v199 : FVec F S128 .f32 := addf main_v198 main_v197
  let main_cst_42 : FVec F S_ .f32 := constant S_ .f32 0x3F800000#32
  let main_v200 : FVec F S128 .f32 := broadcastInDim S128 ![] bcast_S_S128 main_cst_42
  let main_v201 : FVec F S128 .f32 := Host.divf main_v200 main_v199
  let main_v202 : FVec F S128 .f32 := Host.negf main_v193
  let main_v203 : FVec F S128 .f32 := Host.exp main_v202
  let main_cst_43 : FVec F S_ .f32 := constant S_ .f32 0x3F800000#32
  let main_v204 : FVec F S128 .f32 := broadcastInDim S128 ![] bcast_S_S128 main_cst_43
  let main_v205 : FVec F S128 .f32 := addf main_v204 main_v203
  let main_cst_44 : FVec F S_ .f32 := constant S_ .f32 0x3F800000#32
  let main_v206 : FVec F S128 .f32 := broadcastInDim S128 ![] bcast_S_S128 main_cst_44
  let main_v207 : FVec F S128 .f32 := Host.divf main_v206 main_v205
  let main_v208 : FVec F S128 .f32 := Host.tanh main_v194
  let main_v209 : FVec F S128 .f32 := Host.negf main_v195
  let main_v210 : FVec F S128 .f32 := Host.exp main_v209
  let main_cst_45 : FVec F S_ .f32 := constant S_ .f32 0x3F800000#32
  let main_v211 : FVec F S128 .f32 := broadcastInDim S128 ![] bcast_S_S128 main_cst_45
  let main_v212 : FVec F S128 .f32 := addf main_v211 main_v210
  let main_cst_46 : FVec F S_ .f32 := constant S_ .f32 0x3F800000#32
  let main_v213 : FVec F S128 .f32 := broadcastInDim S128 ![] bcast_S_S128 main_cst_46
  let main_v214 : FVec F S128 .f32 := Host.divf main_v213 main_v212
  fn_part11 (F := F) main_arg0 main_arg1 main_arg2 main_arg3 main_arg4 main_arg5 main_v181 main_v185 main_v201 main_v207 main_v208 main_v214

def fn_part9 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v145 : FVec F S128 .f32) (main_v149 : FVec F S64x128 .f32) (main_v165 : FVec F S128 .f32) (main_v171 : FVec F S128 .f32) (main_v172 : FVec F S128 .f32) (main_v174 : FVec F S128 .f32) (main_v175 : FVec F S128 .f32) : IVec S64x128 1 × IVec S64x1 1 :=
  let main_v176 : FVec F S128 .f32 := addf main_v175 main_v174
  let main_cst_38 : FVec F S_ .f32 := constant S_ .f32 0x3F800000#32
  let main_v177 : FVec F S128 .f32 := broadcastInDim S128 ![] bcast_S_S128 main_cst_38
  let main_v178 : FVec F S128 .f32 := Host.divf main_v177 main_v176
  let main_v179 : FVec F S128 .f32 := mulf main_v171 main_v145
  let main_v180 : FVec F S128 .f32 := mulf main_v165 main_v172
  let main_v181 : FVec F S128 .f32 := addf main_v179 main_v180
  let main_v182 : FVec F S128 .f32 := Host.tanh main_v181
  let main_v183 : FVec F S128 .f32 := mulf main_v178 main_v182
  let main_v184 : FVec F S1x128 .f32 := broadcastInDim S1x128 ![1] bcast_S128_S1x128_1 main_v181
  let main_c_39 : IVec S_ 32 := constantI S_ 32 4#32
  let main_c_40 : IVec S_ 32 := constantI S_ 32 0#32
  let main_v185 : FVec F S64x128 .f32 := (fun x u i => Host.dynamicUpdateSlice x u (fun k => (i k (Shape.Idx.first h_S_)).toInt) updateFits_S64x128_S1x128) main_v149 main_v184 (![main_c_39, main_c_40] : Fin 2 → IVec S_ 32)
  let main_v186 : FVec F S256 .f32 := (fun a b => concatenate S256 0 [⟨S128, a⟩, ⟨S128, b⟩] concatenates_S128_S128_S256_d0) main_v181 main_arg0
  let main_v187 : FVec F S512 .f32 := (fun l r => Host.dotGeneral dot_S512x256_S256_S512_1_0_0_n_n_n none l r) main_arg2 main_v186
  let main_v188 : FVec F S512 .f32 := addf main_v187 main_arg4
  let main_v189 : FVec F S512 .f32 := (fun l r => Host.dotGeneral dot_S512x128_S128_S512_1_0_0_n_n_n none l r) main_arg3 main_v183
  let main_v190 : FVec F S512 .f32 := addf main_v188 main_v189
  let main_v191 : FVec F S512 .f32 := addf main_v190 main_arg5
  let main_v192 : FVec F S128 .f32 := (extractStridedSlice S128 ![0] · slices_S512_S128_0) main_v191
  let main_v193 : FVec F S128 .f32 := (extractStridedSlice S128 ![128] · slices_S512_S128_128) main_v191
  let main_v194 : FVec F S128 .f32 := (extractStridedSlice S128 ![256] · slices_S512_S128_256) main_v191
  let main_v195 : FVec F S128 .f32 := (extractStridedSlice S128 ![384] · slices_S512_S128_384) main_v191
  let main_v196 : FVec F S128 .f32 := Host.negf main_v192
  fn_part10 (F := F) main_arg0 main_arg1 main_arg2 main_arg3 main_arg4 main_arg5 main_v181 main_v185 main_v193 main_v194 main_v195 main_v196

def fn_part8 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v145 : FVec F S128 .f32) (main_v149 : FVec F S64x128 .f32) (main_v155 : FVec F S512 .f32) (main_v156 : FVec F S128 .f32) : IVec S64x128 1 × IVec S64x1 1 :=
  let main_v157 : FVec F S128 .f32 := (extractStridedSlice S128 ![128] · slices_S512_S128_128) main_v155
  let main_v158 : FVec F S128 .f32 := (extractStridedSlice S128 ![256] · slices_S512_S128_256) main_v155
  let main_v159 : FVec F S128 .f32 := (extractStridedSlice S128 ![384] · slices_S512_S128_384) main_v155
  let main_v160 : FVec F S128 .f32 := Host.negf main_v156
  let main_v161 : FVec F S128 .f32 := Host.exp main_v160
  let main_cst_33 : FVec F S_ .f32 := constant S_ .f32 0x3F800000#32
  let main_v162 : FVec F S128 .f32 := broadcastInDim S128 ![] bcast_S_S128 main_cst_33
  let main_v163 : FVec F S128 .f32 := addf main_v162 main_v161
  let main_cst_34 : FVec F S_ .f32 := constant S_ .f32 0x3F800000#32
  let main_v164 : FVec F S128 .f32 := broadcastInDim S128 ![] bcast_S_S128 main_cst_34
  let main_v165 : FVec F S128 .f32 := Host.divf main_v164 main_v163
  let main_v166 : FVec F S128 .f32 := Host.negf main_v157
  let main_v167 : FVec F S128 .f32 := Host.exp main_v166
  let main_cst_35 : FVec F S_ .f32 := constant S_ .f32 0x3F800000#32
  let main_v168 : FVec F S128 .f32 := broadcastInDim S128 ![] bcast_S_S128 main_cst_35
  let main_v169 : FVec F S128 .f32 := addf main_v168 main_v167
  let main_cst_36 : FVec F S_ .f32 := constant S_ .f32 0x3F800000#32
  let main_v170 : FVec F S128 .f32 := broadcastInDim S128 ![] bcast_S_S128 main_cst_36
  let main_v171 : FVec F S128 .f32 := Host.divf main_v170 main_v169
  let main_v172 : FVec F S128 .f32 := Host.tanh main_v158
  let main_v173 : FVec F S128 .f32 := Host.negf main_v159
  let main_v174 : FVec F S128 .f32 := Host.exp main_v173
  let main_cst_37 : FVec F S_ .f32 := constant S_ .f32 0x3F800000#32
  let main_v175 : FVec F S128 .f32 := broadcastInDim S128 ![] bcast_S_S128 main_cst_37
  fn_part9 (F := F) main_arg0 main_arg1 main_arg2 main_arg3 main_arg4 main_arg5 main_v145 main_v149 main_v165 main_v171 main_v172 main_v174 main_v175

def fn_part7 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v109 : FVec F S128 .f32) (main_v113 : FVec F S64x128 .f32) (main_v123 : FVec F S128 .f32) (main_v129 : FVec F S128 .f32) (main_v135 : FVec F S128 .f32) (main_v136 : FVec F S128 .f32) : IVec S64x128 1 × IVec S64x1 1 :=
  let main_v137 : FVec F S128 .f32 := Host.negf main_v123
  let main_v138 : FVec F S128 .f32 := Host.exp main_v137
  let main_cst_29 : FVec F S_ .f32 := constant S_ .f32 0x3F800000#32
  let main_v139 : FVec F S128 .f32 := broadcastInDim S128 ![] bcast_S_S128 main_cst_29
  let main_v140 : FVec F S128 .f32 := addf main_v139 main_v138
  let main_cst_30 : FVec F S_ .f32 := constant S_ .f32 0x3F800000#32
  let main_v141 : FVec F S128 .f32 := broadcastInDim S128 ![] bcast_S_S128 main_cst_30
  let main_v142 : FVec F S128 .f32 := Host.divf main_v141 main_v140
  let main_v143 : FVec F S128 .f32 := mulf main_v135 main_v109
  let main_v144 : FVec F S128 .f32 := mulf main_v129 main_v136
  let main_v145 : FVec F S128 .f32 := addf main_v143 main_v144
  let main_v146 : FVec F S128 .f32 := Host.tanh main_v145
  let main_v147 : FVec F S128 .f32 := mulf main_v142 main_v146
  let main_v148 : FVec F S1x128 .f32 := broadcastInDim S1x128 ![1] bcast_S128_S1x128_1 main_v145
  let main_c_31 : IVec S_ 32 := constantI S_ 32 3#32
  let main_c_32 : IVec S_ 32 := constantI S_ 32 0#32
  let main_v149 : FVec F S64x128 .f32 := (fun x u i => Host.dynamicUpdateSlice x u (fun k => (i k (Shape.Idx.first h_S_)).toInt) updateFits_S64x128_S1x128) main_v113 main_v148 (![main_c_31, main_c_32] : Fin 2 → IVec S_ 32)
  let main_v150 : FVec F S256 .f32 := (fun a b => concatenate S256 0 [⟨S128, a⟩, ⟨S128, b⟩] concatenates_S128_S128_S256_d0) main_v145 main_arg0
  let main_v151 : FVec F S512 .f32 := (fun l r => Host.dotGeneral dot_S512x256_S256_S512_1_0_0_n_n_n none l r) main_arg2 main_v150
  let main_v152 : FVec F S512 .f32 := addf main_v151 main_arg4
  let main_v153 : FVec F S512 .f32 := (fun l r => Host.dotGeneral dot_S512x128_S128_S512_1_0_0_n_n_n none l r) main_arg3 main_v147
  let main_v154 : FVec F S512 .f32 := addf main_v152 main_v153
  let main_v155 : FVec F S512 .f32 := addf main_v154 main_arg5
  let main_v156 : FVec F S128 .f32 := (extractStridedSlice S128 ![0] · slices_S512_S128_0) main_v155
  fn_part8 (F := F) main_arg0 main_arg1 main_arg2 main_arg3 main_arg4 main_arg5 main_v145 main_v149 main_v155 main_v156

def fn_part6 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v109 : FVec F S128 .f32) (main_v111 : FVec F S128 .f32) (main_v113 : FVec F S64x128 .f32) (main_v116 : FVec F S512 .f32) : IVec S64x128 1 × IVec S64x1 1 :=
  let main_v117 : FVec F S512 .f32 := (fun l r => Host.dotGeneral dot_S512x128_S128_S512_1_0_0_n_n_n none l r) main_arg3 main_v111
  let main_v118 : FVec F S512 .f32 := addf main_v116 main_v117
  let main_v119 : FVec F S512 .f32 := addf main_v118 main_arg5
  let main_v120 : FVec F S128 .f32 := (extractStridedSlice S128 ![0] · slices_S512_S128_0) main_v119
  let main_v121 : FVec F S128 .f32 := (extractStridedSlice S128 ![128] · slices_S512_S128_128) main_v119
  let main_v122 : FVec F S128 .f32 := (extractStridedSlice S128 ![256] · slices_S512_S128_256) main_v119
  let main_v123 : FVec F S128 .f32 := (extractStridedSlice S128 ![384] · slices_S512_S128_384) main_v119
  let main_v124 : FVec F S128 .f32 := Host.negf main_v120
  let main_v125 : FVec F S128 .f32 := Host.exp main_v124
  let main_cst_25 : FVec F S_ .f32 := constant S_ .f32 0x3F800000#32
  let main_v126 : FVec F S128 .f32 := broadcastInDim S128 ![] bcast_S_S128 main_cst_25
  let main_v127 : FVec F S128 .f32 := addf main_v126 main_v125
  let main_cst_26 : FVec F S_ .f32 := constant S_ .f32 0x3F800000#32
  let main_v128 : FVec F S128 .f32 := broadcastInDim S128 ![] bcast_S_S128 main_cst_26
  let main_v129 : FVec F S128 .f32 := Host.divf main_v128 main_v127
  let main_v130 : FVec F S128 .f32 := Host.negf main_v121
  let main_v131 : FVec F S128 .f32 := Host.exp main_v130
  let main_cst_27 : FVec F S_ .f32 := constant S_ .f32 0x3F800000#32
  let main_v132 : FVec F S128 .f32 := broadcastInDim S128 ![] bcast_S_S128 main_cst_27
  let main_v133 : FVec F S128 .f32 := addf main_v132 main_v131
  let main_cst_28 : FVec F S_ .f32 := constant S_ .f32 0x3F800000#32
  let main_v134 : FVec F S128 .f32 := broadcastInDim S128 ![] bcast_S_S128 main_cst_28
  let main_v135 : FVec F S128 .f32 := Host.divf main_v134 main_v133
  let main_v136 : FVec F S128 .f32 := Host.tanh main_v122
  fn_part7 (F := F) main_arg0 main_arg1 main_arg2 main_arg3 main_arg4 main_arg5 main_v109 main_v113 main_v123 main_v129 main_v135 main_v136

def fn_part5 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v73 : FVec F S128 .f32) (main_v77 : FVec F S64x128 .f32) (main_v86 : FVec F S128 .f32) (main_v87 : FVec F S128 .f32) (main_v93 : FVec F S128 .f32) (main_v97 : FVec F S128 .f32) : IVec S64x128 1 × IVec S64x1 1 :=
  let main_cst_20 : FVec F S_ .f32 := constant S_ .f32 0x3F800000#32
  let main_v98 : FVec F S128 .f32 := broadcastInDim S128 ![] bcast_S_S128 main_cst_20
  let main_v99 : FVec F S128 .f32 := Host.divf main_v98 main_v97
  let main_v100 : FVec F S128 .f32 := Host.tanh main_v86
  let main_v101 : FVec F S128 .f32 := Host.negf main_v87
  let main_v102 : FVec F S128 .f32 := Host.exp main_v101
  let main_cst_21 : FVec F S_ .f32 := constant S_ .f32 0x3F800000#32
  let main_v103 : FVec F S128 .f32 := broadcastInDim S128 ![] bcast_S_S128 main_cst_21
  let main_v104 : FVec F S128 .f32 := addf main_v103 main_v102
  let main_cst_22 : FVec F S_ .f32 := constant S_ .f32 0x3F800000#32
  let main_v105 : FVec F S128 .f32 := broadcastInDim S128 ![] bcast_S_S128 main_cst_22
  let main_v106 : FVec F S128 .f32 := Host.divf main_v105 main_v104
  let main_v107 : FVec F S128 .f32 := mulf main_v99 main_v73
  let main_v108 : FVec F S128 .f32 := mulf main_v93 main_v100
  let main_v109 : FVec F S128 .f32 := addf main_v107 main_v108
  let main_v110 : FVec F S128 .f32 := Host.tanh main_v109
  let main_v111 : FVec F S128 .f32 := mulf main_v106 main_v110
  let main_v112 : FVec F S1x128 .f32 := broadcastInDim S1x128 ![1] bcast_S128_S1x128_1 main_v109
  let main_c_23 : IVec S_ 32 := constantI S_ 32 2#32
  let main_c_24 : IVec S_ 32 := constantI S_ 32 0#32
  let main_v113 : FVec F S64x128 .f32 := (fun x u i => Host.dynamicUpdateSlice x u (fun k => (i k (Shape.Idx.first h_S_)).toInt) updateFits_S64x128_S1x128) main_v77 main_v112 (![main_c_23, main_c_24] : Fin 2 → IVec S_ 32)
  let main_v114 : FVec F S256 .f32 := (fun a b => concatenate S256 0 [⟨S128, a⟩, ⟨S128, b⟩] concatenates_S128_S128_S256_d0) main_v109 main_arg0
  let main_v115 : FVec F S512 .f32 := (fun l r => Host.dotGeneral dot_S512x256_S256_S512_1_0_0_n_n_n none l r) main_arg2 main_v114
  let main_v116 : FVec F S512 .f32 := addf main_v115 main_arg4
  fn_part6 (F := F) main_arg0 main_arg1 main_arg2 main_arg3 main_arg4 main_arg5 main_v109 main_v111 main_v113 main_v116

def fn_part4 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v41 : FVec F S64x128 .f32) (main_v73 : FVec F S128 .f32) (main_v75 : FVec F S128 .f32) (main_v76 : FVec F S1x128 .f32) (main_c_15 : IVec S_ 32) (main_c_16 : IVec S_ 32) : IVec S64x128 1 × IVec S64x1 1 :=
  let main_v77 : FVec F S64x128 .f32 := (fun x u i => Host.dynamicUpdateSlice x u (fun k => (i k (Shape.Idx.first h_S_)).toInt) updateFits_S64x128_S1x128) main_v41 main_v76 (![main_c_15, main_c_16] : Fin 2 → IVec S_ 32)
  let main_v78 : FVec F S256 .f32 := (fun a b => concatenate S256 0 [⟨S128, a⟩, ⟨S128, b⟩] concatenates_S128_S128_S256_d0) main_v73 main_arg0
  let main_v79 : FVec F S512 .f32 := (fun l r => Host.dotGeneral dot_S512x256_S256_S512_1_0_0_n_n_n none l r) main_arg2 main_v78
  let main_v80 : FVec F S512 .f32 := addf main_v79 main_arg4
  let main_v81 : FVec F S512 .f32 := (fun l r => Host.dotGeneral dot_S512x128_S128_S512_1_0_0_n_n_n none l r) main_arg3 main_v75
  let main_v82 : FVec F S512 .f32 := addf main_v80 main_v81
  let main_v83 : FVec F S512 .f32 := addf main_v82 main_arg5
  let main_v84 : FVec F S128 .f32 := (extractStridedSlice S128 ![0] · slices_S512_S128_0) main_v83
  let main_v85 : FVec F S128 .f32 := (extractStridedSlice S128 ![128] · slices_S512_S128_128) main_v83
  let main_v86 : FVec F S128 .f32 := (extractStridedSlice S128 ![256] · slices_S512_S128_256) main_v83
  let main_v87 : FVec F S128 .f32 := (extractStridedSlice S128 ![384] · slices_S512_S128_384) main_v83
  let main_v88 : FVec F S128 .f32 := Host.negf main_v84
  let main_v89 : FVec F S128 .f32 := Host.exp main_v88
  let main_cst_17 : FVec F S_ .f32 := constant S_ .f32 0x3F800000#32
  let main_v90 : FVec F S128 .f32 := broadcastInDim S128 ![] bcast_S_S128 main_cst_17
  let main_v91 : FVec F S128 .f32 := addf main_v90 main_v89
  let main_cst_18 : FVec F S_ .f32 := constant S_ .f32 0x3F800000#32
  let main_v92 : FVec F S128 .f32 := broadcastInDim S128 ![] bcast_S_S128 main_cst_18
  let main_v93 : FVec F S128 .f32 := Host.divf main_v92 main_v91
  let main_v94 : FVec F S128 .f32 := Host.negf main_v85
  let main_v95 : FVec F S128 .f32 := Host.exp main_v94
  let main_cst_19 : FVec F S_ .f32 := constant S_ .f32 0x3F800000#32
  let main_v96 : FVec F S128 .f32 := broadcastInDim S128 ![] bcast_S_S128 main_cst_19
  let main_v97 : FVec F S128 .f32 := addf main_v96 main_v95
  fn_part5 (F := F) main_arg0 main_arg1 main_arg2 main_arg3 main_arg4 main_arg5 main_v73 main_v77 main_v86 main_v87 main_v93 main_v97

def fn_part3 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v37 : FVec F S128 .f32) (main_v41 : FVec F S64x128 .f32) (main_v50 : FVec F S128 .f32) (main_v51 : FVec F S128 .f32) (main_v57 : FVec F S128 .f32) (main_v58 : FVec F S128 .f32) : IVec S64x128 1 × IVec S64x1 1 :=
  let main_v59 : FVec F S128 .f32 := Host.exp main_v58
  let main_cst_11 : FVec F S_ .f32 := constant S_ .f32 0x3F800000#32
  let main_v60 : FVec F S128 .f32 := broadcastInDim S128 ![] bcast_S_S128 main_cst_11
  let main_v61 : FVec F S128 .f32 := addf main_v60 main_v59
  let main_cst_12 : FVec F S_ .f32 := constant S_ .f32 0x3F800000#32
  let main_v62 : FVec F S128 .f32 := broadcastInDim S128 ![] bcast_S_S128 main_cst_12
  let main_v63 : FVec F S128 .f32 := Host.divf main_v62 main_v61
  let main_v64 : FVec F S128 .f32 := Host.tanh main_v50
  let main_v65 : FVec F S128 .f32 := Host.negf main_v51
  let main_v66 : FVec F S128 .f32 := Host.exp main_v65
  let main_cst_13 : FVec F S_ .f32 := constant S_ .f32 0x3F800000#32
  let main_v67 : FVec F S128 .f32 := broadcastInDim S128 ![] bcast_S_S128 main_cst_13
  let main_v68 : FVec F S128 .f32 := addf main_v67 main_v66
  let main_cst_14 : FVec F S_ .f32 := constant S_ .f32 0x3F800000#32
  let main_v69 : FVec F S128 .f32 := broadcastInDim S128 ![] bcast_S_S128 main_cst_14
  let main_v70 : FVec F S128 .f32 := Host.divf main_v69 main_v68
  let main_v71 : FVec F S128 .f32 := mulf main_v63 main_v37
  let main_v72 : FVec F S128 .f32 := mulf main_v57 main_v64
  let main_v73 : FVec F S128 .f32 := addf main_v71 main_v72
  let main_v74 : FVec F S128 .f32 := Host.tanh main_v73
  let main_v75 : FVec F S128 .f32 := mulf main_v70 main_v74
  let main_v76 : FVec F S1x128 .f32 := broadcastInDim S1x128 ![1] bcast_S128_S1x128_1 main_v73
  let main_c_15 : IVec S_ 32 := constantI S_ 32 1#32
  let main_c_16 : IVec S_ 32 := constantI S_ 32 0#32
  fn_part4 (F := F) main_arg0 main_arg1 main_arg2 main_arg3 main_arg4 main_arg5 main_v41 main_v73 main_v75 main_v76 main_c_15 main_c_16

def fn_part2 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v5 : FVec F S64x128 .f32) (main_v34 : FVec F S128 .f32) (main_v37 : FVec F S128 .f32) (main_v38 : FVec F S128 .f32) : IVec S64x128 1 × IVec S64x1 1 :=
  let main_v39 : FVec F S128 .f32 := mulf main_v34 main_v38
  let main_v40 : FVec F S1x128 .f32 := broadcastInDim S1x128 ![1] bcast_S128_S1x128_1 main_v37
  let main_c : IVec S_ 32 := constantI S_ 32 0#32
  let main_c_8 : IVec S_ 32 := constantI S_ 32 0#32
  let main_v41 : FVec F S64x128 .f32 := (fun x u i => Host.dynamicUpdateSlice x u (fun k => (i k (Shape.Idx.first h_S_)).toInt) updateFits_S64x128_S1x128) main_v5 main_v40 (![main_c, main_c_8] : Fin 2 → IVec S_ 32)
  let main_v42 : FVec F S256 .f32 := (fun a b => concatenate S256 0 [⟨S128, a⟩, ⟨S128, b⟩] concatenates_S128_S128_S256_d0) main_v37 main_arg0
  let main_v43 : FVec F S512 .f32 := (fun l r => Host.dotGeneral dot_S512x256_S256_S512_1_0_0_n_n_n none l r) main_arg2 main_v42
  let main_v44 : FVec F S512 .f32 := addf main_v43 main_arg4
  let main_v45 : FVec F S512 .f32 := (fun l r => Host.dotGeneral dot_S512x128_S128_S512_1_0_0_n_n_n none l r) main_arg3 main_v39
  let main_v46 : FVec F S512 .f32 := addf main_v44 main_v45
  let main_v47 : FVec F S512 .f32 := addf main_v46 main_arg5
  let main_v48 : FVec F S128 .f32 := (extractStridedSlice S128 ![0] · slices_S512_S128_0) main_v47
  let main_v49 : FVec F S128 .f32 := (extractStridedSlice S128 ![128] · slices_S512_S128_128) main_v47
  let main_v50 : FVec F S128 .f32 := (extractStridedSlice S128 ![256] · slices_S512_S128_256) main_v47
  let main_v51 : FVec F S128 .f32 := (extractStridedSlice S128 ![384] · slices_S512_S128_384) main_v47
  let main_v52 : FVec F S128 .f32 := Host.negf main_v48
  let main_v53 : FVec F S128 .f32 := Host.exp main_v52
  let main_cst_9 : FVec F S_ .f32 := constant S_ .f32 0x3F800000#32
  let main_v54 : FVec F S128 .f32 := broadcastInDim S128 ![] bcast_S_S128 main_cst_9
  let main_v55 : FVec F S128 .f32 := addf main_v54 main_v53
  let main_cst_10 : FVec F S_ .f32 := constant S_ .f32 0x3F800000#32
  let main_v56 : FVec F S128 .f32 := broadcastInDim S128 ![] bcast_S_S128 main_cst_10
  let main_v57 : FVec F S128 .f32 := Host.divf main_v56 main_v55
  let main_v58 : FVec F S128 .f32 := Host.negf main_v49
  fn_part3 (F := F) main_arg0 main_arg1 main_arg2 main_arg3 main_arg4 main_arg5 main_v37 main_v41 main_v50 main_v51 main_v57 main_v58

def fn_part1 {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) (main_v4 : FVec F S128 .f32) (main_v5 : FVec F S64x128 .f32) (main_v13 : FVec F S128 .f32) (main_v14 : FVec F S128 .f32) (main_v15 : FVec F S128 .f32) (main_v19 : FVec F S128 .f32) : IVec S64x128 1 × IVec S64x1 1 :=
  let main_cst_3 : FVec F S_ .f32 := constant S_ .f32 0x3F800000#32
  let main_v20 : FVec F S128 .f32 := broadcastInDim S128 ![] bcast_S_S128 main_cst_3
  let main_v21 : FVec F S128 .f32 := Host.divf main_v20 main_v19
  let main_v22 : FVec F S128 .f32 := Host.negf main_v13
  let main_v23 : FVec F S128 .f32 := Host.exp main_v22
  let main_cst_4 : FVec F S_ .f32 := constant S_ .f32 0x3F800000#32
  let main_v24 : FVec F S128 .f32 := broadcastInDim S128 ![] bcast_S_S128 main_cst_4
  let main_v25 : FVec F S128 .f32 := addf main_v24 main_v23
  let main_cst_5 : FVec F S_ .f32 := constant S_ .f32 0x3F800000#32
  let main_v26 : FVec F S128 .f32 := broadcastInDim S128 ![] bcast_S_S128 main_cst_5
  let main_v27 : FVec F S128 .f32 := Host.divf main_v26 main_v25
  let main_v28 : FVec F S128 .f32 := Host.tanh main_v14
  let main_v29 : FVec F S128 .f32 := Host.negf main_v15
  let main_v30 : FVec F S128 .f32 := Host.exp main_v29
  let main_cst_6 : FVec F S_ .f32 := constant S_ .f32 0x3F800000#32
  let main_v31 : FVec F S128 .f32 := broadcastInDim S128 ![] bcast_S_S128 main_cst_6
  let main_v32 : FVec F S128 .f32 := addf main_v31 main_v30
  let main_cst_7 : FVec F S_ .f32 := constant S_ .f32 0x3F800000#32
  let main_v33 : FVec F S128 .f32 := broadcastInDim S128 ![] bcast_S_S128 main_cst_7
  let main_v34 : FVec F S128 .f32 := Host.divf main_v33 main_v32
  let main_v35 : FVec F S128 .f32 := mulf main_v27 main_v4
  let main_v36 : FVec F S128 .f32 := mulf main_v21 main_v28
  let main_v37 : FVec F S128 .f32 := addf main_v35 main_v36
  let main_v38 : FVec F S128 .f32 := Host.tanh main_v37
  fn_part2 (F := F) main_arg0 main_arg1 main_arg2 main_arg3 main_arg4 main_arg5 main_v5 main_v34 main_v37 main_v38

def fn {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) : IVec S64x128 1 × IVec S64x1 1 :=
  let main_v0 : FVec F S1x128 .f32 := (extractStridedSlice S1x128 ![0, 0] · slices_S8192x128_S1x128_0_0) main_arg1
  let main_v1 : FVec F S128 .f32 := shapeCast S128 main_v0 shapeCasts_S1x128_S128
  let main_cst : FVec F S_ .f32 := constant S_ .f32 0x00000000#32
  let main_v2 : FVec F S128 .f32 := broadcastInDim S128 ![] bcast_S_S128 main_cst
  let main_v3 : FVec F S128 .f32 := mulf main_v2 main_v1
  let main_cst_0 : FVec F S_ .f32 := constant S_ .f32 0x00000000#32
  let main_v4 : FVec F S128 .f32 := broadcastInDim S128 ![] bcast_S_S128 main_cst_0
  let main_cst_1 : FVec F S_ .f32 := constant S_ .f32 0x00000000#32
  let main_v5 : FVec F S64x128 .f32 := broadcastInDim S64x128 ![] bcast_S_S64x128 main_cst_1
  let main_v6 : FVec F S256 .f32 := (fun a b => concatenate S256 0 [⟨S128, a⟩, ⟨S128, b⟩] concatenates_S128_S128_S256_d0) main_v1 main_arg0
  let main_v7 : FVec F S512 .f32 := (fun l r => Host.dotGeneral dot_S512x256_S256_S512_1_0_0_n_n_n none l r) main_arg2 main_v6
  let main_v8 : FVec F S512 .f32 := addf main_v7 main_arg4
  let main_v9 : FVec F S512 .f32 := (fun l r => Host.dotGeneral dot_S512x128_S128_S512_1_0_0_n_n_n none l r) main_arg3 main_v3
  let main_v10 : FVec F S512 .f32 := addf main_v8 main_v9
  let main_v11 : FVec F S512 .f32 := addf main_v10 main_arg5
  let main_v12 : FVec F S128 .f32 := (extractStridedSlice S128 ![0] · slices_S512_S128_0) main_v11
  let main_v13 : FVec F S128 .f32 := (extractStridedSlice S128 ![128] · slices_S512_S128_128) main_v11
  let main_v14 : FVec F S128 .f32 := (extractStridedSlice S128 ![256] · slices_S512_S128_256) main_v11
  let main_v15 : FVec F S128 .f32 := (extractStridedSlice S128 ![384] · slices_S512_S128_384) main_v11
  let main_v16 : FVec F S128 .f32 := Host.negf main_v12
  let main_v17 : FVec F S128 .f32 := Host.exp main_v16
  let main_cst_2 : FVec F S_ .f32 := constant S_ .f32 0x3F800000#32
  let main_v18 : FVec F S128 .f32 := broadcastInDim S128 ![] bcast_S_S128 main_cst_2
  let main_v19 : FVec F S128 .f32 := addf main_v18 main_v17
  fn_part1 (F := F) main_arg0 main_arg1 main_arg2 main_arg3 main_arg4 main_arg5 main_v4 main_v5 main_v13 main_v14 main_v15 main_v19
-- ==== Pre_finite.lean ====
abbrev S128 : Shape := ⟨1, ![128]⟩
abbrev S8192x128 : Shape := ⟨2, ![8192, 128]⟩
abbrev S512x256 : Shape := ⟨2, ![512, 256]⟩
abbrev S512x128 : Shape := ⟨2, ![512, 128]⟩
abbrev S512 : Shape := ⟨1, ![512]⟩
abbrev S1x128 : Shape := ⟨2, ![1, 128]⟩
abbrev S_ : Shape := ⟨0, ![]⟩

class Facts : Prop where
  slices_S8192x128_S1x128_0_0 : S8192x128.Slices ![0, 0] S1x128
  shapeCasts_S1x128_S128 : S1x128.ShapeCasts S128
  bcast_S_S128 : S_.BroadcastsInDim S128 (![] : Fin 0 → Fin S128.rank)
  slices_S512x256_S512x128_0_0 : S512x256.Slices ![0, 0] S512x128
  bcast_S_S512x128 : S_.BroadcastsInDim S512x128 (![] : Fin 0 → Fin S512x128.rank)

variable [Facts]

def fn {F : FTy → Type} [FloatOps F] (main_arg0 : FVec F S128 .f32) (main_arg1 : FVec F S8192x128 .f32) (main_arg2 : FVec F S512x256 .f32) (main_arg3 : FVec F S512x128 .f32) (main_arg4 : FVec F S512 .f32) (main_arg5 : FVec F S512 .f32) : IVec S128 1 × IVec S512x128 1 × IVec S512x128 1 :=
  let main_v0 : FVec F S1x128 .f32 := (extractStridedSlice S1x128 ![0, 0] · slices_S8192x128_S1x128_0_0) main_arg1
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_v5 : FVec F S512x128 .f32 := (extractStridedSlice S512x128 ![0, 0] · slices_S512x256_S512x128_0_0) main_arg2
  let main_v6 : FVec F S512x128 .f32 := Host.absf main_v5
  let main_cst_0 : FVec F S_ .f32 := constant S_ .f32 0x7F800000#32
  let main_v7 : FVec F S512x128 .f32 := broadcastInDim S512x128 ![] bcast_S_S512x128 main_cst_0
  let main_v8 : IVec S512x128 1 := cmpf .olt main_v6 main_v7
  let main_v9 : FVec F S512x128 .f32 := Host.absf main_arg3
  let main_cst_1 : FVec F S_ .f32 := constant S_ .f32 0x7F800000#32
  let main_v10 : FVec F S512x128 .f32 := broadcastInDim S512x128 ![] bcast_S_S512x128 main_cst_1
  let main_v11 : IVec S512x128 1 := cmpf .olt main_v9 main_v10
  (main_v4, main_v8, main_v11)
-- ==== Kernel.lean ====
abbrev S128 : Shape := ⟨1, ![128]⟩
abbrev S8192x128 : Shape := ⟨2, ![8192, 128]⟩
abbrev S512x256 : Shape := ⟨2, ![512, 256]⟩
abbrev S512x128 : Shape := ⟨2, ![512, 128]⟩
abbrev S512 : Shape := ⟨1, ![512]⟩
abbrev S1x128 : Shape := ⟨2, ![1, 128]⟩
abbrev S512x384 : Shape := ⟨2, ![512, 384]⟩
abbrev S384x512 : Shape := ⟨2, ![384, 512]⟩
abbrev S256x512 : Shape := ⟨2, ![256, 512]⟩
abbrev S256x1536 : Shape := ⟨2, ![256, 1536]⟩
abbrev S128x512 : Shape := ⟨2, ![128, 512]⟩
abbrev S1x512 : Shape := ⟨2, ![1, 512]⟩
abbrev S128x8192 : Shape := ⟨2, ![128, 8192]⟩
abbrev S64x128 : Shape := ⟨2, ![64, 128]⟩
abbrev S64x1 : Shape := ⟨2, ![64, 1]⟩
abbrev S1x8192 : Shape := ⟨2, ![1, 8192]⟩
abbrev S256x8192 : Shape := ⟨2, ![256, 8192]⟩
abbrev S1x256 : Shape := ⟨2, ![1, 256]⟩
abbrev S3x256 : Shape := ⟨2, ![3, 256]⟩
abbrev S3x1536 : Shape := ⟨2, ![3, 1536]⟩
abbrev S8192 : Shape := ⟨1, ![8192]⟩
abbrev S64x256 : Shape := ⟨2, ![64, 256]⟩
abbrev S128x256 : Shape := ⟨2, ![128, 256]⟩
abbrev S256x2048 : Shape := ⟨2, ![256, 2048]⟩
abbrev S128x2048 : Shape := ⟨2, ![128, 2048]⟩
abbrev S64x2048 : Shape := ⟨2, ![64, 2048]⟩
abbrev S1x2048 : Shape := ⟨2, ![1, 2048]⟩
abbrev S64 : Shape := ⟨1, ![64]⟩

abbrev nBuf : Space → Nat
  | .hbm => 27
  | .vmem => 10
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S1x128, .f32⟩
  | .hbm, ⟨7, _⟩ => ⟨S1x128, .f32⟩
  | .hbm, ⟨8, _⟩ => ⟨S512x128, .f32⟩
  | .hbm, ⟨9, _⟩ => ⟨S512x128, .f32⟩
  | .hbm, ⟨10, _⟩ => ⟨S512x384, .f32⟩
  | .hbm, ⟨11, _⟩ => ⟨S384x512, .f32⟩
  | .hbm, ⟨12, _⟩ => ⟨S256x512, .f32⟩
  | .hbm, ⟨13, _⟩ => ⟨S256x512, .bf16⟩
  | .hbm, ⟨14, _⟩ => ⟨S256x512, .f32⟩
  | .hbm, ⟨15, _⟩ => ⟨S256x512, .f32⟩
  | .hbm, ⟨16, _⟩ => ⟨S256x512, .bf16⟩
  | .hbm, ⟨17, _⟩ => ⟨S256x512, .f32⟩
  | .hbm, ⟨18, _⟩ => ⟨S256x512, .f32⟩
  | .hbm, ⟨19, _⟩ => ⟨S256x512, .bf16⟩
  | .hbm, ⟨20, _⟩ => ⟨S256x1536, .bf16⟩
  | .hbm, ⟨21, _⟩ => ⟨S128x512, .f32⟩
  | .hbm, ⟨22, _⟩ => ⟨S512, .f32⟩
  | .hbm, ⟨23, _⟩ => ⟨S1x512, .f32⟩
  | .hbm, ⟨24, _⟩ => ⟨S128x8192, .f32⟩
  | .hbm, ⟨25, _⟩ => ⟨S64x128, .f32⟩
  | .hbm, ⟨26, _⟩ => ⟨S64x1, .i32⟩
  | .local _ .vmem, ⟨0, _⟩ => ⟨S1x128, .f32⟩
  | .local _ .vmem, ⟨1, _⟩ => ⟨S1x128, .f32⟩
  | .local _ .vmem, ⟨2, _⟩ => ⟨S256x1536, .bf16⟩
  | .local _ .vmem, ⟨3, _⟩ => ⟨S128x512, .f32⟩
  | .local _ .vmem, ⟨4, _⟩ => ⟨S1x512, .f32⟩
  | .local _ .vmem, ⟨5, _⟩ => ⟨S128x8192, .f32⟩
  | .local _ .vmem, ⟨6, _⟩ => ⟨S64x128, .f32⟩
  | .local _ .vmem, ⟨7, _⟩ => ⟨S64x1, .i32⟩
  | .local _ .vmem, ⟨8, _⟩ => ⟨S1x8192, .f32⟩
  | .local _ .vmem, ⟨9, _⟩ => ⟨S256x8192, .bf16⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128 : Shape := ⟨1, ![128]⟩
abbrev S8192x128 : Shape := ⟨2, ![8192, 128]⟩
abbrev S512x256 : Shape := ⟨2, ![512, 256]⟩
abbrev S512x128 : Shape := ⟨2, ![512, 128]⟩
abbrev S512 : Shape := ⟨1, ![512]⟩
abbrev S1x128 : Shape := ⟨2, ![1, 128]⟩
abbrev S_ : Shape := ⟨0, ![]⟩
abbrev S64x128 : Shape := ⟨2, ![64, 128]⟩
abbrev S256 : Shape := ⟨1, ![256]⟩
abbrev S8192 : Shape := ⟨1, ![8192]⟩
abbrev S64 : Shape := ⟨1, ![64]⟩
abbrev S128x8192 : Shape := ⟨2, ![128, 8192]⟩
abbrev S64x8192 : Shape := ⟨2, ![64, 8192]⟩
abbrev S64x1 : Shape := ⟨2, ![64, 1]⟩
abbrev S1x8192 : Shape := ⟨2, ![1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S1x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S64x128, .f32⟩
  | .hbm, ⟨14, _⟩ => ⟨S_, .i32⟩
  | .hbm, ⟨15, _⟩ => ⟨S128, .f32⟩
  | .hbm, ⟨16, _⟩ => ⟨S512x256, .f32⟩
  | .hbm, ⟨17, _⟩ => ⟨S512, .f32⟩
  | .hbm, ⟨18, _⟩ => ⟨S512x128, .f32⟩
  | .hbm, ⟨19, _⟩ => ⟨S512, .f32⟩
  | .hbm, ⟨20, _⟩ => ⟨S_, .i32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S64x128, .f32⟩
  | .hbm, ⟨25, _⟩ => ⟨S_, .i32⟩
  | .hbm, ⟨26, _⟩ => ⟨S_, .i1⟩
  | .hbm, ⟨27, _⟩ => ⟨S256, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S_, .i32⟩
  | .hbm, ⟨69, _⟩ => ⟨S64x128, .f32⟩
  | .hbm, ⟨70, _⟩ => ⟨S_, .i32⟩
  | .hbm, ⟨71, _⟩ => ⟨S_, .i32⟩
  | .hbm, ⟨72, _⟩ => ⟨S8192x128, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S64x128, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S128x8192, .f32⟩
  | .hbm, ⟨81, _⟩ => ⟨S64x8192, .f32⟩
  | .hbm, ⟨82, _⟩ => ⟨S64x1, .f32⟩
  | .hbm, ⟨83, _⟩ => ⟨S1x8192, .f32⟩
  | .hbm, ⟨84, _⟩ => ⟨S64x8192, .f32⟩
  | .hbm, ⟨85, _⟩ => ⟨S64x8192, .f32⟩
  | .hbm, ⟨86, _⟩ => ⟨S64x8192, .f32⟩
  | .hbm, ⟨87, _⟩ => ⟨S_, .f32⟩
  | .hbm, ⟨88, _⟩ => ⟨S64x8192, .f32⟩
  | .hbm, ⟨89, _⟩ => ⟨S64x8192, .f32⟩
  | .hbm, ⟨90, _⟩ => ⟨S64x8192, .f32⟩
  | .hbm, ⟨91, _⟩ => ⟨S64x8192, .i32⟩
  | .hbm, ⟨92, _⟩ => ⟨S_, .f32⟩
  | .hbm, ⟨93, _⟩ => ⟨S_, .i32⟩
  | .hbm, ⟨94, _⟩ => ⟨S64, .f32⟩
  | .hbm, ⟨95, _⟩ => ⟨S64, .i32⟩
  | .hbm, ⟨96, _⟩ => ⟨S64x1, .i32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_c : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev main_while0c_c_12 : Ref sig .tc := ⟨.hbm, 25, rfl⟩
abbrev main_while0c_v20 : Ref sig .tc := ⟨.hbm, 26, rfl⟩
abbrev main_while0b_v20 : Ref sig .tc := ⟨.hbm, 27, rfl⟩
abbrev main_while0b_v21 : Ref sig .tc := ⟨.hbm, 28, rfl⟩
abbrev main_while0b_v22 : Ref sig .tc := ⟨.hbm, 29, rfl⟩
abbrev main_while0b_v23 : Ref sig .tc := ⟨.hbm, 30, rfl⟩
abbrev main_while0b_v24 : Ref sig .tc := ⟨.hbm, 31, rfl⟩
abbrev main_while0b_v25 : Ref sig .tc := ⟨.hbm, 32, rfl⟩
abbrev main_while0b_v26 : Ref sig .tc := ⟨.hbm, 33, rfl⟩
abbrev main_while0b_v27 : Ref sig .tc := ⟨.hbm, 34, rfl⟩
abbrev main_while0b_v28 : Ref sig .tc := ⟨.hbm, 35, rfl⟩
abbrev main_while0b_v29 : Ref sig .tc := ⟨.hbm, 36, rfl⟩
abbrev main_while0b_v30 : Ref sig .tc := ⟨.hbm, 37, rfl⟩
abbrev main_while0b_v31 : Ref sig .tc := ⟨.hbm, 38, rfl⟩
abbrev main_while0b_cst_12 : Ref sig .tc := ⟨.hbm, 39, rfl⟩
abbrev main_while0b_v32 : Ref sig .tc := ⟨.hbm, 40, rfl⟩
abbrev main_while0b_v33 : Ref sig .tc := ⟨.hbm, 41, rfl⟩
abbrev main_while0b_cst_13 : Ref sig .tc := ⟨.hbm, 42, rfl⟩
abbrev main_while0b_v34 : Ref sig .tc := ⟨.hbm, 43, rfl⟩
abbrev main_while0b_v35 : Ref sig .tc := ⟨.hbm, 44, rfl⟩
abbrev main_while0b_v36 : Ref sig .tc := ⟨.hbm, 45, rfl⟩
abbrev main_while0b_v37 : Ref sig .tc := ⟨.hbm, 46, rfl⟩
abbrev main_while0b_cst_14 : Ref sig .tc := ⟨.hbm, 47, rfl⟩
abbrev main_while0b_v38 : Ref sig .tc := ⟨.hbm, 48, rfl⟩
abbrev main_while0b_v39 : Ref sig .tc := ⟨.hbm, 49, rfl⟩
abbrev main_while0b_cst_15 : Ref sig .tc := ⟨.hbm, 50, rfl⟩
abbrev main_while0b_v40 : Ref sig .tc := ⟨.hbm, 51, rfl⟩
abbrev main_while0b_v41 : Ref sig .tc := ⟨.hbm, 52, rfl⟩
abbrev main_while0b_v42 : Ref sig .tc := ⟨.hbm, 53, rfl⟩
abbrev main_while0b_v43 : Ref sig .tc := ⟨.hbm, 54, rfl⟩
abbrev main_while0b_v44 : Ref sig .tc := ⟨.hbm, 55, rfl⟩
abbrev main_while0b_cst_16 : Ref sig .tc := ⟨.hbm, 56, rfl⟩
abbrev main_while0b_v45 : Ref sig .tc := ⟨.hbm, 57, rfl⟩
abbrev main_while0b_v46 : Ref sig .tc := ⟨.hbm, 58, rfl⟩
abbrev main_while0b_cst_17 : Ref sig .tc := ⟨.hbm, 59, rfl⟩
abbrev main_while0b_v47 : Ref sig .tc := ⟨.hbm, 60, rfl⟩
abbrev main_while0b_v48 : Ref sig .tc := ⟨.hbm, 61, rfl⟩
abbrev main_while0b_v49 : Ref sig .tc := ⟨.hbm, 62, rfl⟩
abbrev main_while0b_v50 : Ref sig .tc := ⟨.hbm, 63, rfl⟩
abbrev main_while0b_v51 : Ref sig .tc := ⟨.hbm, 64, rfl⟩
abbrev main_while0b_v52 : Ref sig .tc := ⟨.hbm, 65, rfl⟩
abbrev main_while0b_v53 : Ref sig .tc := ⟨.hbm, 66, rfl⟩
abbrev main_while0b_call0_v0 : Ref sig .tc := ⟨.hbm, 67, rfl⟩
abbrev main_while0b_call0_c : Ref sig .tc := ⟨.hbm, 68, rfl⟩
abbrev main_while0b_v54 : Ref sig .tc := ⟨.hbm, 69, rfl⟩
abbrev main_while0b_c_18 : Ref sig .tc := ⟨.hbm, 70, rfl⟩
abbrev main_while0b_v55 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_v6 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_cst_2 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_call3_v0 : Ref sig .tc := ⟨.hbm, 91, rfl⟩
abbrev main_call3_cst : Ref sig .tc := ⟨.hbm, 92, rfl⟩
abbrev main_call3_c : Ref sig .tc := ⟨.hbm, 93, rfl⟩
abbrev main_call3_v1_0 : Ref sig .tc := ⟨.hbm, 94, rfl⟩
abbrev main_v18 : Ref sig .tc := ⟨.hbm, 95, rfl⟩
abbrev main_v19 : Ref sig .tc := ⟨.hbm, 96, rfl⟩

abbrev nD : Nat := 1
abbrev τ : Topo := Topo.v7x

variable {F : FTy → Type} [FloatOps F]

abbrev main_while0_count : Scf.Loop 32 := ⟨0#32, 64#32, 1#32⟩
-- ==== Proof.KernelStep.lean ====
/-
  One step of the kernel's recurrence as a function of the hidden row and the cell row it starts from, in the
  kernel's own operations, and the rows of the results block as that function's iterates.
-/
module
public import proofs.«01_k».proof.Proof.Gen.KernelIdeal.Frame

@[expose] public section

noncomputable section

namespace Cert.KernelIdeal.Steps

open Idealize.ShloMosaic Cert.KernelIdeal Cert.KernelIdeal.Gen Facts

variable {F : FTy → Type} [FloatOps F]

/-- What a row lacks after its rounding to bfloat16. -/
def rest (v : FVec F S1x128 .f32) : FVec F S1x128 .f32 :=
  subf v (extf .f32 (truncf .bf16 v bitsLt_bf16_f32) bitsLt_bf16_f32)

/-- The cell row and the hidden row, side by side, in bfloat16. -/
def pair (c h : FVec F S1x128 .f32) : FVec F S1x256 .bf16 :=
  concatenate S1x256 1 [⟨S1x128, truncf .bf16 c bitsLt_bf16_f32⟩, ⟨S1x128, truncf .bf16 h bitsLt_bf16_f32⟩]
    concatenates_S1x128_S1x128_S1x256_d1

/-- The product with the three-part weights: rows are the three parts of (cell, hidden). -/
def prod (S : FVec F S256x1536 .bf16) (c h : FVec F S1x128 .f32) : FVec F S3x1536 .f32 :=
  matmul dot_S3x256_S256x1536_S3x1536_1_0_0_1_n_n none
    (concatenate S3x256 0 [⟨S1x256, pair c h⟩, ⟨S1x256, pair (rest c) (rest h)⟩, ⟨S1x256, pair (rest (rest c)) (rest (rest h))⟩]
      concatenates_S1x256_S1x256_S1x256_S3x256_d0)
    S (constant S3x1536 .f32 0x00000000#32)

/-- The six partial products the kernel keeps, in its order. -/
def sums (p : FVec F S3x1536 .f32) : FVec F S1x512 .f32 :=
  addf
    (addf (addf (extractStridedSlice S1x512 ![0, 0] p slices_S3x1536_o0_0_S1x512)
        (extractStridedSlice S1x512 ![0, 512] p slices_S3x1536_o0_512_S1x512))
      (addf (extractStridedSlice S1x512 ![1, 0] p slices_S3x1536_o1_0_S1x512)
        (extractStridedSlice S1x512 ![0, 1024] p slices_S3x1536_o0_1024_S1x512)))
    (addf (extractStridedSlice S1x512 ![1, 512] p slices_S3x1536_o1_512_S1x512)
      (extractStridedSlice S1x512 ![2, 0] p slices_S3x1536_o2_0_S1x512))

/-- The hyperbolic tangents of the four scaled gates. -/
def tanhs (bc : FVec F S1x512 .f32) (S : FVec F S256x1536 .bf16) (c h : FVec F S1x128 .f32) : FVec F S1x512 .f32 :=
  tanh (addf (mulf (sums (prod S c h)) k0_pay2) bc)

/-- The next cell row, from the tangents and the cell row. -/
def cellC (t : FVec F S1x512 .f32) (c : FVec F S1x128 .f32) : FVec F S1x128 .f32 :=
  mulf (broadcast S1x128 (Scalar.ofBits .f32 0x3F000000#32))
    (addf (addf (mulf (extractStridedSlice S1x128 ![0, 128] t slices_S1x512_o0_128_S1x128) c) c)
      (addf (mulf (extractStridedSlice S1x128 ![0, 0] t slices_S1x512_o0_0_S1x128)
          (extractStridedSlice S1x128 ![0, 256] t slices_S1x512_o0_256_S1x128))
        (extractStridedSlice S1x128 ![0, 256] t slices_S1x512_o0_256_S1x128)))

/-- The next hidden row, from the tangents and the next cell row. -/
def cellH (t : FVec F S1x512 .f32) (c' : FVec F S1x128 .f32) : FVec F S1x128 .f32 :=
  mulf (addf (mulf (broadcast S1x128 (Scalar.ofBits .f32 0x3F000000#32))
        (extractStridedSlice S1x128 ![0, 384] t slices_S1x512_o0_384_S1x128))
      (broadcast S1x128 (Scalar.ofBits .f32 0x3F000000#32)))
    (tanh c')

/-- The tangents of step `n`, its cell row, and its hidden row: step 0 reads row 0 of the codebook where a later
    step reads the cell row before it, and a zero hidden row and a zero cell row. -/
def state (bc : FVec F S1x512 .f32) (S : FVec F S256x1536 .bf16) (x0 : FVec F S1x128 .f32) :
    ℕ → FVec F S1x128 .f32 × FVec F S1x128 .f32
  | 0 =>
    (cellC (tanhs bc S x0 k0_pay5) k0_pay5,
      cellH (tanhs bc S x0 k0_pay5) (cellC (tanhs bc S x0 k0_pay5) k0_pay5))
  | n + 1 =>
    (cellC (tanhs bc S (state bc S x0 n).1 (state bc S x0 n).2) (state bc S x0 n).1,
      cellH (tanhs bc S (state bc S x0 n).1 (state bc S x0 n).2)
        (cellC (tanhs bc S (state bc S x0 n).1 (state bc S x0 n).2) (state bc S x0 n).1))

end Cert.KernelIdeal.Steps

end
-- ==== Proof.KernelRows.lean ====
/-
  What the body of the kernel leaves in its two result blocks, as functions of its six input blocks: the 64 cell
  rows in the first, and in the second the index found by four rounds of a running maximum over the codebook.
-/
module
public import proofs.«01_k».proof.Proof.KernelStep
public import Idealize.ShloMosaic.Lib.Pipeline.Value
public import Idealize.ShloMosaic.Lib.Pipeline.ReadBack
public import Idealize.ShloMosaic.Lib.Pipeline.ValueKit.Tiles
public import Idealize.ShloMosaic.Lib.Pipeline.ValueKit.Acc
public import Idealize.ShloMosaic.Lib.Pointwise

@[expose] public section

noncomputable section

namespace Cert.KernelIdeal.Steps

open Idealize.ShloMosaic Cert.KernelIdeal Cert.KernelIdeal.Gen Facts

variable {F : FTy → Type} [FloatOps F]

/-! ## The cell rows -/

/-- Row `n` fits the results block. -/
theorem inb (n : ℕ) (h : n < 64) : ∀ a, (![n, 0] : Fin 2 → ℕ) a + S1x128.size a ≤ S64x128.size a := by
  intro a
  fin_cases a
  · show n + 1 ≤ 64
    omega
  · show 0 + 128 ≤ 128
    omega

/-- The first `n` row stores, newest first. -/
def rowPieces (row : ℕ → Vec F S1x128 .f32) : (n : ℕ) → n ≤ 64 → List (View.Piece (Elt F) S64x128 EltTy.f32)
  | 0, _ => []
  | n + 1, h => ⟨Rect.unit ![n, 0] S1x128.size (inb n h), row n⟩ :: rowPieces row n (Nat.le_of_succ_le h)

/-- Read back, the first `n` row stores leave row `k` at row `k`. -/
theorem canon_rowPieces (row : ℕ → Vec F S1x128 .f32) : ∀ (n : ℕ) (h : n ≤ 64) (y : S64x128.Idx),
    (y 0).val < n → View.canon (rowPieces row n h) y = row (y 0).val (ix2 0 (y 1))
  | 0, _, _, hy => absurd hy (Nat.not_lt_zero _)
  | n + 1, h, y, hy => by
    by_cases hn : (y 0).val = n
    · have e : y = (Rect.unit (s := S64x128) ![n, 0] S1x128.size (inb n h)).emb (ix2 0 (y 1)) := by
        funext a
        apply Fin.ext
        rw [Rect.emb_apply]
        fin_cases a
        · show (y 0).val = n + 1 * 0
          omega
        · show (y 1).val = 0 + 1 * (y 1).val
          omega
      rw [hn]
      conv_lhs => rw [e]
      exact View.canon_cons_emb _ _ _ _
    · rw [rowPieces, View.canon_cons_of_not_mem, canon_rowPieces row n _ y (by omega)]
      rw [Rect.mem_set_unit]
      intro hall
      have h0 : n ≤ (y 0).val := (hall 0).1
      omega

/-- The 64 cell rows as one block. -/
def rows (bc : FVec F S1x512 .f32) (S : FVec F S256x1536 .bf16) (x0 : FVec F S1x128 .f32) : FVec F S64x128 .f32 :=
  fun y => (state bc S x0 (y 0).val).1 (ix2 0 (y 1))

/-- The block that the 64 row stores fill holds the cell rows. -/
theorem canon_rows (bc : FVec F S1x512 .f32) (S : FVec F S256x1536 .bf16) (x0 : FVec F S1x128 .f32) :
    View.canon (rowPieces (fun n => (state bc S x0 n).1) 64 (le_refl 64)) = rows bc S x0 :=
  funext fun y => canon_rowPieces _ 64 (le_refl 64) y (y 0).isLt

/-! ## The index of the nearest codebook row -/

/-- The scaled products of the rows with one quarter of the codebook. -/
def sims (z : FVec F S128x256 .bf16) (e : Vec F S256x2048 .bf16) (w : Vec F S1x2048 .f32) : FVec F S64x2048 .f32 :=
  mulf (addf
      (extractStridedSlice S64x2048 ![0, 0]
        (matmul dot_S128x256_S256x2048_S128x2048_1_0_0_1_n_n none z e (constant S128x2048 .f32 0x00000000#32))
        slices_S128x2048_o0_0_S64x2048)
      (extractStridedSlice S64x2048 ![64, 0]
        (matmul dot_S128x256_S256x2048_S128x2048_1_0_0_1_n_n none z e (constant S128x2048 .f32 0x00000000#32))
        slices_S128x2048_o64_0_S64x2048))
    (broadcastTo S64x2048 w broadcasts_S1x2048_S64x2048)

/-- The largest entry of each row. -/
def top (s : FVec F S64x2048 .f32) : FVec F S64x1 .f32 :=
  shapeCast S64x1 (multiReduction .maximumf [1] S64 s 0xFF800000#32 reduces_S64x2048_S64 (.inl rfl) rfl)
    shapeCasts_S64_S64x1

/-- The first place of the largest entry of each row, counted from `o`. -/
def place (o : BitVec 32) (s : FVec F S64x2048 .f32) : IVec S64x1 32 :=
  shapeCast S64x1 (multiReductionI .minsi [1] S64
      (select (cmpf .oeq s (broadcastTo S64x2048 (top s) broadcasts_S64x1_S64x2048))
        (addi (iota .tc S64x2048 32 [1] iota_S64x2048_d1_w32) (broadcast S64x2048 o))
        (broadcast S64x2048 2147483647#32)) 2147483647#32 reduces_S64x2048_S64 rfl)
    shapeCasts_S64_S64x1

/-- One round of the running maximum: a quarter's largest entry is taken when it is above the best so far. -/
def round (o : BitVec 32) (s : FVec F S64x2048 .f32) (p : FVec F S64x1 .f32 × IVec S64x1 32) :
    FVec F S64x1 .f32 × IVec S64x1 32 :=
  (select (cmpf .ogt (top s) p.1) (top s) p.1, select (cmpf .ogt (top s) p.1) (place o s) p.2)

/-- Quarter `k` fits the codebook parts. -/
theorem inbE (o : ℕ) (h : o + 2048 ≤ 8192) :
    ∀ a, (![0, o] : Fin 2 → ℕ) a + S256x2048.size a ≤ S256x8192.size a := by
  intro a
  fin_cases a
  · show 0 + 256 ≤ 256
    omega
  · show o + 2048 ≤ 8192
    omega

/-- Quarter `k` fits the reciprocal norms. -/
theorem inbW (o : ℕ) (h : o + 2048 ≤ 8192) :
    ∀ a, (![0, o] : Fin 2 → ℕ) a + S1x2048.size a ≤ S1x8192.size a := by
  intro a
  fin_cases a
  · show 0 + 1 ≤ 1
    omega
  · show o + 2048 ≤ 8192
    omega

/-- The scaled products with the quarter that begins at `o`. -/
def quarter (res : FVec F S64x128 .f32) (ewt : Vec F S128x8192 .f32) (o : ℕ) (h : o + 2048 ≤ 8192) :
    FVec F S64x2048 .f32 :=
  sims (k0_pay346 res) (View.ld (k0_pay344 ewt) (Rect.unit (s := S256x8192) ![0, o] S256x2048.size (inbE o h)))
    (View.ld (k0_pay345 ewt) (Rect.unit (s := S1x8192) ![0, o] S1x2048.size (inbW o h)))

/-- The index after the four rounds. -/
def nearest (res : FVec F S64x128 .f32) (ewt : Vec F S128x8192 .f32) : IVec S64x1 32 :=
  (round 6144#32 (quarter res ewt 6144 (by omega))
    (round 4096#32 (quarter res ewt 4096 (by omega))
      (round 2048#32 (quarter res ewt 2048 (by omega))
        (round 0#32 (quarter res ewt 0 (by omega)) (k0_pay347, broadcast S64x1 0#32))))).2

/-! ## The run's stores -/

section Run

variable (c : Dev nD) (arg0 : Memref sig Kind.tc Space.vmem S1x128 .f32) (harg0 : arg0.IsWhole)
  (arg1 : Memref sig Kind.tc Space.vmem S1x128 .f32) (harg1 : arg1.IsWhole)
  (arg2 : Memref sig Kind.tc Space.vmem S256x1536 .bf16) (harg2 : arg2.IsWhole)
  (arg3 : Memref sig Kind.tc Space.vmem S128x512 .f32) (harg3 : arg3.IsWhole)
  (arg4 : Memref sig Kind.tc Space.vmem S1x512 .f32) (harg4 : arg4.IsWhole)
  (arg5 : Memref sig Kind.tc Space.vmem S128x8192 .f32) (harg5 : arg5.IsWhole)
  (arg6 : Memref sig Kind.tc Space.vmem S64x128 .f32) (harg6 : arg6.IsWhole)
  (arg7 : Memref sig Kind.tc Space.vmem S64x1 .i32) (harg7 : arg7.IsWhole)
  (arg8 : Memref sig Kind.tc Space.vmem S1x8192 .f32) (harg8 : arg8.IsWhole)
  (arg9 : Memref sig Kind.tc Space.vmem S256x8192 .bf16) (harg9 : arg9.IsWhole)
  (x0 x1 : Vec F S1x128 .f32) (x2 : Vec F S256x1536 .bf16) (x3 : Vec F S128x512 .f32) (x4 : Vec F S1x512 .f32)
  (x5 : Vec F S128x8192 .f32)

set_option maxRecDepth 100000 in
set_option maxHeartbeats 4000000 in
/-- The run's 64 stores to the results block are the cell rows. -/
theorem pieces : kernelRun0_A.sl.H6_64 c arg0 harg0 arg1 harg1 arg2 harg2 arg3 harg3 arg4 harg4 x0 x1 x2 x3 x4
    = rowPieces (fun n => (state (k0_pay3 (View.readAt (Elt F) arg1.view (Rect.unit ![0, 0] S1x128.size inb_S1x128_S1x128_0_0).toLoadRect (harg1.unread x1))
        (View.readAt (Elt F) arg3.view (Rect.unit ![0, 0] S128x512.size inb_S128x512_S128x512_0_0).toLoadRect (harg3.unread x3))
        (View.readAt (Elt F) arg4.view (Rect.unit ![0, 0] S1x512.size inb_S1x512_S1x512_0_0).toLoadRect (harg4.unread x4)))
        (k0_pay4 (View.readAt (Elt F) arg2.view (Rect.unit ![0, 0] S256x1536.size inb_S256x1536_S256x1536_0_0).toLoadRect (harg2.unread x2)))
        (shapeCast S1x128 (View.readAt (Elt F) arg0.view (Rect.unit ![0, 0] S1x128.size inb_S1x128_S1x128_0_0).toLoadRect (harg0.unread x0))
          shapeCasts_S1x128_S1x128) n).1) 64 (le_refl 64) := rfl

/-- The whole of a block, loaded back, is the block. -/
theorem load_whole {s : Shape} {e : EltTy} (a : Memref sig Kind.tc Space.vmem s e) (h : a.IsWhole)
    (x : s.Idx → Elt F e) {off : Fin s.rank → ℕ} (hin : ∀ i, off i + s.size i ≤ s.size i) (h0 : ∀ i, off i = 0) :
    View.readAt (Elt F) a.view (Rect.unit off s.size hin).toLoadRect (h.unread x) = x := by
  rw [View.readAt_eq_ld, h.read_unread]
  exact View.ld_unit_lit hin x h0

/-- … so they are the cell rows of the six blocks. -/
theorem pieces_blocks : kernelRun0_A.sl.H6_64 c arg0 harg0 arg1 harg1 arg2 harg2 arg3 harg3 arg4 harg4 x0 x1 x2 x3 x4
    = rowPieces (fun n => (state (k0_pay3 x1 x3 x4) (k0_pay4 x2) (shapeCast S1x128 x0 shapeCasts_S1x128_S1x128) n).1)
        64 (le_refl 64) := by
  rw [pieces, load_whole arg0 harg0 x0 _ (by decide), load_whole arg1 harg1 x1 _ (by decide),
    load_whole arg2 harg2 x2 _ (by decide), load_whole arg3 harg3 x3 _ (by decide),
    load_whole arg4 harg4 x4 _ (by decide)]

/-- The cell rows of the kernel's blocks. -/
def cellRows (x0 x1 : Vec F S1x128 .f32) (x2 : Vec F S256x1536 .bf16) (x3 : Vec F S128x512 .f32)
    (x4 : Vec F S1x512 .f32) : FVec F S64x128 .f32 :=
  rows (k0_pay3 x1 x3 x4) (k0_pay4 x2) (shapeCast S1x128 x0 shapeCasts_S1x128_S1x128)

/-- The first result block: the cell rows. -/
theorem out_rows : out0_A_6 c arg0 harg0 arg1 harg1 arg2 harg2 arg3 harg3 arg4 harg4 arg5 harg5 arg6 harg6 arg7 harg7
    arg8 harg8 arg9 harg9 x0 x1 x2 x3 x4 x5 = cellRows x0 x1 x2 x3 x4 := by
  unfold out0_A_6
  rw [View.read_writes_junk_eq_canon]
  refine Eq.trans ?_ (canon_rows _ _ _)
  exact congrArg View.canon (pieces_blocks c arg0 harg0 arg1 harg1 arg2 harg2 arg3 harg3 arg4 harg4 x0 x1 x2 x3 x4)

/-- The run's rounds, over whatever its loads read. -/
def rounds (res : FVec F S64x128 .f32) (e0 e1 e2 e3 : Vec F S256x2048 .bf16) (w0 w1 w2 w3 : Vec F S1x2048 .f32) :
    IVec S64x1 32 :=
  (round 6144#32 (sims (k0_pay346 res) e3 w3) (round 4096#32 (sims (k0_pay346 res) e2 w2)
    (round 2048#32 (sims (k0_pay346 res) e1 w1)
      (round 0#32 (sims (k0_pay346 res) e0 w0) (k0_pay347, broadcast S64x1 0#32))))).2

set_option maxRecDepth 100000 in
set_option maxHeartbeats 4000000 in
/-- The run's one store to the index block. -/
theorem index_piece : (kernelRun0_A c arg0 harg0 arg1 harg1 arg2 harg2 arg3 harg3 arg4 harg4 arg5 harg5 arg6 harg6 arg7
      harg7 arg8 harg8 arg9 harg9 x0 x1 x2 x3 x4 x5).2.1
    = [⟨Rect.unit ![0, 0] S64x1.size inb_S64x1_S64x1_0_0, rounds
        (arg6.view.readCov (kernelRun0_A.sl.H6_64 c arg0 harg0 arg1 harg1 arg2 harg2 arg3 harg3 arg4 harg4 x0 x1 x2 x3 x4)
          (Rect.unit ![0, 0] S64x128.size inb_S64x128_S64x128_0_0).toLoadRect)
        (arg9.view.readCov [⟨Rect.unit ![0, 0] S256x8192.size inb_S256x8192_S256x8192_0_0, k0_pay344 (View.readAt (Elt F) arg5.view (Rect.unit ![0, 0] S128x8192.size inb_S128x8192_S128x8192_0_0).toLoadRect (harg5.unread x5))⟩]
          (Rect.unit (s := S256x8192) ![0, 0] S256x2048.size (inbE 0 (by omega))).toLoadRect)
        (arg9.view.readCov [⟨Rect.unit ![0, 0] S256x8192.size inb_S256x8192_S256x8192_0_0, k0_pay344 (View.readAt (Elt F) arg5.view (Rect.unit ![0, 0] S128x8192.size inb_S128x8192_S128x8192_0_0).toLoadRect (harg5.unread x5))⟩]
          (Rect.unit (s := S256x8192) ![0, 2048] S256x2048.size (inbE 2048 (by omega))).toLoadRect)
        (arg9.view.readCov [⟨Rect.unit ![0, 0] S256x8192.size inb_S256x8192_S256x8192_0_0, k0_pay344 (View.readAt (Elt F) arg5.view (Rect.unit ![0, 0] S128x8192.size inb_S128x8192_S128x8192_0_0).toLoadRect (harg5.unread x5))⟩]
          (Rect.unit (s := S256x8192) ![0, 4096] S256x2048.size (inbE 4096 (by omega))).toLoadRect)
        (arg9.view.readCov [⟨Rect.unit ![0, 0] S256x8192.size inb_S256x8192_S256x8192_0_0, k0_pay344 (View.readAt (Elt F) arg5.view (Rect.unit ![0, 0] S128x8192.size inb_S128x8192_S128x8192_0_0).toLoadRect (harg5.unread x5))⟩]
          (Rect.unit (s := S256x8192) ![0, 6144] S256x2048.size (inbE 6144 (by omega))).toLoadRect)
        (arg8.view.readCov [⟨Rect.unit ![0, 0] S1x8192.size inb_S1x8192_S1x8192_0_0, k0_pay345 (View.readAt (Elt F) arg5.view (Rect.unit ![0, 0] S128x8192.size inb_S128x8192_S128x8192_0_0).toLoadRect (harg5.unread x5))⟩]
          (Rect.unit (s := S1x8192) ![0, 0] S1x2048.size (inbW 0 (by omega))).toLoadRect)
        (arg8.view.readCov [⟨Rect.unit ![0, 0] S1x8192.size inb_S1x8192_S1x8192_0_0, k0_pay345 (View.readAt (Elt F) arg5.view (Rect.unit ![0, 0] S128x8192.size inb_S128x8192_S128x8192_0_0).toLoadRect (harg5.unread x5))⟩]
          (Rect.unit (s := S1x8192) ![0, 2048] S1x2048.size (inbW 2048 (by omega))).toLoadRect)
        (arg8.view.readCov [⟨Rect.unit ![0, 0] S1x8192.size inb_S1x8192_S1x8192_0_0, k0_pay345 (View.readAt (Elt F) arg5.view (Rect.unit ![0, 0] S128x8192.size inb_S128x8192_S128x8192_0_0).toLoadRect (harg5.unread x5))⟩]
          (Rect.unit (s := S1x8192) ![0, 4096] S1x2048.size (inbW 4096 (by omega))).toLoadRect)
        (arg8.view.readCov [⟨Rect.unit ![0, 0] S1x8192.size inb_S1x8192_S1x8192_0_0, k0_pay345 (View.readAt (Elt F) arg5.view (Rect.unit ![0, 0] S128x8192.size inb_S128x8192_S128x8192_0_0).toLoadRect (harg5.unread x5))⟩]
          (Rect.unit (s := S1x8192) ![0, 6144] S1x2048.size (inbW 6144 (by omega))).toLoadRect)⟩] := rfl

/-- The second result block: the index the four rounds leave. -/
theorem out_index : out0_A_7 c arg0 harg0 arg1 harg1 arg2 harg2 arg3 harg3 arg4 harg4 arg5 harg5 arg6 harg6 arg7 harg7
    arg8 harg8 arg9 harg9 x0 x1 x2 x3 x4 x5 = nearest (cellRows x0 x1 x2 x3 x4) x5 := by
  unfold out0_A_7
  rw [View.read_writes_junk_eq_canon, index_piece, pieces_blocks,
    View.canon_cons_unit_lit (S := S64x1) inb_S64x1_S64x1_0_0 _ _ (by decide),
    load_whole arg5 harg5 x5 inb_S128x8192_S128x8192_0_0 (by decide)]
  rw [View.readCov_fill arg9.view inb_S256x8192_S256x8192_0_0 _ [] _ (by decide),
    View.readCov_fill arg9.view inb_S256x8192_S256x8192_0_0 _ [] _ (by decide),
    View.readCov_fill arg9.view inb_S256x8192_S256x8192_0_0 _ [] _ (by decide),
    View.readCov_fill arg9.view inb_S256x8192_S256x8192_0_0 _ [] _ (by decide),
    View.readCov_fill arg8.view inb_S1x8192_S1x8192_0_0 _ [] _ (by decide),
    View.readCov_fill arg8.view inb_S1x8192_S1x8192_0_0 _ [] _ (by decide),
    View.readCov_fill arg8.view inb_S1x8192_S1x8192_0_0 _ [] _ (by decide),
    View.readCov_fill arg8.view inb_S1x8192_S1x8192_0_0 _ [] _ (by decide)]
  rw [View.readCov_eq_canon', canon_rows]
  have e := View.ld_unit_lit (Val := Elt F) (e := .f32) (S := S64x128) inb_S64x128_S64x128_0_0 (cellRows x0 x1 x2 x3 x4) (by decide)
  exact congrArg (fun r => nearest r x5) e

end Run

end Cert.KernelIdeal.Steps

end
-- ==== Proof.KernelArray.lean ====
/-
  The kernel's results as functions of its arguments: the host operations before the kernel, and the kernel's blocks,
  each of which is a whole array.
-/
module
public import proofs.«01_k».proof.Proof.KernelRows
public import proofs.«01_k».proof.Proof.Gen.KernelIdeal.Value
public import Idealize.ShloMosaic.Lib.Pipeline.ValueKit.Geometry

@[expose] public section

noncomputable section

namespace Cert.KernelIdeal.Steps

open Idealize.ShloMosaic Idealize.ShloMosaic.TcCoe Idealize.SL.Sem
open Cert.KernelIdeal Cert.KernelIdeal.Gen Facts
open Idealize.ShloMosaic.Pipeline (Dat)

variable {F : FTy → Type} [FloatOps F]

/-! ## The host operations before the kernel -/

/-- The weights of the codebook entry, of the hidden row and of the input, side by side, rows and columns exchanged. -/
def weights (a2 : FVec F S512x256 .f32) (a3 : FVec F S512x128 .f32) : FVec F S384x512 .f32 :=
  transpose S384x512 [1, 0]
    (concatenate S512x384 1 [⟨S512x128, extractStridedSlice S512x128 ![0, 0] a2 slices_S512x256_S512x128_0_0⟩, ⟨S512x128, a3⟩,
      ⟨S512x128, extractStridedSlice S512x128 ![0, 128] a2 slices_S512x256_S512x128_0_128⟩]
      concatenates_S512x128_S512x128_S512x128_S512x384_d1) transposes_S512x384_S384x512_1_0

/-- What the weights lack after their rounding to bfloat16. -/
def restW (w : FVec F S256x512 .f32) : FVec F S256x512 .f32 :=
  subf w (extf .f32 (truncf .bf16 w bitsLt_bf16_f32) bitsLt_bf16_f32)

/-- The three parts of the weights, side by side. -/
def parts (w : FVec F S256x512 .f32) : FVec F S256x1536 .bf16 :=
  concatenate S256x1536 1 [⟨S256x512, truncf .bf16 w bitsLt_bf16_f32⟩, ⟨S256x512, truncf .bf16 (restW w) bitsLt_bf16_f32⟩,
    ⟨S256x512, truncf .bf16 (restW (restW w)) bitsLt_bf16_f32⟩] concatenates_S256x512_S256x512_S256x512_S256x1536_d1

variable (m : (ℓ : Loc nD τ sig) → Buf (Elt F) ℓ) (ρ : Dev nD → PrngReg) (c : Dev nD)

/-- The first operand is codebook row 0. -/
theorem V_v0 : V m c main_v0 = extractStridedSlice S1x128 ![0, 0] (m ((c : Thread nD τ).loc main_arg1)) slices_S8192x128_S1x128_0_0 := by
  show StableHlo.after hostOps0 _ (Proc.devRef .tc main_v0) = _
  after_results

/-- The second operand is the input, as a row. -/
theorem V_v1 : V m c main_v1 = shapeCast S1x128 (m ((c : Thread nD τ).loc main_arg0)) shapeCasts_S128_S1x128 := by
  show StableHlo.after hostOps0 _ (Proc.devRef .tc main_v1) = _
  after_results
  rfl

/-- The third operand holds the three parts of the weights of the recurrence. -/
theorem V_v14 : V m c main_v14 = parts (extractStridedSlice S256x512 ![0, 0]
    (weights (m ((c : Thread nD τ).loc main_arg2)) (m ((c : Thread nD τ).loc main_arg3))) slices_S384x512_S256x512_0_0) := by
  show StableHlo.after hostOps0 _ (Proc.devRef .tc main_v14) = _
  after_results
  rfl

/-- The fourth operand holds the weights of the input. -/
theorem V_v15 : V m c main_v15 = extractStridedSlice S128x512 ![256, 0]
    (weights (m ((c : Thread nD τ).loc main_arg2)) (m ((c : Thread nD τ).loc main_arg3))) slices_S384x512_S128x512_256_0 := by
  show StableHlo.after hostOps0 _ (Proc.devRef .tc main_v15) = _
  after_results
  rfl

/-- The fifth operand is the sum of the biases, as a row. -/
theorem V_v17 : V m c main_v17 = shapeCast S1x512 (addf (m ((c : Thread nD τ).loc main_arg4)) (m ((c : Thread nD τ).loc main_arg5)) : FVec F S512 .f32)
    shapeCasts_S512_S1x512 := by
  show StableHlo.after hostOps0 _ (Proc.devRef .tc main_v17) = _
  after_results
  rfl

/-- The sixth operand is the codebook with rows and columns exchanged. -/
theorem V_v18 : V m c main_v18 = transpose S128x8192 [1, 0] (m ((c : Thread nD τ).loc main_arg1)) transposes_S8192x128_S128x8192_1_0 := by
  show StableHlo.after hostOps0 _ (Proc.devRef .tc main_v18) = _
  after_results

/-! ## The blocks -/

/-- Block 0 is the whole of its array. -/
theorem iblk0 (t : Fin cfg0.N) : (iblk m c 0 t : Vec F S1x128 .f32) = V m c main_v0 := by
  funext j
  unfold iblk
  rw [View.read_apply]
  refine congrArg (V m c main_v0) (funext fun a => Fin.ext ?_)
  show 0 * _ + 1 * (j a).val = (j a).val
  omega

/-- Block 1 is the whole of its array. -/
theorem iblk1 (t : Fin cfg0.N) : (iblk m c 1 t : Vec F S1x128 .f32) = V m c main_v1 := by
  funext j
  unfold iblk
  rw [View.read_apply]
  refine congrArg (V m c main_v1) (funext fun a => Fin.ext ?_)
  show 0 * _ + 1 * (j a).val = (j a).val
  omega

/-- Block 2 is the whole of its array. -/
theorem iblk2 (t : Fin cfg0.N) : (iblk m c 2 t : Vec F S256x1536 .bf16) = V m c main_v14 := by
  funext j
  unfold iblk
  rw [View.read_apply]
  refine congrArg (V m c main_v14) (funext fun a => Fin.ext ?_)
  show 0 * _ + 1 * (j a).val = (j a).val
  omega

/-- Block 3 is the whole of its array. -/
theorem iblk3 (t : Fin cfg0.N) : (iblk m c 3 t : Vec F S128x512 .f32) = V m c main_v15 := by
  funext j
  unfold iblk
  rw [View.read_apply]
  refine congrArg (V m c main_v15) (funext fun a => Fin.ext ?_)
  show 0 * _ + 1 * (j a).val = (j a).val
  omega

/-- Block 4 is the whole of its array. -/
theorem iblk4 (t : Fin cfg0.N) : (iblk m c 4 t : Vec F S1x512 .f32) = V m c main_v17 := by
  funext j
  unfold iblk
  rw [View.read_apply]
  refine congrArg (V m c main_v17) (funext fun a => Fin.ext ?_)
  show 0 * _ + 1 * (j a).val = (j a).val
  omega

/-- Block 5 is the whole of its array. -/
theorem iblk5 (t : Fin cfg0.N) : (iblk m c 5 t : Vec F S128x8192 .f32) = V m c main_v18 := by
  funext j
  unfold iblk
  rw [View.read_apply]
  refine congrArg (V m c main_v18) (funext fun a => Fin.ext ?_)
  show 0 * _ + 1 * (j a).val = (j a).val
  omega

/-! ## The result arrays -/

/-- The cell rows as a function of the arguments. -/
def kernelRows (a0 : FVec F S128 .f32) (a1 : FVec F S8192x128 .f32) (a2 : FVec F S512x256 .f32) (a3 : FVec F S512x128 .f32)
    (a4 a5 : FVec F S512 .f32) : FVec F S64x128 .f32 :=
  cellRows (extractStridedSlice S1x128 ![0, 0] a1 slices_S8192x128_S1x128_0_0) (shapeCast S1x128 a0 shapeCasts_S128_S1x128)
    (parts (extractStridedSlice S256x512 ![0, 0] (weights a2 a3) slices_S384x512_S256x512_0_0))
    (extractStridedSlice S128x512 ![256, 0] (weights a2 a3) slices_S384x512_S128x512_256_0)
    (shapeCast S1x512 (addf a4 a5) shapeCasts_S512_S1x512)

/-- The decoded indices as a function of the cell rows and the codebook. -/
def kernelIndex (res : FVec F S64x128 .f32) (a1 : FVec F S8192x128 .f32) : IVec S64x1 32 :=
  nearest res (transpose S128x8192 [1, 0] a1 transposes_S8192x128_S128x8192_1_0)

/-- The cell rows of the blocks are those of the arguments. -/
theorem cellRows_blocks (t : Fin cfg0.N) :
    cellRows (iblk m c 0 t : Vec F S1x128 .f32) (iblk m c 1 t : Vec F S1x128 .f32) (iblk m c 2 t : Vec F S256x1536 .bf16)
      (iblk m c 3 t : Vec F S128x512 .f32) (iblk m c 4 t : Vec F S1x512 .f32)
    = kernelRows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  rw [iblk0, iblk1, iblk2, iblk3, iblk4, V_v0, V_v1, V_v14, V_v15, V_v17]
  rfl

/-- The first result array holds the cell rows. -/
theorem array_rows : (dats m 0 c).arrAt 6 cfg0.N
    = kernelRows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  have e : (outsAt0 m c t0_0).1 = _ := (out_rows c _ (hs0_0 t0_0) _ (hs0_1 t0_0) _ (hs0_2 t0_0) _ (hs0_3 t0_0) _ (hs0_4 t0_0) _ (hs0_5 t0_0) _ (hs0_6 t0_0) _ (hs0_7 t0_0) scM0_0 (Memref.isWhole_whole _) scM0_1
    (Memref.isWhole_whole _) (iblk m c 0 t0_0) (iblk m c 1 t0_0) (iblk m c 2 t0_0)
    (iblk m c 3 t0_0) (iblk m c 4 t0_0) (iblk m c 5 t0_0)).trans (cellRows_blocks m c t0_0)
  rw [after0_6, e]
  rfl

/-- The second result array holds the decoded indices. -/
theorem array_index : (dats m 0 c).arrAt 7 cfg0.N
    = kernelIndex (kernelRows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
      (m ((c : Thread nD τ).loc main_arg1)) := by
  refine (dats m 0 c).arrAt_eq_of_after_last 7 t0_0 (by decide +kernel) _ fun j => ?_
  have e : (outsAt0 m c t0_0).2 = _ := (out_index c _ (hs0_0 t0_0) _ (hs0_1 t0_0) _ (hs0_2 t0_0) _ (hs0_3 t0_0) _ (hs0_4 t0_0) _ (hs0_5 t0_0) _ (hs0_6 t0_0) _ (hs0_7 t0_0) scM0_0 (Memref.isWhole_whole _) scM0_1
    (Memref.isWhole_whole _) (iblk m c 0 t0_0) (iblk m c 1 t0_0) (iblk m c 2 t0_0)
    (iblk m c 3 t0_0) (iblk m c 4 t0_0) (iblk m c 5 t0_0)).trans
    (congrArg₂ nearest (cellRows_blocks m c t0_0) ((iblk5 m c t0_0).trans (V_v18 m c)))
  rw [after0_7, e]
  rfl

end Cert.KernelIdeal.Steps

end
-- ==== Proof.RefRun.lean ====
/- The run of the reference: @main is one stretch of host operations, one counted loop of 64 trips and five stretches
   after it, the last but one being the call that takes the index of the largest entry of a row. `run_fold` has every
   buffer after the run; `STEP` is one trip, and `run` gives each result from `STEP` iterated on the loop's entry. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as stretches of operations and one loop -/

/-- 19 host operations of @main, in order. -/
abbrev hostOps0 : List (HloOp τ sig (Elt F)) :=
  [ StableHlo.unary main_arg1 main_v0 ((extractStridedSlice S1x128 ![0, 0] · slices_S8192x128_S1x128_0_0) : (⟨S8192x128, .f32⟩ : BufTy).Contents (Elt F) → (⟨S1x128, .f32⟩ : BufTy).Contents (Elt F)),
    StableHlo.reshape main_v0 main_v1 (rfl : (.f32 : EltTy) = .f32) shapeCasts_S1x128_S128,
    StableHlo.nullary main_cst (constant S_ .f32 0x00000000#32),
    StableHlo.unary main_cst main_v2 (broadcastInDim S128 ![] bcast_S_S128 : (⟨S_, .f32⟩ : BufTy).Contents (Elt F) → (⟨S128, .f32⟩ : BufTy).Contents (Elt F)),
    StableHlo.nullary main_cst_0 (constant S_ .f32 0x00000000#32),
    StableHlo.unary main_cst_0 main_v3 (broadcastInDim S128 ![] bcast_S_S128 : (⟨S_, .f32⟩ : BufTy).Contents (Elt F) → (⟨S128, .f32⟩ : BufTy).Contents (Elt F)),
    StableHlo.nullary main_cst_1 (constant S_ .f32 0x00000000#32),
    StableHlo.unary main_cst_1 main_v4 (broadcastInDim S64x128 ![] bcast_S_S64x128 : (⟨S_, .f32⟩ : BufTy).Contents (Elt F) → (⟨S64x128, .f32⟩ : BufTy).Contents (Elt F)),
    StableHlo.nullary main_c (constantI S_ 32 0#32),
    StableHlo.unary main_arg0 main_v5_0 id,
    StableHlo.unary main_arg2 main_v5_1 id,
    StableHlo.unary main_arg4 main_v5_2 id,
    StableHlo.unary main_arg3 main_v5_3 id,
    StableHlo.unary main_arg5 main_v5_4 id,
    StableHlo.unary main_c main_v5_5 id,
    StableHlo.unary main_v2 main_v5_6 id,
    StableHlo.unary main_v3 main_v5_7 id,
    StableHlo.unary main_v1 main_v5_8 id,
    StableHlo.unary main_v4 main_v5_9 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 4 host operations of @norm (main_call1), in order. -/
abbrev hostOps0_1 : List (HloOp τ sig (Elt F)) :=
  [ StableHlo.TRef.binary (.of main_arg1 : StableHlo.TRef sig ⟨S8192x128, .f32⟩) (.of main_arg1 : StableHlo.TRef sig ⟨S8192x128, .f32⟩) (.of main_call1_v0 : StableHlo.TRef sig ⟨S8192x128, .f32⟩) mulf,
    StableHlo.TRef.nullary (.of main_call1_cst : StableHlo.TRef sig ⟨S_, .f32⟩) (constant S_ .f32 0x00000000#32),
    StableHlo.TRef.binary (.of main_call1_v0 : StableHlo.TRef sig ⟨S8192x128, .f32⟩) (.of main_call1_cst : StableHlo.TRef sig ⟨S_, .f32⟩) (.of main_call1_v1 : StableHlo.TRef sig ⟨S8192, .f32⟩) (fun x v => Host.reduceAdd x v reducesTo_S8192x128_S8192_d1 h_S_),
    StableHlo.TRef.unary (.of main_call1_v1 : StableHlo.TRef sig ⟨S8192, .f32⟩) (.of main_v6 : StableHlo.TRef sig ⟨S8192, .f32⟩) Host.sqrt ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- 4 host operations of @norm_0 (main_call2), in order. -/
abbrev hostOps0_2 : List (HloOp τ sig (Elt F)) :=
  [ StableHlo.TRef.binary (.of main_v5_9 : StableHlo.TRef sig ⟨S64x128, .f32⟩) (.of main_v5_9 : StableHlo.TRef sig ⟨S64x128, .f32⟩) (.of main_call2_v0 : StableHlo.TRef sig ⟨S64x128, .f32⟩) mulf,
    StableHlo.TRef.nullary (.of main_call2_cst : StableHlo.TRef sig ⟨S_, .f32⟩) (constant S_ .f32 0x00000000#32),
    StableHlo.TRef.binary (.of main_call2_v0 : StableHlo.TRef sig ⟨S64x128, .f32⟩) (.of main_call2_cst : StableHlo.TRef sig ⟨S_, .f32⟩) (.of main_call2_v1 : StableHlo.TRef sig ⟨S64, .f32⟩) (fun x v => Host.reduceAdd x v reducesTo_S64x128_S64_d1 h_S_),
    StableHlo.TRef.unary (.of main_call2_v1 : StableHlo.TRef sig ⟨S64, .f32⟩) (.of main_v7 : StableHlo.TRef sig ⟨S64, .f32⟩) Host.sqrt ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- 11 host operations of @main, in order. -/
abbrev hostOps0_3 : List (HloOp τ sig (Elt F)) :=
  [ StableHlo.unary main_arg1 main_v8 ((transpose S128x8192 [1, 0] · transposes_S8192x128_S128x8192_1_0) : (⟨S8192x128, .f32⟩ : BufTy).Contents (Elt F) → (⟨S128x8192, .f32⟩ : BufTy).Contents (Elt F)),
    StableHlo.binary main_v5_9 main_v8 main_v9 ((fun l r => Host.dotGeneral dot_S64x128_S128x8192_S64x8192_1_0_0_1_n_n none l r) : (⟨S64x128, .f32⟩ : BufTy).Contents (Elt F) → (⟨S128x8192, .f32⟩ : BufTy).Contents (Elt F) → (⟨S64x8192, .f32⟩ : BufTy).Contents (Elt F)),
    StableHlo.unary main_v7 main_v10 (broadcastInDim S64x1 ![0] bcast_S64_S64x1_0 : (⟨S64, .f32⟩ : BufTy).Contents (Elt F) → (⟨S64x1, .f32⟩ : BufTy).Contents (Elt F)),
    StableHlo.unary main_v6 main_v11 (broadcastInDim S1x8192 ![1] bcast_S8192_S1x8192_1 : (⟨S8192, .f32⟩ : BufTy).Contents (Elt F) → (⟨S1x8192, .f32⟩ : BufTy).Contents (Elt F)),
    StableHlo.unary main_v10 main_v12 (broadcastInDim S64x8192 ![0, 1] bcast_S64x1_S64x8192_0_1 : (⟨S64x1, .f32⟩ : BufTy).Contents (Elt F) → (⟨S64x8192, .f32⟩ : BufTy).Contents (Elt F)),
    StableHlo.unary main_v11 main_v13 (broadcastInDim S64x8192 ![0, 1] bcast_S1x8192_S64x8192_0_1 : (⟨S1x8192, .f32⟩ : BufTy).Contents (Elt F) → (⟨S64x8192, .f32⟩ : BufTy).Contents (Elt F)),
    StableHlo.binary main_v12 main_v13 main_v14 (mulf : (⟨S64x8192, .f32⟩ : BufTy).Contents (Elt F) → (⟨S64x8192, .f32⟩ : BufTy).Contents (Elt F) → (⟨S64x8192, .f32⟩ : BufTy).Contents (Elt F)),
    StableHlo.nullary main_cst_2 (constant S_ .f32 0x322BCC77#32),
    StableHlo.unary main_cst_2 main_v15 (broadcastInDim S64x8192 ![] bcast_S_S64x8192 : (⟨S_, .f32⟩ : BufTy).Contents (Elt F) → (⟨S64x8192, .f32⟩ : BufTy).Contents (Elt F)),
    StableHlo.binary main_v14 main_v15 main_v16 (maximumf : (⟨S64x8192, .f32⟩ : BufTy).Contents (Elt F) → (⟨S64x8192, .f32⟩ : BufTy).Contents (Elt F) → (⟨S64x8192, .f32⟩ : BufTy).Contents (Elt F)),
    StableHlo.binary main_v9 main_v16 main_v17 (Host.divf : (⟨S64x8192, .f32⟩ : BufTy).Contents (Elt F) → (⟨S64x8192, .f32⟩ : BufTy).Contents (Elt F) → (⟨S64x8192, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
/-- 5 host operations of @argmax (main_call3), in order. -/
abbrev hostOps0_4 : List (HloOp τ sig (Elt F)) :=
  [ StableHlo.TRef.nullary (.of main_call3_v0 : StableHlo.TRef sig ⟨S64x8192, .i32⟩) (iotaInDim S64x8192 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v17 : StableHlo.TRef sig ⟨S64x8192, .f32⟩) (.of main_call3_v0 : StableHlo.TRef sig ⟨S64x8192, .i32⟩) (.of main_call3_cst : StableHlo.TRef sig ⟨S_, .f32⟩) (.of main_call3_c : StableHlo.TRef sig ⟨S_, .i32⟩) (.of main_call3_v1_0 : StableHlo.TRef sig ⟨S64, .f32⟩) (fun x y u v j => (Host.argReduce reducer_argmax_f32_i32 x y u v reducesTo_S64x8192_S64_d1 h_S_ j).1),
    StableHlo.TRef.quaternary (.of main_v17 : StableHlo.TRef sig ⟨S64x8192, .f32⟩) (.of main_call3_v0 : StableHlo.TRef sig ⟨S64x8192, .i32⟩) (.of main_call3_cst : StableHlo.TRef sig ⟨S_, .f32⟩) (.of main_call3_c : StableHlo.TRef sig ⟨S_, .i32⟩) (.of main_v18 : StableHlo.TRef sig ⟨S64, .i32⟩) (fun x y u v j => (Host.argReduce reducer_argmax_f32_i32 x y u v reducesTo_S64x8192_S64_d1 h_S_ j).2) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, in order. -/
abbrev hostOps0_5 : List (HloOp τ sig (Elt F)) :=
  [ StableHlo.reshape main_v18 main_v19 (rfl : (.i32 : EltTy) = .i32) shapeCasts_S64_S64x1 ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.reshape_bufs_sub ..
/-- `main` is the chain of its items: operation stretches and the loop in order, a function called from it a stretch of
    its own. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, Pipeline.chain_cons, StableHlo.chain_seq_cons, Pipeline.chain_cons, StableHlo.chain_seq_cons]
  chain_rfl

/-- 40 host operations of host loop 0's body region, in order. -/
abbrev while0Ops0 : List (HloOp τ sig (Elt F)) :=
  ( StableHlo.binary main_v5_8 main_v5_0 main_while0b_v20 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F))
  :: StableHlo.binary main_v5_1 main_while0b_v20 main_while0b_v21 ((fun l r => Host.dotGeneral dot_S512x256_S256_S512_1_0_0_n_n_n none l r) : (⟨S512x256, .f32⟩ : BufTy).Contents (Elt F) → (⟨S256, .f32⟩ : BufTy).Contents (Elt F) → (⟨S512, .f32⟩ : BufTy).Contents (Elt F))
  :: StableHlo.binary main_while0b_v21 main_v5_2 main_while0b_v22 (addf : (⟨S512, .f32⟩ : BufTy).Contents (Elt F) → (⟨S512, .f32⟩ : BufTy).Contents (Elt F) → (⟨S512, .f32⟩ : BufTy).Contents (Elt F))
  :: StableHlo.binary main_v5_3 main_v5_6 main_while0b_v23 ((fun l r => Host.dotGeneral dot_S512x128_S128_S512_1_0_0_n_n_n none l r) : (⟨S512x128, .f32⟩ : BufTy).Contents (Elt F) → (⟨S128, .f32⟩ : BufTy).Contents (Elt F) → (⟨S512, .f32⟩ : BufTy).Contents (Elt F))
  :: StableHlo.binary main_while0b_v22 main_while0b_v23 main_while0b_v24 (addf : (⟨S512, .f32⟩ : BufTy).Contents (Elt F) → (⟨S512, .f32⟩ : BufTy).Contents (Elt F) → (⟨S512, .f32⟩ : BufTy).Contents (Elt F))
  :: StableHlo.binary main_while0b_v24 main_v5_4 main_while0b_v25 (addf : (⟨S512, .f32⟩ : BufTy).Contents (Elt F) → (⟨S512, .f32⟩ : BufTy).Contents (Elt F) → (⟨S512, .f32⟩ : BufTy).Contents (Elt F))
  :: StableHlo.unary main_while0b_v25 main_while0b_v26 ((extractStridedSlice S128 ![0] · slices_S512_S128_0) : (⟨S512, .f32⟩ : BufTy).Contents (Elt F) → (⟨S128, .f32⟩ : BufTy).Contents (Elt F))
  :: StableHlo.unary main_while0b_v25 main_while0b_v27 ((extractStridedSlice S128 ![128] · slices_S512_S128_128) : (⟨S512, .f32⟩ : BufTy).Contents (Elt F) → (⟨S128, .f32⟩ : BufTy).Contents (Elt F))
  :: StableHlo.unary main_while0b_v25 main_while0b_v28 ((extractStridedSlice S128 ![256] · slices_S512_S128_256) : (⟨S512, .f32⟩ : BufTy).Contents (Elt F) → (⟨S128, .f32⟩ : BufTy).Contents (Elt F))
  :: StableHlo.unary main_while0b_v25 main_while0b_v29 ((extractStridedSlice S128 ![384] · slices_S512_S128_384) : (⟨S512, .f32⟩ : BufTy).Contents (Elt F) → (⟨S128, .f32⟩ : BufTy).Contents (Elt F))
  :: StableHlo.unary main_while0b_v26 main_while0b_v30 (Host.negf : (⟨S128, .f32⟩ : BufTy).Contents (Elt F) → (⟨S128, .f32⟩ : BufTy).Contents (Elt F))
  :: StableHlo.unary main_while0b_v30 main_while0b_v31 (Host.exp : (⟨S128, .f32⟩ : BufTy).Contents (Elt F) → (⟨S128, .f32⟩ : BufTy).Contents (Elt F))
  :: StableHlo.nullary main_while0b_cst_12 (constant S_ .f32 0x3F800000#32)
  :: StableHlo.unary main_while0b_cst_12 main_while0b_v32 (broadcastInDim S128 ![] bcast_S_S128 : (⟨S_, .f32⟩ : BufTy).Contents (Elt F) → (⟨S128, .f32⟩ : BufTy).Contents (Elt F))
  :: StableHlo.binary main_while0b_v32 main_while0b_v31 main_while0b_v33 (addf : (⟨S128, .f32⟩ : BufTy).Contents (Elt F) → (⟨S128, .f32⟩ : BufTy).Contents (Elt F) → (⟨S128, .f32⟩ : BufTy).Contents (Elt F))
  :: StableHlo.nullary main_while0b_cst_13 (constant S_ .f32 0x3F800000#32)
  :: StableHlo.unary main_while0b_cst_13 main_while0b_v34 (broadcastInDim S128 ![] bcast_S_S128 : (⟨S_, .f32⟩ : BufTy).Contents (Elt F) → (⟨S128, .f32⟩ : BufTy).Contents (Elt F))
  :: StableHlo.binary main_while0b_v34 main_while0b_v33 main_while0b_v35 (Host.divf : (⟨S128, .f32⟩ : BufTy).Contents (Elt F) → (⟨S128, .f32⟩ : BufTy).Contents (Elt F) → (⟨S128, .f32⟩ : BufTy).Contents (Elt F))
  :: StableHlo.unary main_while0b_v27 main_while0b_v36 (Host.negf : (⟨S128, .f32⟩ : BufTy).Contents (Elt F) → (⟨S128, .f32⟩ : BufTy).Contents (Elt F))
  :: StableHlo.unary main_while0b_v36 main_while0b_v37 (Host.exp : (⟨S128, .f32⟩ : BufTy).Contents (Elt F) → (⟨S128, .f32⟩ : BufTy).Contents (Elt F))
  :: StableHlo.nullary main_while0b_cst_14 (constant S_ .f32 0x3F800000#32)
  :: StableHlo.unary main_while0b_cst_14 main_while0b_v38 (broadcastInDim S128 ![] bcast_S_S128 : (⟨S_, .f32⟩ : BufTy).Contents (Elt F) → (⟨S128, .f32⟩ : BufTy).Contents (Elt F))
  :: StableHlo.binary main_while0b_v38 main_while0b_v37 main_while0b_v39 (addf : (⟨S128, .f32⟩ : BufTy).Contents (Elt F) → (⟨S128, .f32⟩ : BufTy).Contents (Elt F) → (⟨S128, .f32⟩ : BufTy).Contents (Elt F))
  :: StableHlo.nullary main_while0b_cst_15 (constant S_ .f32 0x3F800000#32)
  :: StableHlo.unary main_while0b_cst_15 main_while0b_v40 (broadcastInDim S128 ![] bcast_S_S128 : (⟨S_, .f32⟩ : BufTy).Contents (Elt F) → (⟨S128, .f32⟩ : BufTy).Contents (Elt F))
  :: StableHlo.binary main_while0b_v40 main_while0b_v39 main_while0b_v41 (Host.divf : (⟨S128, .f32⟩ : BufTy).Contents (Elt F) → (⟨S128, .f32⟩ : BufTy).Contents (Elt F) → (⟨S128, .f32⟩ : BufTy).Contents (Elt F))
  :: StableHlo.unary main_while0b_v28 main_while0b_v42 (Host.tanh : (⟨S128, .f32⟩ : BufTy).Contents (Elt F) → (⟨S128, .f32⟩ : BufTy).Contents (Elt F))
  :: StableHlo.unary main_while0b_v29 main_while0b_v43 (Host.negf : (⟨S128, .f32⟩ : BufTy).Contents (Elt F) → (⟨S128, .f32⟩ : BufTy).Contents (Elt F))
  :: StableHlo.unary main_while0b_v43 main_while0b_v44 (Host.exp : (⟨S128, .f32⟩ : BufTy).Contents (Elt F) → (⟨S128, .f32⟩ : BufTy).Contents (Elt F))
  :: StableHlo.nullary main_while0b_cst_16 (constant S_ .f32 0x3F800000#32)
  :: StableHlo.unary main_while0b_cst_16 main_while0b_v45 (broadcastInDim S128 ![] bcast_S_S128 : (⟨S_, .f32⟩ : BufTy).Contents (Elt F) → (⟨S128, .f32⟩ : BufTy).Contents (Elt F))
  :: StableHlo.binary main_while0b_v45 main_while0b_v44 main_while0b_v46 (addf : (⟨S128, .f32⟩ : BufTy).Contents (Elt F) → (⟨S128, .f32⟩ : BufTy).Contents (Elt F) → (⟨S128, .f32⟩ : BufTy).Contents (Elt F))
  :: StableHlo.nullary main_while0b_cst_17 (constant S_ .f32 0x3F800000#32)
  :: StableHlo.unary main_while0b_cst_17 main_while0b_v47 (broadcastInDim S128 ![] bcast_S_S128 : (⟨S_, .f32⟩ : BufTy).Contents (Elt F) → (⟨S128, .f32⟩ : BufTy).Contents (Elt F))
  :: StableHlo.binary main_while0b_v47 main_while0b_v46 main_while0b_v48 (Host.divf : (⟨S128, .f32⟩ : BufTy).Contents (Elt F) → (⟨S128, .f32⟩ : BufTy).Contents (Elt F) → (⟨S128, .f32⟩ : BufTy).Contents (Elt F))
  :: StableHlo.binary main_while0b_v41 main_v5_7 main_while0b_v49 (mulf : (⟨S128, .f32⟩ : BufTy).Contents (Elt F) → (⟨S128, .f32⟩ : BufTy).Contents (Elt F) → (⟨S128, .f32⟩ : BufTy).Contents (Elt F))
  :: StableHlo.binary main_while0b_v35 main_while0b_v42 main_while0b_v50 (mulf : (⟨S128, .f32⟩ : BufTy).Contents (Elt F) → (⟨S128, .f32⟩ : BufTy).Contents (Elt F) → (⟨S128, .f32⟩ : BufTy).Contents (Elt F))
  :: StableHlo.binary main_while0b_v49 main_while0b_v50 main_while0b_v51 (addf : (⟨S128, .f32⟩ : BufTy).Contents (Elt F) → (⟨S128, .f32⟩ : BufTy).Contents (Elt F) → (⟨S128, .f32⟩ : BufTy).Contents (Elt F))
  :: StableHlo.unary main_while0b_v51 main_while0b_v52 (Host.tanh : (⟨S128, .f32⟩ : BufTy).Contents (Elt F) → (⟨S128, .f32⟩ : BufTy).Contents (Elt F))
  :: StableHlo.binary main_while0b_v48 main_while0b_v52 main_while0b_v53 (mulf : (⟨S128, .f32⟩ : BufTy).Contents (Elt F) → (⟨S128, .f32⟩ : BufTy).Contents (Elt F) → (⟨S128, .f32⟩ : BufTy).Contents (Elt F))
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- 3 host operations of @dynamic_update_index_in_dim (main_while0b_call0), in order. -/
abbrev while0Ops0_1 : List (HloOp τ sig (Elt F)) :=
  [ StableHlo.TRef.unary (.of main_while0b_v51 : StableHlo.TRef sig ⟨S128, .f32⟩) (.of main_while0b_call0_v0 : StableHlo.TRef sig ⟨S1x128, .f32⟩) (broadcastInDim S1x128 ![1] bcast_S128_S1x128_1),
    StableHlo.TRef.nullary (.of main_while0b_call0_c : StableHlo.TRef sig ⟨S_, .i32⟩) (constantI S_ 32 0#32),
    StableHlo.TRef.binaryIndexed (.of main_v5_9 : StableHlo.TRef sig ⟨S64x128, .f32⟩) (.of main_while0b_call0_v0 : StableHlo.TRef sig ⟨S1x128, .f32⟩) ![(.of main_v5_5 : StableHlo.TRef sig ⟨S_, .i32⟩), (.of main_while0b_call0_c : StableHlo.TRef sig ⟨S_, .i32⟩)] (.of main_while0b_v54 : StableHlo.TRef sig ⟨S64x128, .f32⟩) (fun x u i => Host.dynamicUpdateSlice x u (fun k => (i k (Shape.Idx.first h_S_)).toInt) updateFits_S64x128_S1x128) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.nullary_bufs_sub .., StableHlo.binaryIndexed_bufs_sub ..⟩
/-- 7 host operations of host loop 0's body region, in order. -/
abbrev while0Ops0_2 : List (HloOp τ sig (Elt F)) :=
  [ StableHlo.nullary main_while0b_c_18 (constantI S_ 32 1#32),
    StableHlo.binary main_v5_5 main_while0b_c_18 main_while0b_v55 (addi : (⟨S_, .i32⟩ : BufTy).Contents (Elt F) → (⟨S_, .i32⟩ : BufTy).Contents (Elt F) → (⟨S_, .i32⟩ : BufTy).Contents (Elt F)),
    StableHlo.unary main_while0b_v55 main_v5_5 id,
    StableHlo.unary main_while0b_v53 main_v5_6 id,
    StableHlo.unary main_while0b_v51 main_v5_7 id,
    StableHlo.unary main_while0b_v51 main_v5_8 id,
    StableHlo.unary main_while0b_v54 main_v5_9 id ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The loop's body is the chain of its stretches: a function called from it is a stretch of its own. -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_v2, main_cst_0, main_v3, main_cst_1, main_v4, main_c, main_v5_0, main_v5_1, main_v5_2, main_v5_3, main_v5_4, main_v5_5, main_v5_6, main_v5_7, main_v5_8, main_v5_9]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v20, main_while0b_v21, main_while0b_v22, main_while0b_v23, main_while0b_v24, main_while0b_v25, main_while0b_v26, main_while0b_v27, main_while0b_v28, main_while0b_v29, main_while0b_v30, main_while0b_v31, main_while0b_cst_12, main_while0b_v32, main_while0b_v33, main_while0b_cst_13, main_while0b_v34, main_while0b_v35, main_while0b_v36, main_while0b_v37, main_while0b_cst_14, main_while0b_v38, main_while0b_v39, main_while0b_cst_15, main_while0b_v40, main_while0b_v41, main_while0b_v42, main_while0b_v43, main_while0b_v44, main_while0b_cst_16, main_while0b_v45, main_while0b_v46, main_while0b_cst_17, main_while0b_v47, main_while0b_v48, main_while0b_v49, main_while0b_v50, main_while0b_v51, main_while0b_v52, main_while0b_v53]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_c, main_while0b_v54]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_18, main_while0b_v55, main_v5_5, main_v5_6, main_v5_7, main_v5_8, main_v5_9]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_1` writes, in order. -/
abbrev hostOps0_1_W : List (Ref sig .tc) := [main_call1_v0, main_call1_cst, main_call1_v1, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_v0, main_call2_cst, main_call2_v1, main_v7]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v8, main_v9, main_v10, main_v11, main_v12, main_v13, main_v14, main_cst_2, main_v15, main_v16, main_v17]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call3_v0, main_call3_cst, main_call3_c, main_call3_v1_0, main_v18]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v19]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_12 (constantI S_ 32 64#32),
    StableHlo.binary main_v5_5 main_while0c_c_12 main_while0c_v20 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2]
abbrev postI : List (List (HloOp τ sig (Elt F))) := [hostOps0_1, hostOps0_2, hostOps0_3, hostOps0_4, hostOps0_5]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.nil)))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_12, main_while0c_v20]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v5_5`) is written by one stretch of the body, `while0Ops0_2`: not by the condition, nor by the
    body's other stretches. -/
theorem ctr_cond (V : Valuation τ sig (Elt F)) : after condOps V (Proc.devRef .tc main_v5_5) = V (Proc.devRef .tc main_v5_5) :=
  after_of_writes_sub condOps V condOps_writes (by decide +kernel)
theorem ctr_while0Ops0 (V : Valuation τ sig (Elt F)) : after while0Ops0 V (Proc.devRef .tc main_v5_5) = V (Proc.devRef .tc main_v5_5) :=
  after_of_writes_sub while0Ops0 V while0Ops0_writes (by decide +kernel)
theorem ctr_while0Ops0_1 (V : Valuation τ sig (Elt F)) : after while0Ops0_1 V (Proc.devRef .tc main_v5_5) = V (Proc.devRef .tc main_v5_5) :=
  after_of_writes_sub while0Ops0_1 V while0Ops0_1_writes (by decide +kernel)

set_option maxRecDepth 100000 in
/-- `while0Ops0_2` leaves the counter one step on. -/
theorem ctr_step (X : Valuation τ sig (Elt F)) :
    after while0Ops0_2 X (Proc.devRef .tc main_v5_5) = addi (X (Proc.devRef .tc main_v5_5)) (constantI S_ 32 1#32) := by
  after_results
  rfl

/-- The counter is the loop's lower bound at the loop's entry: its last writer before the loop read back. -/
theorem ctr_entry (c : Dev nD) : entryContents preI m c (Proc.devRef .tc main_v5_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v5_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 64 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v5_5 HostLoop.idx0)
        (HloOp.result _ (atK m k c) main_while0c_c_12 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 64 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 64 m ρ (cond_spec m)

/-! ## One trip's values -/

/-- The row and the input, one after the other: what the trip's first operation makes. -/
def fn_main_while0b_v20 : (⟨S128, .f32⟩ : BufTy).Contents (Elt F) → (⟨S128, .f32⟩ : BufTy).Contents (Elt F) → (⟨S256, .f32⟩ : BufTy).Contents (Elt F) :=
  (fun a b => concatenate S256 0 [⟨S128, a⟩, ⟨S128, b⟩] concatenates_S128_S128_S256_d0)

/-- The body's operations 1 … 24 of 50. -/
abbrev trip_w0 : List (HloOp τ sig (Elt F)) :=
  [ StableHlo.binary main_v5_8 main_v5_0 main_while0b_v20 (fn_main_while0b_v20 (F := F)),
    StableHlo.binary main_v5_1 main_while0b_v20 main_while0b_v21 ((fun l r => Host.dotGeneral dot_S512x256_S256_S512_1_0_0_n_n_n none l r) : (⟨S512x256, .f32⟩ : BufTy).Contents (Elt F) → (⟨S256, .f32⟩ : BufTy).Contents (Elt F) → (⟨S512, .f32⟩ : BufTy).Contents (Elt F)),
    StableHlo.binary main_while0b_v21 main_v5_2 main_while0b_v22 (addf : (⟨S512, .f32⟩ : BufTy).Contents (Elt F) → (⟨S512, .f32⟩ : BufTy).Contents (Elt F) → (⟨S512, .f32⟩ : BufTy).Contents (Elt F)),
    StableHlo.binary main_v5_3 main_v5_6 main_while0b_v23 ((fun l r => Host.dotGeneral dot_S512x128_S128_S512_1_0_0_n_n_n none l r) : (⟨S512x128, .f32⟩ : BufTy).Contents (Elt F) → (⟨S128, .f32⟩ : BufTy).Contents (Elt F) → (⟨S512, .f32⟩ : BufTy).Contents (Elt F)),
    StableHlo.binary main_while0b_v22 main_while0b_v23 main_while0b_v24 (addf : (⟨S512, .f32⟩ : BufTy).Contents (Elt F) → (⟨S512, .f32⟩ : BufTy).Contents (Elt F) → (⟨S512, .f32⟩ : BufTy).Contents (Elt F)),
    StableHlo.binary main_while0b_v24 main_v5_4 main_while0b_v25 (addf : (⟨S512, .f32⟩ : BufTy).Contents (Elt F) → (⟨S512, .f32⟩ : BufTy).Contents (Elt F) → (⟨S512, .f32⟩ : BufTy).Contents (Elt F)),
    StableHlo.unary main_while0b_v25 main_while0b_v26 ((extractStridedSlice S128 ![0] · slices_S512_S128_0) : (⟨S512, .f32⟩ : BufTy).Contents (Elt F) → (⟨S128, .f32⟩ : BufTy).Contents (Elt F)),
    StableHlo.unary main_while0b_v25 main_while0b_v27 ((extractStridedSlice S128 ![128] · slices_S512_S128_128) : (⟨S512, .f32⟩ : BufTy).Contents (Elt F) → (⟨S128, .f32⟩ : BufTy).Contents (Elt F)),
    StableHlo.unary main_while0b_v25 main_while0b_v28 ((extractStridedSlice S128 ![256] · slices_S512_S128_256) : (⟨S512, .f32⟩ : BufTy).Contents (Elt F) → (⟨S128, .f32⟩ : BufTy).Contents (Elt F)),
    StableHlo.unary main_while0b_v25 main_while0b_v29 ((extractStridedSlice S128 ![384] · slices_S512_S128_384) : (⟨S512, .f32⟩ : BufTy).Contents (Elt F) → (⟨S128, .f32⟩ : BufTy).Contents (Elt F)),
    StableHlo.unary main_while0b_v26 main_while0b_v30 (Host.negf : (⟨S128, .f32⟩ : BufTy).Contents (Elt F) → (⟨S128, .f32⟩ : BufTy).Contents (Elt F)),
    StableHlo.unary main_while0b_v30 main_while0b_v31 (Host.exp : (⟨S128, .f32⟩ : BufTy).Contents (Elt F) → (⟨S128, .f32⟩ : BufTy).Contents (Elt F)),
    StableHlo.nullary main_while0b_cst_12 (constant S_ .f32 0x3F800000#32),
    StableHlo.unary main_while0b_cst_12 main_while0b_v32 (broadcastInDim S128 ![] bcast_S_S128 : (⟨S_, .f32⟩ : BufTy).Contents (Elt F) → (⟨S128, .f32⟩ : BufTy).Contents (Elt F)),
    StableHlo.binary main_while0b_v32 main_while0b_v31 main_while0b_v33 (addf : (⟨S128, .f32⟩ : BufTy).Contents (Elt F) → (⟨S128, .f32⟩ : BufTy).Contents (Elt F) → (⟨S128, .f32⟩ : BufTy).Contents (Elt F)),
    StableHlo.nullary main_while0b_cst_13 (constant S_ .f32 0x3F800000#32),
    StableHlo.unary main_while0b_cst_13 main_while0b_v34 (broadcastInDim S128 ![] bcast_S_S128 : (⟨S_, .f32⟩ : BufTy).Contents (Elt F) → (⟨S128, .f32⟩ : BufTy).Contents (Elt F)),
    StableHlo.binary main_while0b_v34 main_while0b_v33 main_while0b_v35 (Host.divf : (⟨S128, .f32⟩ : BufTy).Contents (Elt F) → (⟨S128, .f32⟩ : BufTy).Contents (Elt F) → (⟨S128, .f32⟩ : BufTy).Contents (Elt F)),
    StableHlo.unary main_while0b_v27 main_while0b_v36 (Host.negf : (⟨S128, .f32⟩ : BufTy).Contents (Elt F) → (⟨S128, .f32⟩ : BufTy).Contents (Elt F)),
    StableHlo.unary main_while0b_v36 main_while0b_v37 (Host.exp : (⟨S128, .f32⟩ : BufTy).Contents (Elt F) → (⟨S128, .f32⟩ : BufTy).Contents (Elt F)),
    StableHlo.nullary main_while0b_cst_14 (constant S_ .f32 0x3F800000#32),
    StableHlo.unary main_while0b_cst_14 main_while0b_v38 (broadcastInDim S128 ![] bcast_S_S128 : (⟨S_, .f32⟩ : BufTy).Contents (Elt F) → (⟨S128, .f32⟩ : BufTy).Contents (Elt F)),
    StableHlo.binary main_while0b_v38 main_while0b_v37 main_while0b_v39 (addf : (⟨S128, .f32⟩ : BufTy).Contents (Elt F) → (⟨S128, .f32⟩ : BufTy).Contents (Elt F) → (⟨S128, .f32⟩ : BufTy).Contents (Elt F)),
    StableHlo.nullary main_while0b_cst_15 (constant S_ .f32 0x3F800000#32) ]

/-- The body's operations 25 … 40 of 50. -/
abbrev trip_w1 : List (HloOp τ sig (Elt F)) :=
  [ StableHlo.unary main_while0b_cst_15 main_while0b_v40 (broadcastInDim S128 ![] bcast_S_S128 : (⟨S_, .f32⟩ : BufTy).Contents (Elt F) → (⟨S128, .f32⟩ : BufTy).Contents (Elt F)),
    StableHlo.binary main_while0b_v40 main_while0b_v39 main_while0b_v41 (Host.divf : (⟨S128, .f32⟩ : BufTy).Contents (Elt F) → (⟨S128, .f32⟩ : BufTy).Contents (Elt F) → (⟨S128, .f32⟩ : BufTy).Contents (Elt F)),
    StableHlo.unary main_while0b_v28 main_while0b_v42 (Host.tanh : (⟨S128, .f32⟩ : BufTy).Contents (Elt F) → (⟨S128, .f32⟩ : BufTy).Contents (Elt F)),
    StableHlo.unary main_while0b_v29 main_while0b_v43 (Host.negf : (⟨S128, .f32⟩ : BufTy).Contents (Elt F) → (⟨S128, .f32⟩ : BufTy).Contents (Elt F)),
    StableHlo.unary main_while0b_v43 main_while0b_v44 (Host.exp : (⟨S128, .f32⟩ : BufTy).Contents (Elt F) → (⟨S128, .f32⟩ : BufTy).Contents (Elt F)),
    StableHlo.nullary main_while0b_cst_16 (constant S_ .f32 0x3F800000#32),
    StableHlo.unary main_while0b_cst_16 main_while0b_v45 (broadcastInDim S128 ![] bcast_S_S128 : (⟨S_, .f32⟩ : BufTy).Contents (Elt F) → (⟨S128, .f32⟩ : BufTy).Contents (Elt F)),
    StableHlo.binary main_while0b_v45 main_while0b_v44 main_while0b_v46 (addf : (⟨S128, .f32⟩ : BufTy).Contents (Elt F) → (⟨S128, .f32⟩ : BufTy).Contents (Elt F) → (⟨S128, .f32⟩ : BufTy).Contents (Elt F)),
    StableHlo.nullary main_while0b_cst_17 (constant S_ .f32 0x3F800000#32),
    StableHlo.unary main_while0b_cst_17 main_while0b_v47 (broadcastInDim S128 ![] bcast_S_S128 : (⟨S_, .f32⟩ : BufTy).Contents (Elt F) → (⟨S128, .f32⟩ : BufTy).Contents (Elt F)),
    StableHlo.binary main_while0b_v47 main_while0b_v46 main_while0b_v48 (Host.divf : (⟨S128, .f32⟩ : BufTy).Contents (Elt F) → (⟨S128, .f32⟩ : BufTy).Contents (Elt F) → (⟨S128, .f32⟩ : BufTy).Contents (Elt F)),
    StableHlo.binary main_while0b_v41 main_v5_7 main_while0b_v49 (mulf : (⟨S128, .f32⟩ : BufTy).Contents (Elt F) → (⟨S128, .f32⟩ : BufTy).Contents (Elt F) → (⟨S128, .f32⟩ : BufTy).Contents (Elt F)),
    StableHlo.binary main_while0b_v35 main_while0b_v42 main_while0b_v50 (mulf : (⟨S128, .f32⟩ : BufTy).Contents (Elt F) → (⟨S128, .f32⟩ : BufTy).Contents (Elt F) → (⟨S128, .f32⟩ : BufTy).Contents (Elt F)),
    StableHlo.binary main_while0b_v49 main_while0b_v50 main_while0b_v51 (addf : (⟨S128, .f32⟩ : BufTy).Contents (Elt F) → (⟨S128, .f32⟩ : BufTy).Contents (Elt F) → (⟨S128, .f32⟩ : BufTy).Contents (Elt F)),
    StableHlo.unary main_while0b_v51 main_while0b_v52 (Host.tanh : (⟨S128, .f32⟩ : BufTy).Contents (Elt F) → (⟨S128, .f32⟩ : BufTy).Contents (Elt F)),
    StableHlo.binary main_while0b_v48 main_while0b_v52 main_while0b_v53 (mulf : (⟨S128, .f32⟩ : BufTy).Contents (Elt F) → (⟨S128, .f32⟩ : BufTy).Contents (Elt F) → (⟨S128, .f32⟩ : BufTy).Contents (Elt F)) ]

/-- The body's operations 41 … 43 of 50. -/
abbrev trip_w2 : List (HloOp τ sig (Elt F)) :=
  [ StableHlo.TRef.unary (.of main_while0b_v51 : StableHlo.TRef sig ⟨S128, .f32⟩) (.of main_while0b_call0_v0 : StableHlo.TRef sig ⟨S1x128, .f32⟩) (broadcastInDim S1x128 ![1] bcast_S128_S1x128_1),
    StableHlo.TRef.nullary (.of main_while0b_call0_c : StableHlo.TRef sig ⟨S_, .i32⟩) (constantI S_ 32 0#32),
    StableHlo.TRef.binaryIndexed (.of main_v5_9 : StableHlo.TRef sig ⟨S64x128, .f32⟩) (.of main_while0b_call0_v0 : StableHlo.TRef sig ⟨S1x128, .f32⟩) ![(.of main_v5_5 : StableHlo.TRef sig ⟨S_, .i32⟩), (.of main_while0b_call0_c : StableHlo.TRef sig ⟨S_, .i32⟩)] (.of main_while0b_v54 : StableHlo.TRef sig ⟨S64x128, .f32⟩) (fun x u i => Host.dynamicUpdateSlice x u (fun k => (i k (Shape.Idx.first h_S_)).toInt) updateFits_S64x128_S1x128) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 := rfl

set_option maxRecDepth 8192 in
/-- `main_while0b_v25`'s composed term of the carried buffers (named: it is used 4 times). -/
def res_main_while0b_v25 (V0 : Valuation τ sig (Elt F)) : (Proc.devRef .tc main_while0b_v25 : DevRef τ sig).ty.Contents (Elt F) :=
  addf (addf (addf (Host.dotGeneral dot_S512x256_S256_S512_1_0_0_n_n_n none (V0 (Proc.devRef .tc main_v5_1)) (concatenate S256 0 [⟨S128, (V0 (Proc.devRef .tc main_v5_8))⟩, ⟨S128, (V0 (Proc.devRef .tc main_v5_0))⟩] concatenates_S128_S128_S256_d0)) (V0 (Proc.devRef .tc main_v5_2))) (Host.dotGeneral dot_S512x128_S128_S512_1_0_0_n_n_n none (V0 (Proc.devRef .tc main_v5_3)) (V0 (Proc.devRef .tc main_v5_6)))) (V0 (Proc.devRef .tc main_v5_4))

set_option maxRecDepth 8192 in
/-- `main_while0b_v51`'s composed term of the carried buffers (named: it is used 4 times). -/
def res_main_while0b_v51 (V0 : Valuation τ sig (Elt F)) : (Proc.devRef .tc main_while0b_v51 : DevRef τ sig).ty.Contents (Elt F) :=
  addf (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![128] (res_main_while0b_v25 V0) slices_S512_S128_128))))) (V0 (Proc.devRef .tc main_v5_7))) (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![0] (res_main_while0b_v25 V0) slices_S512_S128_0))))) (Host.tanh (extractStridedSlice S128 ![256] (res_main_while0b_v25 V0) slices_S512_S128_256)))

/-- The device's buffer contents before the body's first window. -/
def val0 (V0 : Valuation τ sig (Elt F)) : Valuation τ sig (Elt F) := V0
theorem val0_main_v5_8 (V0 : Valuation τ sig (Elt F)) : val0 V0 (no_index (Proc.devRef .tc main_v5_8)) = V0 (Proc.devRef .tc main_v5_8) := rfl
theorem val0_main_v5_0 (V0 : Valuation τ sig (Elt F)) : val0 V0 (no_index (Proc.devRef .tc main_v5_0)) = V0 (Proc.devRef .tc main_v5_0) := rfl
theorem val0_main_v5_1 (V0 : Valuation τ sig (Elt F)) : val0 V0 (no_index (Proc.devRef .tc main_v5_1)) = V0 (Proc.devRef .tc main_v5_1) := rfl
theorem val0_main_v5_2 (V0 : Valuation τ sig (Elt F)) : val0 V0 (no_index (Proc.devRef .tc main_v5_2)) = V0 (Proc.devRef .tc main_v5_2) := rfl
theorem val0_main_v5_3 (V0 : Valuation τ sig (Elt F)) : val0 V0 (no_index (Proc.devRef .tc main_v5_3)) = V0 (Proc.devRef .tc main_v5_3) := rfl
theorem val0_main_v5_6 (V0 : Valuation τ sig (Elt F)) : val0 V0 (no_index (Proc.devRef .tc main_v5_6)) = V0 (Proc.devRef .tc main_v5_6) := rfl
theorem val0_main_v5_4 (V0 : Valuation τ sig (Elt F)) : val0 V0 (no_index (Proc.devRef .tc main_v5_4)) = V0 (Proc.devRef .tc main_v5_4) := rfl
theorem val0_main_v5_7 (V0 : Valuation τ sig (Elt F)) : val0 V0 (no_index (Proc.devRef .tc main_v5_7)) = V0 (Proc.devRef .tc main_v5_7) := rfl
theorem val0_main_v5_9 (V0 : Valuation τ sig (Elt F)) : val0 V0 (no_index (Proc.devRef .tc main_v5_9)) = V0 (Proc.devRef .tc main_v5_9) := rfl
theorem val0_main_v5_5 (V0 : Valuation τ sig (Elt F)) : val0 V0 (no_index (Proc.devRef .tc main_v5_5)) = V0 (Proc.devRef .tc main_v5_5) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_v20, main_while0b_v21, main_while0b_v22, main_while0b_v23, main_while0b_v24, main_while0b_v25, main_while0b_v26, main_while0b_v27, main_while0b_v28, main_while0b_v29, main_while0b_v30, main_while0b_v31, main_while0b_cst_12, main_while0b_v32, main_while0b_v33, main_while0b_cst_13, main_while0b_v34, main_while0b_v35, main_while0b_v36, main_while0b_v37, main_while0b_cst_14, main_while0b_v38, main_while0b_v39, main_while0b_cst_15]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v5_8 (V0 : Valuation τ sig (Elt F)) : val1 V0 (no_index (Proc.devRef .tc main_v5_8)) = V0 (Proc.devRef .tc main_v5_8) :=
  (val1_keep V0 main_v5_8 (by decide)).trans (val0_main_v5_8 V0)
theorem val1_main_v5_0 (V0 : Valuation τ sig (Elt F)) : val1 V0 (no_index (Proc.devRef .tc main_v5_0)) = V0 (Proc.devRef .tc main_v5_0) :=
  (val1_keep V0 main_v5_0 (by decide)).trans (val0_main_v5_0 V0)
theorem val1_main_v5_1 (V0 : Valuation τ sig (Elt F)) : val1 V0 (no_index (Proc.devRef .tc main_v5_1)) = V0 (Proc.devRef .tc main_v5_1) :=
  (val1_keep V0 main_v5_1 (by decide)).trans (val0_main_v5_1 V0)
theorem val1_main_v5_2 (V0 : Valuation τ sig (Elt F)) : val1 V0 (no_index (Proc.devRef .tc main_v5_2)) = V0 (Proc.devRef .tc main_v5_2) :=
  (val1_keep V0 main_v5_2 (by decide)).trans (val0_main_v5_2 V0)
theorem val1_main_v5_3 (V0 : Valuation τ sig (Elt F)) : val1 V0 (no_index (Proc.devRef .tc main_v5_3)) = V0 (Proc.devRef .tc main_v5_3) :=
  (val1_keep V0 main_v5_3 (by decide)).trans (val0_main_v5_3 V0)
theorem val1_main_v5_6 (V0 : Valuation τ sig (Elt F)) : val1 V0 (no_index (Proc.devRef .tc main_v5_6)) = V0 (Proc.devRef .tc main_v5_6) :=
  (val1_keep V0 main_v5_6 (by decide)).trans (val0_main_v5_6 V0)
theorem val1_main_v5_4 (V0 : Valuation τ sig (Elt F)) : val1 V0 (no_index (Proc.devRef .tc main_v5_4)) = V0 (Proc.devRef .tc main_v5_4) :=
  (val1_keep V0 main_v5_4 (by decide)).trans (val0_main_v5_4 V0)
theorem val1_main_v5_7 (V0 : Valuation τ sig (Elt F)) : val1 V0 (no_index (Proc.devRef .tc main_v5_7)) = V0 (Proc.devRef .tc main_v5_7) :=
  (val1_keep V0 main_v5_7 (by decide)).trans (val0_main_v5_7 V0)
theorem val1_main_v5_9 (V0 : Valuation τ sig (Elt F)) : val1 V0 (no_index (Proc.devRef .tc main_v5_9)) = V0 (Proc.devRef .tc main_v5_9) :=
  (val1_keep V0 main_v5_9 (by decide)).trans (val0_main_v5_9 V0)
theorem val1_main_v5_5 (V0 : Valuation τ sig (Elt F)) : val1 V0 (no_index (Proc.devRef .tc main_v5_5)) = V0 (Proc.devRef .tc main_v5_5) :=
  (val1_keep V0 main_v5_5 (by decide)).trans (val0_main_v5_5 V0)
set_option maxRecDepth 8192 in
set_option maxHeartbeats 2000000 in
theorem val1_main_while0b_v28 (V0 : Valuation τ sig (Elt F)) : val1 V0 (no_index (Proc.devRef .tc main_while0b_v28)) = extractStridedSlice S128 ![256] (res_main_while0b_v25 V0) slices_S512_S128_256 := by
  unfold val1
  simp only [trip_w0]
  after_results_entrywise [val0_main_v5_4, val0_main_v5_6, val0_main_v5_3, val0_main_v5_2, val0_main_v5_0, val0_main_v5_8, val0_main_v5_1, res_main_while0b_v25, cast_eq]
set_option maxRecDepth 8192 in
set_option maxHeartbeats 2000000 in
theorem val1_main_while0b_v29 (V0 : Valuation τ sig (Elt F)) : val1 V0 (no_index (Proc.devRef .tc main_while0b_v29)) = extractStridedSlice S128 ![384] (res_main_while0b_v25 V0) slices_S512_S128_384 := by
  unfold val1
  simp only [trip_w0]
  after_results_entrywise [val0_main_v5_4, val0_main_v5_6, val0_main_v5_3, val0_main_v5_2, val0_main_v5_0, val0_main_v5_8, val0_main_v5_1, res_main_while0b_v25, cast_eq]
set_option maxRecDepth 8192 in
set_option maxHeartbeats 2000000 in
theorem val1_main_while0b_v35 (V0 : Valuation τ sig (Elt F)) : val1 V0 (no_index (Proc.devRef .tc main_while0b_v35)) = Host.divf (broadcastInDim S128 ![] bcast_S_S128 (constant S_ .f32 0x3F800000#32)) (addf (broadcastInDim S128 ![] bcast_S_S128 (constant S_ .f32 0x3F800000#32)) (Host.exp (Host.negf (extractStridedSlice S128 ![0] (res_main_while0b_v25 V0) slices_S512_S128_0)))) := by
  unfold val1
  simp only [trip_w0]
  after_results_entrywise [val0_main_v5_4, val0_main_v5_6, val0_main_v5_3, val0_main_v5_2, val0_main_v5_0, val0_main_v5_8, val0_main_v5_1, res_main_while0b_v25, cast_eq]
set_option maxRecDepth 8192 in
set_option maxHeartbeats 2000000 in
theorem val1_main_while0b_v39 (V0 : Valuation τ sig (Elt F)) : val1 V0 (no_index (Proc.devRef .tc main_while0b_v39)) = addf (broadcastInDim S128 ![] bcast_S_S128 (constant S_ .f32 0x3F800000#32)) (Host.exp (Host.negf (extractStridedSlice S128 ![128] (res_main_while0b_v25 V0) slices_S512_S128_128))) := by
  unfold val1
  simp only [trip_w0]
  after_results_entrywise [val0_main_v5_4, val0_main_v5_6, val0_main_v5_3, val0_main_v5_2, val0_main_v5_0, val0_main_v5_8, val0_main_v5_1, res_main_while0b_v25, cast_eq]
set_option maxRecDepth 8192 in
set_option maxHeartbeats 2000000 in
theorem val1_main_while0b_cst_15 (V0 : Valuation τ sig (Elt F)) : val1 V0 (no_index (Proc.devRef .tc main_while0b_cst_15)) = constant S_ .f32 0x3F800000#32 := by
  unfold val1
  simp only [trip_w0]
  after_results_entrywise [cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v40, main_while0b_v41, main_while0b_v42, main_while0b_v43, main_while0b_v44, main_while0b_cst_16, main_while0b_v45, main_while0b_v46, main_while0b_cst_17, main_while0b_v47, main_while0b_v48, main_while0b_v49, main_while0b_v50, main_while0b_v51, main_while0b_v52, main_while0b_v53]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v5_8 (V0 : Valuation τ sig (Elt F)) : val2 V0 (no_index (Proc.devRef .tc main_v5_8)) = V0 (Proc.devRef .tc main_v5_8) :=
  (val2_keep V0 main_v5_8 (by decide)).trans (val1_main_v5_8 V0)
theorem val2_main_v5_0 (V0 : Valuation τ sig (Elt F)) : val2 V0 (no_index (Proc.devRef .tc main_v5_0)) = V0 (Proc.devRef .tc main_v5_0) :=
  (val2_keep V0 main_v5_0 (by decide)).trans (val1_main_v5_0 V0)
theorem val2_main_v5_1 (V0 : Valuation τ sig (Elt F)) : val2 V0 (no_index (Proc.devRef .tc main_v5_1)) = V0 (Proc.devRef .tc main_v5_1) :=
  (val2_keep V0 main_v5_1 (by decide)).trans (val1_main_v5_1 V0)
theorem val2_main_v5_2 (V0 : Valuation τ sig (Elt F)) : val2 V0 (no_index (Proc.devRef .tc main_v5_2)) = V0 (Proc.devRef .tc main_v5_2) :=
  (val2_keep V0 main_v5_2 (by decide)).trans (val1_main_v5_2 V0)
theorem val2_main_v5_3 (V0 : Valuation τ sig (Elt F)) : val2 V0 (no_index (Proc.devRef .tc main_v5_3)) = V0 (Proc.devRef .tc main_v5_3) :=
  (val2_keep V0 main_v5_3 (by decide)).trans (val1_main_v5_3 V0)
theorem val2_main_v5_6 (V0 : Valuation τ sig (Elt F)) : val2 V0 (no_index (Proc.devRef .tc main_v5_6)) = V0 (Proc.devRef .tc main_v5_6) :=
  (val2_keep V0 main_v5_6 (by decide)).trans (val1_main_v5_6 V0)
theorem val2_main_v5_4 (V0 : Valuation τ sig (Elt F)) : val2 V0 (no_index (Proc.devRef .tc main_v5_4)) = V0 (Proc.devRef .tc main_v5_4) :=
  (val2_keep V0 main_v5_4 (by decide)).trans (val1_main_v5_4 V0)
theorem val2_main_v5_7 (V0 : Valuation τ sig (Elt F)) : val2 V0 (no_index (Proc.devRef .tc main_v5_7)) = V0 (Proc.devRef .tc main_v5_7) :=
  (val2_keep V0 main_v5_7 (by decide)).trans (val1_main_v5_7 V0)
theorem val2_main_v5_9 (V0 : Valuation τ sig (Elt F)) : val2 V0 (no_index (Proc.devRef .tc main_v5_9)) = V0 (Proc.devRef .tc main_v5_9) :=
  (val2_keep V0 main_v5_9 (by decide)).trans (val1_main_v5_9 V0)
theorem val2_main_v5_5 (V0 : Valuation τ sig (Elt F)) : val2 V0 (no_index (Proc.devRef .tc main_v5_5)) = V0 (Proc.devRef .tc main_v5_5) :=
  (val2_keep V0 main_v5_5 (by decide)).trans (val1_main_v5_5 V0)
set_option maxRecDepth 8192 in
set_option maxHeartbeats 1600000 in
theorem val2_main_while0b_v51 (V0 : Valuation τ sig (Elt F)) : val2 V0 (no_index (Proc.devRef .tc main_while0b_v51)) = res_main_while0b_v51 V0 := by
  unfold val2
  simp only [trip_w1]
  after_results_entrywise [val1_main_while0b_v28, val1_main_while0b_v35, val1_main_v5_7, val1_main_while0b_v39, val1_main_while0b_cst_15, res_main_while0b_v51, cast_eq]
set_option maxRecDepth 8192 in
set_option maxHeartbeats 1600000 in
theorem val2_main_while0b_v53 (V0 : Valuation τ sig (Elt F)) : val2 V0 (no_index (Proc.devRef .tc main_while0b_v53)) = mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0)) := by
  unfold val2
  simp only [trip_w1]
  after_results_entrywise [val1_main_while0b_v28, val1_main_while0b_v35, val1_main_v5_7, val1_main_while0b_v39, val1_main_while0b_cst_15, val1_main_while0b_v29, res_main_while0b_v51, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call0_v0, main_while0b_call0_c, main_while0b_v54]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v5_8 (V0 : Valuation τ sig (Elt F)) : val3 V0 (no_index (Proc.devRef .tc main_v5_8)) = V0 (Proc.devRef .tc main_v5_8) :=
  (val3_keep V0 main_v5_8 (by decide)).trans (val2_main_v5_8 V0)
theorem val3_main_v5_0 (V0 : Valuation τ sig (Elt F)) : val3 V0 (no_index (Proc.devRef .tc main_v5_0)) = V0 (Proc.devRef .tc main_v5_0) :=
  (val3_keep V0 main_v5_0 (by decide)).trans (val2_main_v5_0 V0)
theorem val3_main_v5_1 (V0 : Valuation τ sig (Elt F)) : val3 V0 (no_index (Proc.devRef .tc main_v5_1)) = V0 (Proc.devRef .tc main_v5_1) :=
  (val3_keep V0 main_v5_1 (by decide)).trans (val2_main_v5_1 V0)
theorem val3_main_v5_2 (V0 : Valuation τ sig (Elt F)) : val3 V0 (no_index (Proc.devRef .tc main_v5_2)) = V0 (Proc.devRef .tc main_v5_2) :=
  (val3_keep V0 main_v5_2 (by decide)).trans (val2_main_v5_2 V0)
theorem val3_main_v5_3 (V0 : Valuation τ sig (Elt F)) : val3 V0 (no_index (Proc.devRef .tc main_v5_3)) = V0 (Proc.devRef .tc main_v5_3) :=
  (val3_keep V0 main_v5_3 (by decide)).trans (val2_main_v5_3 V0)
theorem val3_main_v5_6 (V0 : Valuation τ sig (Elt F)) : val3 V0 (no_index (Proc.devRef .tc main_v5_6)) = V0 (Proc.devRef .tc main_v5_6) :=
  (val3_keep V0 main_v5_6 (by decide)).trans (val2_main_v5_6 V0)
theorem val3_main_v5_4 (V0 : Valuation τ sig (Elt F)) : val3 V0 (no_index (Proc.devRef .tc main_v5_4)) = V0 (Proc.devRef .tc main_v5_4) :=
  (val3_keep V0 main_v5_4 (by decide)).trans (val2_main_v5_4 V0)
theorem val3_main_v5_7 (V0 : Valuation τ sig (Elt F)) : val3 V0 (no_index (Proc.devRef .tc main_v5_7)) = V0 (Proc.devRef .tc main_v5_7) :=
  (val3_keep V0 main_v5_7 (by decide)).trans (val2_main_v5_7 V0)
theorem val3_main_v5_9 (V0 : Valuation τ sig (Elt F)) : val3 V0 (no_index (Proc.devRef .tc main_v5_9)) = V0 (Proc.devRef .tc main_v5_9) :=
  (val3_keep V0 main_v5_9 (by decide)).trans (val2_main_v5_9 V0)
theorem val3_main_v5_5 (V0 : Valuation τ sig (Elt F)) : val3 V0 (no_index (Proc.devRef .tc main_v5_5)) = V0 (Proc.devRef .tc main_v5_5) :=
  (val3_keep V0 main_v5_5 (by decide)).trans (val2_main_v5_5 V0)
theorem val3_main_while0b_v51 (V0 : Valuation τ sig (Elt F)) : val3 V0 (no_index (Proc.devRef .tc main_while0b_v51)) = res_main_while0b_v51 V0 :=
  (val3_keep V0 main_while0b_v51 (by decide)).trans (val2_main_while0b_v51 V0)
theorem val3_main_while0b_v53 (V0 : Valuation τ sig (Elt F)) : val3 V0 (no_index (Proc.devRef .tc main_while0b_v53)) = mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0)) :=
  (val3_keep V0 main_while0b_v53 (by decide)).trans (val2_main_while0b_v53 V0)
set_option maxRecDepth 8192 in
theorem val3_main_while0b_v54 (V0 : Valuation τ sig (Elt F)) : val3 V0 (no_index (Proc.devRef .tc main_while0b_v54)) = Host.dynamicUpdateSlice (V0 (Proc.devRef .tc main_v5_9)) (broadcastInDim S1x128 ![1] bcast_S128_S1x128_1 (res_main_while0b_v51 V0)) (fun k => (((![V0 (Proc.devRef .tc main_v5_5), constantI S_ 32 0#32] : Fin 2 → (⟨S_, .i32⟩ : BufTy).Contents (Elt F))) k (Shape.Idx.first h_S_)).toInt) updateFits_S64x128_S1x128 := by
  unfold val3
  simp only [trip_w2]
  after_results_entrywise [val2_main_v5_5, val2_main_while0b_v51, val2_main_v5_9, cast_eq]

set_option maxRecDepth 8192 in
/-- The body's stretches before `while0Ops0_2`, from any contents: their windows in order. -/
theorem trip_windows (V0 : Valuation τ sig (Elt F)) : after while0Ops0_1 (after while0Ops0 (V0)) = val3 V0 := by
  simp only [while0Ops0_cut, while0Ops0_1_cut, after_append]
  rfl

set_option maxRecDepth 8192 in
set_option maxHeartbeats 2000000 in
/-- `main_v5_0` after one trip's body, from any contents. -/
theorem trip_main_v5_0 (V0 : Valuation τ sig (Elt F)) : afterL bodyI V0 (no_index (Proc.devRef .tc main_v5_0)) = V0 (Proc.devRef .tc main_v5_0) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_1` after one trip's body, from any contents. -/
theorem trip_main_v5_1 (V0 : Valuation τ sig (Elt F)) : afterL bodyI V0 (no_index (Proc.devRef .tc main_v5_1)) = V0 (Proc.devRef .tc main_v5_1) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_2` after one trip's body, from any contents. -/
theorem trip_main_v5_2 (V0 : Valuation τ sig (Elt F)) : afterL bodyI V0 (no_index (Proc.devRef .tc main_v5_2)) = V0 (Proc.devRef .tc main_v5_2) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_3` after one trip's body, from any contents. -/
theorem trip_main_v5_3 (V0 : Valuation τ sig (Elt F)) : afterL bodyI V0 (no_index (Proc.devRef .tc main_v5_3)) = V0 (Proc.devRef .tc main_v5_3) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_4` after one trip's body, from any contents. -/
theorem trip_main_v5_4 (V0 : Valuation τ sig (Elt F)) : afterL bodyI V0 (no_index (Proc.devRef .tc main_v5_4)) = V0 (Proc.devRef .tc main_v5_4) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_5` after one trip's body, from any contents. -/
theorem trip_main_v5_5 (V0 : Valuation τ sig (Elt F)) : afterL bodyI V0 (no_index (Proc.devRef .tc main_v5_5)) = id (addi (V0 (Proc.devRef .tc main_v5_5)) (constantI S_ 32 1#32)) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_6` after one trip's body, from any contents. -/
theorem trip_main_v5_6 (V0 : Valuation τ sig (Elt F)) : afterL bodyI V0 (no_index (Proc.devRef .tc main_v5_6)) = id (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0))) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_7` after one trip's body, from any contents. -/
theorem trip_main_v5_7 (V0 : Valuation τ sig (Elt F)) : afterL bodyI V0 (no_index (Proc.devRef .tc main_v5_7)) = id (res_main_while0b_v51 V0) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_8` after one trip's body, from any contents. -/
theorem trip_main_v5_8 (V0 : Valuation τ sig (Elt F)) : afterL bodyI V0 (no_index (Proc.devRef .tc main_v5_8)) = id (res_main_while0b_v51 V0) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl
set_option maxRecDepth 8192 in
set_option maxHeartbeats 2000000 in
/-- `main_v5_9` after one trip's body, from any contents. -/
theorem trip_main_v5_9 (V0 : Valuation τ sig (Elt F)) : afterL bodyI V0 (no_index (Proc.devRef .tc main_v5_9)) = id (Host.dynamicUpdateSlice (V0 (Proc.devRef .tc main_v5_9)) (broadcastInDim S1x128 ![1] bcast_S128_S1x128_1 (res_main_while0b_v51 V0)) (fun k => (((![V0 (Proc.devRef .tc main_v5_5), constantI S_ 32 0#32] : Fin 2 → (⟨S_, .i32⟩ : BufTy).Contents (Elt F))) k (Shape.Idx.first h_S_)).toInt) updateFits_S64x128_S1x128) := by
  simp only [bodyI, afterL_cons, afterL_nil, trip_windows]
  after_results
  all_goals (try simp only [val3_main_while0b_v53, val3_main_while0b_v51, val3_main_while0b_v54, val3_main_v5_0, val3_main_v5_1, val3_main_v5_2, val3_main_v5_3, val3_main_v5_4, val3_main_v5_5, val3_main_v5_6, val3_main_v5_7, val3_main_v5_8, val3_main_v5_9]) <;> rfl

/-- The loop's carried buffers. -/
abbrev carriedRefs : List (Ref sig .tc) := [main_v5_0, main_v5_1, main_v5_2, main_v5_3, main_v5_4, main_v5_5, main_v5_6, main_v5_7, main_v5_8, main_v5_9]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v25_congr {V0 V0' : Valuation τ sig (Elt F)} (h : Agree V0 V0') : res_main_while0b_v25 V0 = res_main_while0b_v25 V0' := by
  unfold res_main_while0b_v25
  rw [h main_v5_1 (by decide), h main_v5_8 (by decide), h main_v5_0 (by decide), h main_v5_2 (by decide), h main_v5_3 (by decide), h main_v5_6 (by decide), h main_v5_4 (by decide)]
set_option maxRecDepth 8192 in
theorem res_main_while0b_v51_congr {V0 V0' : Valuation τ sig (Elt F)} (h : Agree V0 V0') : res_main_while0b_v51 V0 = res_main_while0b_v51 V0' := by
  unfold res_main_while0b_v51
  rw [res_main_while0b_v25_congr h, h main_v5_7 (by decide)]

set_option maxRecDepth 8192 in
/-- `main_v5_5` after one trip, of the contents before it. -/
def step_main_v5_5 (V0 : Valuation τ sig (Elt F)) : (Proc.devRef .tc main_v5_5 : DevRef τ sig).ty.Contents (Elt F) :=
  id (addi (V0 (Proc.devRef .tc main_v5_5)) (constantI S_ 32 1#32))
set_option maxRecDepth 8192 in
theorem step_main_v5_5_congr {V0 V0' : Valuation τ sig (Elt F)} (h : Agree V0 V0') : step_main_v5_5 V0 = step_main_v5_5 V0' := by
  unfold step_main_v5_5
  rw [h main_v5_5 (by decide)]
set_option maxRecDepth 8192 in
/-- `main_v5_6` after one trip, of the contents before it. -/
def step_main_v5_6 (V0 : Valuation τ sig (Elt F)) : (Proc.devRef .tc main_v5_6 : DevRef τ sig).ty.Contents (Elt F) :=
  id (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0)))
set_option maxRecDepth 8192 in
theorem step_main_v5_6_congr {V0 V0' : Valuation τ sig (Elt F)} (h : Agree V0 V0') : step_main_v5_6 V0 = step_main_v5_6 V0' := by
  unfold step_main_v5_6
  rw [res_main_while0b_v25_congr h, res_main_while0b_v51_congr h]
set_option maxRecDepth 8192 in
/-- `main_v5_7` after one trip, of the contents before it. -/
def step_main_v5_7 (V0 : Valuation τ sig (Elt F)) : (Proc.devRef .tc main_v5_7 : DevRef τ sig).ty.Contents (Elt F) :=
  id (res_main_while0b_v51 V0)
set_option maxRecDepth 8192 in
theorem step_main_v5_7_congr {V0 V0' : Valuation τ sig (Elt F)} (h : Agree V0 V0') : step_main_v5_7 V0 = step_main_v5_7 V0' := by
  unfold step_main_v5_7
  rw [res_main_while0b_v51_congr h]
set_option maxRecDepth 8192 in
/-- `main_v5_8` after one trip, of the contents before it. -/
def step_main_v5_8 (V0 : Valuation τ sig (Elt F)) : (Proc.devRef .tc main_v5_8 : DevRef τ sig).ty.Contents (Elt F) :=
  id (res_main_while0b_v51 V0)
set_option maxRecDepth 8192 in
theorem step_main_v5_8_congr {V0 V0' : Valuation τ sig (Elt F)} (h : Agree V0 V0') : step_main_v5_8 V0 = step_main_v5_8 V0' := by
  unfold step_main_v5_8
  rw [res_main_while0b_v51_congr h]
set_option maxRecDepth 8192 in
/-- `main_v5_9` after one trip, of the contents before it. -/
def step_main_v5_9 (V0 : Valuation τ sig (Elt F)) : (Proc.devRef .tc main_v5_9 : DevRef τ sig).ty.Contents (Elt F) :=
  id (Host.dynamicUpdateSlice (V0 (Proc.devRef .tc main_v5_9)) (broadcastInDim S1x128 ![1] bcast_S128_S1x128_1 (res_main_while0b_v51 V0)) (fun k => (((![V0 (Proc.devRef .tc main_v5_5), constantI S_ 32 0#32] : Fin 2 → (⟨S_, .i32⟩ : BufTy).Contents (Elt F))) k (Shape.Idx.first h_S_)).toInt) updateFits_S64x128_S1x128)
set_option maxRecDepth 8192 in
theorem step_main_v5_9_congr {V0 V0' : Valuation τ sig (Elt F)} (h : Agree V0 V0') : step_main_v5_9 V0 = step_main_v5_9 V0' := by
  unfold step_main_v5_9
  rw [res_main_while0b_v51_congr h, h main_v5_9 (by decide), h main_v5_5 (by decide)]

/-- One trip on the carried buffers: the buffers the body writes step, everything else is as it was. -/
def STEP (V0 : Valuation τ sig (Elt F)) : Valuation τ sig (Elt F) :=
  Function.update (Function.update (Function.update (Function.update (Function.update (V0) (Proc.devRef .tc main_v5_5) (step_main_v5_5 V0)) (Proc.devRef .tc main_v5_6) (step_main_v5_6 V0)) (Proc.devRef .tc main_v5_7) (step_main_v5_7 V0)) (Proc.devRef .tc main_v5_8) (step_main_v5_8 V0)) (Proc.devRef .tc main_v5_9) (step_main_v5_9 V0)

/-- `STEP` writes five buffers and keeps every other. -/
theorem STEP_keeps {b : Ref sig .tc} (h : b ∉ [main_v5_5, main_v5_6, main_v5_7, main_v5_8, main_v5_9]) (V0 : Valuation τ sig (Elt F)) :
    STEP V0 (Proc.devRef .tc b) = V0 (Proc.devRef .tc b) := by
  have hn : ∀ x ∈ [main_v5_5, main_v5_6, main_v5_7, main_v5_8, main_v5_9], (Proc.devRef .tc b : DevRef τ sig) ≠ Proc.devRef .tc x :=
    fun x hx e => h (Proc.devRef_injective _ e ▸ hx)
  unfold STEP
  rw [Function.update_of_ne (hn _ (by decide)), Function.update_of_ne (hn _ (by decide)), Function.update_of_ne (hn _ (by decide)),
    Function.update_of_ne (hn _ (by decide)), Function.update_of_ne (hn _ (by decide))]

theorem STEP_main_v5_0 (V0 : Valuation τ sig (Elt F)) : STEP V0 (Proc.devRef .tc main_v5_0) = V0 (Proc.devRef .tc main_v5_0) :=
  STEP_keeps (by decide) V0
theorem STEP_main_v5_1 (V0 : Valuation τ sig (Elt F)) : STEP V0 (Proc.devRef .tc main_v5_1) = V0 (Proc.devRef .tc main_v5_1) :=
  STEP_keeps (by decide) V0
theorem STEP_main_v5_2 (V0 : Valuation τ sig (Elt F)) : STEP V0 (Proc.devRef .tc main_v5_2) = V0 (Proc.devRef .tc main_v5_2) :=
  STEP_keeps (by decide) V0
theorem STEP_main_v5_3 (V0 : Valuation τ sig (Elt F)) : STEP V0 (Proc.devRef .tc main_v5_3) = V0 (Proc.devRef .tc main_v5_3) :=
  STEP_keeps (by decide) V0
theorem STEP_main_v5_4 (V0 : Valuation τ sig (Elt F)) : STEP V0 (Proc.devRef .tc main_v5_4) = V0 (Proc.devRef .tc main_v5_4) :=
  STEP_keeps (by decide) V0
theorem STEP_main_v5_5 (V0 : Valuation τ sig (Elt F)) : STEP V0 (Proc.devRef .tc main_v5_5) = step_main_v5_5 V0 := by
  unfold STEP; iterate 4 rw [Function.update_of_ne (devRef_ne_of_ne (by decide))]
  rw [Function.update_self]
theorem STEP_main_v5_6 (V0 : Valuation τ sig (Elt F)) : STEP V0 (Proc.devRef .tc main_v5_6) = step_main_v5_6 V0 := by
  unfold STEP; iterate 3 rw [Function.update_of_ne (devRef_ne_of_ne (by decide))]
  rw [Function.update_self]
theorem STEP_main_v5_7 (V0 : Valuation τ sig (Elt F)) : STEP V0 (Proc.devRef .tc main_v5_7) = step_main_v5_7 V0 := by
  unfold STEP; iterate 2 rw [Function.update_of_ne (devRef_ne_of_ne (by decide))]
  rw [Function.update_self]
theorem STEP_main_v5_8 (V0 : Valuation τ sig (Elt F)) : STEP V0 (Proc.devRef .tc main_v5_8) = step_main_v5_8 V0 := by
  unfold STEP; iterate 1 rw [Function.update_of_ne (devRef_ne_of_ne (by decide))]
  rw [Function.update_self]
theorem STEP_main_v5_9 (V0 : Valuation τ sig (Elt F)) : STEP V0 (Proc.devRef .tc main_v5_9) = step_main_v5_9 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v5_0 (after condOps X)).trans ((hc main_v5_0 (by decide)).trans (STEP_main_v5_0 X).symm)
  · exact (trip_main_v5_1 (after condOps X)).trans ((hc main_v5_1 (by decide)).trans (STEP_main_v5_1 X).symm)
  · exact (trip_main_v5_2 (after condOps X)).trans ((hc main_v5_2 (by decide)).trans (STEP_main_v5_2 X).symm)
  · exact (trip_main_v5_3 (after condOps X)).trans ((hc main_v5_3 (by decide)).trans (STEP_main_v5_3 X).symm)
  · exact (trip_main_v5_4 (after condOps X)).trans ((hc main_v5_4 (by decide)).trans (STEP_main_v5_4 X).symm)
  · exact (trip_main_v5_5 (after condOps X)).trans ((step_main_v5_5_congr hc).trans (STEP_main_v5_5 X).symm)
  · exact (trip_main_v5_6 (after condOps X)).trans ((step_main_v5_6_congr hc).trans (STEP_main_v5_6 X).symm)
  · exact (trip_main_v5_7 (after condOps X)).trans ((step_main_v5_7_congr hc).trans (STEP_main_v5_7 X).symm)
  · exact (trip_main_v5_8 (after condOps X)).trans ((step_main_v5_8_congr hc).trans (STEP_main_v5_8 X).symm)
  · exact (trip_main_v5_9 (after condOps X)).trans ((step_main_v5_9_congr hc).trans (STEP_main_v5_9 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v5_0, STEP_main_v5_0]; exact h main_v5_0 (by decide)
  · rw [STEP_main_v5_1, STEP_main_v5_1]; exact h main_v5_1 (by decide)
  · rw [STEP_main_v5_2, STEP_main_v5_2]; exact h main_v5_2 (by decide)
  · rw [STEP_main_v5_3, STEP_main_v5_3]; exact h main_v5_3 (by decide)
  · rw [STEP_main_v5_4, STEP_main_v5_4]; exact h main_v5_4 (by decide)
  · rw [STEP_main_v5_5, STEP_main_v5_5]; exact step_main_v5_5_congr h
  · rw [STEP_main_v5_6, STEP_main_v5_6]; exact step_main_v5_6_congr h
  · rw [STEP_main_v5_7, STEP_main_v5_7]; exact step_main_v5_7_congr h
  · rw [STEP_main_v5_8, STEP_main_v5_8]; exact step_main_v5_8_congr h
  · rw [STEP_main_v5_9, STEP_main_v5_9]; exact step_main_v5_9_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

/-- No stretch after the loop writes the buffer. -/
structure Late (b : Ref sig .tc) : Prop where
  h1 : b ∉ hostOps0_1_W
  h2 : b ∉ hostOps0_2_W
  h3 : b ∉ hostOps0_3_W
  h4 : b ∉ hostOps0_4_W
  h5 : b ∉ hostOps0_5_W

/-- No stretch of the program writes the buffer. -/
structure Untouched (b : Ref sig .tc) : Prop extends Late b where
  pre : b ∉ hostOps0_W
  cond : b ∉ condOps_W
  w0 : b ∉ while0Ops0_W
  w1 : b ∉ while0Ops0_1_W
  w2 : b ∉ while0Ops0_2_W

/-- The program's arguments. -/
abbrev argRefs : List (Ref sig .tc) := [main_arg0, main_arg1, main_arg2, main_arg3, main_arg4, main_arg5]

/-- The rows are made by the loop and written by nothing after it. -/
theorem late_rows : Late main_v5_9 := by
  constructor <;> decide +kernel

/-- Nothing writes an argument. -/
theorem untouched : ∀ b ∈ argRefs, Untouched b := fun b hb =>
  have h : ∀ b ∈ argRefs, b ∉ hostOps0_1_W ∧ b ∉ hostOps0_2_W ∧ b ∉ hostOps0_3_W ∧ b ∉ hostOps0_4_W ∧ b ∉ hostOps0_5_W
    ∧ b ∉ hostOps0_W ∧ b ∉ condOps_W ∧ b ∉ while0Ops0_W ∧ b ∉ while0Ops0_1_W ∧ b ∉ while0Ops0_2_W := by decide +kernel
  have ⟨h1, h2, h3, h4, h5, h6, h7, h8, h9, h10⟩ := h b hb
  { h1 := h1, h2 := h2, h3 := h3, h4 := h4, h5 := h5, pre := h6, cond := h7, w0 := h8, w1 := h9, w2 := h10 }

/-- The operations after the loop keep such a buffer. -/
theorem post_keeps {b : Ref sig .tc} (h : Late b) (V0 : Valuation τ sig (Elt F)) :
    afterL postI V0 (Proc.devRef .tc b) = V0 (Proc.devRef .tc b) := by
  simp only [postI, afterL_cons, afterL_nil]
  rw [after_of_writes_sub hostOps0_5 _ hostOps0_5_writes h.h5, after_of_writes_sub hostOps0_4 _ hostOps0_4_writes h.h4,
    after_of_writes_sub hostOps0_3 _ hostOps0_3_writes h.h3, after_of_writes_sub hostOps0_2 _ hostOps0_2_writes h.h2,
    after_of_writes_sub hostOps0_1 _ hostOps0_1_writes h.h1]

/-- Before every condition an argument holds its launch contents. -/
theorem atK_kept {b : Ref sig .tc} (h : Untouched b) (c : Dev nD) :
    ∀ k, atK m k c (Proc.devRef .tc b) = m ((c.tc : Thread nD τ).loc b)
  | 0 => by
    rw [show atK m 0 c = entryContents preI m c from rfl]
    simp only [entryContents, afterL_cons, afterL_nil]
    rw [after_of_writes_sub hostOps0 _ hostOps0_writes h.pre]
  | k + 1 => by
    rw [show atK m (k + 1) c = afterL bodyI (after condOps (atK m k c)) from rfl]
    simp only [afterL_cons, afterL_nil]
    rw [after_of_writes_sub while0Ops0_2 _ while0Ops0_2_writes h.w2, after_of_writes_sub while0Ops0_1 _ while0Ops0_1_writes h.w1,
      after_of_writes_sub while0Ops0 _ while0Ops0_writes h.w0, after_of_writes_sub condOps _ condOps_writes h.cond, atK_kept h c k]

/-- After the run an argument holds its launch contents. -/
theorem final_kept {b : Ref sig .tc} (h : Untouched b) (c : Dev nD) :
    finalContents condOps preI bodyI postI 64 m c (Proc.devRef .tc b) = m ((c.tc : Thread nD τ).loc b) :=
  (post_keeps h.toLate _).trans ((after_of_writes_sub condOps _ condOps_writes h.cond).trans (atK_kept m h c 64))

/-- `STEP` iterated on the loop's entry leaves an argument as the launch has it. -/
theorem iter_kept {b : Ref sig .tc} (h : Untouched b) (c : Dev nD) :
    ∀ k, (STEP^[k] (entryContents preI m c)) (Proc.devRef .tc b) = m ((c.tc : Thread nD τ).loc b)
  | 0 => by rw [Function.iterate_zero, id_eq, ← atTrip_zero condOps bodyI (entryContents preI m)]; exact atK_kept m h c 0
  | k + 1 => by
    have hs : b ∉ [main_v5_5, main_v5_6, main_v5_7, main_v5_8, main_v5_9] := fun hb => h.w2 (.tail _ (.tail _ hb))
    rw [Function.iterate_succ_apply', STEP_keeps hs]
    exact iter_kept h c k

/-! ## After the loop -/

set_option maxRecDepth 8192 in
/-- `main_v19`, which the operations after the loop make, of the contents they start from. -/
def out_main_v19 (V0 : Valuation τ sig (Elt F)) : (Proc.devRef .tc main_v19 : DevRef τ sig).ty.Contents (Elt F) :=
  shapeCast _ (fun j => (Host.argReduce reducer_argmax_f32_i32 (Host.divf (Host.dotGeneral dot_S64x128_S128x8192_S64x8192_1_0_0_1_n_n none (V0 (Proc.devRef .tc main_v5_9)) (transpose S128x8192 [1, 0] (V0 (Proc.devRef .tc main_arg1)) transposes_S8192x128_S128x8192_1_0)) (maximumf (mulf (broadcastInDim S64x8192 ![0, 1] bcast_S64x1_S64x8192_0_1 (broadcastInDim S64x1 ![0] bcast_S64_S64x1_0 (Host.sqrt (Host.reduceAdd (mulf (V0 (Proc.devRef .tc main_v5_9)) (V0 (Proc.devRef .tc main_v5_9))) (constant S_ .f32 0x00000000#32) reducesTo_S64x128_S64_d1 h_S_)))) (broadcastInDim S64x8192 ![0, 1] bcast_S1x8192_S64x8192_0_1 (broadcastInDim S1x8192 ![1] bcast_S8192_S1x8192_1 (Host.sqrt (Host.reduceAdd (mulf (V0 (Proc.devRef .tc main_arg1)) (V0 (Proc.devRef .tc main_arg1))) (constant S_ .f32 0x00000000#32) reducesTo_S8192x128_S8192_d1 h_S_))))) (broadcastInDim S64x8192 ![] bcast_S_S64x8192 (constant S_ .f32 0x322BCC77#32)))) (iotaInDim S64x8192 32 1) (constant S_ .f32 0xFF800000#32) (constantI S_ 32 0#32) reducesTo_S64x8192_S64_d1 h_S_ j).2) shapeCasts_S64_S64x1
set_option maxRecDepth 8192 in
set_option maxHeartbeats 2000000 in
theorem post_main_v19 (V0 : Valuation τ sig (Elt F)) : afterL postI V0 (no_index (Proc.devRef .tc main_v19)) = out_main_v19 V0 := by
  unfold out_main_v19
  simp only [postI, afterL_cons, afterL_nil, hostOps0_1, hostOps0_2, hostOps0_3, hostOps0_4, hostOps0_5]
  after_results_entrywise []
set_option maxRecDepth 8192 in
theorem out_main_v19_congr {V0 V0' : Valuation τ sig (Elt F)} (h : Agree V0 V0') (h_main_arg1 : V0 (Proc.devRef .tc main_arg1) = V0' (Proc.devRef .tc main_arg1)) : out_main_v19 V0 = out_main_v19 V0' := by
  unfold out_main_v19
  rw [h main_v5_9 (by decide), h_main_arg1]
/-- The run: on every device, for any float values, from any memory with zero counters, every weakly fair execution
    of @main terminates with each result at its component of `STEP` iterated 64 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v5_9) = (STEP^[64] (entryContents preI m c)) (Proc.devRef .tc main_v5_9)
      ∧ r.2.mem ((c.tc : Thread nD τ).loc main_v19) = out_main_v19 (STEP^[64] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have ha : ∀ b (hb : b ∈ argRefs) (c : Dev nD), finalContents condOps preI bodyI postI 64 m c (Proc.devRef .tc b)
      = m ((c.tc : Thread nD τ).loc b) := fun b hb c => final_kept m (untouched b hb) c
  have hc : ∀ c : Dev nD, Agree (after condOps (atK m 64 c)) (STEP^[64] (entryContents preI m c)) := fun c j hj =>
    (cond_keeps _ j hj).trans (atK_agree m c 64 j hj)
  have h1 := untouched main_arg1 (by decide)
  (θ_run defs _ _).mono (fun _ h c => ⟨(h c main_v5_9 rfl).trans ((post_keeps late_rows _).trans (hc c main_v5_9 (by decide))),
      (h c main_v19 rfl).trans ((post_main_v19 _).trans (out_main_v19_congr (hc c)
        ((after_of_writes_sub condOps _ condOps_writes h1.cond).trans ((atK_kept m h1 c 64).trans (iter_kept m h1 c 64).symm)))),
      (h c main_arg0 rfl).trans (ha main_arg0 (by decide) c), (h c main_arg1 rfl).trans (ha main_arg1 (by decide) c),
      (h c main_arg2 rfl).trans (ha main_arg2 (by decide) c), (h c main_arg3 rfl).trans (ha main_arg3 (by decide) c),
      (h c main_arg4 rfl).trans (ha main_arg4 (by decide) c), (h c main_arg5 rfl).trans (ha main_arg5 (by decide) c)⟩)
    (run_fold m ρ)

end Cert.ReferenceIdeal.Value

end
-- ==== Proof.RefStep.lean ====
/- One trip of the reference's loop as a function of the state it starts from: the carried values, the values a trip makes in
   their order (`b‹k›`), the first state `init` and the step `step`. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v5_6 : (⟨S128, .f32⟩ : BufTy).Contents (Elt F)
  main_v5_7 : (⟨S128, .f32⟩ : BufTy).Contents (Elt F)
  main_v5_8 : (⟨S128, .f32⟩ : BufTy).Contents (Elt F)
  main_v5_9 : (⟨S64x128, .f32⟩ : BufTy).Contents (Elt F)
  main_v5_0 : (⟨S128, .f32⟩ : BufTy).Contents (Elt F)
  main_v5_1 : (⟨S512x256, .f32⟩ : BufTy).Contents (Elt F)
  main_v5_2 : (⟨S512, .f32⟩ : BufTy).Contents (Elt F)
  main_v5_3 : (⟨S512x128, .f32⟩ : BufTy).Contents (Elt F)
  main_v5_4 : (⟨S512, .f32⟩ : BufTy).Contents (Elt F)

/-! What @main computes before the loop without reading an argument. -/

def K_main_cst : (⟨S_, .f32⟩ : BufTy).Contents (Elt F) := constant S_ .f32 0x00000000#32
def K_main_v2 : (⟨S128, .f32⟩ : BufTy).Contents (Elt F) := broadcastInDim S128 ![] bcast_S_S128 ((K_main_cst (F := F)))
def K_main_cst_0 : (⟨S_, .f32⟩ : BufTy).Contents (Elt F) := constant S_ .f32 0x00000000#32
def K_main_v3 : (⟨S128, .f32⟩ : BufTy).Contents (Elt F) := broadcastInDim S128 ![] bcast_S_S128 ((K_main_cst_0 (F := F)))
def K_main_cst_1 : (⟨S_, .f32⟩ : BufTy).Contents (Elt F) := constant S_ .f32 0x00000000#32
def K_main_v4 : (⟨S64x128, .f32⟩ : BufTy).Contents (Elt F) := broadcastInDim S64x128 ![] bcast_S_S64x128 ((K_main_cst_1 (F := F)))
def K_main_c : (⟨S_, .i32⟩ : BufTy).Contents (Elt F) := constantI S_ 32 0#32

/-! What @main computes before the loop from its arguments, as functions of them. -/

def A_main_v0 (main_arg1 : (⟨S8192x128, .f32⟩ : BufTy).Contents (Elt F)) : (⟨S1x128, .f32⟩ : BufTy).Contents (Elt F) := extractStridedSlice S1x128 ![0, 0] (main_arg1) slices_S8192x128_S1x128_0_0
def A_main_v1 (main_arg1 : (⟨S8192x128, .f32⟩ : BufTy).Contents (Elt F)) : (⟨S128, .f32⟩ : BufTy).Contents (Elt F) := shapeCast _ ((A_main_v0 main_arg1)) shapeCasts_S1x128_S128

/-! One trip's values, in the body's order. -/

def b0 (j : ℕ) (s : State F) : (⟨S256, .f32⟩ : BufTy).Contents (Elt F) :=
  concatenate S256 0 [⟨S128, (s.main_v5_8)⟩, ⟨S128, (s.main_v5_0)⟩] concatenates_S128_S128_S256_d0
def b1 (j : ℕ) (s : State F) : (⟨S512, .f32⟩ : BufTy).Contents (Elt F) :=
  Host.dotGeneral dot_S512x256_S256_S512_1_0_0_n_n_n none (s.main_v5_1) ((b0 j s))
def b2 (j : ℕ) (s : State F) : (⟨S512, .f32⟩ : BufTy).Contents (Elt F) :=
  addf ((b1 j s)) (s.main_v5_2)
def b3 (j : ℕ) (s : State F) : (⟨S512, .f32⟩ : BufTy).Contents (Elt F) :=
  Host.dotGeneral dot_S512x128_S128_S512_1_0_0_n_n_n none (s.main_v5_3) (s.main_v5_6)
def b4 (j : ℕ) (s : State F) : (⟨S512, .f32⟩ : BufTy).Contents (Elt F) :=
  addf ((b2 j s)) ((b3 j s))
def b5 (j : ℕ) (s : State F) : (⟨S512, .f32⟩ : BufTy).Contents (Elt F) :=
  addf ((b4 j s)) (s.main_v5_4)
def b6 (j : ℕ) (s : State F) : (⟨S128, .f32⟩ : BufTy).Contents (Elt F) :=
  extractStridedSlice S128 ![0] ((b5 j s)) slices_S512_S128_0
def b7 (j : ℕ) (s : State F) : (⟨S128, .f32⟩ : BufTy).Contents (Elt F) :=
  extractStridedSlice S128 ![128] ((b5 j s)) slices_S512_S128_128
def b8 (j : ℕ) (s : State F) : (⟨S128, .f32⟩ : BufTy).Contents (Elt F) :=
  extractStridedSlice S128 ![256] ((b5 j s)) slices_S512_S128_256
def b9 (j : ℕ) (s : State F) : (⟨S128, .f32⟩ : BufTy).Contents (Elt F) :=
  extractStridedSlice S128 ![384] ((b5 j s)) slices_S512_S128_384
def b10 (j : ℕ) (s : State F) : (⟨S128, .f32⟩ : BufTy).Contents (Elt F) :=
  Host.negf ((b6 j s))
def b11 (j : ℕ) (s : State F) : (⟨S128, .f32⟩ : BufTy).Contents (Elt F) :=
  Host.exp ((b10 j s))
def b12 (j : ℕ) (s : State F) : (⟨S_, .f32⟩ : BufTy).Contents (Elt F) :=
  constant S_ .f32 0x3F800000#32
def b13 (j : ℕ) (s : State F) : (⟨S128, .f32⟩ : BufTy).Contents (Elt F) :=
  broadcastInDim S128 ![] bcast_S_S128 ((b12 j s))
def b14 (j : ℕ) (s : State F) : (⟨S128, .f32⟩ : BufTy).Contents (Elt F) :=
  addf ((b13 j s)) ((b11 j s))
def b15 (j : ℕ) (s : State F) : (⟨S_, .f32⟩ : BufTy).Contents (Elt F) :=
  constant S_ .f32 0x3F800000#32
def b16 (j : ℕ) (s : State F) : (⟨S128, .f32⟩ : BufTy).Contents (Elt F) :=
  broadcastInDim S128 ![] bcast_S_S128 ((b15 j s))
def b17 (j : ℕ) (s : State F) : (⟨S128, .f32⟩ : BufTy).Contents (Elt F) :=
  Host.divf ((b16 j s)) ((b14 j s))
def b18 (j : ℕ) (s : State F) : (⟨S128, .f32⟩ : BufTy).Contents (Elt F) :=
  Host.negf ((b7 j s))
def b19 (j : ℕ) (s : State F) : (⟨S128, .f32⟩ : BufTy).Contents (Elt F) :=
  Host.exp ((b18 j s))
def b20 (j : ℕ) (s : State F) : (⟨S_, .f32⟩ : BufTy).Contents (Elt F) :=
  constant S_ .f32 0x3F800000#32
def b21 (j : ℕ) (s : State F) : (⟨S128, .f32⟩ : BufTy).Contents (Elt F) :=
  broadcastInDim S128 ![] bcast_S_S128 ((b20 j s))
def b22 (j : ℕ) (s : State F) : (⟨S128, .f32⟩ : BufTy).Contents (Elt F) :=
  addf ((b21 j s)) ((b19 j s))
def b23 (j : ℕ) (s : State F) : (⟨S_, .f32⟩ : BufTy).Contents (Elt F) :=
  constant S_ .f32 0x3F800000#32
def b24 (j : ℕ) (s : State F) : (⟨S128, .f32⟩ : BufTy).Contents (Elt F) :=
  broadcastInDim S128 ![] bcast_S_S128 ((b23 j s))
def b25 (j : ℕ) (s : State F) : (⟨S128, .f32⟩ : BufTy).Contents (Elt F) :=
  Host.divf ((b24 j s)) ((b22 j s))
def b26 (j : ℕ) (s : State F) : (⟨S128, .f32⟩ : BufTy).Contents (Elt F) :=
  Host.tanh ((b8 j s))
def b27 (j : ℕ) (s : State F) : (⟨S128, .f32⟩ : BufTy).Contents (Elt F) :=
  Host.negf ((b9 j s))
def b28 (j : ℕ) (s : State F) : (⟨S128, .f32⟩ : BufTy).Contents (Elt F) :=
  Host.exp ((b27 j s))
def b29 (j : ℕ) (s : State F) : (⟨S_, .f32⟩ : BufTy).Contents (Elt F) :=
  constant S_ .f32 0x3F800000#32
def b30 (j : ℕ) (s : State F) : (⟨S128, .f32⟩ : BufTy).Contents (Elt F) :=
  broadcastInDim S128 ![] bcast_S_S128 ((b29 j s))
def b31 (j : ℕ) (s : State F) : (⟨S128, .f32⟩ : BufTy).Contents (Elt F) :=
  addf ((b30 j s)) ((b28 j s))
def b32 (j : ℕ) (s : State F) : (⟨S_, .f32⟩ : BufTy).Contents (Elt F) :=
  constant S_ .f32 0x3F800000#32
def b33 (j : ℕ) (s : State F) : (⟨S128, .f32⟩ : BufTy).Contents (Elt F) :=
  broadcastInDim S128 ![] bcast_S_S128 ((b32 j s))
def b34 (j : ℕ) (s : State F) : (⟨S128, .f32⟩ : BufTy).Contents (Elt F) :=
  Host.divf ((b33 j s)) ((b31 j s))
def b35 (j : ℕ) (s : State F) : (⟨S128, .f32⟩ : BufTy).Contents (Elt F) :=
  mulf ((b25 j s)) (s.main_v5_7)
def b36 (j : ℕ) (s : State F) : (⟨S128, .f32⟩ : BufTy).Contents (Elt F) :=
  mulf ((b17 j s)) ((b26 j s))
def b37 (j : ℕ) (s : State F) : (⟨S128, .f32⟩ : BufTy).Contents (Elt F) :=
  addf ((b35 j s)) ((b36 j s))
def b38 (j : ℕ) (s : State F) : (⟨S128, .f32⟩ : BufTy).Contents (Elt F) :=
  Host.tanh ((b37 j s))
def b39 (j : ℕ) (s : State F) : (⟨S128, .f32⟩ : BufTy).Contents (Elt F) :=
  mulf ((b34 j s)) ((b38 j s))
def b40 (j : ℕ) (s : State F) : (⟨S1x128, .f32⟩ : BufTy).Contents (Elt F) :=
  broadcastInDim S1x128 ![1] bcast_S128_S1x128_1 ((b37 j s))
def b41 (j : ℕ) (s : State F) : (⟨S_, .i32⟩ : BufTy).Contents (Elt F) :=
  constantI S_ 32 0#32
def b42 (j : ℕ) (s : State F) : (⟨S64x128, .f32⟩ : BufTy).Contents (Elt F) :=
  Host.dynamicUpdateSlice (s.main_v5_9) ((b40 j s)) (fun k => (((![(constantI S_ 32 (BitVec.ofNat 32 j) : (⟨S_, .i32⟩ : BufTy).Contents (Elt F)), (b41 j s)] : Fin 2 → (⟨S_, .i32⟩ : BufTy).Contents (Elt F))) k (Shape.Idx.first h_S_)).toInt) updateFits_S64x128_S1x128

/-- The state @main hands the first trip, of the arguments it copies in or computes from. -/
def init (main_arg0 : (⟨S128, .f32⟩ : BufTy).Contents (Elt F)) (main_arg2 : (⟨S512x256, .f32⟩ : BufTy).Contents (Elt F)) (main_arg4 : (⟨S512, .f32⟩ : BufTy).Contents (Elt F)) (main_arg3 : (⟨S512x128, .f32⟩ : BufTy).Contents (Elt F)) (main_arg5 : (⟨S512, .f32⟩ : BufTy).Contents (Elt F)) (main_arg1 : (⟨S8192x128, .f32⟩ : BufTy).Contents (Elt F)) : State F :=
  { main_v5_6 := K_main_v2 (F := F), main_v5_7 := K_main_v3 (F := F), main_v5_8 := A_main_v1 main_arg1, main_v5_9 := K_main_v4 (F := F), main_v5_0 := main_arg0, main_v5_1 := main_arg2, main_v5_2 := main_arg4, main_v5_3 := main_arg3, main_v5_4 := main_arg5 }

/-- One trip. -/
def step (j : ℕ) (s : State F) : State F :=
  { main_v5_6 := b39 j s, main_v5_7 := b37 j s, main_v5_8 := b37 j s, main_v5_9 := b42 j s, main_v5_0 := s.main_v5_0, main_v5_1 := s.main_v5_1, main_v5_2 := s.main_v5_2, main_v5_3 := s.main_v5_3, main_v5_4 := s.main_v5_4 }
theorem step_main_v5_6 (j : ℕ) (s : State F) : (step j s).main_v5_6 = b39 j s := by unfold step; rfl
theorem step_main_v5_7 (j : ℕ) (s : State F) : (step j s).main_v5_7 = b37 j s := by unfold step; rfl
theorem step_main_v5_8 (j : ℕ) (s : State F) : (step j s).main_v5_8 = b37 j s := by unfold step; rfl
theorem step_main_v5_9 (j : ℕ) (s : State F) : (step j s).main_v5_9 = b42 j s := by unfold step; rfl

/-- `main_v19`, which the operations after the loop make, of the loop's last state and the arguments they read. -/
def R_main_v19 (s : State F) (main_arg1 : (⟨S8192x128, .f32⟩ : BufTy).Contents (Elt F)) : (⟨S64x1, .i32⟩ : BufTy).Contents (Elt F) :=
  shapeCast _ (fun j => (Host.argReduce reducer_argmax_f32_i32 (Host.divf (Host.dotGeneral dot_S64x128_S128x8192_S64x8192_1_0_0_1_n_n none (s.main_v5_9) (transpose S128x8192 [1, 0] (main_arg1) transposes_S8192x128_S128x8192_1_0)) (maximumf (mulf (broadcastInDim S64x8192 ![0, 1] bcast_S64x1_S64x8192_0_1 (broadcastInDim S64x1 ![0] bcast_S64_S64x1_0 (Host.sqrt (Host.reduceAdd (mulf (s.main_v5_9) (s.main_v5_9)) (constant S_ .f32 0x00000000#32) reducesTo_S64x128_S64_d1 h_S_)))) (broadcastInDim S64x8192 ![0, 1] bcast_S1x8192_S64x8192_0_1 (broadcastInDim S1x8192 ![1] bcast_S8192_S1x8192_1 (Host.sqrt (Host.reduceAdd (mulf (main_arg1) (main_arg1)) (constant S_ .f32 0x00000000#32) reducesTo_S8192x128_S8192_d1 h_S_))))) (broadcastInDim S64x8192 ![] bcast_S_S64x8192 (constant S_ .f32 0x322BCC77#32)))) (iotaInDim S64x8192 32 1) (constant S_ .f32 0xFF800000#32) (constantI S_ 32 0#32) reducesTo_S64x8192_S64_d1 h_S_ j).2) shapeCasts_S64_S64x1

end Cert.ReferenceIdeal.Step

end
-- ==== Proof.RefStepRun.lean ====
/- The run of the reference stated over `step`: what a buffer holds before each trip is the field of a state, and the results
   are read from state number 64. -/
module

public import proofs.«01_k».proof.Proof.RefRun
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v5_6) = s.main_v5_6
  f_7 : V0 (Proc.devRef .tc main_v5_7) = s.main_v5_7
  f_8 : V0 (Proc.devRef .tc main_v5_8) = s.main_v5_8
  f_9 : V0 (Proc.devRef .tc main_v5_9) = s.main_v5_9
  f_0 : V0 (Proc.devRef .tc main_v5_0) = s.main_v5_0
  f_1 : V0 (Proc.devRef .tc main_v5_1) = s.main_v5_1
  f_2 : V0 (Proc.devRef .tc main_v5_2) = s.main_v5_2
  f_3 : V0 (Proc.devRef .tc main_v5_3) = s.main_v5_3
  f_4 : V0 (Proc.devRef .tc main_v5_4) = s.main_v5_4
  n_5 : V0 (Proc.devRef .tc main_v5_5) = constantI S_ 32 (BitVec.ofNat 32 j)

variable {V0 s j}

set_option maxRecDepth 8192 in
theorem al_0 (h : Holds V0 s j) : (concatenate S256 0 [⟨S128, (V0 (Proc.devRef .tc main_v5_8))⟩, ⟨S128, (V0 (Proc.devRef .tc main_v5_0))⟩] concatenates_S128_S128_S256_d0 : (Proc.devRef .tc main_while0b_v20 : DevRef τ sig).ty.Contents (Elt F)) = Cert.ReferenceIdeal.Step.b0 j s := by
  unfold Cert.ReferenceIdeal.Step.b0
  rw [h.f_8, h.f_0]
  try rfl
set_option maxRecDepth 8192 in
theorem al_1 (h : Holds V0 s j) : (Host.dotGeneral dot_S512x256_S256_S512_1_0_0_n_n_n none (V0 (Proc.devRef .tc main_v5_1)) (concatenate S256 0 [⟨S128, (V0 (Proc.devRef .tc main_v5_8))⟩, ⟨S128, (V0 (Proc.devRef .tc main_v5_0))⟩] concatenates_S128_S128_S256_d0) : (Proc.devRef .tc main_while0b_v21 : DevRef τ sig).ty.Contents (Elt F)) = Cert.ReferenceIdeal.Step.b1 j s := by
  unfold Cert.ReferenceIdeal.Step.b1
  rw [← al_0 h, h.f_1]
  try rfl
set_option maxRecDepth 8192 in
theorem al_2 (h : Holds V0 s j) : (addf (Host.dotGeneral dot_S512x256_S256_S512_1_0_0_n_n_n none (V0 (Proc.devRef .tc main_v5_1)) (concatenate S256 0 [⟨S128, (V0 (Proc.devRef .tc main_v5_8))⟩, ⟨S128, (V0 (Proc.devRef .tc main_v5_0))⟩] concatenates_S128_S128_S256_d0)) (V0 (Proc.devRef .tc main_v5_2)) : (Proc.devRef .tc main_while0b_v22 : DevRef τ sig).ty.Contents (Elt F)) = Cert.ReferenceIdeal.Step.b2 j s := by
  unfold Cert.ReferenceIdeal.Step.b2
  rw [← al_1 h, h.f_2]
  try rfl
set_option maxRecDepth 8192 in
theorem al_3 (h : Holds V0 s j) : (Host.dotGeneral dot_S512x128_S128_S512_1_0_0_n_n_n none (V0 (Proc.devRef .tc main_v5_3)) (V0 (Proc.devRef .tc main_v5_6)) : (Proc.devRef .tc main_while0b_v23 : DevRef τ sig).ty.Contents (Elt F)) = Cert.ReferenceIdeal.Step.b3 j s := by
  unfold Cert.ReferenceIdeal.Step.b3
  rw [h.f_3, h.f_6]
  try rfl
set_option maxRecDepth 8192 in
theorem al_4 (h : Holds V0 s j) : (addf (addf (Host.dotGeneral dot_S512x256_S256_S512_1_0_0_n_n_n none (V0 (Proc.devRef .tc main_v5_1)) (concatenate S256 0 [⟨S128, (V0 (Proc.devRef .tc main_v5_8))⟩, ⟨S128, (V0 (Proc.devRef .tc main_v5_0))⟩] concatenates_S128_S128_S256_d0)) (V0 (Proc.devRef .tc main_v5_2))) (Host.dotGeneral dot_S512x128_S128_S512_1_0_0_n_n_n none (V0 (Proc.devRef .tc main_v5_3)) (V0 (Proc.devRef .tc main_v5_6))) : (Proc.devRef .tc main_while0b_v24 : DevRef τ sig).ty.Contents (Elt F)) = Cert.ReferenceIdeal.Step.b4 j s := by
  unfold Cert.ReferenceIdeal.Step.b4
  rw [← al_2 h, ← al_3 h]
  try rfl
set_option maxRecDepth 8192 in
theorem al_5 (h : Holds V0 s j) : (res_main_while0b_v25 V0 : (Proc.devRef .tc main_while0b_v25 : DevRef τ sig).ty.Contents (Elt F)) = Cert.ReferenceIdeal.Step.b5 j s := by
  unfold res_main_while0b_v25 Cert.ReferenceIdeal.Step.b5
  rw [← al_4 h, h.f_4]
  try rfl
set_option maxRecDepth 8192 in
theorem al_6 (h : Holds V0 s j) : (extractStridedSlice S128 ![0] (res_main_while0b_v25 V0) slices_S512_S128_0 : (Proc.devRef .tc main_while0b_v26 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (extractStridedSlice S128 ![128] (res_main_while0b_v25 V0) slices_S512_S128_128 : (Proc.devRef .tc main_while0b_v27 : DevRef τ sig).ty.Contents (Elt F)) = Cert.ReferenceIdeal.Step.b7 j s := by
  unfold Cert.ReferenceIdeal.Step.b7
  rw [← al_5 h]
  try rfl
set_option maxRecDepth 8192 in
theorem al_8 (h : Holds V0 s j) : (extractStridedSlice S128 ![256] (res_main_while0b_v25 V0) slices_S512_S128_256 : (Proc.devRef .tc main_while0b_v28 : DevRef τ sig).ty.Contents (Elt F)) = Cert.ReferenceIdeal.Step.b8 j s := by
  unfold Cert.ReferenceIdeal.Step.b8
  rw [← al_5 h]
  try rfl
set_option maxRecDepth 8192 in
theorem al_9 (h : Holds V0 s j) : (extractStridedSlice S128 ![384] (res_main_while0b_v25 V0) slices_S512_S128_384 : (Proc.devRef .tc main_while0b_v29 : DevRef τ sig).ty.Contents (Elt F)) = Cert.ReferenceIdeal.Step.b9 j s := by
  unfold Cert.ReferenceIdeal.Step.b9
  rw [← al_5 h]
  try rfl
set_option maxRecDepth 8192 in
theorem al_10 (h : Holds V0 s j) : (Host.negf (extractStridedSlice S128 ![0] (res_main_while0b_v25 V0) slices_S512_S128_0) : (Proc.devRef .tc main_while0b_v30 : DevRef τ sig).ty.Contents (Elt F)) = Cert.ReferenceIdeal.Step.b10 j s := by
  unfold Cert.ReferenceIdeal.Step.b10
  rw [← al_6 h]
  try rfl
set_option maxRecDepth 8192 in
theorem al_11 (h : Holds V0 s j) : (Host.exp (Host.negf (extractStridedSlice S128 ![0] (res_main_while0b_v25 V0) slices_S512_S128_0)) : (Proc.devRef .tc main_while0b_v31 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constant S_ .f32 0x3F800000#32 : (Proc.devRef .tc main_while0b_cst_12 : DevRef τ sig).ty.Contents (Elt F)) = Cert.ReferenceIdeal.Step.b12 j s := by
  unfold Cert.ReferenceIdeal.Step.b12
  rfl
set_option maxRecDepth 8192 in
theorem al_13 (h : Holds V0 s j) : (broadcastInDim S128 ![] bcast_S_S128 (constant S_ .f32 0x3F800000#32) : (Proc.devRef .tc main_while0b_v32 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (addf (broadcastInDim S128 ![] bcast_S_S128 (constant S_ .f32 0x3F800000#32)) (Host.exp (Host.negf (extractStridedSlice S128 ![0] (res_main_while0b_v25 V0) slices_S512_S128_0))) : (Proc.devRef .tc main_while0b_v33 : DevRef τ sig).ty.Contents (Elt F)) = Cert.ReferenceIdeal.Step.b14 j s := by
  unfold Cert.ReferenceIdeal.Step.b14
  rw [← al_13 h, ← al_11 h]
  try rfl
set_option maxRecDepth 8192 in
theorem al_15 (h : Holds V0 s j) : (constant S_ .f32 0x3F800000#32 : (Proc.devRef .tc main_while0b_cst_13 : DevRef τ sig).ty.Contents (Elt F)) = Cert.ReferenceIdeal.Step.b15 j s := by
  unfold Cert.ReferenceIdeal.Step.b15
  rfl
set_option maxRecDepth 8192 in
theorem al_16 (h : Holds V0 s j) : (broadcastInDim S128 ![] bcast_S_S128 (constant S_ .f32 0x3F800000#32) : (Proc.devRef .tc main_while0b_v34 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (Host.divf (broadcastInDim S128 ![] bcast_S_S128 (constant S_ .f32 0x3F800000#32)) (addf (broadcastInDim S128 ![] bcast_S_S128 (constant S_ .f32 0x3F800000#32)) (Host.exp (Host.negf (extractStridedSlice S128 ![0] (res_main_while0b_v25 V0) slices_S512_S128_0)))) : (Proc.devRef .tc main_while0b_v35 : DevRef τ sig).ty.Contents (Elt F)) = Cert.ReferenceIdeal.Step.b17 j s := by
  unfold Cert.ReferenceIdeal.Step.b17
  rw [← al_16 h, ← al_14 h]
  try rfl
set_option maxRecDepth 8192 in
theorem al_18 (h : Holds V0 s j) : (Host.negf (extractStridedSlice S128 ![128] (res_main_while0b_v25 V0) slices_S512_S128_128) : (Proc.devRef .tc main_while0b_v36 : DevRef τ sig).ty.Contents (Elt F)) = Cert.ReferenceIdeal.Step.b18 j s := by
  unfold Cert.ReferenceIdeal.Step.b18
  rw [← al_7 h]
  try rfl
set_option maxRecDepth 8192 in
theorem al_19 (h : Holds V0 s j) : (Host.exp (Host.negf (extractStridedSlice S128 ![128] (res_main_while0b_v25 V0) slices_S512_S128_128)) : (Proc.devRef .tc main_while0b_v37 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constant S_ .f32 0x3F800000#32 : (Proc.devRef .tc main_while0b_cst_14 : DevRef τ sig).ty.Contents (Elt F)) = Cert.ReferenceIdeal.Step.b20 j s := by
  unfold Cert.ReferenceIdeal.Step.b20
  rfl
set_option maxRecDepth 8192 in
theorem al_21 (h : Holds V0 s j) : (broadcastInDim S128 ![] bcast_S_S128 (constant S_ .f32 0x3F800000#32) : (Proc.devRef .tc main_while0b_v38 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (addf (broadcastInDim S128 ![] bcast_S_S128 (constant S_ .f32 0x3F800000#32)) (Host.exp (Host.negf (extractStridedSlice S128 ![128] (res_main_while0b_v25 V0) slices_S512_S128_128))) : (Proc.devRef .tc main_while0b_v39 : DevRef τ sig).ty.Contents (Elt F)) = Cert.ReferenceIdeal.Step.b22 j s := by
  unfold Cert.ReferenceIdeal.Step.b22
  rw [← al_21 h, ← al_19 h]
  try rfl
set_option maxRecDepth 8192 in
theorem al_23 (h : Holds V0 s j) : (constant S_ .f32 0x3F800000#32 : (Proc.devRef .tc main_while0b_cst_15 : DevRef τ sig).ty.Contents (Elt F)) = Cert.ReferenceIdeal.Step.b23 j s := by
  unfold Cert.ReferenceIdeal.Step.b23
  rfl
set_option maxRecDepth 8192 in
theorem al_24 (h : Holds V0 s j) : (broadcastInDim S128 ![] bcast_S_S128 (constant S_ .f32 0x3F800000#32) : (Proc.devRef .tc main_while0b_v40 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (Host.divf (broadcastInDim S128 ![] bcast_S_S128 (constant S_ .f32 0x3F800000#32)) (addf (broadcastInDim S128 ![] bcast_S_S128 (constant S_ .f32 0x3F800000#32)) (Host.exp (Host.negf (extractStridedSlice S128 ![128] (res_main_while0b_v25 V0) slices_S512_S128_128)))) : (Proc.devRef .tc main_while0b_v41 : DevRef τ sig).ty.Contents (Elt F)) = Cert.ReferenceIdeal.Step.b25 j s := by
  unfold Cert.ReferenceIdeal.Step.b25
  rw [← al_24 h, ← al_22 h]
  try rfl
set_option maxRecDepth 8192 in
theorem al_26 (h : Holds V0 s j) : (Host.tanh (extractStridedSlice S128 ![256] (res_main_while0b_v25 V0) slices_S512_S128_256) : (Proc.devRef .tc main_while0b_v42 : DevRef τ sig).ty.Contents (Elt F)) = Cert.ReferenceIdeal.Step.b26 j s := by
  unfold Cert.ReferenceIdeal.Step.b26
  rw [← al_8 h]
  try rfl
set_option maxRecDepth 8192 in
theorem al_27 (h : Holds V0 s j) : (Host.negf (extractStridedSlice S128 ![384] (res_main_while0b_v25 V0) slices_S512_S128_384) : (Proc.devRef .tc main_while0b_v43 : DevRef τ sig).ty.Contents (Elt F)) = Cert.ReferenceIdeal.Step.b27 j s := by
  unfold Cert.ReferenceIdeal.Step.b27
  rw [← al_9 h]
  try rfl
set_option maxRecDepth 8192 in
theorem al_28 (h : Holds V0 s j) : (Host.exp (Host.negf (extractStridedSlice S128 ![384] (res_main_while0b_v25 V0) slices_S512_S128_384)) : (Proc.devRef .tc main_while0b_v44 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constant S_ .f32 0x3F800000#32 : (Proc.devRef .tc main_while0b_cst_16 : DevRef τ sig).ty.Contents (Elt F)) = Cert.ReferenceIdeal.Step.b29 j s := by
  unfold Cert.ReferenceIdeal.Step.b29
  rfl
set_option maxRecDepth 8192 in
theorem al_30 (h : Holds V0 s j) : (broadcastInDim S128 ![] bcast_S_S128 (constant S_ .f32 0x3F800000#32) : (Proc.devRef .tc main_while0b_v45 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (addf (broadcastInDim S128 ![] bcast_S_S128 (constant S_ .f32 0x3F800000#32)) (Host.exp (Host.negf (extractStridedSlice S128 ![384] (res_main_while0b_v25 V0) slices_S512_S128_384))) : (Proc.devRef .tc main_while0b_v46 : DevRef τ sig).ty.Contents (Elt F)) = Cert.ReferenceIdeal.Step.b31 j s := by
  unfold Cert.ReferenceIdeal.Step.b31
  rw [← al_30 h, ← al_28 h]
  try rfl
set_option maxRecDepth 8192 in
theorem al_32 (h : Holds V0 s j) : (constant S_ .f32 0x3F800000#32 : (Proc.devRef .tc main_while0b_cst_17 : DevRef τ sig).ty.Contents (Elt F)) = Cert.ReferenceIdeal.Step.b32 j s := by
  unfold Cert.ReferenceIdeal.Step.b32
  rfl
set_option maxRecDepth 8192 in
theorem al_33 (h : Holds V0 s j) : (broadcastInDim S128 ![] bcast_S_S128 (constant S_ .f32 0x3F800000#32) : (Proc.devRef .tc main_while0b_v47 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384)))) : (Proc.devRef .tc main_while0b_v48 : DevRef τ sig).ty.Contents (Elt F)) = Cert.ReferenceIdeal.Step.b34 j s := by
  unfold Cert.ReferenceIdeal.Step.b34
  rw [← al_33 h, ← al_31 h]
  try rfl
set_option maxRecDepth 8192 in
theorem al_35 (h : Holds V0 s j) : (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![128] (res_main_while0b_v25 V0) slices_S512_S128_128))))) (V0 (Proc.devRef .tc main_v5_7)) : (Proc.devRef .tc main_while0b_v49 : DevRef τ sig).ty.Contents (Elt F)) = Cert.ReferenceIdeal.Step.b35 j s := by
  unfold Cert.ReferenceIdeal.Step.b35
  rw [← al_25 h, h.f_7]
  try rfl
set_option maxRecDepth 8192 in
theorem al_36 (h : Holds V0 s j) : (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![0] (res_main_while0b_v25 V0) slices_S512_S128_0))))) (Host.tanh (extractStridedSlice S128 ![256] (res_main_while0b_v25 V0) slices_S512_S128_256)) : (Proc.devRef .tc main_while0b_v50 : DevRef τ sig).ty.Contents (Elt F)) = Cert.ReferenceIdeal.Step.b36 j s := by
  unfold Cert.ReferenceIdeal.Step.b36
  rw [← al_17 h, ← al_26 h]
  try rfl
set_option maxRecDepth 8192 in
theorem al_37 (h : Holds V0 s j) : (res_main_while0b_v51 V0 : (Proc.devRef .tc main_while0b_v51 : DevRef τ sig).ty.Contents (Elt F)) = Cert.ReferenceIdeal.Step.b37 j s := by
  unfold res_main_while0b_v51 Cert.ReferenceIdeal.Step.b37
  rw [← al_35 h, ← al_36 h]
  try rfl
set_option maxRecDepth 8192 in
theorem al_38 (h : Holds V0 s j) : (Host.tanh (res_main_while0b_v51 V0) : (Proc.devRef .tc main_while0b_v52 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0)) : (Proc.devRef .tc main_while0b_v53 : DevRef τ sig).ty.Contents (Elt F)) = Cert.ReferenceIdeal.Step.b39 j s := by
  unfold Cert.ReferenceIdeal.Step.b39
  rw [← al_34 h, ← al_38 h]
  try rfl
set_option maxRecDepth 8192 in
theorem al_40 (h : Holds V0 s j) : (broadcastInDim S1x128 ![1] bcast_S128_S1x128_1 (res_main_while0b_v51 V0) : (Proc.devRef .tc main_while0b_call0_v0 : DevRef τ sig).ty.Contents (Elt F)) = Cert.ReferenceIdeal.Step.b40 j s := by
  unfold Cert.ReferenceIdeal.Step.b40
  rw [← al_37 h]
  try rfl
set_option maxRecDepth 8192 in
theorem al_41 (h : Holds V0 s j) : (constantI S_ 32 0#32 : (Proc.devRef .tc main_while0b_call0_c : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v5_9)) (broadcastInDim S1x128 ![1] bcast_S128_S1x128_1 (res_main_while0b_v51 V0)) (fun k => (((![V0 (Proc.devRef .tc main_v5_5), constantI S_ 32 0#32] : Fin 2 → (⟨S_, .i32⟩ : BufTy).Contents (Elt F))) k (Shape.Idx.first h_S_)).toInt) updateFits_S64x128_S1x128 : (Proc.devRef .tc main_while0b_v54 : DevRef τ sig).ty.Contents (Elt F)) = Cert.ReferenceIdeal.Step.b42 j s := by
  unfold Cert.ReferenceIdeal.Step.b42
  rw [← al_40 h, ← al_41 h, h.f_9, h.n_5]
  try rfl

/-! One trip's step of the carried values is `step`, field by field; a counter steps to the next number. -/

theorem step_6 (h : Holds V0 s j) : step_main_v5_6 V0 = (step j s).main_v5_6 := by
  unfold step_main_v5_6 Cert.ReferenceIdeal.Step.step
  show id (mulf (Host.divf (broadcastInDim S128 ![] bcast_S_S128 (constant S_ .f32 0x3F800000#32)) (addf (broadcastInDim S128 ![] bcast_S_S128 (constant S_ .f32 0x3F800000#32)) (Host.exp (Host.negf (extractStridedSlice S128 ![384] (res_main_while0b_v25 V0) slices_S512_S128_384))))) (Host.tanh (res_main_while0b_v51 V0))) = _
  rw [al_39 h]
  try rfl
theorem step_7 (h : Holds V0 s j) : step_main_v5_7 V0 = (step j s).main_v5_7 := by
  unfold step_main_v5_7 Cert.ReferenceIdeal.Step.step
  show id (res_main_while0b_v51 V0) = _
  rw [al_37 h]
  try rfl
theorem step_8 (h : Holds V0 s j) : step_main_v5_8 V0 = (step j s).main_v5_8 := by
  unfold step_main_v5_8 Cert.ReferenceIdeal.Step.step
  show id (res_main_while0b_v51 V0) = _
  rw [al_37 h]
  try rfl
theorem step_9 (h : Holds V0 s j) : step_main_v5_9 V0 = (step j s).main_v5_9 := by
  unfold step_main_v5_9 Cert.ReferenceIdeal.Step.step
  show id (Host.dynamicUpdateSlice (V0 (Proc.devRef .tc main_v5_9)) (broadcastInDim S1x128 ![1] bcast_S128_S1x128_1 (res_main_while0b_v51 V0)) (fun k => (((![V0 (Proc.devRef .tc main_v5_5), constantI S_ 32 0#32] : Fin 2 → (⟨S_, .i32⟩ : BufTy).Contents (Elt F))) k (Shape.Idx.first h_S_)).toInt) updateFits_S64x128_S1x128) = _
  exact al_42 h
theorem step_5 (h : Holds V0 s j) : step_main_v5_5 V0 = constantI S_ 32 (BitVec.ofNat 32 (j + 1)) := by
  unfold step_main_v5_5
  rw [h.n_5]
  funext i
  show BitVec.ofNat 32 j + 1#32 = BitVec.ofNat 32 (j + 1)
  simp only [BitVec.ofNat_add]

set_option maxRecDepth 8192 in
theorem out_main_v19_holds (h : Holds V0 s j) {x_main_arg1 : (⟨S8192x128, .f32⟩ : BufTy).Contents (Elt F)} (h_main_arg1 : V0 (Proc.devRef .tc main_arg1) = x_main_arg1) : out_main_v19 V0 = Cert.ReferenceIdeal.Step.R_main_v19 s x_main_arg1 := by
  unfold out_main_v19 Cert.ReferenceIdeal.Step.R_main_v19
  rw [h.f_9, h_main_arg1]
  try rfl

/-- One trip keeps the valuation holding: `step` of the state, the same set-up values, the next number. -/
theorem holds_step (h : Holds V0 s j) : Holds (STEP V0) (step j s) (j + 1) where
  f_6 := (STEP_main_v5_6 V0).trans (step_6 h)
  f_7 := (STEP_main_v5_7 V0).trans (step_7 h)
  f_8 := (STEP_main_v5_8 V0).trans (step_8 h)
  f_9 := (STEP_main_v5_9 V0).trans (step_9 h)
  n_5 := (STEP_main_v5_5 V0).trans (step_5 h)
  f_0 := (STEP_main_v5_0 V0).trans h.f_0
  f_1 := (STEP_main_v5_1 V0).trans h.f_1
  f_2 := (STEP_main_v5_2 V0).trans h.f_2
  f_3 := (STEP_main_v5_3 V0).trans h.f_3
  f_4 := (STEP_main_v5_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v5_9) = (it c 64).main_v5_9
      ∧ r.2.mem ((c.tc : Thread nD τ).loc main_v19) = Cert.ReferenceIdeal.Step.R_main_v19 (it c 64) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 64
    ⟨(h c).1.trans hk.f_9, (h c).2.1.trans (out_main_v19_holds hk (iter_kept m (untouched main_arg1 (by decide)) c 64)), (h c).2.2.1, (h c).2.2.2.1, (h c).2.2.2.2.1, (h c).2.2.2.2.2.1, (h c).2.2.2.2.2.2.1, (h c).2.2.2.2.2.2.2⟩) (Value.run m ρ)

end Cert.ReferenceIdeal.StepRun

end
-- ==== Proof.Mask.lean ====
/-
  The mask and the precondition of the claim: their side conditions, and the mask's 64 written-out steps as the
  iterates of the reference's own step.
-/
module
public import proofs.«01_k».proof.Proof.RefStep
public import proofs.«01_k».proof.On_clamp_idle
public import proofs.«01_k».proof.Pre_finite

@[expose] public section

noncomputable section

namespace Cert.Mask

open Idealize.ShloMosaic Cert.ReferenceIdeal Cert.ReferenceIdeal.Gen Cert.ReferenceIdeal.Step

/-- The side conditions of the mask's operations. -/
theorem facts : Cert.On_clamp_idle.Facts where
  slices_S8192x128_S1x128_0_0 := Cert.ReferenceIdeal.Gen.slices_S8192x128_S1x128_0_0
  shapeCasts_S1x128_S128 := Cert.ReferenceIdeal.Gen.shapeCasts_S1x128_S128
  bcast_S_S128 := Cert.ReferenceIdeal.Gen.bcast_S_S128
  bcast_S_S64x128 := Cert.ReferenceIdeal.Gen.bcast_S_S64x128
  concatenates_S128_S128_S256_d0 := Cert.ReferenceIdeal.Gen.concatenates_S128_S128_S256_d0
  slices_S512_S128_0 := Cert.ReferenceIdeal.Gen.slices_S512_S128_0
  slices_S512_S128_128 := Cert.ReferenceIdeal.Gen.slices_S512_S128_128
  slices_S512_S128_256 := Cert.ReferenceIdeal.Gen.slices_S512_S128_256
  slices_S512_S128_384 := Cert.ReferenceIdeal.Gen.slices_S512_S128_384
  bcast_S128_S1x128_1 := Cert.ReferenceIdeal.Gen.bcast_S128_S1x128_1
  updateFits_S64x128_S1x128 := Cert.ReferenceIdeal.Gen.updateFits_S64x128_S1x128
  h_S_ := Cert.ReferenceIdeal.Gen.h_S_
  reducesTo_S8192x128_S8192_d1 := Cert.ReferenceIdeal.Gen.reducesTo_S8192x128_S8192_d1
  reducesTo_S64x128_S64_d1 := Cert.ReferenceIdeal.Gen.reducesTo_S64x128_S64_d1
  bcast_S64_S64x1_0 := Cert.ReferenceIdeal.Gen.bcast_S64_S64x1_0
  bcast_S8192_S1x8192_1 := Cert.ReferenceIdeal.Gen.bcast_S8192_S1x8192_1
  bcast_S64x1_S64x8192_0_1 := Cert.ReferenceIdeal.Gen.bcast_S64x1_S64x8192_0_1
  bcast_S1x8192_S64x8192_0_1 := Cert.ReferenceIdeal.Gen.bcast_S1x8192_S64x8192_0_1
  bcast_S_S64x8192 := Cert.ReferenceIdeal.Gen.bcast_S_S64x8192
  reducesTo_S64x8192_S64_d1 := Cert.ReferenceIdeal.Gen.reducesTo_S64x8192_S64_d1
  dot_S512x256_S256_S512_1_0_0_n_n_n_wf := Cert.ReferenceIdeal.Gen.dot_S512x256_S256_S512_1_0_0_n_n_n_wf
  dot_S512x128_S128_S512_1_0_0_n_n_n_wf := Cert.ReferenceIdeal.Gen.dot_S512x128_S128_S512_1_0_0_n_n_n_wf

/-- The side conditions of the precondition's operations. -/
theorem preFacts : Cert.Pre_finite.Facts where
  slices_S8192x128_S1x128_0_0 := Cert.ReferenceIdeal.Gen.slices_S8192x128_S1x128_0_0
  shapeCasts_S1x128_S128 := Cert.ReferenceIdeal.Gen.shapeCasts_S1x128_S128
  bcast_S_S128 := Cert.ReferenceIdeal.Gen.bcast_S_S128
  slices_S512x256_S512x128_0_0 := by decide
  bcast_S_S512x128 := by decide

variable {F : FTy → Type} [FloatOps F]

/-- The reference's states from any first state on. -/
def states (s : State F) : ℕ → State F
  | 0 => s
  | n + 1 => step n (states s n)

/-- The products of the norms of a result row and a codebook row. -/
def norms (rows : FVec F S64x128 .f32) (e : FVec F S8192x128 .f32) : FVec F S64x8192 .f32 :=
  mulf (broadcastInDim S64x8192 ![0, 1] bcast_S64x1_S64x8192_0_1 (broadcastInDim S64x1 ![0] bcast_S64_S64x1_0
      (Host.sqrt (Host.reduceAdd (mulf rows rows) (constant S_ .f32 0x00000000#32) reducesTo_S64x128_S64_d1 h_S_))))
    (broadcastInDim S64x8192 ![0, 1] bcast_S1x8192_S64x8192_0_1 (broadcastInDim S1x8192 ![1] bcast_S8192_S1x8192_1
      (Host.sqrt (Host.reduceAdd (mulf e e) (constant S_ .f32 0x00000000#32) reducesTo_S8192x128_S8192_d1 h_S_))))

/-- Where the product of the norms is at least the reference's lower bound, or zero. -/
def idle (p : FVec F S64x8192 .f32) : IVec S64x8192 1 :=
  ori (cmpf .oge p (broadcastInDim S64x8192 ![] bcast_S_S64x8192 (constant S_ .f32 0x322BCC77#32)))
    (cmpf .oeq p (broadcastInDim S64x8192 ![] bcast_S_S64x8192 (constant S_ .f32 0x00000000#32)))

/-- The first state of the mask's loop: the reference's, its zero hidden row written as zero times codebook row 0. -/
def start (a0 : FVec F S128 .f32) (a1 : FVec F S8192x128 .f32) (a2 : FVec F S512x256 .f32) (a3 : FVec F S512x128 .f32)
    (a4 a5 : FVec F S512 .f32) : State F :=
  { init a0 a2 a4 a3 a5 a1 with main_v5_6 := mulf (K_main_v2 (F := F)) (A_main_v1 a1) }

set_option maxRecDepth 100000 in
set_option maxHeartbeats 4000000 in
/-- The mask: all ones for the rows; for the decoded indices, the rows in which no product of norms lies strictly
    between zero and the bound. -/
theorem fn_eq (a0 : FVec F S128 .f32) (a1 : FVec F S8192x128 .f32) (a2 : FVec F S512x256 .f32)
    (a3 : FVec F S512x128 .f32) (a4 a5 : FVec F S512 .f32) :
    @Cert.On_clamp_idle.fn facts F _ a0 a1 a2 a3 a4 a5 =
      (broadcastInDim S64x128 ![] bcast_S_S64x128 (constantI S_ 1 1#1),
        broadcastInDim S64x1 ![0] bcast_S64_S64x1_0
          (Host.reduce IntOp.andi (idle (norms (states (start a0 a1 a2 a3 a4 a5) 64).main_v5_9 a1))
            (constantI S_ 1 1#1) reducesTo_S64x8192_S64_d1 h_S_)) := rfl

end Cert.Mask

end
-- ==== Proof.Scalar.lean ====
/-
  Facts about single extended reals: the constants one half and one, and the logistic function as a hyperbolic tangent.
-/
module
public import Idealize.ShloMosaic.Lib.IdealHost
public import Mathlib.Analysis.SpecialFunctions.Trigonometric.DerivHyp

@[expose] public section

noncomputable section

namespace Cert.Scalars

open Idealize.ShloMosaic

/-- The pattern `0x3F000000` is the real one half. -/
theorem half : Ideal.ofBits .f32 0x3F000000#32 = ((1 / 2 : ℝ) : EReal) := by
  simp [Ideal.ofBits, Ideal.ieee, -EReal.coe_mul]; norm_num

/-- On the reals the logistic function is half the hyperbolic tangent of half the argument, plus one half. -/
theorem real_logistic (x : ℝ) : (1 + Real.exp (-x))⁻¹ = 1 / 2 * Real.tanh (x * (1 / 2)) + 1 / 2 := by
  have hu : 0 < Real.exp (x * (1 / 2)) := Real.exp_pos _
  have hv : Real.exp (-x) = (Real.exp (x * (1 / 2)))⁻¹ * (Real.exp (x * (1 / 2)))⁻¹ := by
    rw [← Real.exp_neg, ← Real.exp_add]
    congr 1
    ring
  rw [Real.tanh_eq_sinh_div_cosh, Real.sinh_eq, Real.cosh_eq, hv, Real.exp_neg]
  field_simp
  ring

/-- Minus one as a real. -/
theorem neg_one_real : (-1 : EReal) = ((-1 : ℝ) : EReal) := by
  rw [EReal.coe_neg, EReal.coe_one]

/-- So it is on the extended reals, at the infinities too. -/
theorem logistic_eq (x : EReal) : Ideal.div 1 (1 + Ideal.exp (-x))
    = ((1 / 2 : ℝ) : EReal) * Ideal.tanh (x * ((1 / 2 : ℝ) : EReal)) + ((1 / 2 : ℝ) : EReal) := by
  show Ideal.logistic x = _
  induction x using EReal.rec with
  | bot =>
    rw [Ideal.logistic_bot, EReal.bot_mul_coe_of_pos (by norm_num), Ideal.tanh_bot,
      neg_one_real, ← EReal.coe_mul, ← EReal.coe_add]
    norm_num
  | top =>
    rw [Ideal.logistic_top, EReal.top_mul_coe_of_pos (by norm_num), Ideal.tanh_top, mul_one, ← EReal.coe_add]
    norm_num
  | coe r =>
    rw [Ideal.logistic_coe, ← EReal.coe_mul, Ideal.tanh_coe, ← EReal.coe_mul, ← EReal.coe_add, real_logistic]

/-- The hyperbolic tangent of any extended real is a real. -/
theorem tanh_real (x : EReal) : ∃ r : ℝ, Ideal.tanh x = (r : EReal) := by
  induction x using EReal.rec with
  | bot => exact ⟨-1, neg_one_real⟩
  | top => exact ⟨1, EReal.coe_one.symm⟩
  | coe r => exact ⟨_, rfl⟩

/-- A real factor that is not negative distributes over a sum of extended reals. -/
theorem add_mul_half (x y : EReal) (r : ℝ) (hr : 0 ≤ r) : (x + y) * (r : EReal) = x * r + y * r := by
  rw [mul_comm, EReal.left_distrib_of_nonneg_of_ne_top (EReal.coe_nonneg.mpr hr) (EReal.coe_ne_top r), mul_comm _ x,
    mul_comm _ y]

/-- An extended real that is neither infinity, less itself, is zero. -/
theorem sub_self_real (r : ℝ) : (r : EReal) - (r : EReal) = 0 := by
  rw [← EReal.coe_sub, sub_self, EReal.coe_zero]

/-- The pattern of plus infinity. -/
theorem inf : Ideal.ofBits .f32 0x7F800000#32 = (⊤ : EReal) := by
  simp [Ideal.ofBits, Ideal.ieee]

/-- The pattern of minus infinity. -/
theorem neg_inf : Ideal.ofBits .f32 0xFF800000#32 = (⊥ : EReal) := by
  simp [Ideal.ofBits, Ideal.ieee]

/-- A value whose absolute value is below plus infinity is a real number. -/
theorem real_of_abs (x : EReal) (h : BitVec.ofBool (decide (max x (-x) < Ideal.ofBits .f32 0x7F800000#32)) = 1#1) :
    ∃ r : ℝ, x = (r : EReal) := by
  rw [inf] at h
  induction x using EReal.rec with
  | bot => simp at h
  | top => simp at h
  | coe r => exact ⟨r, rfl⟩

/-- A sum of reals is a real. -/
theorem coe_sum {n : ℕ} (f : Fin n → ℝ) : ∑ x, (f x : EReal) = ((∑ x, f x : ℝ) : EReal) := by
  induction n with
  | zero => simp
  | succ n ih => rw [Fin.sum_univ_castSucc, Fin.sum_univ_castSucc, ih, EReal.coe_add]

/-- The reference's lower bound on a product of norms is a positive real. -/
theorem bound : ∃ ε : ℝ, 0 < ε ∧ Ideal.ofBits .f32 0x322BCC77#32 = (ε : EReal) := by
  refine ⟨11258999 * 2 ^ (-50 : ℤ), by positivity, ?_⟩
  simp [Ideal.ofBits, Ideal.ieee, -EReal.coe_mul]

/-- The root of a sum of squares is a real that is not negative, and is zero only where every term is. -/
theorem norm_real {n : ℕ} (r : Fin n → ℝ) : ∃ y : ℝ, 0 ≤ y ∧ Ideal.sqrt (∑ x, (r x : EReal) * (r x : EReal)) = (y : EReal)
    ∧ (y = 0 → ∀ x, r x = 0) := by
  have h0 : 0 ≤ ∑ x, r x * r x := Finset.sum_nonneg fun x _ => mul_self_nonneg (r x)
  refine ⟨Real.sqrt (∑ x, r x * r x), Real.sqrt_nonneg _, ?_, fun h x => ?_⟩
  · simp only [← EReal.coe_mul]
    rw [coe_sum, Ideal.sqrt_coe, if_neg (not_lt.mpr h0)]
  · have h1 := (Real.sqrt_eq_zero h0).mp h
    have h2 := (Finset.sum_eq_zero_iff_of_nonneg fun x _ => mul_self_nonneg (r x)).mp h1 x (Finset.mem_univ x)
    exact mul_self_eq_zero.mp h2

/-- The root of a sum of squares is plus infinity where a term is not a real. -/
theorem norm_inf {n : ℕ} (e : Fin n → EReal) (h : ¬ ∀ x, ∃ r : ℝ, e x = (r : EReal)) :
    Ideal.sqrt (∑ x, e x * e x) = ⊤ := by
  have sq : ∀ z : EReal, 0 ≤ z * z := fun z => by
    induction z using EReal.rec with
    | bot => simp
    | top => simp
    | coe r =>
      rw [← EReal.coe_mul]
      exact_mod_cast mul_self_nonneg r
  obtain ⟨x, hx⟩ := not_forall.mp h
  have hxx : e x * e x = ⊤ := by
    generalize e x = z at hx
    induction z using EReal.rec with
    | bot => simp
    | top => simp
    | coe r => exact absurd ⟨r, rfl⟩ hx
  have hs : ∑ x, e x * e x = ⊤ :=
    top_le_iff.mp (hxx ▸ Finset.single_le_sum (f := fun x => e x * e x) (fun y _ => sq (e y)) (Finset.mem_univ x))
  rw [hs]
  rfl

/-- Where a codebook row is not real its norm is infinite, and both similarities are zero. -/
theorem similarity_inf {n : ℕ} (r : Fin n → ℝ) (e : Fin n → EReal) (h : ¬ ∀ x, ∃ r : ℝ, e x = (r : EReal)) :
    Ideal.div (∑ x, (r x : EReal) * e x) (max (Ideal.sqrt (∑ x, (r x : EReal) * (r x : EReal))
        * Ideal.sqrt (∑ x, e x * e x)) (Ideal.ofBits .f32 0x322BCC77#32)) = 0
      ∧ Ideal.div 1 (Ideal.sqrt (∑ x, e x * e x)) = 0 := by
  obtain ⟨ε, hε, hb⟩ := bound
  obtain ⟨a, ha, har, ha0⟩ := norm_real r
  rw [norm_inf e h, har, hb]
  have ht : ∀ s : EReal, Ideal.div s ⊤ = 0 := fun s => by
    unfold Ideal.div
    rw [if_neg EReal.top_ne_zero, EReal.inv_top, mul_zero]
  refine ⟨?_, ht 1⟩
  by_cases hz : a = 0
  · have : ∑ x, (r x : EReal) * e x = 0 := Finset.sum_eq_zero fun x _ => by rw [ha0 hz x, EReal.coe_zero, zero_mul]
    rw [this, hz, EReal.coe_zero, zero_mul, ← EReal.coe_zero, ← EReal.coe_strictMono.monotone.map_max,
      Ideal.div_coe (lt_of_lt_of_le hε (le_max_right _ _)).ne', ← EReal.coe_mul, zero_mul]
  · rw [EReal.coe_mul_top_of_pos (lt_of_le_of_ne ha (Ne.symm hz)), max_eq_left le_top]
    exact ht _

/-- The kernel's similarity, the product over the codebook row's norm, is the result row's norm times the reference's
    similarity, the product over both norms, unless the product of the norms lies strictly between zero and the bound; where
    the result row is zero so are both. -/
theorem similarity {n : ℕ} (r e : Fin n → ℝ) (hp : Ideal.ofBits .f32 0x322BCC77#32
        ≤ Ideal.sqrt (∑ x, (r x : EReal) * (r x : EReal)) * Ideal.sqrt (∑ x, (e x : EReal) * (e x : EReal))
      ∨ Ideal.sqrt (∑ x, (r x : EReal) * (r x : EReal)) * Ideal.sqrt (∑ x, (e x : EReal) * (e x : EReal)) = 0)
    (c : ℝ) (hc : Ideal.sqrt (∑ x, (r x : EReal) * (r x : EReal)) = (c : EReal)) : ∃ z : ℝ,
      Ideal.div (∑ x, (r x : EReal) * (e x : EReal)) (max (Ideal.sqrt (∑ x, (r x : EReal) * (r x : EReal))
        * Ideal.sqrt (∑ x, (e x : EReal) * (e x : EReal))) (Ideal.ofBits .f32 0x322BCC77#32)) = (z : EReal)
      ∧ (∑ x, (r x : EReal) * (e x : EReal)) * Ideal.div 1 (Ideal.sqrt (∑ x, (e x : EReal) * (e x : EReal)))
        = (((if c = 0 then 1 else c) * z : ℝ) : EReal) := by
  obtain ⟨ε, hε, hb⟩ := bound
  obtain ⟨a, ha, har, ha0⟩ := norm_real r
  obtain ⟨b, hb0, hbr, hb1⟩ := norm_real e
  have hca : c = a := EReal.coe_eq_coe_iff.mp (hc.symm.trans har)
  rw [hb, har, hbr, ← EReal.coe_mul, EReal.coe_le_coe_iff, ← EReal.coe_zero, EReal.coe_eq_coe_iff] at hp
  rw [hb, har, hbr, hca, ← EReal.coe_mul, ← EReal.coe_strictMono.monotone.map_max]
  simp only [← EReal.coe_mul]
  rw [coe_sum]
  generalize hs : ∑ x, r x * e x = s
  have hm : max (a * b) ε ≠ 0 := (lt_of_lt_of_le hε (le_max_right _ _)).ne'
  refine ⟨s * (1 / max (a * b) ε), by rw [Ideal.div_coe hm, ← EReal.coe_mul], ?_⟩
  by_cases hz : a = 0
  · have : s = 0 := by
      rw [← hs]
      exact Finset.sum_eq_zero fun x _ => by rw [ha0 hz x, zero_mul]
    rw [this]
    simp
  · rw [if_neg hz]
    by_cases hy : b = 0
    · have : s = 0 := by
        rw [← hs]
        exact Finset.sum_eq_zero fun x _ => by rw [hb1 hy x, mul_zero]
      rw [this]
      simp
    · have hab : a * b ≠ 0 := mul_ne_zero hz hy
      have hge : ε ≤ a * b := hp.resolve_right hab
      rw [max_eq_left hge, Ideal.div_coe hy, one_mul, ← EReal.coe_mul]
      congr 1
      field_simp

end Cert.Scalars

end
-- ==== Proof.StepEq.lean ====
/-
  One step of the kernel's recurrence and one step of the reference's are the same over the extended reals, where the
  codebook row, the weights and the states are real numbers.
-/
module
public import proofs.«01_k».proof.Proof.KernelArray
public import proofs.«01_k».proof.Proof.RefStep
public import proofs.«01_k».proof.Proof.Scalar

@[expose] public section

noncomputable section

namespace Cert.StepEq

open Idealize.ShloMosaic
open Cert.KernelIdeal Cert.KernelIdeal.Gen Facts Cert.KernelIdeal.Steps
open Cert.ReferenceIdeal.Step (State b0 b1 b2 b3 b4 b5 b6 b7 b8 b9 b10 b11 b12 b13 b14 b15 b16 b17 b18 b19 b20 b21 b22
  b23 b24 b25 b26 b27 b28 b29 b30 b31 b32 b33 b34 b35 b36 b37 b38 b39)

/-- A row of real numbers. -/
def RealRow (v : FVec Ideal S1x128 .f32) : Prop := ∀ q : Fin 128, ∃ r : ℝ, v (ix2 0 q) = (r : EReal)

/-- A row of real numbers is its own rounding: nothing is left over. -/
theorem rest_zero (v : FVec Ideal S1x128 .f32) (hv : RealRow v) (q : Fin 128) : rest v (ix2 0 q) = 0 := by
  obtain ⟨r, hr⟩ := hv q
  unfold rest
  pointwise
  rw [hr]
  exact Scalars.sub_self_real r

/-- What is left over is real again. -/
theorem rest_real (v : FVec Ideal S1x128 .f32) (hv : RealRow v) : RealRow (rest v) :=
  fun q => ⟨0, by rw [rest_zero v hv q, EReal.coe_zero]⟩

/-- A matrix of real numbers. -/
def RealWeights (w : FVec Ideal S256x512 .f32) : Prop :=
  ∀ (k : Fin 256) (g : Fin 512), ∃ r : ℝ, w (ix2 k g) = (r : EReal)

/-- Nothing is left over of real weights either. -/
theorem restW_zero (w : FVec Ideal S256x512 .f32) (hw : RealWeights w) (k : Fin 256) (g : Fin 512) :
    restW w (ix2 k g) = 0 := by
  obtain ⟨r, hr⟩ := hw k g
  unfold restW
  pointwise
  rw [hr]
  exact Scalars.sub_self_real r

/-- What is left over is real again. -/
theorem restW_real (w : FVec Ideal S256x512 .f32) (hw : RealWeights w) : RealWeights (restW w) :=
  fun k g => ⟨0, by rw [restW_zero w hw k g, EReal.coe_zero]⟩

/-- The first third of the split weights holds the weights. -/
theorem parts_first (w : FVec Ideal S256x512 .f32) (k : Fin 256) (g : ℕ) (hg : g < 1536) (h : g < 512) :
    k0_pay4 (parts w) (ix2 k ⟨g, hg⟩) = w (ix2 k ⟨g, h⟩) := by
  unfold k0_pay4 parts
  pointwise
  rw [dif_pos h]

/-- The other two thirds are zero where the weights are real. -/
theorem parts_later (w : FVec Ideal S256x512 .f32) (hw : RealWeights w) (k : Fin 256) (g : ℕ) (hg : g < 1536)
    (h : 512 ≤ g) : k0_pay4 (parts w) (ix2 k ⟨g, hg⟩) = 0 := by
  unfold k0_pay4 parts
  pointwise
  rw [dif_neg (by omega)]
  split
  · exact restW_zero w hw _ _
  · exact restW_zero _ (restW_real w hw) _ _

/-- Of the six partial products only the first is not zero. -/
theorem sums_eq (w : FVec Ideal S256x512 .f32) (hw : RealWeights w) (c h : FVec Ideal S1x128 .f32) (hc : RealRow c)
    (hh : RealRow h) (g : Fin 512) : sums (prod (k0_pay4 (parts w)) c h) (ix2 0 g)
      = (∑ k : Fin 128, c (ix2 0 k) * w (ix2 ⟨k, by omega⟩ g)) + ∑ k : Fin 128, h (ix2 0 k) * w (ix2 ⟨128 + k, by omega⟩ g) := by
  unfold sums prod pair
  pointwise
  have hg := g.isLt
  simp only [rest_zero c hc, rest_zero h hh, rest_zero _ (rest_real c hc), rest_zero _ (rest_real h hh), zero_mul,
    Finset.sum_const_zero, add_zero, parts_later w hw _ (512 + g.val) (by omega) (by omega),
    parts_later w hw _ (1024 + g.val) (by omega) (by omega), mul_zero, parts_first w _ g.val (by omega) hg]

/-- The factor of a gate before its hyperbolic tangent: one half where the gate is a logistic function, else one. -/
def scale (g : Fin 512) : ℝ := if g.val < 256 then 1 / 2 else if g.val - 256 < 128 then 1 else 1 / 2

/-- The factors are not negative. -/
theorem scale_nonneg (g : Fin 512) : 0 ≤ scale g := by
  unfold scale
  split_ifs <;> norm_num

/-- The kernel's row of factors holds `scale`. -/
theorem pay2_eq (g : Fin 512) : k0_pay2 (F := Ideal) (ix2 0 g) = (scale g : EReal) := by
  unfold k0_pay2 scale
  pointwise
  split_ifs
  · exact Scalars.half
  · exact EReal.coe_one.symm
  · exact Scalars.half

/-- The kernel's row that every step adds: the input's part of the gates with both biases, times the factor. -/
theorem pay3_eq (inp : Vec Ideal S1x128 .f32) (W : Vec Ideal S128x512 .f32) (b : Vec Ideal S1x512 .f32) (g : Fin 512) :
    k0_pay3 (F := Ideal) inp W b (ix2 0 g) = (∑ k : Fin 128, inp (ix2 0 k) * W (ix2 k g) + b (ix2 0 g)) * (scale g : EReal) := by
  rw [← pay2_eq]
  unfold k0_pay3
  pointwise

/-- Columns of the two weight matrices that the recurrence reads. -/
def recur (a2 : FVec Ideal S512x256 .f32) (a3 : FVec Ideal S512x128 .f32) : FVec Ideal S256x512 .f32 :=
  extractStridedSlice S256x512 ![0, 0] (weights a2 a3) slices_S384x512_S256x512_0_0

/-- The upper rows are the weights of the step's row. -/
theorem recur_row (a2 : FVec Ideal S512x256 .f32) (a3 : FVec Ideal S512x128 .f32) (k : Fin 128) (hk : k.val < 256) (g : Fin 512) :
    recur a2 a3 (ix2 ⟨k, hk⟩ g) = a2 (ix2 g ⟨k, hk⟩) := by
  have := k.isLt
  unfold recur weights
  pointwise

/-- The lower rows are the weights of the hidden row. -/
theorem recur_hidden (a2 : FVec Ideal S512x256 .f32) (a3 : FVec Ideal S512x128 .f32) (k : Fin 128) (hk : 128 + k.val < 256)
    (g : Fin 512) : recur a2 a3 (ix2 ⟨128 + k, hk⟩ g) = a3 (ix2 g k) := by
  have := k.isLt
  unfold recur weights
  pointwise

/-- The weights of the input. -/
theorem input_row (a2 : FVec Ideal S512x256 .f32) (a3 : FVec Ideal S512x128 .f32) (k : Fin 128) (g : Fin 512) :
    extractStridedSlice S128x512 ![256, 0] (weights a2 a3) slices_S384x512_S128x512_256_0 (ix2 k g)
      = a2 (ix2 g ⟨128 + k, by omega⟩) := by
  have := k.isLt
  unfold weights
  pointwise
  rw [dif_neg (by omega), dif_neg (by omega)]
  congr 2
  exact Fin.ext (by simp; omega)

/-- The row that every step adds, of the arguments. -/
def added (a0 : FVec Ideal S128 .f32) (a2 : FVec Ideal S512x256 .f32) (a3 : FVec Ideal S512x128 .f32)
    (a4 a5 : FVec Ideal S512 .f32) : FVec Ideal S1x512 .f32 :=
  k0_pay3 (F := Ideal) (shapeCast S1x128 a0 shapeCasts_S128_S1x128)
    (extractStridedSlice S128x512 ![256, 0] (weights a2 a3) slices_S384x512_S128x512_256_0)
    (shapeCast S1x512 (addf a4 a5) shapeCasts_S512_S1x512)

/-- That row, spelled out: the input's part of the gates with both biases, times the factor. -/
theorem added_eq (a0 : FVec Ideal S128 .f32) (a2 : FVec Ideal S512x256 .f32) (a3 : FVec Ideal S512x128 .f32)
    (a4 a5 : FVec Ideal S512 .f32) (g : Fin 512) : added a0 a2 a3 a4 a5 (ix2 0 g)
      = (∑ k : Fin 128, a0 (ix1 k) * a2 (ix2 g ⟨128 + k, by omega⟩) + (a4 (ix1 g) + a5 (ix1 g))) * (scale g : EReal) := by
  unfold added
  rw [pay3_eq]
  congr 2
  · refine Finset.sum_congr rfl fun k _ => ?_
    rw [input_row]
    congr 1
    pointwise
  · pointwise

/-- The state of the reference that goes with the kernel's rows: the row `x` that the product reads, the hidden row `h`
    and the cell row `c`, and the arguments. -/
structure Goes (a0 : FVec Ideal S128 .f32) (a2 : FVec Ideal S512x256 .f32) (a3 : FVec Ideal S512x128 .f32)
    (a4 a5 : FVec Ideal S512 .f32) (x h c : FVec Ideal S1x128 .f32) (s : State Ideal) : Prop where
  hidden : ∀ q : Fin 128, s.main_v5_6 (ix1 q) = h (ix2 0 q)
  cell : ∀ q : Fin 128, s.main_v5_7 (ix1 q) = c (ix2 0 q)
  entry : ∀ q : Fin 128, s.main_v5_8 (ix1 q) = x (ix2 0 q)
  inp : s.main_v5_0 = a0
  wih : s.main_v5_1 = a2
  bih : s.main_v5_2 = a4
  whh : s.main_v5_3 = a3
  bhh : s.main_v5_4 = a5
  realX : RealRow x
  realH : RealRow h
  realC : RealRow c

section
variable {a0 : FVec Ideal S128 .f32} {a2 : FVec Ideal S512x256 .f32} {a3 : FVec Ideal S512x128 .f32}
  {a4 a5 : FVec Ideal S512 .f32} {x h c : FVec Ideal S1x128 .f32} {s : State Ideal}

/-- A gate of the reference as the two sums over the recurrence, the sum over the input, and the biases. -/
theorem gate_eq (G : Goes a0 a2 a3 a4 a5 x h c s) (j : ℕ) (g : Fin 512) : b5 j s (ix1 g)
    = ((∑ k : Fin 128, x (ix2 0 k) * recur a2 a3 (ix2 ⟨k, by omega⟩ g))
        + ∑ k : Fin 128, h (ix2 0 k) * recur a2 a3 (ix2 ⟨128 + k, by omega⟩ g))
      + (∑ k : Fin 128, a0 (ix1 k) * a2 (ix2 g ⟨128 + k, by omega⟩) + (a4 (ix1 g) + a5 (ix1 g))) := by
  unfold b5 b4 b3 b2 b1 b0
  pointwise
  simp only [G.hidden, G.entry, G.inp, G.wih, G.bih, G.whh, G.bhh, recur_row, recur_hidden, mul_comm (x _), mul_comm (h _),
    mul_comm (a0 _)]
  abel

/-- The kernel's hyperbolic tangents are those of the scaled gates of the reference. -/
theorem tanhs_eq (G : Goes a0 a2 a3 a4 a5 x h c s) (hw : RealWeights (recur a2 a3)) (j : ℕ) (g : Fin 512) :
    tanhs (added a0 a2 a3 a4 a5) (k0_pay4 (parts (recur a2 a3))) x h (ix2 0 g)
      = Ideal.tanh (b5 j s (ix1 g) * (scale g : EReal)) := by
  rw [gate_eq G, Scalars.add_mul_half _ _ _ (scale_nonneg g), ← added_eq, ← sums_eq _ hw x h G.realX G.realH, ← pay2_eq]
  rfl

/-- The tangent of a logistic gate, at any of the three places of such gates. -/
theorem logistic_gate (G : Goes a0 a2 a3 a4 a5 x h c s) (hw : RealWeights (recur a2 a3)) (j : ℕ) (g : Fin 512)
    (hg : scale g = 1 / 2) : Ideal.div 1 (1 + Ideal.exp (-b5 j s (ix1 g)))
      = ((1 / 2 : ℝ) : EReal) * tanhs (added a0 a2 a3 a4 a5) (k0_pay4 (parts (recur a2 a3))) x h (ix2 0 g) + ((1 / 2 : ℝ) : EReal) := by
  rw [Scalars.logistic_eq, tanhs_eq G hw j, hg]

/-- The tangent of the remaining gate. -/
theorem tanh_gate (G : Goes a0 a2 a3 a4 a5 x h c s) (hw : RealWeights (recur a2 a3)) (j : ℕ) (g : Fin 512)
    (hg : scale g = 1) : Ideal.tanh (b5 j s (ix1 g))
      = tanhs (added a0 a2 a3 a4 a5) (k0_pay4 (parts (recur a2 a3))) x h (ix2 0 g) := by
  rw [tanhs_eq G hw j, hg, EReal.coe_one, mul_one]

/-- Every hyperbolic tangent of the kernel is a real number. -/
theorem tanhs_real (G : Goes a0 a2 a3 a4 a5 x h c s) (hw : RealWeights (recur a2 a3)) (g : Fin 512) :
    ∃ r : ℝ, tanhs (added a0 a2 a3 a4 a5) (k0_pay4 (parts (recur a2 a3))) x h (ix2 0 g) = (r : EReal) := by
  rw [tanhs_eq G hw 0]
  exact Scalars.tanh_real _

/-- The next cell row of the kernel is that of the reference, and real. -/
theorem cell_eq (G : Goes a0 a2 a3 a4 a5 x h c s) (hw : RealWeights (recur a2 a3)) (j : ℕ) (q : Fin 128) :
    b37 j s (ix1 q) = cellC (tanhs (added a0 a2 a3 a4 a5) (k0_pay4 (parts (recur a2 a3))) x h) c (ix2 0 q)
      ∧ ∃ r : ℝ, b37 j s (ix1 q) = (r : EReal) := by
  have hq := q.isLt
  have hi : scale ⟨q.val, by omega⟩ = 1 / 2 := by unfold scale; rw [if_pos (by show q.val < 256; omega)]
  have hf : scale ⟨128 + q.val, by omega⟩ = 1 / 2 := by unfold scale; rw [if_pos (by show 128 + q.val < 256; omega)]
  have hg : scale ⟨256 + q.val, by omega⟩ = 1 := by
    unfold scale
    rw [if_neg (by show ¬ 256 + q.val < 256; omega), if_pos (by show 256 + q.val - 256 < 128; omega)]
  obtain ⟨ri, ti⟩ := tanhs_real G hw ⟨q.val, by omega⟩
  obtain ⟨rf, tf⟩ := tanhs_real G hw ⟨128 + q.val, by omega⟩
  obtain ⟨rg, tg⟩ := tanhs_real G hw ⟨256 + q.val, by omega⟩
  obtain ⟨rc, hc⟩ := G.realC q
  have e : b37 j s (ix1 q) = ((1 / 2 * ((rf * rc + rc) + (ri * rg + rg)) : ℝ) : EReal) := by
    simp only [b37, b36, b35, b26, b25, b24, b23, b22, b21, b20, b19, b18, b17, b16, b15, b14, b13, b12, b11, b10, b8, b7, b6]
    pointwise
    rw [logistic_gate G hw j _ hi, logistic_gate G hw j _ hf, tanh_gate G hw j _ hg, ti, tf, tg, G.cell, hc]
    simp only [← EReal.coe_mul, ← EReal.coe_add]
    congr 1
    ring
  refine ⟨?_, _, e⟩
  rw [e]
  unfold cellC
  pointwise
  rw [ti, tf, tg, hc, Scalars.half]
  simp only [← EReal.coe_mul, ← EReal.coe_add]

/-- The next hidden row of the kernel is that of the reference, and real. -/
theorem hidden_eq (G : Goes a0 a2 a3 a4 a5 x h c s) (hw : RealWeights (recur a2 a3)) (j : ℕ) (q : Fin 128) :
    b39 j s (ix1 q) = cellH (tanhs (added a0 a2 a3 a4 a5) (k0_pay4 (parts (recur a2 a3))) x h)
        (cellC (tanhs (added a0 a2 a3 a4 a5) (k0_pay4 (parts (recur a2 a3))) x h) c) (ix2 0 q)
      ∧ ∃ r : ℝ, b39 j s (ix1 q) = (r : EReal) := by
  have hq := q.isLt
  have ho : scale ⟨384 + q.val, by omega⟩ = 1 / 2 := by
    unfold scale
    rw [if_neg (by show ¬ 384 + q.val < 256; omega), if_neg (by show ¬ 384 + q.val - 256 < 128; omega)]
  obtain ⟨ro, ht'⟩ := tanhs_real G hw ⟨384 + q.val, by omega⟩
  obtain ⟨rt, ht⟩ := Scalars.tanh_real (b37 j s (ix1 q))
  have e : b39 j s (ix1 q) = (((1 / 2 * ro + 1 / 2) * rt : ℝ) : EReal) := by
    have e0 : b39 j s (ix1 q) = b34 j s (ix1 q) * Ideal.tanh (b37 j s (ix1 q)) := by
      unfold b39 b38
      pointwise
    have e1 : b34 j s (ix1 q) = Ideal.div 1 (1 + Ideal.exp (-b5 j s (ix1 ⟨384 + q.val, by omega⟩))) := by
      unfold b34 b33 b32 b31 b30 b29 b28 b27 b9
      pointwise
    rw [e0, e1, logistic_gate G hw j _ ho, ht', ht]
    simp only [← EReal.coe_mul, ← EReal.coe_add]
  refine ⟨?_, _, e⟩
  rw [e]
  unfold cellH
  pointwise
  rw [ht', ← (cell_eq G hw j q).1, ht, Scalars.half]
  simp only [← EReal.coe_mul, ← EReal.coe_add]

/-- After a step the two go together again: the next product reads the new cell row. -/
theorem goes_step (G : Goes a0 a2 a3 a4 a5 x h c s) (hw : RealWeights (recur a2 a3)) (j : ℕ) :
    Goes a0 a2 a3 a4 a5 (cellC (tanhs (added a0 a2 a3 a4 a5) (k0_pay4 (parts (recur a2 a3))) x h) c)
      (cellH (tanhs (added a0 a2 a3 a4 a5) (k0_pay4 (parts (recur a2 a3))) x h)
        (cellC (tanhs (added a0 a2 a3 a4 a5) (k0_pay4 (parts (recur a2 a3))) x h) c))
      (cellC (tanhs (added a0 a2 a3 a4 a5) (k0_pay4 (parts (recur a2 a3))) x h) c) (Cert.ReferenceIdeal.Step.step j s) where
  hidden q := (hidden_eq G hw j q).1
  cell q := (cell_eq G hw j q).1
  entry q := (cell_eq G hw j q).1
  inp := G.inp
  wih := G.wih
  bih := G.bih
  whh := G.whh
  bhh := G.bhh
  realX q := (cell_eq G hw j q).1 ▸ (cell_eq G hw j q).2
  realH q := (hidden_eq G hw j q).1 ▸ (hidden_eq G hw j q).2
  realC q := (cell_eq G hw j q).1 ▸ (cell_eq G hw j q).2

end

end Cert.StepEq

end
-- ==== Proof.Rows.lean ====
/-
  The kernel's rows of cell states are the reference's, over the extended reals, where codebook row 0 and the weights of
  the recurrence are real numbers.
-/
module
public import proofs.«01_k».proof.Proof.StepEq
public import proofs.«01_k».proof.Proof.Mask
public import Idealize.ShloMosaic.Lib.WordCmp

@[expose] public section

noncomputable section

namespace Cert.Rows

open Idealize.ShloMosaic
open Cert.KernelIdeal Cert.KernelIdeal.Gen Facts Cert.KernelIdeal.Steps Cert.StepEq
open Cert.ReferenceIdeal.Step (State init step b37 b40 b41 b42 K_main_cst K_main_cst_0 K_main_v2 K_main_v3 A_main_v0 A_main_v1)
open Cert.Mask (states start)

/-- The row that a step of the reference writes, and the rows that it keeps. -/
theorem written (s : State Ideal) (j : ℕ) (hj : j < 64) (i : Fin 64) (q : Fin 128) :
    b42 j s (ix2 i q) = if i.val = j then b37 j s (ix1 q) else s.main_v5_9 (ix2 i q) := by
  have e : (BitVec.ofNat 32 j).toInt = (j : ℤ) := WordCmp.toInt_ofNat_of_lt (by omega)
  unfold b42 b41 b40
  pointwise
  by_cases h : i.val = j
  · rw [if_pos h]
    split
    · congr 2
    · next n =>
      rw [Host.clampedStart_of_le _ _ 0 j e (by show j + 1 ≤ 64; omega), Host.clampedStart_of_le _ _ 1 0 rfl (by decide)] at n
      omega
  · rw [if_neg h]
    split
    · next n =>
      rw [Host.clampedStart_of_le _ _ 0 j e (by show j + 1 ≤ 64; omega)] at n
      omega
    · rfl

section
variable (a0 : FVec Ideal S128 .f32) (a1 : FVec Ideal S8192x128 .f32) (a2 : FVec Ideal S512x256 .f32)
  (a3 : FVec Ideal S512x128 .f32) (a4 a5 : FVec Ideal S512 .f32)

/-- The codebook row that the first step reads, as the kernel has it. -/
def entry : FVec Ideal S1x128 .f32 :=
  shapeCast S1x128 (extractStridedSlice S1x128 ![0, 0] a1 slices_S8192x128_S1x128_0_0) shapeCasts_S1x128_S1x128

/-- The kernel's first row is codebook row 0. -/
theorem entry_eq (q : Fin 128) : entry a1 (ix2 0 q) = a1 (ix2 0 q) := by
  unfold entry
  pointwise

/-- So is the reference's. -/
theorem A_main_v1_eq (q : Fin 128) : A_main_v1 (F := Ideal) a1 (ix1 q) = a1 (ix2 0 q) := by
  unfold A_main_v1 A_main_v0
  pointwise

/-- The kernel's zero row holds zeros. -/
theorem zero_row (q : Fin 128) : k0_pay5 (F := Ideal) (ix2 0 q) = 0 := by
  unfold k0_pay5
  pointwise

/-- The kernel's rows of the arguments, spelled with the weights of the recurrence. -/
theorem kernelRows_eq (i : Fin 64) (q : Fin 128) : kernelRows a0 a1 a2 a3 a4 a5 (ix2 i q)
    = (state (added a0 a2 a3 a4 a5) (k0_pay4 (parts (recur a2 a3))) (entry a1) i.val).1 (ix2 0 q) := rfl

variable {a0 a1 a2 a3 a4 a5}

/-- Step by step the two recurrences go together. -/
theorem goes {s : State Ideal} (G : Goes a0 a2 a3 a4 a5 (entry a1) k0_pay5 k0_pay5 s) (hw : RealWeights (recur a2 a3)) (n : ℕ) :
    Goes a0 a2 a3 a4 a5 (state (added a0 a2 a3 a4 a5) (k0_pay4 (parts (recur a2 a3))) (entry a1) n).1
      (state (added a0 a2 a3 a4 a5) (k0_pay4 (parts (recur a2 a3))) (entry a1) n).2
      (state (added a0 a2 a3 a4 a5) (k0_pay4 (parts (recur a2 a3))) (entry a1) n).1 (states s (n + 1)) := by
  induction n with
  | zero => exact goes_step G hw 0
  | succ n ih => exact goes_step ih hw (n + 1)

/-- After `n` steps the reference's first `n` rows are the kernel's. -/
theorem rows_upto {s : State Ideal} (G : Goes a0 a2 a3 a4 a5 (entry a1) k0_pay5 k0_pay5 s) (hw : RealWeights (recur a2 a3))
    (n : ℕ) (hn : n ≤ 64) (i : Fin 64) (hi : i.val < n) (q : Fin 128) :
    (states s n).main_v5_9 (ix2 i q) = kernelRows a0 a1 a2 a3 a4 a5 (ix2 i q) := by
  induction n with
  | zero => omega
  | succ n ih =>
    show b42 n (states s n) (ix2 i q) = _
    rw [written _ n (by omega)]
    split_ifs with h
    · rw [kernelRows_eq, h]
      exact (goes G hw n).cell q
    · exact ih (by omega) (by omega)

/-- All rows of the reference are the kernel's. -/
theorem rows_eq {s : State Ideal} (G : Goes a0 a2 a3 a4 a5 (entry a1) k0_pay5 k0_pay5 s) (hw : RealWeights (recur a2 a3)) :
    (states s 64).main_v5_9 = kernelRows a0 a1 a2 a3 a4 a5 := by
  funext y
  idx_vars y
  exact rows_upto G hw 64 (le_refl 64) _ (Fin.isLt _) _

/-- Every row is a row of real numbers. -/
theorem rows_real {s : State Ideal} (G : Goes a0 a2 a3 a4 a5 (entry a1) k0_pay5 k0_pay5 s) (hw : RealWeights (recur a2 a3))
    (i : Fin 64) (q : Fin 128) : ∃ r : ℝ, kernelRows a0 a1 a2 a3 a4 a5 (ix2 i q) = (r : EReal) := by
  rw [kernelRows_eq]
  exact (goes G hw i.val).realX q

/-- What the precondition says: codebook row 0 and the weights of the recurrence are real numbers. -/
structure Finite (a1 : FVec Ideal S8192x128 .f32) (a2 : FVec Ideal S512x256 .f32) (a3 : FVec Ideal S512x128 .f32) : Prop where
  first : ∀ q : Fin 128, ∃ r : ℝ, a1 (ix2 0 q) = (r : EReal)
  weights : RealWeights (recur a2 a3)

/-- The precondition, read elementwise. -/
theorem finite_of_pre (h1 : (@Cert.Pre_finite.fn Cert.Mask.preFacts Ideal _ a0 a1 a2 a3 a4 a5).1 = fun _ => 1#1)
    (h2 : (@Cert.Pre_finite.fn Cert.Mask.preFacts Ideal _ a0 a1 a2 a3 a4 a5).2.1 = fun _ => 1#1)
    (h3 : (@Cert.Pre_finite.fn Cert.Mask.preFacts Ideal _ a0 a1 a2 a3 a4 a5).2.2 = fun _ => 1#1) : Finite a1 a2 a3 where
  first q := by
    have := congrFun h1 (ix1 q)
    unfold Cert.Pre_finite.fn at this
    pointwise at this
    exact Scalars.real_of_abs _ this
  weights k g := by
    have hk := k.isLt
    by_cases h : k.val < 128
    · have := congrFun h2 (ix2 g ⟨k.val, h⟩)
      unfold Cert.Pre_finite.fn at this
      pointwise at this
      have e := recur_row a2 a3 ⟨k.val, h⟩ hk g
      rw [show (⟨k.val, hk⟩ : Fin 256) = k from rfl] at e
      rw [e]
      exact Scalars.real_of_abs _ this
    · have := congrFun h3 (ix2 g ⟨k.val - 128, by omega⟩)
      unfold Cert.Pre_finite.fn at this
      pointwise at this
      have e := recur_hidden a2 a3 ⟨k.val - 128, by omega⟩ (by show 128 + (k.val - 128) < 256; omega) g
      rw [show (⟨128 + (k.val - 128), by omega⟩ : Fin 256) = k from Fin.ext (by show 128 + (k.val - 128) = k.val; omega)] at e
      rw [e]
      exact Scalars.real_of_abs _ this

/-- The reference's first state goes with the codebook's first row and zero rows. -/
theorem goes_init (h : Finite a1 a2 a3) :
    Goes a0 a2 a3 a4 a5 (entry a1) k0_pay5 k0_pay5 (init (F := Ideal) a0 a2 a4 a3 a5 a1) where
  hidden q := by
    rw [zero_row]
    show K_main_v2 (F := Ideal) (ix1 q) = 0
    unfold K_main_v2 K_main_cst
    pointwise
  cell q := by
    rw [zero_row]
    show K_main_v3 (F := Ideal) (ix1 q) = 0
    unfold K_main_v3 K_main_cst_0
    pointwise
  entry q := (A_main_v1_eq a1 q).trans (entry_eq a1 q).symm
  inp := rfl
  wih := rfl
  bih := rfl
  whh := rfl
  bhh := rfl
  realX q := entry_eq a1 q ▸ h.first q
  realH q := ⟨0, (zero_row q).trans EReal.coe_zero.symm⟩
  realC q := ⟨0, (zero_row q).trans EReal.coe_zero.symm⟩

/-- So does the mask's: zero times anything is zero. -/
theorem goes_start (h : Finite a1 a2 a3) :
    Goes a0 a2 a3 a4 a5 (entry a1) k0_pay5 k0_pay5 (start (F := Ideal) a0 a1 a2 a3 a4 a5) :=
  { goes_init (a0 := a0) (a4 := a4) (a5 := a5) h with
    hidden := fun q => by
      rw [zero_row]
      have e : K_main_v2 (F := Ideal) (ix1 q) = (0 : EReal) := by
        unfold K_main_v2 K_main_cst
        pointwise
      exact (congrArg (fun z : EReal => z * (A_main_v1 (F := Ideal) a1 (ix1 q) : EReal)) e).trans (zero_mul _) }

end

end Cert.Rows

end
-- ==== Proof.Best.lean ====
/-
  The first place of the largest of 8192 values: as a running maximum over quarters finds it, and as one fold over
  (value, index) pairs finds it.
-/
module
public import proofs.«01_k».proof.ReferenceIdeal
public import Idealize.ShloMosaic.Lib.Pointwise
public import Idealize.ShloMosaic.Lib.WordCmp

@[expose] public section

noncomputable section

namespace Cert.Best

open Idealize.ShloMosaic

/-- Place `p` holds the largest value, and no place before it does. -/
def First (f : Fin 8192 → EReal) (p : Fin 8192) : Prop := (∀ k, f k ≤ f p) ∧ ∀ k, k < p → f k < f p

/-- There is at most one such place. -/
theorem First.unique {f : Fin 8192 → EReal} {p q : Fin 8192} (hp : First f p) (hq : First f q) : p = q := by
  rcases lt_trichotomy p q with h | h | h
  · exact absurd (hq.2 p h) (not_lt.mpr (hp.1 q))
  · exact h
  · exact absurd (hp.2 q h) (not_lt.mpr (hq.1 p))

/-- A positive factor moves no place. -/
theorem First.scale {f g : Fin 8192 → EReal} {c : ℝ} (hc : 0 < c)
    (h : ∀ k, ∃ x : ℝ, f k = (x : EReal) ∧ g k = ((c * x : ℝ) : EReal)) {p : Fin 8192} (hp : First f p) : First g p := by
  obtain ⟨y, hy, hy'⟩ := h p
  constructor
  · intro k
    obtain ⟨x, hx, hx'⟩ := h k
    have := hp.1 k
    rw [hx, hy, EReal.coe_le_coe_iff] at this
    rw [hx', hy', EReal.coe_le_coe_iff]
    exact mul_le_mul_of_nonneg_left this hc.le
  · intro k hk
    obtain ⟨x, hx, hx'⟩ := h k
    have := hp.2 k hk
    rw [hx, hy, EReal.coe_lt_coe_iff] at this
    rw [hx', hy', EReal.coe_lt_coe_iff]
    exact mul_lt_mul_of_pos_left this hc

/-! ## The running maximum -/

/-- The largest value among the first `n`, and its first place as a word; before any value, minus infinity. -/
def Upto (f : Fin 8192 → EReal) (n : ℕ) (V : EReal) (I : BitVec 32) : Prop :=
  (∀ k, k.val < n → f k ≤ V)
    ∧ (n = 0 ∧ V = ⊥ ∨ ∃ p : Fin 8192, p.val < n ∧ V = f p ∧ I = BitVec.ofNat 32 p.val ∧ ∀ k, k < p → f k < V)

/-- After all values the place is the first of the largest. -/
theorem Upto.first {f : Fin 8192 → EReal} {V : EReal} {I : BitVec 32} (h : Upto f 8192 V I) :
    ∃ p, First f p ∧ I = BitVec.ofNat 32 p.val := by
  obtain ⟨h1, ⟨h0, _⟩ | ⟨p, _, hV, hI, hp⟩⟩ := h
  · omega
  · exact ⟨p, ⟨fun k => hV ▸ h1 k k.isLt, fun k hk => hV ▸ hp k hk⟩, hI⟩

/-- The largest of a quarter bounds it and is reached. -/
theorem fold_max (s : Fin 2048 → EReal) :
    (∀ x, s x ≤ Finset.fold max ⊥ s Finset.univ) ∧ ∃ x, s x = Finset.fold max ⊥ s Finset.univ := by
  have hle : ∀ x, s x ≤ Finset.fold max ⊥ s Finset.univ := fun x =>
    (Finset.le_fold_max _).mpr (Or.inr ⟨x, Finset.mem_univ x, le_refl _⟩)
  refine ⟨hle, ?_⟩
  rcases (Finset.le_fold_max (b := (⊥ : EReal)) (f := s) (s := Finset.univ) _).mp (le_refl _) with h | ⟨x, _, h⟩
  · exact ⟨0, le_antisymm (hle 0) (h.trans bot_le)⟩
  · exact ⟨x, le_antisymm (hle x) h⟩

/-- The smaller of two words, read signed. -/
theorem minsi_cases (a b : BitVec 32) : (IntOp.minsi a b = a ∨ IntOp.minsi a b = b)
    ∧ (IntOp.minsi a b).toInt ≤ a.toInt ∧ (IntOp.minsi a b).toInt ≤ b.toInt := by
  unfold IntOp.minsi
  by_cases h : a.slt b = true
  · rw [if_pos h]
    rw [BitVec.slt_iff_toInt_lt] at h
    exact ⟨Or.inl rfl, le_refl _, h.le⟩
  · rw [if_neg h]
    rw [BitVec.slt_iff_toInt_lt, not_lt] at h
    exact ⟨Or.inr rfl, h, le_refl _⟩

/-- The smallest of a quarter's words is one of them, or the one it starts from, and bounds them. -/
theorem fold_min (b : BitVec 32) (g : Fin 2048 → BitVec 32) (t : Finset (Fin 2048)) :
    (Finset.fold IntOp.minsi b g t = b ∨ ∃ x ∈ t, Finset.fold IntOp.minsi b g t = g x)
      ∧ ∀ x ∈ t, (Finset.fold IntOp.minsi b g t).toInt ≤ (g x).toInt := by
  induction t using Finset.induction_on with
  | empty => exact ⟨Or.inl rfl, fun x hx => absurd hx (Finset.notMem_empty x)⟩
  | insert a t ha ih =>
    rw [Finset.fold_insert ha]
    obtain ⟨hc, h1, h2⟩ := minsi_cases (g a) (Finset.fold IntOp.minsi b g t)
    constructor
    · rcases hc with e | e
      · exact Or.inr ⟨a, Finset.mem_insert_self a t, e⟩
      · rcases ih.1 with e' | ⟨x, hx, e'⟩
        · exact Or.inl (e.trans e')
        · exact Or.inr ⟨x, Finset.mem_insert_of_mem hx, e.trans e'⟩
    · intro x hx
      rcases Finset.mem_insert.mp hx with e | hx
      · rw [e]
        exact h1
      · exact h2.trans (ih.2 x hx)

/-- The place of the largest of a quarter that begins at `o`, as the smallest word among the places that reach it. -/
theorem fold_place (o : ℕ) (ho : o + 2048 ≤ 8192) (s : Fin 2048 → EReal) :
    ∃ x : Fin 2048, s x = Finset.fold max ⊥ s Finset.univ
      ∧ Finset.fold IntOp.minsi (2147483647#32)
          (fun x : Fin 2048 => if s x = Finset.fold max ⊥ s Finset.univ
            then IntOp.addi (BitVec.ofNat 32 x.val) (BitVec.ofNat 32 o) else 2147483647#32) Finset.univ
        = BitVec.ofNat 32 (o + x.val)
      ∧ ∀ y, y < x → s y < Finset.fold max ⊥ s Finset.univ := by
  obtain ⟨hle, x0, hx0⟩ := fold_max s
  generalize hM : Finset.fold max ⊥ s Finset.univ = M at hle hx0 ⊢
  have hword : ∀ x : Fin 2048, IntOp.addi (BitVec.ofNat 32 x.val) (BitVec.ofNat 32 o) = BitVec.ofNat 32 (o + x.val) := fun x => by
    show BitVec.ofNat 32 x.val + BitVec.ofNat 32 o = _
    rw [← BitVec.ofNat_add, add_comm]
  have hint : ∀ x : Fin 2048, (BitVec.ofNat 32 (o + x.val)).toInt = ((o + x.val : ℕ) : ℤ) := fun x =>
    WordCmp.toInt_ofNat_of_lt (by have := x.isLt; omega)
  have hmax : (2147483647#32 : BitVec 32).toInt = 2147483647 := by decide
  obtain ⟨hJ, hmin⟩ := fold_min 2147483647#32
    (fun x : Fin 2048 => if s x = M then IntOp.addi (BitVec.ofNat 32 x.val) (BitVec.ofNat 32 o) else 2147483647#32) Finset.univ
  generalize Finset.fold IntOp.minsi (2147483647#32)
    (fun x : Fin 2048 => if s x = M then IntOp.addi (BitVec.ofNat 32 x.val) (BitVec.ofNat 32 o) else 2147483647#32) Finset.univ = J at hJ hmin ⊢
  have hbound : ∀ x, s x = M → J.toInt ≤ ((o + x.val : ℕ) : ℤ) := fun x hx => by
    have := hmin x (Finset.mem_univ x)
    rwa [if_pos hx, hword, hint] at this
  have hlt := hbound x0 hx0
  have hx0' := x0.isLt
  have hne : J ≠ 2147483647#32 := fun e => by
    rw [e, hmax] at hlt
    omega
  rcases hJ with e | ⟨x, _, e⟩
  · exact absurd e hne
  · by_cases hx : s x = M
    · rw [if_pos hx, hword] at e
      refine ⟨x, hx, e, fun y hy => lt_of_le_of_ne (hle y) fun hy' => ?_⟩
      have := hbound y hy'
      rw [e, hint] at this
      have : x.val ≤ y.val := by omega
      exact absurd hy (not_lt.mpr this)
    · rw [if_neg hx] at e
      exact absurd e hne

/-- One round: the quarter's largest is taken when it is above the best so far. -/
theorem Upto.round {f : Fin 8192 → EReal} (hf : ∀ k, ⊥ < f k) {o : ℕ} (ho : o + 2048 ≤ 8192) {V : EReal} {I : BitVec 32}
    (h : Upto f o V I) {s : Fin 2048 → EReal} (hs : ∀ x : Fin 2048, s x = f ⟨o + x.val, by omega⟩) {M : EReal} {J : BitVec 32}
    (hM : M = Finset.fold max ⊥ s Finset.univ)
    (hJ : J = Finset.fold IntOp.minsi (2147483647#32)
          (fun x : Fin 2048 => if s x = M then IntOp.addi (BitVec.ofNat 32 x.val) (BitVec.ofNat 32 o) else 2147483647#32) Finset.univ) :
    Upto f (o + 2048) (if V < M then M else V) (if V < M then J else I) := by
  obtain ⟨x, hx, hplace, hbefore⟩ := fold_place o ho s
  have hle := (fold_max s).1
  rw [← hM] at hx hplace hbefore hle
  rw [← hJ] at hplace
  have hin : ∀ k : Fin 8192, o ≤ k.val → ∀ hk : k.val < o + 2048, f k = s ⟨k.val - o, by omega⟩ := fun k h1 h2 => by
    rw [hs]
    congr 1
    exact Fin.ext (by show k.val = o + (k.val - o); omega)
  by_cases hVM : V < M
  · rw [if_pos hVM, if_pos hVM]
    refine ⟨fun k hk => ?_, Or.inr ⟨⟨o + x.val, by omega⟩, by show o + x.val < o + 2048; omega, ?_, hplace, fun k hk => ?_⟩⟩
    · by_cases hko : k.val < o
      · exact (h.1 k hko).trans hVM.le
      · rw [hin k (by omega) hk]
        exact hle _
    · rw [← hx, hs]
    · have hk' : k.val < o + x.val := hk
      by_cases hko : k.val < o
      · exact (h.1 k hko).trans_lt hVM
      · rw [hin k (by omega) (by omega)]
        exact hbefore _ (by show k.val - o < x.val; omega)
  · rw [if_neg hVM, if_neg hVM]
    have hMV := not_lt.mp hVM
    refine ⟨fun k hk => ?_, ?_⟩
    · by_cases hko : k.val < o
      · exact h.1 k hko
      · rw [hin k (by omega) hk]
        exact (hle _).trans hMV
    · rcases h.2 with ⟨_, hV⟩ | ⟨p, hp, hV, hI, hb⟩
      · rw [hV, ← hx, hs] at hMV
        exact absurd hMV (not_le.mpr (hf _))
      · exact Or.inr ⟨p, by omega, hV, hI, hb⟩

/-! ## The fold over (value, index) pairs -/

/-- Pair `p` is no better than pair `r`: its value is smaller, or equal with an index that is not smaller. -/
def Le (p r : EReal × BitVec 32) : Prop := p.1 < r.1 ∨ p.1 = r.1 ∧ r.2.toInt ≤ p.2.toInt

/-- A pair is no better than itself. -/
theorem Le.refl (p : EReal × BitVec 32) : Le p p := Or.inr ⟨rfl, le_refl _⟩

/-- The order of pairs is transitive. -/
theorem Le.trans {p q r : EReal × BitVec 32} (h : Le p q) (h' : Le q r) : Le p r := by
  rcases h with h | ⟨h, g⟩ <;> rcases h' with h' | ⟨h', g'⟩
  · exact Or.inl (h.trans h')
  · exact Or.inl (h' ▸ h)
  · exact Or.inl (h ▸ h')
  · exact Or.inr ⟨h.trans h', g'.trans g⟩

/-- The reference's choice between two pairs is one of them, and neither is better. -/
theorem choice (a b : EReal × BitVec 32) :
    (Cert.ReferenceIdeal.reducer_argmax_f32_i32 (F := Ideal) a b = a ∨ Cert.ReferenceIdeal.reducer_argmax_f32_i32 (F := Ideal) a b = b)
      ∧ Le a (Cert.ReferenceIdeal.reducer_argmax_f32_i32 (F := Ideal) a b)
      ∧ Le b (Cert.ReferenceIdeal.reducer_argmax_f32_i32 (F := Ideal) a b) := by
  obtain ⟨v, i⟩ := a
  obtain ⟨w, j⟩ := b
  have e : Cert.ReferenceIdeal.reducer_argmax_f32_i32 (F := Ideal) (v, i) (w, j)
      = (if w < v then v else w, if w < v ∨ v = w ∧ i.toInt < j.toInt then i else j) := by
    unfold Cert.ReferenceIdeal.reducer_argmax_f32_i32
    simp only [Ideal.cmpf_def, Ideal.cmp, IntOp.cmpi, Scalar.select, IntOp.ori, IntOp.andi, BitVec.slt_eq_decide]
    by_cases h1 : w < v <;> by_cases h2 : v = w <;> by_cases h3 : i.toInt < j.toInt <;> simp [h1, h2, h3]
  rw [e]
  rcases lt_trichotomy w v with h | h | h
  · rw [if_pos h, if_pos (Or.inl h)]
    exact ⟨Or.inl rfl, Le.refl _, Or.inl h⟩
  · subst h
    rw [if_neg (lt_irrefl w)]
    by_cases hi : i.toInt < j.toInt
    · rw [if_pos (Or.inr ⟨rfl, hi⟩)]
      exact ⟨Or.inl rfl, Le.refl _, Or.inr ⟨rfl, hi.le⟩⟩
    · rw [if_neg (by simp [hi])]
      exact ⟨Or.inr rfl, Or.inr ⟨rfl, not_lt.mp hi⟩, Le.refl _⟩
  · rw [if_neg (not_lt.mpr h.le), if_neg (by simp [h.ne, not_lt.mpr h.le])]
    exact ⟨Or.inr rfl, Or.inl h, Le.refl _⟩

/-- The fold's result is one of its pairs, and none is better. -/
theorem foldl_best (L : List (EReal × BitVec 32)) (a : EReal × BitVec 32) :
    L.foldl (Cert.ReferenceIdeal.reducer_argmax_f32_i32 (F := Ideal)) a ∈ a :: L
      ∧ ∀ p ∈ a :: L, Le p (L.foldl (Cert.ReferenceIdeal.reducer_argmax_f32_i32 (F := Ideal)) a) := by
  induction L generalizing a with
  | nil => exact ⟨List.mem_singleton.mpr rfl, fun p hp => List.mem_singleton.mp hp ▸ Le.refl _⟩
  | cons b L ih =>
    obtain ⟨hc, ha, hb⟩ := choice a b
    obtain ⟨hm, hle⟩ := ih (Cert.ReferenceIdeal.reducer_argmax_f32_i32 (F := Ideal) a b)
    have h0 := hle _ List.mem_cons_self
    refine ⟨?_, fun p hp => ?_⟩
    · rcases List.mem_cons.mp hm with e | e
      · rw [List.foldl_cons, e]
        rcases hc with h | h
        · rw [h]
          exact List.mem_cons_self
        · rw [h]
          exact List.mem_cons_of_mem _ List.mem_cons_self
      · exact List.mem_cons_of_mem _ (List.mem_cons_of_mem _ e)
    · rcases List.mem_cons.mp hp with e | hp
      · exact e ▸ ha.trans h0
      · rcases List.mem_cons.mp hp with e | hp
        · exact e ▸ hb.trans h0
        · exact hle p (List.mem_cons_of_mem _ hp)

/-- Over the pairs of 8192 values and their places, in any order, from minus infinity, the fold finds the first place of
    the largest. -/
theorem foldl_first {f : Fin 8192 → EReal} (hf : ∀ k, ⊥ < f k) (L : List (EReal × BitVec 32))
    (hin : ∀ k, (f k, BitVec.ofNat 32 k.val) ∈ L) (hout : ∀ p ∈ L, ∃ k, p = (f k, BitVec.ofNat 32 k.val)) (i : BitVec 32) :
    ∃ p, First f p ∧ (L.foldl (Cert.ReferenceIdeal.reducer_argmax_f32_i32 (F := Ideal)) (⊥, i)).2 = BitVec.ofNat 32 p.val := by
  obtain ⟨hm, hle⟩ := foldl_best L (⊥, i)
  generalize L.foldl (Cert.ReferenceIdeal.reducer_argmax_f32_i32 (F := Ideal)) (⊥, i) = r at hm hle ⊢
  have hint : ∀ k : Fin 8192, (BitVec.ofNat 32 k.val).toInt = (k.val : ℤ) := fun k =>
    WordCmp.toInt_ofNat_of_lt (by have := k.isLt; omega)
  rcases List.mem_cons.mp hm with e | e
  · rcases hle _ (List.mem_cons_of_mem _ (hin 0)) with h | ⟨h, _⟩
    · rw [e] at h
      exact absurd h not_lt_bot
    · rw [e] at h
      exact absurd h (hf 0).ne'
  · obtain ⟨p, hp⟩ := hout r e
    refine ⟨p, ⟨fun k => ?_, fun k hk => ?_⟩, by rw [hp]⟩
    · rcases hle _ (List.mem_cons_of_mem _ (hin k)) with h | ⟨h, _⟩
      · rw [hp] at h
        exact h.le
      · rw [hp] at h
        exact h.le
    · rcases hle _ (List.mem_cons_of_mem _ (hin k)) with h | ⟨_, h⟩
      · rw [hp] at h
        exact h
      · rw [hp] at h
        rw [hint, hint] at h
        exact absurd hk (not_lt.mpr (by exact_mod_cast h))

end Cert.Best

end
-- ==== Proof.Decode.lean ====
/-
  The decoded index of a row: the kernel's four rounds and the reference's one fold find the same codebook row, over the
  extended reals, in the rows where no product of norms lies strictly between zero and the reference's bound.
-/
module
public import proofs.«01_k».proof.Proof.Rows
public import proofs.«01_k».proof.Proof.Best

@[expose] public section

noncomputable section

namespace Cert.Decode

open Idealize.ShloMosaic
open Cert.KernelIdeal Cert.KernelIdeal.Gen Facts Cert.KernelIdeal.Steps Cert.Best

/-- The kernel's similarity of row `i` and codebook row `k`: their product over the codebook row's norm. -/
def kernelSim (res : FVec Ideal S64x128 .f32) (a1 : FVec Ideal S8192x128 .f32) (i : Fin 64) (k : Fin 8192) : EReal :=
  (∑ x : Fin 128, res (ix2 i x) * a1 (ix2 k x)) * Ideal.div 1 (Ideal.sqrt (∑ x : Fin 128, a1 (ix2 k x) * a1 (ix2 k x)))

/-- The reference's: their product over both norms, bounded below. -/
def refSim (res : FVec Ideal S64x128 .f32) (a1 : FVec Ideal S8192x128 .f32) (i : Fin 64) (k : Fin 8192) : EReal :=
  Ideal.div (∑ x : Fin 128, res (ix2 i x) * a1 (ix2 k x))
    (max (Ideal.sqrt (∑ x : Fin 128, res (ix2 i x) * res (ix2 i x)) * Ideal.sqrt (∑ x : Fin 128, a1 (ix2 k x) * a1 (ix2 k x)))
      (Ideal.ofBits .f32 0x322BCC77#32))

/-! ## The kernel's rounds -/

/-- The codebook as the kernel reads it. -/
abbrev turned (a1 : FVec Ideal S8192x128 .f32) : FVec Ideal S128x8192 .f32 :=
  transpose S128x8192 [1, 0] a1 transposes_S8192x128_S128x8192_1_0

/-- The upper half of the stacked codebook holds the codebook. -/
theorem codebook_first (a1 : FVec Ideal S8192x128 .f32) (k : Fin 8192) (x : Fin 128) (hx : x.val < 256) :
    k0_pay344 (F := Ideal) (turned a1) (ix2 ⟨x.val, hx⟩ k) = a1 (ix2 k x) := by
  unfold k0_pay344 k0_pay343 turned
  pointwise

/-- The lower half holds what the rounding leaves over: zero for a real entry. -/
theorem codebook_rest (a1 : FVec Ideal S8192x128 .f32) (k : Fin 8192) (x : Fin 128) (hx : 128 + x.val < 256)
    (he : ∃ r : ℝ, a1 (ix2 k x) = (r : EReal)) : k0_pay344 (F := Ideal) (turned a1) (ix2 ⟨128 + x.val, hx⟩ k) = 0 := by
  obtain ⟨r, hr⟩ := he
  have e : k0_pay344 (F := Ideal) (turned a1) (ix2 ⟨128 + x.val, hx⟩ k) = a1 (ix2 k x) - a1 (ix2 k x) := by
    unfold k0_pay344 k0_pay343 turned
    pointwise
  rw [e, hr]
  exact Scalars.sub_self_real r

/-- The kernel's row of factors: one over the norm of each codebook row. -/
theorem codebook_norm (a1 : FVec Ideal S8192x128 .f32) (k : Fin 8192) : k0_pay345 (F := Ideal) (turned a1) (ix2 0 k)
    = Ideal.div 1 (Ideal.sqrt (∑ x : Fin 128, a1 (ix2 k x) * a1 (ix2 k x))) := by
  unfold k0_pay345 k0_pay343 turned
  pointwise

/-- A quarter holds the kernel's similarities: the parts left over by the roundings are zero, or the factor is, where the
    codebook row is not real. -/
theorem quarter_eq (res : FVec Ideal S64x128 .f32) (a1 : FVec Ideal S8192x128 .f32)
    (hr : ∀ i x, ∃ r : ℝ, res (ix2 i x) = (r : EReal)) (o : ℕ)
    (h : o + 2048 ≤ 8192) (i : Fin 64) (g : Fin 2048) :
    quarter res (turned a1) o h (ix2 i g) = kernelSim res a1 i ⟨o + g.val, by omega⟩ := by
  have hrest : ∀ x : Fin 128, res (ix2 i x) - res (ix2 i x) = 0 := fun x => by
    obtain ⟨r, e⟩ := hr i x
    rw [e]
    exact Scalars.sub_self_real r
  have hg := g.isLt
  unfold quarter sims k0_pay346
  pointwise
  have e1 := fun x : Fin 128 => codebook_first a1 ⟨o + g.val, by omega⟩ x (by omega)
  rw [codebook_norm]
  by_cases he : ∀ x, ∃ r : ℝ, a1 (ix2 ⟨o + g.val, by omega⟩ x) = (r : EReal)
  · have e2 := fun x : Fin 128 => codebook_rest a1 ⟨o + g.val, by omega⟩ x (by omega) (he x)
    simp only [hrest, e1, e2, zero_mul, mul_zero, Finset.sum_const_zero, add_zero]
    rfl
  · unfold kernelSim
    rw [(Scalars.similarity_inf (fun _ => 0) (fun x => a1 (ix2 ⟨o + g.val, by omega⟩ x)) he).2, mul_zero, mul_zero]

/-- One round on row `i`. -/
theorem round_upto {f : Fin 8192 → EReal} (hf : ∀ k, ⊥ < f k) (i : Fin 64) (o : ℕ) (ho : o + 2048 ≤ 8192)
    (s : FVec Ideal S64x2048 .f32) (hs : ∀ g : Fin 2048, s (ix2 i g) = f ⟨o + g.val, by omega⟩)
    (p : FVec Ideal S64x1 .f32 × IVec S64x1 32) (h : Upto f o (p.1 (ix2 i 0)) (p.2 (ix2 i 0))) :
    Upto f (o + 2048) ((Cert.KernelIdeal.Steps.round (BitVec.ofNat 32 o) s p).1 (ix2 i 0))
      ((Cert.KernelIdeal.Steps.round (BitVec.ofNat 32 o) s p).2 (ix2 i 0)) := by
  have hM : top s (ix2 i 0) = Finset.fold max ⊥ (fun g : Fin 2048 => s (ix2 i g)) Finset.univ := by
    unfold top
    pointwise
    rw [Scalars.neg_inf]
  have hJ : place (BitVec.ofNat 32 o) s (ix2 i 0) = Finset.fold IntOp.minsi (2147483647#32)
      (fun x : Fin 2048 => if s (ix2 i x) = top s (ix2 i 0)
        then IntOp.addi (BitVec.ofNat 32 x.val) (BitVec.ofNat 32 o) else 2147483647#32) Finset.univ := by
    unfold place
    pointwise
  have := Upto.round hf ho h hs hM hJ
  have e1 : (Cert.KernelIdeal.Steps.round (BitVec.ofNat 32 o) s p).1 (ix2 i 0)
      = if p.1 (ix2 i 0) < top s (ix2 i 0) then top s (ix2 i 0) else p.1 (ix2 i 0) := by
    unfold Cert.KernelIdeal.Steps.round
    pointwise
  have e2 : (Cert.KernelIdeal.Steps.round (BitVec.ofNat 32 o) s p).2 (ix2 i 0)
      = if p.1 (ix2 i 0) < top s (ix2 i 0) then place (BitVec.ofNat 32 o) s (ix2 i 0) else p.2 (ix2 i 0) := by
    unfold Cert.KernelIdeal.Steps.round
    pointwise
  rw [e1, e2]
  exact this

/-- The four rounds find the first place of the largest similarity. -/
theorem nearest_first (res : FVec Ideal S64x128 .f32) (e : FVec Ideal S128x8192 .f32) (i : Fin 64) {f : Fin 8192 → EReal}
    (hf : ∀ k, ⊥ < f k)
    (hq : ∀ (o : ℕ) (ho : o + 2048 ≤ 8192) (g : Fin 2048), quarter res e o ho (ix2 i g) = f ⟨o + g.val, by omega⟩) :
    ∃ p, First f p ∧ nearest res e (ix2 i 0) = BitVec.ofNat 32 p.val := by
  have h0 : Upto f 0 ((k0_pay347 (F := Ideal), broadcast S64x1 0#32).1 (ix2 i 0)) ((k0_pay347 (F := Ideal), broadcast S64x1 0#32).2 (ix2 i 0)) := by
    refine ⟨fun k hk => by omega, Or.inl ⟨rfl, ?_⟩⟩
    exact Scalars.neg_inf
  exact (round_upto hf i 6144 (by omega) _ (hq 6144 (by omega)) _
    (round_upto hf i 4096 (by omega) _ (hq 4096 (by omega)) _
      (round_upto hf i 2048 (by omega) _ (hq 2048 (by omega)) _
        (round_upto hf i 0 (by omega) _ (hq 0 (by omega)) _ h0)))).first

/-! ## The reference's fold -/

/-- The pairs of row `i` that the reference folds over are its values with their places. -/
theorem fiber (x : FVec Ideal Cert.ReferenceIdeal.S64x8192 .f32) (i : Fin 64) (p : EReal × BitVec 32) :
    p ∈ Host.argReduceFiber x (iotaInDim Cert.ReferenceIdeal.S64x8192 32 1) Cert.ReferenceIdeal.Gen.reducesTo_S64x8192_S64_d1 (ix1 i)
      ↔ ∃ k : Fin 8192, p = (x (ix2 i k), BitVec.ofNat 32 k.val) := by
  have hd : ∀ (i' : Fin 64) (k : Fin 8192),
      Cert.ReferenceIdeal.Gen.reducesTo_S64x8192_S64_d1.drop (ix2 i' k) = ix1 i ↔ i' = i := fun i' k => by
    have hv : (Cert.ReferenceIdeal.Gen.reducesTo_S64x8192_S64_d1.drop (ix2 i' k) 0 : ℕ) = i'.val :=
      Shape.ReducesTo.drop_apply_val _ _ 0
    constructor
    · intro h
      rw [h] at hv
      exact Fin.ext hv.symm
    · rintro rfl
      funext a
      fin_cases a
      exact Fin.ext hv
  unfold Host.argReduceFiber
  rw [List.mem_map]
  constructor
  · rintro ⟨n, hn, rfl⟩
    have hn' := of_decide_eq_true (List.mem_filter.mp hn).2
    generalize Cert.ReferenceIdeal.S64x8192.rowMajor.symm n = y at hn' ⊢
    idx_vars y
    rw [(hd y0 y1).mp hn']
    exact ⟨y1, rfl⟩
  · rintro ⟨k, rfl⟩
    refine ⟨Cert.ReferenceIdeal.S64x8192.rowMajor (ix2 i k), List.mem_filter.mpr ⟨List.mem_finRange _, ?_⟩, ?_⟩
    · rw [Equiv.symm_apply_apply]
      exact decide_eq_true ((hd i k).mpr rfl)
    · rw [Equiv.symm_apply_apply]
      rfl

/-- The reference's index of row `i` is the first place of the row's largest value. -/
theorem fold_first (x : FVec Ideal Cert.ReferenceIdeal.S64x8192 .f32) (i : Fin 64) (hf : ∀ k : Fin 8192, ⊥ < x (ix2 i k)) :
    ∃ p : Fin 8192, First (fun k => x (ix2 i k)) p
      ∧ (Host.argReduce Cert.ReferenceIdeal.reducer_argmax_f32_i32 x (iotaInDim Cert.ReferenceIdeal.S64x8192 32 1)
          (constant Cert.ReferenceIdeal.S_ .f32 0xFF800000#32) (constantI Cert.ReferenceIdeal.S_ 32 0#32)
          Cert.ReferenceIdeal.Gen.reducesTo_S64x8192_S64_d1 Cert.ReferenceIdeal.Gen.h_S_ (ix1 i)).2 = BitVec.ofNat 32 p.val := by
  rw [Ideal.argReduce_eq_reduce2, Host.reduce2_eq_foldl_fiber]
  have e : (constant (F := Ideal) Cert.ReferenceIdeal.S_ .f32 0xFF800000#32 (Shape.Idx.first Cert.ReferenceIdeal.Gen.h_S_) : EReal) = ⊥ :=
    Scalars.neg_inf
  rw [e]
  exact foldl_first hf _ (fun k => (fiber x i _).mpr ⟨k, rfl⟩) (fun p hp => (fiber x i p).mp hp) _

/-- A column read out of a vector. -/
theorem column (v : IVec Cert.ReferenceIdeal.S64 32) (i : Fin 64) :
    shapeCast Cert.ReferenceIdeal.S64x1 v Cert.ReferenceIdeal.Gen.shapeCasts_S64_S64x1 (ix2 i 0) = v (ix1 i) := by
  pointwise

open Cert.ReferenceIdeal Cert.ReferenceIdeal.Gen in
/-- The reference's similarities at an index. -/
theorem refSim_eq (res : FVec Ideal Cert.ReferenceIdeal.S64x128 .f32) (a1 : FVec Ideal Cert.ReferenceIdeal.S8192x128 .f32) (i : Fin 64) (k : Fin 8192) :
    Host.divf (Host.dotGeneral dot_S64x128_S128x8192_S64x8192_1_0_0_1_n_n none res
        (transpose Cert.ReferenceIdeal.S128x8192 [1, 0] a1 Cert.ReferenceIdeal.Gen.transposes_S8192x128_S128x8192_1_0))
      (maximumf (Cert.Mask.norms res a1)
        (broadcastInDim S64x8192 ![] bcast_S_S64x8192 (constant S_ .f32 0x322BCC77#32))) (ix2 i k)
      = refSim res a1 i k := by
  unfold refSim Cert.Mask.norms
  pointwise

/-- The reference's index of row `i` is the first place of its largest similarity. -/
theorem reference_first (s : Cert.ReferenceIdeal.Step.State Ideal) (res : FVec Ideal S64x128 .f32) (hs : s.main_v5_9 = res)
    (a1 : FVec Ideal S8192x128 .f32) (i : Fin 64)
    (hf : ∀ k, ⊥ < refSim res a1 i k) : ∃ p, First (refSim res a1 i) p
      ∧ Cert.ReferenceIdeal.Step.R_main_v19 (F := Ideal) s a1 (ix2 i 0) = BitVec.ofNat 32 p.val := by
  subst hs
  unfold Cert.ReferenceIdeal.Step.R_main_v19
  obtain ⟨p, hp, e⟩ := fold_first _ i (fun k => (refSim_eq s.main_v5_9 a1 i k).symm ▸ hf k)
  refine ⟨p, ?_, (column _ i).trans e⟩
  have e' : (fun k => _) = refSim s.main_v5_9 a1 i := funext fun k => refSim_eq s.main_v5_9 a1 i k
  exact e' ▸ hp

/-! ## Both -/

/-- On a row that the mask keeps the two decoded indices are equal. -/
theorem index_eq (s : Cert.ReferenceIdeal.Step.State Ideal) (res : FVec Ideal S64x128 .f32) (hs : s.main_v5_9 = res)
    (a1 : FVec Ideal S8192x128 .f32) (hr : ∀ i x, ∃ r : ℝ, res (ix2 i x) = (r : EReal)) (i : Fin 64)
    (hm : ∀ k : Fin 8192, Cert.Mask.idle (Cert.Mask.norms (F := Ideal) res a1) (ix2 i k) = 1#1) :
    kernelIndex res a1 (ix2 i 0) = Cert.ReferenceIdeal.Step.R_main_v19 (F := Ideal) s a1 (ix2 i 0) := by
  choose r hr' using hr
  obtain ⟨c, hc0, hc, _⟩ := Scalars.norm_real (r i)
  have hsim : ∀ k, ∃ z : ℝ, refSim res a1 i k = (z : EReal)
      ∧ kernelSim res a1 i k = (((if c = 0 then 1 else c) * z : ℝ) : EReal) := fun k => by
    have h := hm k
    unfold Cert.Mask.idle Cert.Mask.norms at h
    pointwise at h
    unfold refSim kernelSim
    by_cases he : ∀ x, ∃ r : ℝ, a1 (ix2 k x) = (r : EReal)
    · choose e he' using he
      simp only [hr', he'] at h ⊢
      refine Scalars.similarity (r i) e ?_ c hc
      by_contra hcon
      obtain ⟨h1, h2⟩ := not_or.mp hcon
      rw [decide_eq_false h1, decide_eq_false h2] at h
      exact absurd h (by decide)
    · obtain ⟨h1, h2⟩ := Scalars.similarity_inf (r i) (fun x => a1 (ix2 k x)) he
      simp only [hr']
      exact ⟨0, h1.trans EReal.coe_zero.symm, by rw [h2, mul_zero, mul_zero, EReal.coe_zero]⟩
  have hcpos : 0 < (if c = 0 then 1 else c) := by
    split_ifs with h
    · exact one_pos
    · exact lt_of_le_of_ne hc0 (Ne.symm h)
  obtain ⟨p, hp, ep⟩ := reference_first s res hs a1 i fun k => by
    obtain ⟨z, hz, _⟩ := hsim k
    rw [hz]
    exact EReal.bot_lt_coe z
  obtain ⟨q, hq, eq⟩ := nearest_first res (turned a1) i (f := kernelSim res a1 i) (fun k => by
    obtain ⟨z, _, hz⟩ := hsim k
    rw [hz]
    exact EReal.bot_lt_coe _) (fun o ho g => quarter_eq res a1 (fun i x => ⟨_, hr' i x⟩) o ho i g)
  rw [ep, (hp.scale hcpos hsim).unique hq]
  exact eq

end Cert.Decode

end
-- ==== Proof.lean ====
/- The certificate: the frames, and that the kernel and the reference give the same cell rows everywhere and the same decoded
   indices on the rows the mask selects.
   - The kernel's two arrays after its run are `kernelRows` and `kernelIndex` of the arguments (KernelArray.lean).
   - The reference's are read from its 64th state (RefStepRun.lean).
   - The rows agree by Rows.lean, the indices by Decode.lean. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.KernelArray
public import proofs.«01_k».proof.Proof.RefStepRun
public import proofs.«01_k».proof.Proof.Mask
public import proofs.«01_k».proof.Proof.Rows
public import proofs.«01_k».proof.Proof.Decode
public import Idealize.ShloMosaic.Lib.ReduceAll
public import Idealize.ShloMosaic.Lib.Quiescent

@[expose] public section

noncomputable section

namespace Cert.Proof

open Idealize.ShloMosaic Idealize.SL.Sem
open Cert.KernelIdeal.Steps (kernelRows kernelIndex)
open Cert.Rows (Finite)

/-- Where the conjunction of a row's bits is set, every bit of the row is. -/
theorem all_of_mask (p : IVec Cert.ReferenceIdeal.S64x8192 1) (i : Fin 64) (k : Fin 8192)
    (e : broadcastInDim Cert.ReferenceIdeal.S64x1 ![0] Cert.ReferenceIdeal.Gen.bcast_S64_S64x1_0
      (Host.reduce IntOp.andi p (constantI Cert.ReferenceIdeal.S_ 1 1#1) Cert.ReferenceIdeal.Gen.reducesTo_S64x8192_S64_d1
        Cert.ReferenceIdeal.Gen.h_S_) (ix2 i 0) = 1#1) : p (ix2 i k) = 1#1 := by
  have hb : ∀ v : IVec Cert.ReferenceIdeal.S64 1, broadcastInDim Cert.ReferenceIdeal.S64x1 ![0]
      Cert.ReferenceIdeal.Gen.bcast_S64_S64x1_0 v (ix2 i 0) = v (ix1 i) := fun v => by pointwise
  rw [hb] at e
  refine Host.reduce_andi_eq_one _ (constantI Cert.ReferenceIdeal.S_ 1 1#1) Cert.ReferenceIdeal.Gen.reducesTo_S64x8192_S64_d1
    Cert.ReferenceIdeal.Gen.h_S_ (ix1 i) e (ix2 i k) ?_
  funext x
  obtain rfl : x = 0 := Subsingleton.elim _ _
  exact Fin.ext (Shape.ReducesTo.drop_apply_val _ _ 0)

section

variable (a0 : FVec Ideal Cert.KernelIdeal.S128 .f32) (a1 : FVec Ideal Cert.KernelIdeal.S8192x128 .f32)
  (a2 : FVec Ideal Cert.KernelIdeal.S512x256 .f32) (a3 : FVec Ideal Cert.KernelIdeal.S512x128 .f32)
  (a4 a5 : FVec Ideal Cert.KernelIdeal.S512 .f32)

set_option maxRecDepth 20000 in
/-- Where the mask is set on row `i`, no product of norms of that row lies strictly between zero and the bound. -/
theorem idle_of_mask (h : Finite a1 a2 a3) (i : Fin 64)
    (e : (@Cert.On_clamp_idle.fn Cert.Mask.facts Ideal _ a0 a1 a2 a3 a4 a5).2 (ix2 i 0) = 1#1) (k : Fin 8192) :
    Cert.Mask.idle (Cert.Mask.norms (F := Ideal) (kernelRows a0 a1 a2 a3 a4 a5) a1) (ix2 i k) = 1#1 := by
  have hr := Cert.Rows.rows_eq (Cert.Rows.goes_start (a0 := a0) (a4 := a4) (a5 := a5) h) h.weights
  rw [Cert.Mask.fn_eq, hr] at e
  dsimp only at e
  exact all_of_mask _ i k e

/-- On a row where the mask is set, the reference's decoded index is the kernel's. -/
theorem index_agrees (h : Finite a1 a2 a3) (i : Fin 64)
    (e : (@Cert.On_clamp_idle.fn Cert.Mask.facts Ideal _ a0 a1 a2 a3 a4 a5).2 (ix2 i 0) = 1#1) :
    kernelIndex (kernelRows a0 a1 a2 a3 a4 a5) a1 (ix2 i 0)
      = Cert.ReferenceIdeal.Step.R_main_v19 (F := Ideal)
        (Cert.Mask.states (Cert.ReferenceIdeal.Step.init a0 a2 a4 a3 a5 a1) 64) a1 (ix2 i 0) :=
  have G := Cert.Rows.goes_init (a0 := a0) (a4 := a4) (a5 := a5) h
  Cert.Decode.index_eq _ _ (Cert.Rows.rows_eq G h.weights) a1 (Cert.Rows.rows_real G h.weights) i
    (idle_of_mask a0 a1 a2 a3 a4 a5 h i e)

end

/-- The reference runs, keeps its arguments and declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5))
        ∧ r.2.sem = fun _ => 0) :=
  (θ_run (Cert.ReferenceIdeal.defs (F := Ideal)) _ _).mono
    (fun r h => And.intro (fun c => (h c).2.2) (sem_eq_zero_of_no_sems (by decide) r.2)) (Cert.ReferenceIdeal.Value.run (F := Ideal) m ρ)

/-- The kernel and the reference end with equal rows, and with equal decoded indices where the mask is set. -/
theorem agree : @Cert.algebraic_KernelIdeal_ReferenceIdeal_on_clamp_idle_pre_finite Cert.KernelIdeal.Gen.facts
    Cert.ReferenceIdeal.Gen.facts Cert.Mask.preFacts Cert.Mask.facts := by
  intro m ρ m' ρ' hpre hargs
  have fin := fun c => Cert.Rows.finite_of_pre (hpre c).1 (hpre c).2.1 (hpre c).2.2
  refine ⟨fun c => kernelRows (F := Ideal) (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) (m (c.tc.loc Cert.KernelIdeal.main_arg5)),
    fun c => kernelIndex (F := Ideal) (kernelRows (F := Ideal) (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) (m (c.tc.loc Cert.KernelIdeal.main_arg5)))
      (m (c.tc.loc Cert.KernelIdeal.main_arg1)), ?_, ?_⟩
  · refine (θ_run (Cert.KernelIdeal.defs (F := Ideal)) _ _).mono (fun r h c => ?_) (Cert.KernelIdeal.Value.run_blocks (F := Ideal) m ρ)
    obtain ⟨h0, h1, hk⟩ := h c
    exact ⟨fun i _ => congrFun (h0.trans (Cert.KernelIdeal.Steps.array_rows m c)) i,
      fun i _ => congrFun (h1.trans (Cert.KernelIdeal.Steps.array_index m c)) i, hk⟩
  · refine (θ_run (Cert.ReferenceIdeal.defs (F := Ideal)) _ _).mono (fun r h c => ?_)
      (Cert.ReferenceIdeal.StepRun.run_iter (F := Ideal) m' ρ'
        (fun c => Cert.Mask.states (Cert.ReferenceIdeal.StepRun.initState m' c)) (fun _ => rfl) (fun _ _ => rfl))
    obtain ⟨h0, h1, hk⟩ := h c
    obtain ⟨e0, e1, e2, e3, e4, e5⟩ := hargs c
    have hi : Cert.ReferenceIdeal.StepRun.initState m' c = Cert.ReferenceIdeal.Step.init (F := Ideal)
        (m (c.tc.loc Cert.KernelIdeal.main_arg0)) (m (c.tc.loc Cert.KernelIdeal.main_arg2))
        (m (c.tc.loc Cert.KernelIdeal.main_arg4)) (m (c.tc.loc Cert.KernelIdeal.main_arg3))
        (m (c.tc.loc Cert.KernelIdeal.main_arg5)) (m (c.tc.loc Cert.KernelIdeal.main_arg1)) := by
      unfold Cert.ReferenceIdeal.StepRun.initState
      rw [e0, e1, e2, e3, e4, e5]
    rw [hi] at h0 h1
    rw [e1] at h1
    refine ⟨fun i _ => congrFun (h0.trans (Cert.Rows.rows_eq (Cert.Rows.goes_init (fin c)) (fin c).weights)) i,
      fun i hm => ?_, hk⟩
    idx_vars i
    obtain rfl : i1 = 0 := Subsingleton.elim _ _
    exact (congrFun h1 _).trans (index_agrees _ _ _ _ _ _ (fin c) i0 hm).symm

/-- The claim. -/
theorem claim : Cert.Claim :=
  ⟨Cert.Kernel.Gen.facts, Cert.KernelIdeal.Gen.facts, Cert.ReferenceIdeal.Gen.facts, Cert.Mask.preFacts, Cert.Mask.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    trivial, agree⟩

end Cert.Proof

end
